-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelYP (m : (ℓ : Loc Cert.KernelYP.nD Cert.KernelYP.τ Cert.KernelYP.sig) → Buf (Elt Bits) ℓ) : Prop :=
  True

def Pre_KernelYPIdeal (m : (ℓ : Loc Cert.KernelYPIdeal.nD Cert.KernelYPIdeal.τ Cert.KernelYPIdeal.sig) → Buf (Elt Ideal) ℓ) : Prop :=
  True

def Pre_ReferenceYPIdeal (m : (ℓ : Loc Cert.ReferenceYPIdeal.nD Cert.ReferenceYPIdeal.τ Cert.ReferenceYPIdeal.sig) → Buf (Elt Ideal) ℓ) : Prop :=
  True

def Pre_KernelYS (m : (ℓ : Loc Cert.KernelYS.nD Cert.KernelYS.τ Cert.KernelYS.sig) → Buf (Elt Bits) ℓ) : Prop :=
  True

def Pre_KernelYSIdeal (m : (ℓ : Loc Cert.KernelYSIdeal.nD Cert.KernelYSIdeal.τ Cert.KernelYSIdeal.sig) → Buf (Elt Ideal) ℓ) : Prop :=
  True

def Pre_ReferenceYSIdeal (m : (ℓ : Loc Cert.ReferenceYSIdeal.nD Cert.ReferenceYSIdeal.τ Cert.ReferenceYSIdeal.sig) → Buf (Elt Ideal) ℓ) : Prop :=
  True

def Pre_KernelFP (m : (ℓ : Loc Cert.KernelFP.nD Cert.KernelFP.τ Cert.KernelFP.sig) → Buf (Elt Bits) ℓ) : Prop :=
  True

def Pre_KernelFPIdeal (m : (ℓ : Loc Cert.KernelFPIdeal.nD Cert.KernelFPIdeal.τ Cert.KernelFPIdeal.sig) → Buf (Elt Ideal) ℓ) : Prop :=
  True

def Pre_ReferenceFPIdeal (m : (ℓ : Loc Cert.ReferenceFPIdeal.nD Cert.ReferenceFPIdeal.τ Cert.ReferenceFPIdeal.sig) → Buf (Elt Ideal) ℓ) : Prop :=
  True

def Pre_KernelFS (m : (ℓ : Loc Cert.KernelFS.nD Cert.KernelFS.τ Cert.KernelFS.sig) → Buf (Elt Bits) ℓ) : Prop :=
  True

def Pre_KernelFSIdeal (m : (ℓ : Loc Cert.KernelFSIdeal.nD Cert.KernelFSIdeal.τ Cert.KernelFSIdeal.sig) → Buf (Elt Ideal) ℓ) : Prop :=
  True

def Pre_ReferenceFSIdeal (m : (ℓ : Loc Cert.ReferenceFSIdeal.nD Cert.ReferenceFSIdeal.τ Cert.ReferenceFSIdeal.sig) → Buf (Elt Ideal) ℓ) : Prop :=
  True

def Pre_KernelAP (m : (ℓ : Loc Cert.KernelAP.nD Cert.KernelAP.τ Cert.KernelAP.sig) → Buf (Elt Bits) ℓ) : Prop :=
  True

def Pre_KernelAPIdeal (m : (ℓ : Loc Cert.KernelAPIdeal.nD Cert.KernelAPIdeal.τ Cert.KernelAPIdeal.sig) → Buf (Elt Ideal) ℓ) : Prop :=
  True

def Pre_ReferenceAPIdeal (m : (ℓ : Loc Cert.ReferenceAPIdeal.nD Cert.ReferenceAPIdeal.τ Cert.ReferenceAPIdeal.sig) → Buf (Elt Ideal) ℓ) : Prop :=
  True

def Pre_KernelAS (m : (ℓ : Loc Cert.KernelAS.nD Cert.KernelAS.τ Cert.KernelAS.sig) → Buf (Elt Bits) ℓ) : Prop :=
  True

def Pre_KernelASIdeal (m : (ℓ : Loc Cert.KernelASIdeal.nD Cert.KernelASIdeal.τ Cert.KernelASIdeal.sig) → Buf (Elt Ideal) ℓ) : Prop :=
  True

def Pre_ReferenceASIdeal (m : (ℓ : Loc Cert.ReferenceASIdeal.nD Cert.ReferenceASIdeal.τ Cert.ReferenceASIdeal.sig) → Buf (Elt Ideal) ℓ) : Prop :=
  True

def Pre_KernelZP (m : (ℓ : Loc Cert.KernelZP.nD Cert.KernelZP.τ Cert.KernelZP.sig) → Buf (Elt Bits) ℓ) : Prop :=
  True

def Pre_KernelZPIdeal (m : (ℓ : Loc Cert.KernelZPIdeal.nD Cert.KernelZPIdeal.τ Cert.KernelZPIdeal.sig) → Buf (Elt Ideal) ℓ) : Prop :=
  True

def Pre_ReferenceZPIdeal (m : (ℓ : Loc Cert.ReferenceZPIdeal.nD Cert.ReferenceZPIdeal.τ Cert.ReferenceZPIdeal.sig) → Buf (Elt Ideal) ℓ) : Prop :=
  True

def Pre_KernelZS (m : (ℓ : Loc Cert.KernelZS.nD Cert.KernelZS.τ Cert.KernelZS.sig) → Buf (Elt Bits) ℓ) : Prop :=
  True

def Pre_KernelZSIdeal (m : (ℓ : Loc Cert.KernelZSIdeal.nD Cert.KernelZSIdeal.τ Cert.KernelZSIdeal.sig) → Buf (Elt Ideal) ℓ) : Prop :=
  True

def Pre_ReferenceZSIdeal (m : (ℓ : Loc Cert.ReferenceZSIdeal.nD Cert.ReferenceZSIdeal.τ Cert.ReferenceZSIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelYP [hKernelYP : Cert.KernelYP.Facts] : Prop :=
  ∀ (m : (ℓ : Loc Cert.KernelYP.nD Cert.KernelYP.τ Cert.KernelYP.sig) → Buf (Elt Bits) ℓ) (g : Dev Cert.KernelYP.nD → PrngReg), Pre_KernelYP m →
    θ_run (Cert.KernelYP.defs (F := Bits)) (onTc (τ := Cert.KernelYP.τ) (Cert.KernelYP.main (F := Bits))) ⟨m, fun _ => 0, g⟩ (fun r => (∀ c : Dev Cert.KernelYP.nD,
      r.2.mem ((c.tc : Thread Cert.KernelYP.nD Cert.KernelYP.τ).loc Cert.KernelYP.main_arg0) = m ((c.tc : Thread Cert.KernelYP.nD Cert.KernelYP.τ).loc Cert.KernelYP.main_arg0)
      ∧ r.2.mem ((c.tc : Thread Cert.KernelYP.nD Cert.KernelYP.τ).loc Cert.KernelYP.main_arg1) = m ((c.tc : Thread Cert.KernelYP.nD Cert.KernelYP.τ).loc Cert.KernelYP.main_arg1)
      ∧ r.2.mem ((c.tc : Thread Cert.KernelYP.nD Cert.KernelYP.τ).loc Cert.KernelYP.main_arg2) = m ((c.tc : Thread Cert.KernelYP.nD Cert.KernelYP.τ).loc Cert.KernelYP.main_arg2)
      ∧ r.2.mem ((c.tc : Thread Cert.KernelYP.nD Cert.KernelYP.τ).loc Cert.KernelYP.main_arg3) = m ((c.tc : Thread Cert.KernelYP.nD Cert.KernelYP.τ).loc Cert.KernelYP.main_arg3)
      ∧ r.2.mem ((c.tc : Thread Cert.KernelYP.nD Cert.KernelYP.τ).loc Cert.KernelYP.main_arg4) = m ((c.tc : Thread Cert.KernelYP.nD Cert.KernelYP.τ).loc Cert.KernelYP.main_arg4)
      ∧ r.2.mem ((c.tc : Thread Cert.KernelYP.nD Cert.KernelYP.τ).loc Cert.KernelYP.main_arg5) = m ((c.tc : Thread Cert.KernelYP.nD Cert.KernelYP.τ).loc Cert.KernelYP.main_arg5)
      ∧ r.2.mem ((c.tc : Thread Cert.KernelYP.nD Cert.KernelYP.τ).loc Cert.KernelYP.main_arg6) = m ((c.tc : Thread Cert.KernelYP.nD Cert.KernelYP.τ).loc Cert.KernelYP.main_arg6))
      ∧ r.2.sem = fun _ => 0)

def quiescent_KernelYPIdeal [hKernelYPIdeal : Cert.KernelYPIdeal.Facts] : Prop :=
  ∀ (m : (ℓ : Loc Cert.KernelYPIdeal.nD Cert.KernelYPIdeal.τ Cert.KernelYPIdeal.sig) → Buf (Elt Ideal) ℓ) (g : Dev Cert.KernelYPIdeal.nD → PrngReg), Pre_KernelYPIdeal m →
    θ_run (Cert.KernelYPIdeal.defs (F := Ideal)) (onTc (τ := Cert.KernelYPIdeal.τ) (Cert.KernelYPIdeal.main (F := Ideal))) ⟨m, fun _ => 0, g⟩ (fun r => (∀ c : Dev Cert.KernelYPIdeal.nD,
      r.2.mem ((c.tc : Thread Cert.KernelYPIdeal.nD Cert.KernelYPIdeal.τ).loc Cert.KernelYPIdeal.main_arg0) = m ((c.tc : Thread Cert.KernelYPIdeal.nD Cert.KernelYPIdeal.τ).loc Cert.KernelYPIdeal.main_arg0)
      ∧ r.2.mem ((c.tc : Thread Cert.KernelYPIdeal.nD Cert.KernelYPIdeal.τ).loc Cert.KernelYPIdeal.main_arg1) = m ((c.tc : Thread Cert.KernelYPIdeal.nD Cert.KernelYPIdeal.τ).loc Cert.KernelYPIdeal.main_arg1)
      ∧ r.2.mem ((c.tc : Thread Cert.KernelYPIdeal.nD Cert.KernelYPIdeal.τ).loc Cert.KernelYPIdeal.main_arg2) = m ((c.tc : Thread Cert.KernelYPIdeal.nD Cert.KernelYPIdeal.τ).loc Cert.KernelYPIdeal.main_arg2)
      ∧ r.2.mem ((c.tc : Thread Cert.KernelYPIdeal.nD Cert.KernelYPIdeal.τ).loc Cert.KernelYPIdeal.main_arg3) = m ((c.tc : Thread Cert.KernelYPIdeal.nD Cert.KernelYPIdeal.τ).loc Cert.KernelYPIdeal.main_arg3)
      ∧ r.2.mem ((c.tc : Thread Cert.KernelYPIdeal.nD Cert.KernelYPIdeal.τ).loc Cert.KernelYPIdeal.main_arg4) = m ((c.tc : Thread Cert.KernelYPIdeal.nD Cert.KernelYPIdeal.τ).loc Cert.KernelYPIdeal.main_arg4)
      ∧ r.2.mem ((c.tc : Thread Cert.KernelYPIdeal.nD Cert.KernelYPIdeal.τ).loc Cert.KernelYPIdeal.main_arg5) = m ((c.tc : Thread Cert.KernelYPIdeal.nD Cert.KernelYPIdeal.τ).loc Cert.KernelYPIdeal.main_arg5)
      ∧ r.2.mem ((c.tc : Thread Cert.KernelYPIdeal.nD Cert.KernelYPIdeal.τ).loc Cert.KernelYPIdeal.main_arg6) = m ((c.tc : Thread Cert.KernelYPIdeal.nD Cert.KernelYPIdeal.τ).loc Cert.KernelYPIdeal.main_arg6))
      ∧ r.2.sem = fun _ => 0)

def quiescent_ReferenceYPIdeal [hReferenceYPIdeal : Cert.ReferenceYPIdeal.Facts] : Prop :=
  ∀ (m : (ℓ : Loc Cert.ReferenceYPIdeal.nD Cert.ReferenceYPIdeal.τ Cert.ReferenceYPIdeal.sig) → Buf (Elt Ideal) ℓ) (g : Dev Cert.ReferenceYPIdeal.nD → PrngReg), Pre_ReferenceYPIdeal m →
    θ_run (Cert.ReferenceYPIdeal.defs (F := Ideal)) (onTc (τ := Cert.ReferenceYPIdeal.τ) (Cert.ReferenceYPIdeal.main (F := Ideal))) ⟨m, fun _ => 0, g⟩ (fun r => (∀ c : Dev Cert.ReferenceYPIdeal.nD,
      r.2.mem ((c.tc : Thread Cert.ReferenceYPIdeal.nD Cert.ReferenceYPIdeal.τ).loc Cert.ReferenceYPIdeal.main_arg0) = m ((c.tc : Thread Cert.ReferenceYPIdeal.nD Cert.ReferenceYPIdeal.τ).loc Cert.ReferenceYPIdeal.main_arg0)
      ∧ r.2.mem ((c.tc : Thread Cert.ReferenceYPIdeal.nD Cert.ReferenceYPIdeal.τ).loc Cert.ReferenceYPIdeal.main_arg1) = m ((c.tc : Thread Cert.ReferenceYPIdeal.nD Cert.ReferenceYPIdeal.τ).loc Cert.ReferenceYPIdeal.main_arg1)
      ∧ r.2.mem ((c.tc : Thread Cert.ReferenceYPIdeal.nD Cert.ReferenceYPIdeal.τ).loc Cert.ReferenceYPIdeal.main_arg2) = m ((c.tc : Thread Cert.ReferenceYPIdeal.nD Cert.ReferenceYPIdeal.τ).loc Cert.ReferenceYPIdeal.main_arg2)
      ∧ r.2.mem ((c.tc : Thread Cert.ReferenceYPIdeal.nD Cert.ReferenceYPIdeal.τ).loc Cert.ReferenceYPIdeal.main_arg3) = m ((c.tc : Thread Cert.ReferenceYPIdeal.nD Cert.ReferenceYPIdeal.τ).loc Cert.ReferenceYPIdeal.main_arg3)
      ∧ r.2.mem ((c.tc : Thread Cert.ReferenceYPIdeal.nD Cert.ReferenceYPIdeal.τ).loc Cert.ReferenceYPIdeal.main_arg4) = m ((c.tc : Thread Cert.ReferenceYPIdeal.nD Cert.ReferenceYPIdeal.τ).loc Cert.ReferenceYPIdeal.main_arg4)
      ∧ r.2.mem ((c.tc : Thread Cert.ReferenceYPIdeal.nD Cert.ReferenceYPIdeal.τ).loc Cert.ReferenceYPIdeal.main_arg5) = m ((c.tc : Thread Cert.ReferenceYPIdeal.nD Cert.ReferenceYPIdeal.τ).loc Cert.ReferenceYPIdeal.main_arg5)
      ∧ r.2.mem ((c.tc : Thread Cert.ReferenceYPIdeal.nD Cert.ReferenceYPIdeal.τ).loc Cert.ReferenceYPIdeal.main_arg6) = m ((c.tc : Thread Cert.ReferenceYPIdeal.nD Cert.ReferenceYPIdeal.τ).loc Cert.ReferenceYPIdeal.main_arg6))
      ∧ r.2.sem = fun _ => 0)

def quiescent_KernelYS [hKernelYS : Cert.KernelYS.Facts] : Prop :=
  ∀ (m : (ℓ : Loc Cert.KernelYS.nD Cert.KernelYS.τ Cert.KernelYS.sig) → Buf (Elt Bits) ℓ) (g : Dev Cert.KernelYS.nD → PrngReg), Pre_KernelYS m →
    θ_run (Cert.KernelYS.defs (F := Bits)) (onTc (τ := Cert.KernelYS.τ) (Cert.KernelYS.main (F := Bits))) ⟨m, fun _ => 0, g⟩ (fun r => (∀ c : Dev Cert.KernelYS.nD,
      r.2.mem ((c.tc : Thread Cert.KernelYS.nD Cert.KernelYS.τ).loc Cert.KernelYS.main_arg0) = m ((c.tc : Thread Cert.KernelYS.nD Cert.KernelYS.τ).loc Cert.KernelYS.main_arg0)
      ∧ r.2.mem ((c.tc : Thread Cert.KernelYS.nD Cert.KernelYS.τ).loc Cert.KernelYS.main_arg1) = m ((c.tc : Thread Cert.KernelYS.nD Cert.KernelYS.τ).loc Cert.KernelYS.main_arg1)
      ∧ r.2.mem ((c.tc : Thread Cert.KernelYS.nD Cert.KernelYS.τ).loc Cert.KernelYS.main_arg2) = m ((c.tc : Thread Cert.KernelYS.nD Cert.KernelYS.τ).loc Cert.KernelYS.main_arg2)
      ∧ r.2.mem ((c.tc : Thread Cert.KernelYS.nD Cert.KernelYS.τ).loc Cert.KernelYS.main_arg3) = m ((c.tc : Thread Cert.KernelYS.nD Cert.KernelYS.τ).loc Cert.KernelYS.main_arg3)
      ∧ r.2.mem ((c.tc : Thread Cert.KernelYS.nD Cert.KernelYS.τ).loc Cert.KernelYS.main_arg4) = m ((c.tc : Thread Cert.KernelYS.nD Cert.KernelYS.τ).loc Cert.KernelYS.main_arg4)
      ∧ r.2.mem ((c.tc : Thread Cert.KernelYS.nD Cert.KernelYS.τ).loc Cert.KernelYS.main_arg5) = m ((c.tc : Thread Cert.KernelYS.nD Cert.KernelYS.τ).loc Cert.KernelYS.main_arg5)
      ∧ r.2.mem ((c.tc : Thread Cert.KernelYS.nD Cert.KernelYS.τ).loc Cert.KernelYS.main_arg6) = m ((c.tc : Thread Cert.KernelYS.nD Cert.KernelYS.τ).loc Cert.KernelYS.main_arg6))
      ∧ r.2.sem = fun _ => 0)

def quiescent_KernelYSIdeal [hKernelYSIdeal : Cert.KernelYSIdeal.Facts] : Prop :=
  ∀ (m : (ℓ : Loc Cert.KernelYSIdeal.nD Cert.KernelYSIdeal.τ Cert.KernelYSIdeal.sig) → Buf (Elt Ideal) ℓ) (g : Dev Cert.KernelYSIdeal.nD → PrngReg), Pre_KernelYSIdeal m →
    θ_run (Cert.KernelYSIdeal.defs (F := Ideal)) (onTc (τ := Cert.KernelYSIdeal.τ) (Cert.KernelYSIdeal.main (F := Ideal))) ⟨m, fun _ => 0, g⟩ (fun r => (∀ c : Dev Cert.KernelYSIdeal.nD,
      r.2.mem ((c.tc : Thread Cert.KernelYSIdeal.nD Cert.KernelYSIdeal.τ).loc Cert.KernelYSIdeal.main_arg0) = m ((c.tc : Thread Cert.KernelYSIdeal.nD Cert.KernelYSIdeal.τ).loc Cert.KernelYSIdeal.main_arg0)
      ∧ r.2.mem ((c.tc : Thread Cert.KernelYSIdeal.nD Cert.KernelYSIdeal.τ).loc Cert.KernelYSIdeal.main_arg1) = m ((c.tc : Thread Cert.KernelYSIdeal.nD Cert.KernelYSIdeal.τ).loc Cert.KernelYSIdeal.main_arg1)
      ∧ r.2.mem ((c.tc : Thread Cert.KernelYSIdeal.nD Cert.KernelYSIdeal.τ).loc Cert.KernelYSIdeal.main_arg2) = m ((c.tc : Thread Cert.KernelYSIdeal.nD Cert.KernelYSIdeal.τ).loc Cert.KernelYSIdeal.main_arg2)
      ∧ r.2.mem ((c.tc : Thread Cert.KernelYSIdeal.nD Cert.KernelYSIdeal.τ).loc Cert.KernelYSIdeal.main_arg3) = m ((c.tc : Thread Cert.KernelYSIdeal.nD Cert.KernelYSIdeal.τ).loc Cert.KernelYSIdeal.main_arg3)
      ∧ r.2.mem ((c.tc : Thread Cert.KernelYSIdeal.nD Cert.KernelYSIdeal.τ).loc Cert.KernelYSIdeal.main_arg4) = m ((c.tc : Thread Cert.KernelYSIdeal.nD Cert.KernelYSIdeal.τ).loc Cert.KernelYSIdeal.main_arg4)
      ∧ r.2.mem ((c.tc : Thread Cert.KernelYSIdeal.nD Cert.KernelYSIdeal.τ).loc Cert.KernelYSIdeal.main_arg5) = m ((c.tc : Thread Cert.KernelYSIdeal.nD Cert.KernelYSIdeal.τ).loc Cert.KernelYSIdeal.main_arg5)
      ∧ r.2.mem ((c.tc : Thread Cert.KernelYSIdeal.nD Cert.KernelYSIdeal.τ).loc Cert.KernelYSIdeal.main_arg6) = m ((c.tc : Thread Cert.KernelYSIdeal.nD Cert.KernelYSIdeal.τ).loc Cert.KernelYSIdeal.main_arg6))
      ∧ r.2.sem = fun _ => 0)

def quiescent_ReferenceYSIdeal [hReferenceYSIdeal : Cert.ReferenceYSIdeal.Facts] : Prop :=
  ∀ (m : (ℓ : Loc Cert.ReferenceYSIdeal.nD Cert.ReferenceYSIdeal.τ Cert.ReferenceYSIdeal.sig) → Buf (Elt Ideal) ℓ) (g : Dev Cert.ReferenceYSIdeal.nD → PrngReg), Pre_ReferenceYSIdeal m →
    θ_run (Cert.ReferenceYSIdeal.defs (F := Ideal)) (onTc (τ := Cert.ReferenceYSIdeal.τ) (Cert.ReferenceYSIdeal.main (F := Ideal))) ⟨m, fun _ => 0, g⟩ (fun r => (∀ c : Dev Cert.ReferenceYSIdeal.nD,
      r.2.mem ((c.tc : Thread Cert.ReferenceYSIdeal.nD Cert.ReferenceYSIdeal.τ).loc Cert.ReferenceYSIdeal.main_arg0) = m ((c.tc : Thread Cert.ReferenceYSIdeal.nD Cert.ReferenceYSIdeal.τ).loc Cert.ReferenceYSIdeal.main_arg0)
      ∧ r.2.mem ((c.tc : Thread Cert.ReferenceYSIdeal.nD Cert.ReferenceYSIdeal.τ).loc Cert.ReferenceYSIdeal.main_arg1) = m ((c.tc : Thread Cert.ReferenceYSIdeal.nD Cert.ReferenceYSIdeal.τ).loc Cert.ReferenceYSIdeal.main_arg1)
      ∧ r.2.mem ((c.tc : Thread Cert.ReferenceYSIdeal.nD Cert.ReferenceYSIdeal.τ).loc Cert.ReferenceYSIdeal.main_arg2) = m ((c.tc : Thread Cert.ReferenceYSIdeal.nD Cert.ReferenceYSIdeal.τ).loc Cert.ReferenceYSIdeal.main_arg2)
      ∧ r.2.mem ((c.tc : Thread Cert.ReferenceYSIdeal.nD Cert.ReferenceYSIdeal.τ).loc Cert.ReferenceYSIdeal.main_arg3) = m ((c.tc : Thread Cert.ReferenceYSIdeal.nD Cert.ReferenceYSIdeal.τ).loc Cert.ReferenceYSIdeal.main_arg3)
      ∧ r.2.mem ((c.tc : Thread Cert.ReferenceYSIdeal.nD Cert.ReferenceYSIdeal.τ).loc Cert.ReferenceYSIdeal.main_arg4) = m ((c.tc : Thread Cert.ReferenceYSIdeal.nD Cert.ReferenceYSIdeal.τ).loc Cert.ReferenceYSIdeal.main_arg4)
      ∧ r.2.mem ((c.tc : Thread Cert.ReferenceYSIdeal.nD Cert.ReferenceYSIdeal.τ).loc Cert.ReferenceYSIdeal.main_arg5) = m ((c.tc : Thread Cert.ReferenceYSIdeal.nD Cert.ReferenceYSIdeal.τ).loc Cert.ReferenceYSIdeal.main_arg5)
      ∧ r.2.mem ((c.tc : Thread Cert.ReferenceYSIdeal.nD Cert.ReferenceYSIdeal.τ).loc Cert.ReferenceYSIdeal.main_arg6) = m ((c.tc : Thread Cert.ReferenceYSIdeal.nD Cert.ReferenceYSIdeal.τ).loc Cert.ReferenceYSIdeal.main_arg6))
      ∧ r.2.sem = fun _ => 0)

def quiescent_KernelFP [hKernelFP : Cert.KernelFP.Facts] : Prop :=
  ∀ (m : (ℓ : Loc Cert.KernelFP.nD Cert.KernelFP.τ Cert.KernelFP.sig) → Buf (Elt Bits) ℓ) (g : Dev Cert.KernelFP.nD → PrngReg), Pre_KernelFP m →
    θ_run (Cert.KernelFP.defs (F := Bits)) (onTc (τ := Cert.KernelFP.τ) (Cert.KernelFP.main (F := Bits))) ⟨m, fun _ => 0, g⟩ (fun r => (∀ c : Dev Cert.KernelFP.nD,
      r.2.mem ((c.tc : Thread Cert.KernelFP.nD Cert.KernelFP.τ).loc Cert.KernelFP.main_arg0) = m ((c.tc : Thread Cert.KernelFP.nD Cert.KernelFP.τ).loc Cert.KernelFP.main_arg0)
      ∧ r.2.mem ((c.tc : Thread Cert.KernelFP.nD Cert.KernelFP.τ).loc Cert.KernelFP.main_arg1) = m ((c.tc : Thread Cert.KernelFP.nD Cert.KernelFP.τ).loc Cert.KernelFP.main_arg1)
      ∧ r.2.mem ((c.tc : Thread Cert.KernelFP.nD Cert.KernelFP.τ).loc Cert.KernelFP.main_arg2) = m ((c.tc : Thread Cert.KernelFP.nD Cert.KernelFP.τ).loc Cert.KernelFP.main_arg2)
      ∧ r.2.mem ((c.tc : Thread Cert.KernelFP.nD Cert.KernelFP.τ).loc Cert.KernelFP.main_arg3) = m ((c.tc : Thread Cert.KernelFP.nD Cert.KernelFP.τ).loc Cert.KernelFP.main_arg3))
      ∧ r.2.sem = fun _ => 0)

def quiescent_KernelFPIdeal [hKernelFPIdeal : Cert.KernelFPIdeal.Facts] : Prop :=
  ∀ (m : (ℓ : Loc Cert.KernelFPIdeal.nD Cert.KernelFPIdeal.τ Cert.KernelFPIdeal.sig) → Buf (Elt Ideal) ℓ) (g : Dev Cert.KernelFPIdeal.nD → PrngReg), Pre_KernelFPIdeal m →
    θ_run (Cert.KernelFPIdeal.defs (F := Ideal)) (onTc (τ := Cert.KernelFPIdeal.τ) (Cert.KernelFPIdeal.main (F := Ideal))) ⟨m, fun _ => 0, g⟩ (fun r => (∀ c : Dev Cert.KernelFPIdeal.nD,
      r.2.mem ((c.tc : Thread Cert.KernelFPIdeal.nD Cert.KernelFPIdeal.τ).loc Cert.KernelFPIdeal.main_arg0) = m ((c.tc : Thread Cert.KernelFPIdeal.nD Cert.KernelFPIdeal.τ).loc Cert.KernelFPIdeal.main_arg0)
      ∧ r.2.mem ((c.tc : Thread Cert.KernelFPIdeal.nD Cert.KernelFPIdeal.τ).loc Cert.KernelFPIdeal.main_arg1) = m ((c.tc : Thread Cert.KernelFPIdeal.nD Cert.KernelFPIdeal.τ).loc Cert.KernelFPIdeal.main_arg1)
      ∧ r.2.mem ((c.tc : Thread Cert.KernelFPIdeal.nD Cert.KernelFPIdeal.τ).loc Cert.KernelFPIdeal.main_arg2) = m ((c.tc : Thread Cert.KernelFPIdeal.nD Cert.KernelFPIdeal.τ).loc Cert.KernelFPIdeal.main_arg2)
      ∧ r.2.mem ((c.tc : Thread Cert.KernelFPIdeal.nD Cert.KernelFPIdeal.τ).loc Cert.KernelFPIdeal.main_arg3) = m ((c.tc : Thread Cert.KernelFPIdeal.nD Cert.KernelFPIdeal.τ).loc Cert.KernelFPIdeal.main_arg3))
      ∧ r.2.sem = fun _ => 0)

def quiescent_ReferenceFPIdeal [hReferenceFPIdeal : Cert.ReferenceFPIdeal.Facts] : Prop :=
  ∀ (m : (ℓ : Loc Cert.ReferenceFPIdeal.nD Cert.ReferenceFPIdeal.τ Cert.ReferenceFPIdeal.sig) → Buf (Elt Ideal) ℓ) (g : Dev Cert.ReferenceFPIdeal.nD → PrngReg), Pre_ReferenceFPIdeal m →
    θ_run (Cert.ReferenceFPIdeal.defs (F := Ideal)) (onTc (τ := Cert.ReferenceFPIdeal.τ) (Cert.ReferenceFPIdeal.main (F := Ideal))) ⟨m, fun _ => 0, g⟩ (fun r => (∀ c : Dev Cert.ReferenceFPIdeal.nD,
      r.2.mem ((c.tc : Thread Cert.ReferenceFPIdeal.nD Cert.ReferenceFPIdeal.τ).loc Cert.ReferenceFPIdeal.main_arg0) = m ((c.tc : Thread Cert.ReferenceFPIdeal.nD Cert.ReferenceFPIdeal.τ).loc Cert.ReferenceFPIdeal.main_arg0)
      ∧ r.2.mem ((c.tc : Thread Cert.ReferenceFPIdeal.nD Cert.ReferenceFPIdeal.τ).loc Cert.ReferenceFPIdeal.main_arg1) = m ((c.tc : Thread Cert.ReferenceFPIdeal.nD Cert.ReferenceFPIdeal.τ).loc Cert.ReferenceFPIdeal.main_arg1)
      ∧ r.2.mem ((c.tc : Thread Cert.ReferenceFPIdeal.nD Cert.ReferenceFPIdeal.τ).loc Cert.ReferenceFPIdeal.main_arg2) = m ((c.tc : Thread Cert.ReferenceFPIdeal.nD Cert.ReferenceFPIdeal.τ).loc Cert.ReferenceFPIdeal.main_arg2)
      ∧ r.2.mem ((c.tc : Thread Cert.ReferenceFPIdeal.nD Cert.ReferenceFPIdeal.τ).loc Cert.ReferenceFPIdeal.main_arg3) = m ((c.tc : Thread Cert.ReferenceFPIdeal.nD Cert.ReferenceFPIdeal.τ).loc Cert.ReferenceFPIdeal.main_arg3))
      ∧ r.2.sem = fun _ => 0)

def quiescent_KernelFS [hKernelFS : Cert.KernelFS.Facts] : Prop :=
  ∀ (m : (ℓ : Loc Cert.KernelFS.nD Cert.KernelFS.τ Cert.KernelFS.sig) → Buf (Elt Bits) ℓ) (g : Dev Cert.KernelFS.nD → PrngReg), Pre_KernelFS m →
    θ_run (Cert.KernelFS.defs (F := Bits)) (onTc (τ := Cert.KernelFS.τ) (Cert.KernelFS.main (F := Bits))) ⟨m, fun _ => 0, g⟩ (fun r => (∀ c : Dev Cert.KernelFS.nD,
      r.2.mem ((c.tc : Thread Cert.KernelFS.nD Cert.KernelFS.τ).loc Cert.KernelFS.main_arg0) = m ((c.tc : Thread Cert.KernelFS.nD Cert.KernelFS.τ).loc Cert.KernelFS.main_arg0)
      ∧ r.2.mem ((c.tc : Thread Cert.KernelFS.nD Cert.KernelFS.τ).loc Cert.KernelFS.main_arg1) = m ((c.tc : Thread Cert.KernelFS.nD Cert.KernelFS.τ).loc Cert.KernelFS.main_arg1)
      ∧ r.2.mem ((c.tc : Thread Cert.KernelFS.nD Cert.KernelFS.τ).loc Cert.KernelFS.main_arg2) = m ((c.tc : Thread Cert.KernelFS.nD Cert.KernelFS.τ).loc Cert.KernelFS.main_arg2)
      ∧ r.2.mem ((c.tc : Thread Cert.KernelFS.nD Cert.KernelFS.τ).loc Cert.KernelFS.main_arg3) = m ((c.tc : Thread Cert.KernelFS.nD Cert.KernelFS.τ).loc Cert.KernelFS.main_arg3))
      ∧ r.2.sem = fun _ => 0)

def quiescent_KernelFSIdeal [hKernelFSIdeal : Cert.KernelFSIdeal.Facts] : Prop :=
  ∀ (m : (ℓ : Loc Cert.KernelFSIdeal.nD Cert.KernelFSIdeal.τ Cert.KernelFSIdeal.sig) → Buf (Elt Ideal) ℓ) (g : Dev Cert.KernelFSIdeal.nD → PrngReg), Pre_KernelFSIdeal m →
    θ_run (Cert.KernelFSIdeal.defs (F := Ideal)) (onTc (τ := Cert.KernelFSIdeal.τ) (Cert.KernelFSIdeal.main (F := Ideal))) ⟨m, fun _ => 0, g⟩ (fun r => (∀ c : Dev Cert.KernelFSIdeal.nD,
      r.2.mem ((c.tc : Thread Cert.KernelFSIdeal.nD Cert.KernelFSIdeal.τ).loc Cert.KernelFSIdeal.main_arg0) = m ((c.tc : Thread Cert.KernelFSIdeal.nD Cert.KernelFSIdeal.τ).loc Cert.KernelFSIdeal.main_arg0)
      ∧ r.2.mem ((c.tc : Thread Cert.KernelFSIdeal.nD Cert.KernelFSIdeal.τ).loc Cert.KernelFSIdeal.main_arg1) = m ((c.tc : Thread Cert.KernelFSIdeal.nD Cert.KernelFSIdeal.τ).loc Cert.KernelFSIdeal.main_arg1)
      ∧ r.2.mem ((c.tc : Thread Cert.KernelFSIdeal.nD Cert.KernelFSIdeal.τ).loc Cert.KernelFSIdeal.main_arg2) = m ((c.tc : Thread Cert.KernelFSIdeal.nD Cert.KernelFSIdeal.τ).loc Cert.KernelFSIdeal.main_arg2)
      ∧ r.2.mem ((c.tc : Thread Cert.KernelFSIdeal.nD Cert.KernelFSIdeal.τ).loc Cert.KernelFSIdeal.main_arg3) = m ((c.tc : Thread Cert.KernelFSIdeal.nD Cert.KernelFSIdeal.τ).loc Cert.KernelFSIdeal.main_arg3))
      ∧ r.2.sem = fun _ => 0)

def quiescent_ReferenceFSIdeal [hReferenceFSIdeal : Cert.ReferenceFSIdeal.Facts] : Prop :=
  ∀ (m : (ℓ : Loc Cert.ReferenceFSIdeal.nD Cert.ReferenceFSIdeal.τ Cert.ReferenceFSIdeal.sig) → Buf (Elt Ideal) ℓ) (g : Dev Cert.ReferenceFSIdeal.nD → PrngReg), Pre_ReferenceFSIdeal m →
    θ_run (Cert.ReferenceFSIdeal.defs (F := Ideal)) (onTc (τ := Cert.ReferenceFSIdeal.τ) (Cert.ReferenceFSIdeal.main (F := Ideal))) ⟨m, fun _ => 0, g⟩ (fun r => (∀ c : Dev Cert.ReferenceFSIdeal.nD,
      r.2.mem ((c.tc : Thread Cert.ReferenceFSIdeal.nD Cert.ReferenceFSIdeal.τ).loc Cert.ReferenceFSIdeal.main_arg0) = m ((c.tc : Thread Cert.ReferenceFSIdeal.nD Cert.ReferenceFSIdeal.τ).loc Cert.ReferenceFSIdeal.main_arg0)
      ∧ r.2.mem ((c.tc : Thread Cert.ReferenceFSIdeal.nD Cert.ReferenceFSIdeal.τ).loc Cert.ReferenceFSIdeal.main_arg1) = m ((c.tc : Thread Cert.ReferenceFSIdeal.nD Cert.ReferenceFSIdeal.τ).loc Cert.ReferenceFSIdeal.main_arg1)
      ∧ r.2.mem ((c.tc : Thread Cert.ReferenceFSIdeal.nD Cert.ReferenceFSIdeal.τ).loc Cert.ReferenceFSIdeal.main_arg2) = m ((c.tc : Thread Cert.ReferenceFSIdeal.nD Cert.ReferenceFSIdeal.τ).loc Cert.ReferenceFSIdeal.main_arg2)
      ∧ r.2.mem ((c.tc : Thread Cert.ReferenceFSIdeal.nD Cert.ReferenceFSIdeal.τ).loc Cert.ReferenceFSIdeal.main_arg3) = m ((c.tc : Thread Cert.ReferenceFSIdeal.nD Cert.ReferenceFSIdeal.τ).loc Cert.ReferenceFSIdeal.main_arg3))
      ∧ r.2.sem = fun _ => 0)

def quiescent_KernelAP [hKernelAP : Cert.KernelAP.Facts] : Prop :=
  ∀ (m : (ℓ : Loc Cert.KernelAP.nD Cert.KernelAP.τ Cert.KernelAP.sig) → Buf (Elt Bits) ℓ) (g : Dev Cert.KernelAP.nD → PrngReg), Pre_KernelAP m →
    θ_run (Cert.KernelAP.defs (F := Bits)) (onTc (τ := Cert.KernelAP.τ) (Cert.KernelAP.main (F := Bits))) ⟨m, fun _ => 0, g⟩ (fun r => (∀ c : Dev Cert.KernelAP.nD,
      r.2.mem ((c.tc : Thread Cert.KernelAP.nD Cert.KernelAP.τ).loc Cert.KernelAP.main_arg0) = m ((c.tc : Thread Cert.KernelAP.nD Cert.KernelAP.τ).loc Cert.KernelAP.main_arg0)
      ∧ r.2.mem ((c.tc : Thread Cert.KernelAP.nD Cert.KernelAP.τ).loc Cert.KernelAP.main_arg1) = m ((c.tc : Thread Cert.KernelAP.nD Cert.KernelAP.τ).loc Cert.KernelAP.main_arg1)
      ∧ r.2.mem ((c.tc : Thread Cert.KernelAP.nD Cert.KernelAP.τ).loc Cert.KernelAP.main_arg2) = m ((c.tc : Thread Cert.KernelAP.nD Cert.KernelAP.τ).loc Cert.KernelAP.main_arg2)
      ∧ r.2.mem ((c.tc : Thread Cert.KernelAP.nD Cert.KernelAP.τ).loc Cert.KernelAP.main_arg3) = m ((c.tc : Thread Cert.KernelAP.nD Cert.KernelAP.τ).loc Cert.KernelAP.main_arg3))
      ∧ r.2.sem = fun _ => 0)

def quiescent_KernelAPIdeal [hKernelAPIdeal : Cert.KernelAPIdeal.Facts] : Prop :=
  ∀ (m : (ℓ : Loc Cert.KernelAPIdeal.nD Cert.KernelAPIdeal.τ Cert.KernelAPIdeal.sig) → Buf (Elt Ideal) ℓ) (g : Dev Cert.KernelAPIdeal.nD → PrngReg), Pre_KernelAPIdeal m →
    θ_run (Cert.KernelAPIdeal.defs (F := Ideal)) (onTc (τ := Cert.KernelAPIdeal.τ) (Cert.KernelAPIdeal.main (F := Ideal))) ⟨m, fun _ => 0, g⟩ (fun r => (∀ c : Dev Cert.KernelAPIdeal.nD,
      r.2.mem ((c.tc : Thread Cert.KernelAPIdeal.nD Cert.KernelAPIdeal.τ).loc Cert.KernelAPIdeal.main_arg0) = m ((c.tc : Thread Cert.KernelAPIdeal.nD Cert.KernelAPIdeal.τ).loc Cert.KernelAPIdeal.main_arg0)
      ∧ r.2.mem ((c.tc : Thread Cert.KernelAPIdeal.nD Cert.KernelAPIdeal.τ).loc Cert.KernelAPIdeal.main_arg1) = m ((c.tc : Thread Cert.KernelAPIdeal.nD Cert.KernelAPIdeal.τ).loc Cert.KernelAPIdeal.main_arg1)
      ∧ r.2.mem ((c.tc : Thread Cert.KernelAPIdeal.nD Cert.KernelAPIdeal.τ).loc Cert.KernelAPIdeal.main_arg2) = m ((c.tc : Thread Cert.KernelAPIdeal.nD Cert.KernelAPIdeal.τ).loc Cert.KernelAPIdeal.main_arg2)
      ∧ r.2.mem ((c.tc : Thread Cert.KernelAPIdeal.nD Cert.KernelAPIdeal.τ).loc Cert.KernelAPIdeal.main_arg3) = m ((c.tc : Thread Cert.KernelAPIdeal.nD Cert.KernelAPIdeal.τ).loc Cert.KernelAPIdeal.main_arg3))
      ∧ r.2.sem = fun _ => 0)

def quiescent_ReferenceAPIdeal [hReferenceAPIdeal : Cert.ReferenceAPIdeal.Facts] : Prop :=
  ∀ (m : (ℓ : Loc Cert.ReferenceAPIdeal.nD Cert.ReferenceAPIdeal.τ Cert.ReferenceAPIdeal.sig) → Buf (Elt Ideal) ℓ) (g : Dev Cert.ReferenceAPIdeal.nD → PrngReg), Pre_ReferenceAPIdeal m →
    θ_run (Cert.ReferenceAPIdeal.defs (F := Ideal)) (onTc (τ := Cert.ReferenceAPIdeal.τ) (Cert.ReferenceAPIdeal.main (F := Ideal))) ⟨m, fun _ => 0, g⟩ (fun r => (∀ c : Dev Cert.ReferenceAPIdeal.nD,
      r.2.mem ((c.tc : Thread Cert.ReferenceAPIdeal.nD Cert.ReferenceAPIdeal.τ).loc Cert.ReferenceAPIdeal.main_arg0) = m ((c.tc : Thread Cert.ReferenceAPIdeal.nD Cert.ReferenceAPIdeal.τ).loc Cert.ReferenceAPIdeal.main_arg0)
      ∧ r.2.mem ((c.tc : Thread Cert.ReferenceAPIdeal.nD Cert.ReferenceAPIdeal.τ).loc Cert.ReferenceAPIdeal.main_arg1) = m ((c.tc : Thread Cert.ReferenceAPIdeal.nD Cert.ReferenceAPIdeal.τ).loc Cert.ReferenceAPIdeal.main_arg1)
      ∧ r.2.mem ((c.tc : Thread Cert.ReferenceAPIdeal.nD Cert.ReferenceAPIdeal.τ).loc Cert.ReferenceAPIdeal.main_arg2) = m ((c.tc : Thread Cert.ReferenceAPIdeal.nD Cert.ReferenceAPIdeal.τ).loc Cert.ReferenceAPIdeal.main_arg2)
      ∧ r.2.mem ((c.tc : Thread Cert.ReferenceAPIdeal.nD Cert.ReferenceAPIdeal.τ).loc Cert.ReferenceAPIdeal.main_arg3) = m ((c.tc : Thread Cert.ReferenceAPIdeal.nD Cert.ReferenceAPIdeal.τ).loc Cert.ReferenceAPIdeal.main_arg3))
      ∧ r.2.sem = fun _ => 0)

def quiescent_KernelAS [hKernelAS : Cert.KernelAS.Facts] : Prop :=
  ∀ (m : (ℓ : Loc Cert.KernelAS.nD Cert.KernelAS.τ Cert.KernelAS.sig) → Buf (Elt Bits) ℓ) (g : Dev Cert.KernelAS.nD → PrngReg), Pre_KernelAS m →
    θ_run (Cert.KernelAS.defs (F := Bits)) (onTc (τ := Cert.KernelAS.τ) (Cert.KernelAS.main (F := Bits))) ⟨m, fun _ => 0, g⟩ (fun r => (∀ c : Dev Cert.KernelAS.nD,
      r.2.mem ((c.tc : Thread Cert.KernelAS.nD Cert.KernelAS.τ).loc Cert.KernelAS.main_arg0) = m ((c.tc : Thread Cert.KernelAS.nD Cert.KernelAS.τ).loc Cert.KernelAS.main_arg0)
      ∧ r.2.mem ((c.tc : Thread Cert.KernelAS.nD Cert.KernelAS.τ).loc Cert.KernelAS.main_arg1) = m ((c.tc : Thread Cert.KernelAS.nD Cert.KernelAS.τ).loc Cert.KernelAS.main_arg1)
      ∧ r.2.mem ((c.tc : Thread Cert.KernelAS.nD Cert.KernelAS.τ).loc Cert.KernelAS.main_arg2) = m ((c.tc : Thread Cert.KernelAS.nD Cert.KernelAS.τ).loc Cert.KernelAS.main_arg2)
      ∧ r.2.mem ((c.tc : Thread Cert.KernelAS.nD Cert.KernelAS.τ).loc Cert.KernelAS.main_arg3) = m ((c.tc : Thread Cert.KernelAS.nD Cert.KernelAS.τ).loc Cert.KernelAS.main_arg3))
      ∧ r.2.sem = fun _ => 0)

def quiescent_KernelASIdeal [hKernelASIdeal : Cert.KernelASIdeal.Facts] : Prop :=
  ∀ (m : (ℓ : Loc Cert.KernelASIdeal.nD Cert.KernelASIdeal.τ Cert.KernelASIdeal.sig) → Buf (Elt Ideal) ℓ) (g : Dev Cert.KernelASIdeal.nD → PrngReg), Pre_KernelASIdeal m →
    θ_run (Cert.KernelASIdeal.defs (F := Ideal)) (onTc (τ := Cert.KernelASIdeal.τ) (Cert.KernelASIdeal.main (F := Ideal))) ⟨m, fun _ => 0, g⟩ (fun r => (∀ c : Dev Cert.KernelASIdeal.nD,
      r.2.mem ((c.tc : Thread Cert.KernelASIdeal.nD Cert.KernelASIdeal.τ).loc Cert.KernelASIdeal.main_arg0) = m ((c.tc : Thread Cert.KernelASIdeal.nD Cert.KernelASIdeal.τ).loc Cert.KernelASIdeal.main_arg0)
      ∧ r.2.mem ((c.tc : Thread Cert.KernelASIdeal.nD Cert.KernelASIdeal.τ).loc Cert.KernelASIdeal.main_arg1) = m ((c.tc : Thread Cert.KernelASIdeal.nD Cert.KernelASIdeal.τ).loc Cert.KernelASIdeal.main_arg1)
      ∧ r.2.mem ((c.tc : Thread Cert.KernelASIdeal.nD Cert.KernelASIdeal.τ).loc Cert.KernelASIdeal.main_arg2) = m ((c.tc : Thread Cert.KernelASIdeal.nD Cert.KernelASIdeal.τ).loc Cert.KernelASIdeal.main_arg2)
      ∧ r.2.mem ((c.tc : Thread Cert.KernelASIdeal.nD Cert.KernelASIdeal.τ).loc Cert.KernelASIdeal.main_arg3) = m ((c.tc : Thread Cert.KernelASIdeal.nD Cert.KernelASIdeal.τ).loc Cert.KernelASIdeal.main_arg3))
      ∧ r.2.sem = fun _ => 0)

def quiescent_ReferenceASIdeal [hReferenceASIdeal : Cert.ReferenceASIdeal.Facts] : Prop :=
  ∀ (m : (ℓ : Loc Cert.ReferenceASIdeal.nD Cert.ReferenceASIdeal.τ Cert.ReferenceASIdeal.sig) → Buf (Elt Ideal) ℓ) (g : Dev Cert.ReferenceASIdeal.nD → PrngReg), Pre_ReferenceASIdeal m →
    θ_run (Cert.ReferenceASIdeal.defs (F := Ideal)) (onTc (τ := Cert.ReferenceASIdeal.τ) (Cert.ReferenceASIdeal.main (F := Ideal))) ⟨m, fun _ => 0, g⟩ (fun r => (∀ c : Dev Cert.ReferenceASIdeal.nD,
      r.2.mem ((c.tc : Thread Cert.ReferenceASIdeal.nD Cert.ReferenceASIdeal.τ).loc Cert.ReferenceASIdeal.main_arg0) = m ((c.tc : Thread Cert.ReferenceASIdeal.nD Cert.ReferenceASIdeal.τ).loc Cert.ReferenceASIdeal.main_arg0)
      ∧ r.2.mem ((c.tc : Thread Cert.ReferenceASIdeal.nD Cert.ReferenceASIdeal.τ).loc Cert.ReferenceASIdeal.main_arg1) = m ((c.tc : Thread Cert.ReferenceASIdeal.nD Cert.ReferenceASIdeal.τ).loc Cert.ReferenceASIdeal.main_arg1)
      ∧ r.2.mem ((c.tc : Thread Cert.ReferenceASIdeal.nD Cert.ReferenceASIdeal.τ).loc Cert.ReferenceASIdeal.main_arg2) = m ((c.tc : Thread Cert.ReferenceASIdeal.nD Cert.ReferenceASIdeal.τ).loc Cert.ReferenceASIdeal.main_arg2)
      ∧ r.2.mem ((c.tc : Thread Cert.ReferenceASIdeal.nD Cert.ReferenceASIdeal.τ).loc Cert.ReferenceASIdeal.main_arg3) = m ((c.tc : Thread Cert.ReferenceASIdeal.nD Cert.ReferenceASIdeal.τ).loc Cert.ReferenceASIdeal.main_arg3))
      ∧ r.2.sem = fun _ => 0)

def quiescent_KernelZP [hKernelZP : Cert.KernelZP.Facts] : Prop :=
  ∀ (m : (ℓ : Loc Cert.KernelZP.nD Cert.KernelZP.τ Cert.KernelZP.sig) → Buf (Elt Bits) ℓ) (g : Dev Cert.KernelZP.nD → PrngReg), Pre_KernelZP m →
    θ_run (Cert.KernelZP.defs (F := Bits)) (onTc (τ := Cert.KernelZP.τ) (Cert.KernelZP.main (F := Bits))) ⟨m, fun _ => 0, g⟩ (fun r => (∀ c : Dev Cert.KernelZP.nD,
      r.2.mem ((c.tc : Thread Cert.KernelZP.nD Cert.KernelZP.τ).loc Cert.KernelZP.main_arg0) = m ((c.tc : Thread Cert.KernelZP.nD Cert.KernelZP.τ).loc Cert.KernelZP.main_arg0)
      ∧ r.2.mem ((c.tc : Thread Cert.KernelZP.nD Cert.KernelZP.τ).loc Cert.KernelZP.main_arg1) = m ((c.tc : Thread Cert.KernelZP.nD Cert.KernelZP.τ).loc Cert.KernelZP.main_arg1)
      ∧ r.2.mem ((c.tc : Thread Cert.KernelZP.nD Cert.KernelZP.τ).loc Cert.KernelZP.main_arg2) = m ((c.tc : Thread Cert.KernelZP.nD Cert.KernelZP.τ).loc Cert.KernelZP.main_arg2)
      ∧ r.2.mem ((c.tc : Thread Cert.KernelZP.nD Cert.KernelZP.τ).loc Cert.KernelZP.main_arg3) = m ((c.tc : Thread Cert.KernelZP.nD Cert.KernelZP.τ).loc Cert.KernelZP.main_arg3)
      ∧ r.2.mem ((c.tc : Thread Cert.KernelZP.nD Cert.KernelZP.τ).loc Cert.KernelZP.main_arg4) = m ((c.tc : Thread Cert.KernelZP.nD Cert.KernelZP.τ).loc Cert.KernelZP.main_arg4)
      ∧ r.2.mem ((c.tc : Thread Cert.KernelZP.nD Cert.KernelZP.τ).loc Cert.KernelZP.main_arg5) = m ((c.tc : Thread Cert.KernelZP.nD Cert.KernelZP.τ).loc Cert.KernelZP.main_arg5)
      ∧ r.2.mem ((c.tc : Thread Cert.KernelZP.nD Cert.KernelZP.τ).loc Cert.KernelZP.main_arg6) = m ((c.tc : Thread Cert.KernelZP.nD Cert.KernelZP.τ).loc Cert.KernelZP.main_arg6)
      ∧ r.2.mem ((c.tc : Thread Cert.KernelZP.nD Cert.KernelZP.τ).loc Cert.KernelZP.main_arg7) = m ((c.tc : Thread Cert.KernelZP.nD Cert.KernelZP.τ).loc Cert.KernelZP.main_arg7))
      ∧ r.2.sem = fun _ => 0)

def quiescent_KernelZPIdeal [hKernelZPIdeal : Cert.KernelZPIdeal.Facts] : Prop :=
  ∀ (m : (ℓ : Loc Cert.KernelZPIdeal.nD Cert.KernelZPIdeal.τ Cert.KernelZPIdeal.sig) → Buf (Elt Ideal) ℓ) (g : Dev Cert.KernelZPIdeal.nD → PrngReg), Pre_KernelZPIdeal m →
    θ_run (Cert.KernelZPIdeal.defs (F := Ideal)) (onTc (τ := Cert.KernelZPIdeal.τ) (Cert.KernelZPIdeal.main (F := Ideal))) ⟨m, fun _ => 0, g⟩ (fun r => (∀ c : Dev Cert.KernelZPIdeal.nD,
      r.2.mem ((c.tc : Thread Cert.KernelZPIdeal.nD Cert.KernelZPIdeal.τ).loc Cert.KernelZPIdeal.main_arg0) = m ((c.tc : Thread Cert.KernelZPIdeal.nD Cert.KernelZPIdeal.τ).loc Cert.KernelZPIdeal.main_arg0)
      ∧ r.2.mem ((c.tc : Thread Cert.KernelZPIdeal.nD Cert.KernelZPIdeal.τ).loc Cert.KernelZPIdeal.main_arg1) = m ((c.tc : Thread Cert.KernelZPIdeal.nD Cert.KernelZPIdeal.τ).loc Cert.KernelZPIdeal.main_arg1)
      ∧ r.2.mem ((c.tc : Thread Cert.KernelZPIdeal.nD Cert.KernelZPIdeal.τ).loc Cert.KernelZPIdeal.main_arg2) = m ((c.tc : Thread Cert.KernelZPIdeal.nD Cert.KernelZPIdeal.τ).loc Cert.KernelZPIdeal.main_arg2)
      ∧ r.2.mem ((c.tc : Thread Cert.KernelZPIdeal.nD Cert.KernelZPIdeal.τ).loc Cert.KernelZPIdeal.main_arg3) = m ((c.tc : Thread Cert.KernelZPIdeal.nD Cert.KernelZPIdeal.τ).loc Cert.KernelZPIdeal.main_arg3)
      ∧ r.2.mem ((c.tc : Thread Cert.KernelZPIdeal.nD Cert.KernelZPIdeal.τ).loc Cert.KernelZPIdeal.main_arg4) = m ((c.tc : Thread Cert.KernelZPIdeal.nD Cert.KernelZPIdeal.τ).loc Cert.KernelZPIdeal.main_arg4)
      ∧ r.2.mem ((c.tc : Thread Cert.KernelZPIdeal.nD Cert.KernelZPIdeal.τ).loc Cert.KernelZPIdeal.main_arg5) = m ((c.tc : Thread Cert.KernelZPIdeal.nD Cert.KernelZPIdeal.τ).loc Cert.KernelZPIdeal.main_arg5)
      ∧ r.2.mem ((c.tc : Thread Cert.KernelZPIdeal.nD Cert.KernelZPIdeal.τ).loc Cert.KernelZPIdeal.main_arg6) = m ((c.tc : Thread Cert.KernelZPIdeal.nD Cert.KernelZPIdeal.τ).loc Cert.KernelZPIdeal.main_arg6)
      ∧ r.2.mem ((c.tc : Thread Cert.KernelZPIdeal.nD Cert.KernelZPIdeal.τ).loc Cert.KernelZPIdeal.main_arg7) = m ((c.tc : Thread Cert.KernelZPIdeal.nD Cert.KernelZPIdeal.τ).loc Cert.KernelZPIdeal.main_arg7))
      ∧ r.2.sem = fun _ => 0)

def quiescent_ReferenceZPIdeal [hReferenceZPIdeal : Cert.ReferenceZPIdeal.Facts] : Prop :=
  ∀ (m : (ℓ : Loc Cert.ReferenceZPIdeal.nD Cert.ReferenceZPIdeal.τ Cert.ReferenceZPIdeal.sig) → Buf (Elt Ideal) ℓ) (g : Dev Cert.ReferenceZPIdeal.nD → PrngReg), Pre_ReferenceZPIdeal m →
    θ_run (Cert.ReferenceZPIdeal.defs (F := Ideal)) (onTc (τ := Cert.ReferenceZPIdeal.τ) (Cert.ReferenceZPIdeal.main (F := Ideal))) ⟨m, fun _ => 0, g⟩ (fun r => (∀ c : Dev Cert.ReferenceZPIdeal.nD,
      r.2.mem ((c.tc : Thread Cert.ReferenceZPIdeal.nD Cert.ReferenceZPIdeal.τ).loc Cert.ReferenceZPIdeal.main_arg0) = m ((c.tc : Thread Cert.ReferenceZPIdeal.nD Cert.ReferenceZPIdeal.τ).loc Cert.ReferenceZPIdeal.main_arg0)
      ∧ r.2.mem ((c.tc : Thread Cert.ReferenceZPIdeal.nD Cert.ReferenceZPIdeal.τ).loc Cert.ReferenceZPIdeal.main_arg1) = m ((c.tc : Thread Cert.ReferenceZPIdeal.nD Cert.ReferenceZPIdeal.τ).loc Cert.ReferenceZPIdeal.main_arg1)
      ∧ r.2.mem ((c.tc : Thread Cert.ReferenceZPIdeal.nD Cert.ReferenceZPIdeal.τ).loc Cert.ReferenceZPIdeal.main_arg2) = m ((c.tc : Thread Cert.ReferenceZPIdeal.nD Cert.ReferenceZPIdeal.τ).loc Cert.ReferenceZPIdeal.main_arg2)
      ∧ r.2.mem ((c.tc : Thread Cert.ReferenceZPIdeal.nD Cert.ReferenceZPIdeal.τ).loc Cert.ReferenceZPIdeal.main_arg3) = m ((c.tc : Thread Cert.ReferenceZPIdeal.nD Cert.ReferenceZPIdeal.τ).loc Cert.ReferenceZPIdeal.main_arg3)
      ∧ r.2.mem ((c.tc : Thread Cert.ReferenceZPIdeal.nD Cert.ReferenceZPIdeal.τ).loc Cert.ReferenceZPIdeal.main_arg4) = m ((c.tc : Thread Cert.ReferenceZPIdeal.nD Cert.ReferenceZPIdeal.τ).loc Cert.ReferenceZPIdeal.main_arg4)
      ∧ r.2.mem ((c.tc : Thread Cert.ReferenceZPIdeal.nD Cert.ReferenceZPIdeal.τ).loc Cert.ReferenceZPIdeal.main_arg5) = m ((c.tc : Thread Cert.ReferenceZPIdeal.nD Cert.ReferenceZPIdeal.τ).loc Cert.ReferenceZPIdeal.main_arg5)
      ∧ r.2.mem ((c.tc : Thread Cert.ReferenceZPIdeal.nD Cert.ReferenceZPIdeal.τ).loc Cert.ReferenceZPIdeal.main_arg6) = m ((c.tc : Thread Cert.ReferenceZPIdeal.nD Cert.ReferenceZPIdeal.τ).loc Cert.ReferenceZPIdeal.main_arg6)
      ∧ r.2.mem ((c.tc : Thread Cert.ReferenceZPIdeal.nD Cert.ReferenceZPIdeal.τ).loc Cert.ReferenceZPIdeal.main_arg7) = m ((c.tc : Thread Cert.ReferenceZPIdeal.nD Cert.ReferenceZPIdeal.τ).loc Cert.ReferenceZPIdeal.main_arg7))
      ∧ r.2.sem = fun _ => 0)

def quiescent_KernelZS [hKernelZS : Cert.KernelZS.Facts] : Prop :=
  ∀ (m : (ℓ : Loc Cert.KernelZS.nD Cert.KernelZS.τ Cert.KernelZS.sig) → Buf (Elt Bits) ℓ) (g : Dev Cert.KernelZS.nD → PrngReg), Pre_KernelZS m →
    θ_run (Cert.KernelZS.defs (F := Bits)) (onTc (τ := Cert.KernelZS.τ) (Cert.KernelZS.main (F := Bits))) ⟨m, fun _ => 0, g⟩ (fun r => (∀ c : Dev Cert.KernelZS.nD,
      r.2.mem ((c.tc : Thread Cert.KernelZS.nD Cert.KernelZS.τ).loc Cert.KernelZS.main_arg0) = m ((c.tc : Thread Cert.KernelZS.nD Cert.KernelZS.τ).loc Cert.KernelZS.main_arg0)
      ∧ r.2.mem ((c.tc : Thread Cert.KernelZS.nD Cert.KernelZS.τ).loc Cert.KernelZS.main_arg1) = m ((c.tc : Thread Cert.KernelZS.nD Cert.KernelZS.τ).loc Cert.KernelZS.main_arg1)
      ∧ r.2.mem ((c.tc : Thread Cert.KernelZS.nD Cert.KernelZS.τ).loc Cert.KernelZS.main_arg2) = m ((c.tc : Thread Cert.KernelZS.nD Cert.KernelZS.τ).loc Cert.KernelZS.main_arg2)
      ∧ r.2.mem ((c.tc : Thread Cert.KernelZS.nD Cert.KernelZS.τ).loc Cert.KernelZS.main_arg3) = m ((c.tc : Thread Cert.KernelZS.nD Cert.KernelZS.τ).loc Cert.KernelZS.main_arg3)
      ∧ r.2.mem ((c.tc : Thread Cert.KernelZS.nD Cert.KernelZS.τ).loc Cert.KernelZS.main_arg4) = m ((c.tc : Thread Cert.KernelZS.nD Cert.KernelZS.τ).loc Cert.KernelZS.main_arg4)
      ∧ r.2.mem ((c.tc : Thread Cert.KernelZS.nD Cert.KernelZS.τ).loc Cert.KernelZS.main_arg5) = m ((c.tc : Thread Cert.KernelZS.nD Cert.KernelZS.τ).loc Cert.KernelZS.main_arg5)
      ∧ r.2.mem ((c.tc : Thread Cert.KernelZS.nD Cert.KernelZS.τ).loc Cert.KernelZS.main_arg6) = m ((c.tc : Thread Cert.KernelZS.nD Cert.KernelZS.τ).loc Cert.KernelZS.main_arg6)
      ∧ r.2.mem ((c.tc : Thread Cert.KernelZS.nD Cert.KernelZS.τ).loc Cert.KernelZS.main_arg7) = m ((c.tc : Thread Cert.KernelZS.nD Cert.KernelZS.τ).loc Cert.KernelZS.main_arg7))
      ∧ r.2.sem = fun _ => 0)

def quiescent_KernelZSIdeal [hKernelZSIdeal : Cert.KernelZSIdeal.Facts] : Prop :=
  ∀ (m : (ℓ : Loc Cert.KernelZSIdeal.nD Cert.KernelZSIdeal.τ Cert.KernelZSIdeal.sig) → Buf (Elt Ideal) ℓ) (g : Dev Cert.KernelZSIdeal.nD → PrngReg), Pre_KernelZSIdeal m →
    θ_run (Cert.KernelZSIdeal.defs (F := Ideal)) (onTc (τ := Cert.KernelZSIdeal.τ) (Cert.KernelZSIdeal.main (F := Ideal))) ⟨m, fun _ => 0, g⟩ (fun r => (∀ c : Dev Cert.KernelZSIdeal.nD,
      r.2.mem ((c.tc : Thread Cert.KernelZSIdeal.nD Cert.KernelZSIdeal.τ).loc Cert.KernelZSIdeal.main_arg0) = m ((c.tc : Thread Cert.KernelZSIdeal.nD Cert.KernelZSIdeal.τ).loc Cert.KernelZSIdeal.main_arg0)
      ∧ r.2.mem ((c.tc : Thread Cert.KernelZSIdeal.nD Cert.KernelZSIdeal.τ).loc Cert.KernelZSIdeal.main_arg1) = m ((c.tc : Thread Cert.KernelZSIdeal.nD Cert.KernelZSIdeal.τ).loc Cert.KernelZSIdeal.main_arg1)
      ∧ r.2.mem ((c.tc : Thread Cert.KernelZSIdeal.nD Cert.KernelZSIdeal.τ).loc Cert.KernelZSIdeal.main_arg2) = m ((c.tc : Thread Cert.KernelZSIdeal.nD Cert.KernelZSIdeal.τ).loc Cert.KernelZSIdeal.main_arg2)
      ∧ r.2.mem ((c.tc : Thread Cert.KernelZSIdeal.nD Cert.KernelZSIdeal.τ).loc Cert.KernelZSIdeal.main_arg3) = m ((c.tc : Thread Cert.KernelZSIdeal.nD Cert.KernelZSIdeal.τ).loc Cert.KernelZSIdeal.main_arg3)
      ∧ r.2.mem ((c.tc : Thread Cert.KernelZSIdeal.nD Cert.KernelZSIdeal.τ).loc Cert.KernelZSIdeal.main_arg4) = m ((c.tc : Thread Cert.KernelZSIdeal.nD Cert.KernelZSIdeal.τ).loc Cert.KernelZSIdeal.main_arg4)
      ∧ r.2.mem ((c.tc : Thread Cert.KernelZSIdeal.nD Cert.KernelZSIdeal.τ).loc Cert.KernelZSIdeal.main_arg5) = m ((c.tc : Thread Cert.KernelZSIdeal.nD Cert.KernelZSIdeal.τ).loc Cert.KernelZSIdeal.main_arg5)
      ∧ r.2.mem ((c.tc : Thread Cert.KernelZSIdeal.nD Cert.KernelZSIdeal.τ).loc Cert.KernelZSIdeal.main_arg6) = m ((c.tc : Thread Cert.KernelZSIdeal.nD Cert.KernelZSIdeal.τ).loc Cert.KernelZSIdeal.main_arg6)
      ∧ r.2.mem ((c.tc : Thread Cert.KernelZSIdeal.nD Cert.KernelZSIdeal.τ).loc Cert.KernelZSIdeal.main_arg7) = m ((c.tc : Thread Cert.KernelZSIdeal.nD Cert.KernelZSIdeal.τ).loc Cert.KernelZSIdeal.main_arg7))
      ∧ r.2.sem = fun _ => 0)

def quiescent_ReferenceZSIdeal [hReferenceZSIdeal : Cert.ReferenceZSIdeal.Facts] : Prop :=
  ∀ (m : (ℓ : Loc Cert.ReferenceZSIdeal.nD Cert.ReferenceZSIdeal.τ Cert.ReferenceZSIdeal.sig) → Buf (Elt Ideal) ℓ) (g : Dev Cert.ReferenceZSIdeal.nD → PrngReg), Pre_ReferenceZSIdeal m →
    θ_run (Cert.ReferenceZSIdeal.defs (F := Ideal)) (onTc (τ := Cert.ReferenceZSIdeal.τ) (Cert.ReferenceZSIdeal.main (F := Ideal))) ⟨m, fun _ => 0, g⟩ (fun r => (∀ c : Dev Cert.ReferenceZSIdeal.nD,
      r.2.mem ((c.tc : Thread Cert.ReferenceZSIdeal.nD Cert.ReferenceZSIdeal.τ).loc Cert.ReferenceZSIdeal.main_arg0) = m ((c.tc : Thread Cert.ReferenceZSIdeal.nD Cert.ReferenceZSIdeal.τ).loc Cert.ReferenceZSIdeal.main_arg0)
      ∧ r.2.mem ((c.tc : Thread Cert.ReferenceZSIdeal.nD Cert.ReferenceZSIdeal.τ).loc Cert.ReferenceZSIdeal.main_arg1) = m ((c.tc : Thread Cert.ReferenceZSIdeal.nD Cert.ReferenceZSIdeal.τ).loc Cert.ReferenceZSIdeal.main_arg1)
      ∧ r.2.mem ((c.tc : Thread Cert.ReferenceZSIdeal.nD Cert.ReferenceZSIdeal.τ).loc Cert.ReferenceZSIdeal.main_arg2) = m ((c.tc : Thread Cert.ReferenceZSIdeal.nD Cert.ReferenceZSIdeal.τ).loc Cert.ReferenceZSIdeal.main_arg2)
      ∧ r.2.mem ((c.tc : Thread Cert.ReferenceZSIdeal.nD Cert.ReferenceZSIdeal.τ).loc Cert.ReferenceZSIdeal.main_arg3) = m ((c.tc : Thread Cert.ReferenceZSIdeal.nD Cert.ReferenceZSIdeal.τ).loc Cert.ReferenceZSIdeal.main_arg3)
      ∧ r.2.mem ((c.tc : Thread Cert.ReferenceZSIdeal.nD Cert.ReferenceZSIdeal.τ).loc Cert.ReferenceZSIdeal.main_arg4) = m ((c.tc : Thread Cert.ReferenceZSIdeal.nD Cert.ReferenceZSIdeal.τ).loc Cert.ReferenceZSIdeal.main_arg4)
      ∧ r.2.mem ((c.tc : Thread Cert.ReferenceZSIdeal.nD Cert.ReferenceZSIdeal.τ).loc Cert.ReferenceZSIdeal.main_arg5) = m ((c.tc : Thread Cert.ReferenceZSIdeal.nD Cert.ReferenceZSIdeal.τ).loc Cert.ReferenceZSIdeal.main_arg5)
      ∧ r.2.mem ((c.tc : Thread Cert.ReferenceZSIdeal.nD Cert.ReferenceZSIdeal.τ).loc Cert.ReferenceZSIdeal.main_arg6) = m ((c.tc : Thread Cert.ReferenceZSIdeal.nD Cert.ReferenceZSIdeal.τ).loc Cert.ReferenceZSIdeal.main_arg6)
      ∧ r.2.mem ((c.tc : Thread Cert.ReferenceZSIdeal.nD Cert.ReferenceZSIdeal.τ).loc Cert.ReferenceZSIdeal.main_arg7) = m ((c.tc : Thread Cert.ReferenceZSIdeal.nD Cert.ReferenceZSIdeal.τ).loc Cert.ReferenceZSIdeal.main_arg7))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelYP_KernelYPIdeal : Prop :=
  True

def algebraic_KernelYPIdeal_ReferenceYPIdeal [hKernelYPIdeal : Cert.KernelYPIdeal.Facts] [hReferenceYPIdeal : Cert.ReferenceYPIdeal.Facts] : Prop :=
  ∀ (m : (ℓ : Loc Cert.KernelYPIdeal.nD Cert.KernelYPIdeal.τ Cert.KernelYPIdeal.sig) → Buf (Elt Ideal) ℓ) (g : Dev Cert.KernelYPIdeal.nD → PrngReg)
    (m' : (ℓ : Loc Cert.ReferenceYPIdeal.nD Cert.ReferenceYPIdeal.τ Cert.ReferenceYPIdeal.sig) → Buf (Elt Ideal) ℓ) (g' : Dev Cert.ReferenceYPIdeal.nD → PrngReg), Pre_KernelYPIdeal m →
    (∀ c : Dev Cert.KernelYPIdeal.nD,
      m' ((c.tc : Thread Cert.ReferenceYPIdeal.nD Cert.ReferenceYPIdeal.τ).loc Cert.ReferenceYPIdeal.main_arg0) = m ((c.tc : Thread Cert.KernelYPIdeal.nD Cert.KernelYPIdeal.τ).loc Cert.KernelYPIdeal.main_arg0)
      ∧ m' ((c.tc : Thread Cert.ReferenceYPIdeal.nD Cert.ReferenceYPIdeal.τ).loc Cert.ReferenceYPIdeal.main_arg1) = m ((c.tc : Thread Cert.KernelYPIdeal.nD Cert.KernelYPIdeal.τ).loc Cert.KernelYPIdeal.main_arg1)
      ∧ m' ((c.tc : Thread Cert.ReferenceYPIdeal.nD Cert.ReferenceYPIdeal.τ).loc Cert.ReferenceYPIdeal.main_arg2) = m ((c.tc : Thread Cert.KernelYPIdeal.nD Cert.KernelYPIdeal.τ).loc Cert.KernelYPIdeal.main_arg2)
      ∧ m' ((c.tc : Thread Cert.ReferenceYPIdeal.nD Cert.ReferenceYPIdeal.τ).loc Cert.ReferenceYPIdeal.main_arg3) = m ((c.tc : Thread Cert.KernelYPIdeal.nD Cert.KernelYPIdeal.τ).loc Cert.KernelYPIdeal.main_arg3)
      ∧ m' ((c.tc : Thread Cert.ReferenceYPIdeal.nD Cert.ReferenceYPIdeal.τ).loc Cert.ReferenceYPIdeal.main_arg4) = m ((c.tc : Thread Cert.KernelYPIdeal.nD Cert.KernelYPIdeal.τ).loc Cert.KernelYPIdeal.main_arg4)
      ∧ m' ((c.tc : Thread Cert.ReferenceYPIdeal.nD Cert.ReferenceYPIdeal.τ).loc Cert.ReferenceYPIdeal.main_arg5) = m ((c.tc : Thread Cert.KernelYPIdeal.nD Cert.KernelYPIdeal.τ).loc Cert.KernelYPIdeal.main_arg5)
      ∧ m' ((c.tc : Thread Cert.ReferenceYPIdeal.nD Cert.ReferenceYPIdeal.τ).loc Cert.ReferenceYPIdeal.main_arg6) = m ((c.tc : Thread Cert.KernelYPIdeal.nD Cert.KernelYPIdeal.τ).loc Cert.KernelYPIdeal.main_arg6)) →
    ∃ (v0 : (c : Dev Cert.KernelYPIdeal.nD) → Buf (Elt Ideal) ((c.tc : Thread Cert.KernelYPIdeal.nD Cert.KernelYPIdeal.τ).loc Cert.KernelYPIdeal.main_v8)),
      θ_run (Cert.KernelYPIdeal.defs (F := Ideal)) (onTc (τ := Cert.KernelYPIdeal.τ) (Cert.KernelYPIdeal.main (F := Ideal))) ⟨m, fun _ => 0, g⟩ (fun r => ∀ c : Dev Cert.KernelYPIdeal.nD,
          r.2.mem ((c.tc : Thread Cert.KernelYPIdeal.nD Cert.KernelYPIdeal.τ).loc Cert.KernelYPIdeal.main_v8) = v0 c
          ∧ r.2.mem ((c.tc : Thread Cert.KernelYPIdeal.nD Cert.KernelYPIdeal.τ).loc Cert.KernelYPIdeal.main_arg0) = m ((c.tc : Thread Cert.KernelYPIdeal.nD Cert.KernelYPIdeal.τ).loc Cert.KernelYPIdeal.main_arg0)
          ∧ r.2.mem ((c.tc : Thread Cert.KernelYPIdeal.nD Cert.KernelYPIdeal.τ).loc Cert.KernelYPIdeal.main_arg1) = m ((c.tc : Thread Cert.KernelYPIdeal.nD Cert.KernelYPIdeal.τ).loc Cert.KernelYPIdeal.main_arg1)
          ∧ r.2.mem ((c.tc : Thread Cert.KernelYPIdeal.nD Cert.KernelYPIdeal.τ).loc Cert.KernelYPIdeal.main_arg2) = m ((c.tc : Thread Cert.KernelYPIdeal.nD Cert.KernelYPIdeal.τ).loc Cert.KernelYPIdeal.main_arg2)
          ∧ r.2.mem ((c.tc : Thread Cert.KernelYPIdeal.nD Cert.KernelYPIdeal.τ).loc Cert.KernelYPIdeal.main_arg3) = m ((c.tc : Thread Cert.KernelYPIdeal.nD Cert.KernelYPIdeal.τ).loc Cert.KernelYPIdeal.main_arg3)
          ∧ r.2.mem ((c.tc : Thread Cert.KernelYPIdeal.nD Cert.KernelYPIdeal.τ).loc Cert.KernelYPIdeal.main_arg4) = m ((c.tc : Thread Cert.KernelYPIdeal.nD Cert.KernelYPIdeal.τ).loc Cert.KernelYPIdeal.main_arg4)
          ∧ r.2.mem ((c.tc : Thread Cert.KernelYPIdeal.nD Cert.KernelYPIdeal.τ).loc Cert.KernelYPIdeal.main_arg5) = m ((c.tc : Thread Cert.KernelYPIdeal.nD Cert.KernelYPIdeal.τ).loc Cert.KernelYPIdeal.main_arg5)
          ∧ r.2.mem ((c.tc : Thread Cert.KernelYPIdeal.nD Cert.KernelYPIdeal.τ).loc Cert.KernelYPIdeal.main_arg6) = m ((c.tc : Thread Cert.KernelYPIdeal.nD Cert.KernelYPIdeal.τ).loc Cert.KernelYPIdeal.main_arg6))
      ∧ θ_run (Cert.ReferenceYPIdeal.defs (F := Ideal)) (onTc (τ := Cert.ReferenceYPIdeal.τ) (Cert.ReferenceYPIdeal.main (F := Ideal))) ⟨m', fun _ => 0, g'⟩ (fun r => ∀ c : Dev Cert.ReferenceYPIdeal.nD,
          r.2.mem ((c.tc : Thread Cert.ReferenceYPIdeal.nD Cert.ReferenceYPIdeal.τ).loc Cert.ReferenceYPIdeal.main_v42) = v0 c
          ∧ r.2.mem ((c.tc : Thread Cert.ReferenceYPIdeal.nD Cert.ReferenceYPIdeal.τ).loc Cert.ReferenceYPIdeal.main_arg0) = m' ((c.tc : Thread Cert.ReferenceYPIdeal.nD Cert.ReferenceYPIdeal.τ).loc Cert.ReferenceYPIdeal.main_arg0)
          ∧ r.2.mem ((c.tc : Thread Cert.ReferenceYPIdeal.nD Cert.ReferenceYPIdeal.τ).loc Cert.ReferenceYPIdeal.main_arg1) = m' ((c.tc : Thread Cert.ReferenceYPIdeal.nD Cert.ReferenceYPIdeal.τ).loc Cert.ReferenceYPIdeal.main_arg1)
          ∧ r.2.mem ((c.tc : Thread Cert.ReferenceYPIdeal.nD Cert.ReferenceYPIdeal.τ).loc Cert.ReferenceYPIdeal.main_arg2) = m' ((c.tc : Thread Cert.ReferenceYPIdeal.nD Cert.ReferenceYPIdeal.τ).loc Cert.ReferenceYPIdeal.main_arg2)
          ∧ r.2.mem ((c.tc : Thread Cert.ReferenceYPIdeal.nD Cert.ReferenceYPIdeal.τ).loc Cert.ReferenceYPIdeal.main_arg3) = m' ((c.tc : Thread Cert.ReferenceYPIdeal.nD Cert.ReferenceYPIdeal.τ).loc Cert.ReferenceYPIdeal.main_arg3)
          ∧ r.2.mem ((c.tc : Thread Cert.ReferenceYPIdeal.nD Cert.ReferenceYPIdeal.τ).loc Cert.ReferenceYPIdeal.main_arg4) = m' ((c.tc : Thread Cert.ReferenceYPIdeal.nD Cert.ReferenceYPIdeal.τ).loc Cert.ReferenceYPIdeal.main_arg4)
          ∧ r.2.mem ((c.tc : Thread Cert.ReferenceYPIdeal.nD Cert.ReferenceYPIdeal.τ).loc Cert.ReferenceYPIdeal.main_arg5) = m' ((c.tc : Thread Cert.ReferenceYPIdeal.nD Cert.ReferenceYPIdeal.τ).loc Cert.ReferenceYPIdeal.main_arg5)
          ∧ r.2.mem ((c.tc : Thread Cert.ReferenceYPIdeal.nD Cert.ReferenceYPIdeal.τ).loc Cert.ReferenceYPIdeal.main_arg6) = m' ((c.tc : Thread Cert.ReferenceYPIdeal.nD Cert.ReferenceYPIdeal.τ).loc Cert.ReferenceYPIdeal.main_arg6))

def preserves_KernelYS_KernelYSIdeal : Prop :=
  True

def algebraic_KernelYSIdeal_ReferenceYSIdeal [hKernelYSIdeal : Cert.KernelYSIdeal.Facts] [hReferenceYSIdeal : Cert.ReferenceYSIdeal.Facts] : Prop :=
  ∀ (m : (ℓ : Loc Cert.KernelYSIdeal.nD Cert.KernelYSIdeal.τ Cert.KernelYSIdeal.sig) → Buf (Elt Ideal) ℓ) (g : Dev Cert.KernelYSIdeal.nD → PrngReg)
    (m' : (ℓ : Loc Cert.ReferenceYSIdeal.nD Cert.ReferenceYSIdeal.τ Cert.ReferenceYSIdeal.sig) → Buf (Elt Ideal) ℓ) (g' : Dev Cert.ReferenceYSIdeal.nD → PrngReg), Pre_KernelYSIdeal m →
    (∀ c : Dev Cert.KernelYSIdeal.nD,
      m' ((c.tc : Thread Cert.ReferenceYSIdeal.nD Cert.ReferenceYSIdeal.τ).loc Cert.ReferenceYSIdeal.main_arg0) = m ((c.tc : Thread Cert.KernelYSIdeal.nD Cert.KernelYSIdeal.τ).loc Cert.KernelYSIdeal.main_arg0)
      ∧ m' ((c.tc : Thread Cert.ReferenceYSIdeal.nD Cert.ReferenceYSIdeal.τ).loc Cert.ReferenceYSIdeal.main_arg1) = m ((c.tc : Thread Cert.KernelYSIdeal.nD Cert.KernelYSIdeal.τ).loc Cert.KernelYSIdeal.main_arg1)
      ∧ m' ((c.tc : Thread Cert.ReferenceYSIdeal.nD Cert.ReferenceYSIdeal.τ).loc Cert.ReferenceYSIdeal.main_arg2) = m ((c.tc : Thread Cert.KernelYSIdeal.nD Cert.KernelYSIdeal.τ).loc Cert.KernelYSIdeal.main_arg2)
      ∧ m' ((c.tc : Thread Cert.ReferenceYSIdeal.nD Cert.ReferenceYSIdeal.τ).loc Cert.ReferenceYSIdeal.main_arg3) = m ((c.tc : Thread Cert.KernelYSIdeal.nD Cert.KernelYSIdeal.τ).loc Cert.KernelYSIdeal.main_arg3)
      ∧ m' ((c.tc : Thread Cert.ReferenceYSIdeal.nD Cert.ReferenceYSIdeal.τ).loc Cert.ReferenceYSIdeal.main_arg4) = m ((c.tc : Thread Cert.KernelYSIdeal.nD Cert.KernelYSIdeal.τ).loc Cert.KernelYSIdeal.main_arg4)
      ∧ m' ((c.tc : Thread Cert.ReferenceYSIdeal.nD Cert.ReferenceYSIdeal.τ).loc Cert.ReferenceYSIdeal.main_arg5) = m ((c.tc : Thread Cert.KernelYSIdeal.nD Cert.KernelYSIdeal.τ).loc Cert.KernelYSIdeal.main_arg5)
      ∧ m' ((c.tc : Thread Cert.ReferenceYSIdeal.nD Cert.ReferenceYSIdeal.τ).loc Cert.ReferenceYSIdeal.main_arg6) = m ((c.tc : Thread Cert.KernelYSIdeal.nD Cert.KernelYSIdeal.τ).loc Cert.KernelYSIdeal.main_arg6)) →
    ∃ (v0 : (c : Dev Cert.KernelYSIdeal.nD) → Buf (Elt Ideal) ((c.tc : Thread Cert.KernelYSIdeal.nD Cert.KernelYSIdeal.τ).loc Cert.KernelYSIdeal.main_v8)),
      θ_run (Cert.KernelYSIdeal.defs (F := Ideal)) (onTc (τ := Cert.KernelYSIdeal.τ) (Cert.KernelYSIdeal.main (F := Ideal))) ⟨m, fun _ => 0, g⟩ (fun r => ∀ c : Dev Cert.KernelYSIdeal.nD,
          r.2.mem ((c.tc : Thread Cert.KernelYSIdeal.nD Cert.KernelYSIdeal.τ).loc Cert.KernelYSIdeal.main_v8) = v0 c
          ∧ r.2.mem ((c.tc : Thread Cert.KernelYSIdeal.nD Cert.KernelYSIdeal.τ).loc Cert.KernelYSIdeal.main_arg0) = m ((c.tc : Thread Cert.KernelYSIdeal.nD Cert.KernelYSIdeal.τ).loc Cert.KernelYSIdeal.main_arg0)
          ∧ r.2.mem ((c.tc : Thread Cert.KernelYSIdeal.nD Cert.KernelYSIdeal.τ).loc Cert.KernelYSIdeal.main_arg1) = m ((c.tc : Thread Cert.KernelYSIdeal.nD Cert.KernelYSIdeal.τ).loc Cert.KernelYSIdeal.main_arg1)
          ∧ r.2.mem ((c.tc : Thread Cert.KernelYSIdeal.nD Cert.KernelYSIdeal.τ).loc Cert.KernelYSIdeal.main_arg2) = m ((c.tc : Thread Cert.KernelYSIdeal.nD Cert.KernelYSIdeal.τ).loc Cert.KernelYSIdeal.main_arg2)
          ∧ r.2.mem ((c.tc : Thread Cert.KernelYSIdeal.nD Cert.KernelYSIdeal.τ).loc Cert.KernelYSIdeal.main_arg3) = m ((c.tc : Thread Cert.KernelYSIdeal.nD Cert.KernelYSIdeal.τ).loc Cert.KernelYSIdeal.main_arg3)
          ∧ r.2.mem ((c.tc : Thread Cert.KernelYSIdeal.nD Cert.KernelYSIdeal.τ).loc Cert.KernelYSIdeal.main_arg4) = m ((c.tc : Thread Cert.KernelYSIdeal.nD Cert.KernelYSIdeal.τ).loc Cert.KernelYSIdeal.main_arg4)
          ∧ r.2.mem ((c.tc : Thread Cert.KernelYSIdeal.nD Cert.KernelYSIdeal.τ).loc Cert.KernelYSIdeal.main_arg5) = m ((c.tc : Thread Cert.KernelYSIdeal.nD Cert.KernelYSIdeal.τ).loc Cert.KernelYSIdeal.main_arg5)
          ∧ r.2.mem ((c.tc : Thread Cert.KernelYSIdeal.nD Cert.KernelYSIdeal.τ).loc Cert.KernelYSIdeal.main_arg6) = m ((c.tc : Thread Cert.KernelYSIdeal.nD Cert.KernelYSIdeal.τ).loc Cert.KernelYSIdeal.main_arg6))
      ∧ θ_run (Cert.ReferenceYSIdeal.defs (F := Ideal)) (onTc (τ := Cert.ReferenceYSIdeal.τ) (Cert.ReferenceYSIdeal.main (F := Ideal))) ⟨m', fun _ => 0, g'⟩ (fun r => ∀ c : Dev Cert.ReferenceYSIdeal.nD,
          r.2.mem ((c.tc : Thread Cert.ReferenceYSIdeal.nD Cert.ReferenceYSIdeal.τ).loc Cert.ReferenceYSIdeal.main_v42) = v0 c
          ∧ r.2.mem ((c.tc : Thread Cert.ReferenceYSIdeal.nD Cert.ReferenceYSIdeal.τ).loc Cert.ReferenceYSIdeal.main_arg0) = m' ((c.tc : Thread Cert.ReferenceYSIdeal.nD Cert.ReferenceYSIdeal.τ).loc Cert.ReferenceYSIdeal.main_arg0)
          ∧ r.2.mem ((c.tc : Thread Cert.ReferenceYSIdeal.nD Cert.ReferenceYSIdeal.τ).loc Cert.ReferenceYSIdeal.main_arg1) = m' ((c.tc : Thread Cert.ReferenceYSIdeal.nD Cert.ReferenceYSIdeal.τ).loc Cert.ReferenceYSIdeal.main_arg1)
          ∧ r.2.mem ((c.tc : Thread Cert.ReferenceYSIdeal.nD Cert.ReferenceYSIdeal.τ).loc Cert.ReferenceYSIdeal.main_arg2) = m' ((c.tc : Thread Cert.ReferenceYSIdeal.nD Cert.ReferenceYSIdeal.τ).loc Cert.ReferenceYSIdeal.main_arg2)
          ∧ r.2.mem ((c.tc : Thread Cert.ReferenceYSIdeal.nD Cert.ReferenceYSIdeal.τ).loc Cert.ReferenceYSIdeal.main_arg3) = m' ((c.tc : Thread Cert.ReferenceYSIdeal.nD Cert.ReferenceYSIdeal.τ).loc Cert.ReferenceYSIdeal.main_arg3)
          ∧ r.2.mem ((c.tc : Thread Cert.ReferenceYSIdeal.nD Cert.ReferenceYSIdeal.τ).loc Cert.ReferenceYSIdeal.main_arg4) = m' ((c.tc : Thread Cert.ReferenceYSIdeal.nD Cert.ReferenceYSIdeal.τ).loc Cert.ReferenceYSIdeal.main_arg4)
          ∧ r.2.mem ((c.tc : Thread Cert.ReferenceYSIdeal.nD Cert.ReferenceYSIdeal.τ).loc Cert.ReferenceYSIdeal.main_arg5) = m' ((c.tc : Thread Cert.ReferenceYSIdeal.nD Cert.ReferenceYSIdeal.τ).loc Cert.ReferenceYSIdeal.main_arg5)
          ∧ r.2.mem ((c.tc : Thread Cert.ReferenceYSIdeal.nD Cert.ReferenceYSIdeal.τ).loc Cert.ReferenceYSIdeal.main_arg6) = m' ((c.tc : Thread Cert.ReferenceYSIdeal.nD Cert.ReferenceYSIdeal.τ).loc Cert.ReferenceYSIdeal.main_arg6))

def preserves_KernelFP_KernelFPIdeal : Prop :=
  True

def algebraic_KernelFPIdeal_ReferenceFPIdeal [hKernelFPIdeal : Cert.KernelFPIdeal.Facts] [hReferenceFPIdeal : Cert.ReferenceFPIdeal.Facts] : Prop :=
  ∀ (m : (ℓ : Loc Cert.KernelFPIdeal.nD Cert.KernelFPIdeal.τ Cert.KernelFPIdeal.sig) → Buf (Elt Ideal) ℓ) (g : Dev Cert.KernelFPIdeal.nD → PrngReg)
    (m' : (ℓ : Loc Cert.ReferenceFPIdeal.nD Cert.ReferenceFPIdeal.τ Cert.ReferenceFPIdeal.sig) → Buf (Elt Ideal) ℓ) (g' : Dev Cert.ReferenceFPIdeal.nD → PrngReg), Pre_KernelFPIdeal m →
    (∀ c : Dev Cert.KernelFPIdeal.nD,
      m' ((c.tc : Thread Cert.ReferenceFPIdeal.nD Cert.ReferenceFPIdeal.τ).loc Cert.ReferenceFPIdeal.main_arg0) = m ((c.tc : Thread Cert.KernelFPIdeal.nD Cert.KernelFPIdeal.τ).loc Cert.KernelFPIdeal.main_arg0)
      ∧ m' ((c.tc : Thread Cert.ReferenceFPIdeal.nD Cert.ReferenceFPIdeal.τ).loc Cert.ReferenceFPIdeal.main_arg1) = m ((c.tc : Thread Cert.KernelFPIdeal.nD Cert.KernelFPIdeal.τ).loc Cert.KernelFPIdeal.main_arg1)
      ∧ m' ((c.tc : Thread Cert.ReferenceFPIdeal.nD Cert.ReferenceFPIdeal.τ).loc Cert.ReferenceFPIdeal.main_arg2) = m ((c.tc : Thread Cert.KernelFPIdeal.nD Cert.KernelFPIdeal.τ).loc Cert.KernelFPIdeal.main_arg2)
      ∧ m' ((c.tc : Thread Cert.ReferenceFPIdeal.nD Cert.ReferenceFPIdeal.τ).loc Cert.ReferenceFPIdeal.main_arg3) = m ((c.tc : Thread Cert.KernelFPIdeal.nD Cert.KernelFPIdeal.τ).loc Cert.KernelFPIdeal.main_arg3)) →
    ∃ (v0 : (c : Dev Cert.KernelFPIdeal.nD) → Buf (Elt Ideal) ((c.tc : Thread Cert.KernelFPIdeal.nD Cert.KernelFPIdeal.τ).loc Cert.KernelFPIdeal.main_v18_0)) (v1 : (c : Dev Cert.KernelFPIdeal.nD) → Buf (Elt Ideal) ((c.tc : Thread Cert.KernelFPIdeal.nD Cert.KernelFPIdeal.τ).loc Cert.KernelFPIdeal.main_v18_1)) (v2 : (c : Dev Cert.KernelFPIdeal.nD) → Buf (Elt Ideal) ((c.tc : Thread Cert.KernelFPIdeal.nD Cert.KernelFPIdeal.τ).loc Cert.KernelFPIdeal.main_v18_2)) (v3 : (c : Dev Cert.KernelFPIdeal.nD) → Buf (Elt Ideal) ((c.tc : Thread Cert.KernelFPIdeal.nD Cert.KernelFPIdeal.τ).loc Cert.KernelFPIdeal.main_v18_3)),
      θ_run (Cert.KernelFPIdeal.defs (F := Ideal)) (onTc (τ := Cert.KernelFPIdeal.τ) (Cert.KernelFPIdeal.main (F := Ideal))) ⟨m, fun _ => 0, g⟩ (fun r => ∀ c : Dev Cert.KernelFPIdeal.nD,
          r.2.mem ((c.tc : Thread Cert.KernelFPIdeal.nD Cert.KernelFPIdeal.τ).loc Cert.KernelFPIdeal.main_v18_0) = v0 c
          ∧ r.2.mem ((c.tc : Thread Cert.KernelFPIdeal.nD Cert.KernelFPIdeal.τ).loc Cert.KernelFPIdeal.main_v18_1) = v1 c
          ∧ r.2.mem ((c.tc : Thread Cert.KernelFPIdeal.nD Cert.KernelFPIdeal.τ).loc Cert.KernelFPIdeal.main_v18_2) = v2 c
          ∧ r.2.mem ((c.tc : Thread Cert.KernelFPIdeal.nD Cert.KernelFPIdeal.τ).loc Cert.KernelFPIdeal.main_v18_3) = v3 c
          ∧ r.2.mem ((c.tc : Thread Cert.KernelFPIdeal.nD Cert.KernelFPIdeal.τ).loc Cert.KernelFPIdeal.main_arg0) = m ((c.tc : Thread Cert.KernelFPIdeal.nD Cert.KernelFPIdeal.τ).loc Cert.KernelFPIdeal.main_arg0)
          ∧ r.2.mem ((c.tc : Thread Cert.KernelFPIdeal.nD Cert.KernelFPIdeal.τ).loc Cert.KernelFPIdeal.main_arg1) = m ((c.tc : Thread Cert.KernelFPIdeal.nD Cert.KernelFPIdeal.τ).loc Cert.KernelFPIdeal.main_arg1)
          ∧ r.2.mem ((c.tc : Thread Cert.KernelFPIdeal.nD Cert.KernelFPIdeal.τ).loc Cert.KernelFPIdeal.main_arg2) = m ((c.tc : Thread Cert.KernelFPIdeal.nD Cert.KernelFPIdeal.τ).loc Cert.KernelFPIdeal.main_arg2)
          ∧ r.2.mem ((c.tc : Thread Cert.KernelFPIdeal.nD Cert.KernelFPIdeal.τ).loc Cert.KernelFPIdeal.main_arg3) = m ((c.tc : Thread Cert.KernelFPIdeal.nD Cert.KernelFPIdeal.τ).loc Cert.KernelFPIdeal.main_arg3))
      ∧ θ_run (Cert.ReferenceFPIdeal.defs (F := Ideal)) (onTc (τ := Cert.ReferenceFPIdeal.τ) (Cert.ReferenceFPIdeal.main (F := Ideal))) ⟨m', fun _ => 0, g'⟩ (fun r => ∀ c : Dev Cert.ReferenceFPIdeal.nD,
          r.2.mem ((c.tc : Thread Cert.ReferenceFPIdeal.nD Cert.ReferenceFPIdeal.τ).loc Cert.ReferenceFPIdeal.main_v29) = v0 c
          ∧ r.2.mem ((c.tc : Thread Cert.ReferenceFPIdeal.nD Cert.ReferenceFPIdeal.τ).loc Cert.ReferenceFPIdeal.main_v35) = v1 c
          ∧ r.2.mem ((c.tc : Thread Cert.ReferenceFPIdeal.nD Cert.ReferenceFPIdeal.τ).loc Cert.ReferenceFPIdeal.main_v36) = v2 c
          ∧ r.2.mem ((c.tc : Thread Cert.ReferenceFPIdeal.nD Cert.ReferenceFPIdeal.τ).loc Cert.ReferenceFPIdeal.main_v34) = v3 c
          ∧ r.2.mem ((c.tc : Thread Cert.ReferenceFPIdeal.nD Cert.ReferenceFPIdeal.τ).loc Cert.ReferenceFPIdeal.main_arg0) = m' ((c.tc : Thread Cert.ReferenceFPIdeal.nD Cert.ReferenceFPIdeal.τ).loc Cert.ReferenceFPIdeal.main_arg0)
          ∧ r.2.mem ((c.tc : Thread Cert.ReferenceFPIdeal.nD Cert.ReferenceFPIdeal.τ).loc Cert.ReferenceFPIdeal.main_arg1) = m' ((c.tc : Thread Cert.ReferenceFPIdeal.nD Cert.ReferenceFPIdeal.τ).loc Cert.ReferenceFPIdeal.main_arg1)
          ∧ r.2.mem ((c.tc : Thread Cert.ReferenceFPIdeal.nD Cert.ReferenceFPIdeal.τ).loc Cert.ReferenceFPIdeal.main_arg2) = m' ((c.tc : Thread Cert.ReferenceFPIdeal.nD Cert.ReferenceFPIdeal.τ).loc Cert.ReferenceFPIdeal.main_arg2)
          ∧ r.2.mem ((c.tc : Thread Cert.ReferenceFPIdeal.nD Cert.ReferenceFPIdeal.τ).loc Cert.ReferenceFPIdeal.main_arg3) = m' ((c.tc : Thread Cert.ReferenceFPIdeal.nD Cert.ReferenceFPIdeal.τ).loc Cert.ReferenceFPIdeal.main_arg3))

def preserves_KernelFS_KernelFSIdeal : Prop :=
  True

def algebraic_KernelFSIdeal_ReferenceFSIdeal [hKernelFSIdeal : Cert.KernelFSIdeal.Facts] [hReferenceFSIdeal : Cert.ReferenceFSIdeal.Facts] : Prop :=
  ∀ (m : (ℓ : Loc Cert.KernelFSIdeal.nD Cert.KernelFSIdeal.τ Cert.KernelFSIdeal.sig) → Buf (Elt Ideal) ℓ) (g : Dev Cert.KernelFSIdeal.nD → PrngReg)
    (m' : (ℓ : Loc Cert.ReferenceFSIdeal.nD Cert.ReferenceFSIdeal.τ Cert.ReferenceFSIdeal.sig) → Buf (Elt Ideal) ℓ) (g' : Dev Cert.ReferenceFSIdeal.nD → PrngReg), Pre_KernelFSIdeal m →
    (∀ c : Dev Cert.KernelFSIdeal.nD,
      m' ((c.tc : Thread Cert.ReferenceFSIdeal.nD Cert.ReferenceFSIdeal.τ).loc Cert.ReferenceFSIdeal.main_arg0) = m ((c.tc : Thread Cert.KernelFSIdeal.nD Cert.KernelFSIdeal.τ).loc Cert.KernelFSIdeal.main_arg0)
      ∧ m' ((c.tc : Thread Cert.ReferenceFSIdeal.nD Cert.ReferenceFSIdeal.τ).loc Cert.ReferenceFSIdeal.main_arg1) = m ((c.tc : Thread Cert.KernelFSIdeal.nD Cert.KernelFSIdeal.τ).loc Cert.KernelFSIdeal.main_arg1)
      ∧ m' ((c.tc : Thread Cert.ReferenceFSIdeal.nD Cert.ReferenceFSIdeal.τ).loc Cert.ReferenceFSIdeal.main_arg2) = m ((c.tc : Thread Cert.KernelFSIdeal.nD Cert.KernelFSIdeal.τ).loc Cert.KernelFSIdeal.main_arg2)
      ∧ m' ((c.tc : Thread Cert.ReferenceFSIdeal.nD Cert.ReferenceFSIdeal.τ).loc Cert.ReferenceFSIdeal.main_arg3) = m ((c.tc : Thread Cert.KernelFSIdeal.nD Cert.KernelFSIdeal.τ).loc Cert.KernelFSIdeal.main_arg3)) →
    ∃ (v0 : (c : Dev Cert.KernelFSIdeal.nD) → Buf (Elt Ideal) ((c.tc : Thread Cert.KernelFSIdeal.nD Cert.KernelFSIdeal.τ).loc Cert.KernelFSIdeal.main_v16_0)) (v1 : (c : Dev Cert.KernelFSIdeal.nD) → Buf (Elt Ideal) ((c.tc : Thread Cert.KernelFSIdeal.nD Cert.KernelFSIdeal.τ).loc Cert.KernelFSIdeal.main_v16_1)) (v2 : (c : Dev Cert.KernelFSIdeal.nD) → Buf (Elt Ideal) ((c.tc : Thread Cert.KernelFSIdeal.nD Cert.KernelFSIdeal.τ).loc Cert.KernelFSIdeal.main_v16_2)) (v3 : (c : Dev Cert.KernelFSIdeal.nD) → Buf (Elt Ideal) ((c.tc : Thread Cert.KernelFSIdeal.nD Cert.KernelFSIdeal.τ).loc Cert.KernelFSIdeal.main_v16_3)),
      θ_run (Cert.KernelFSIdeal.defs (F := Ideal)) (onTc (τ := Cert.KernelFSIdeal.τ) (Cert.KernelFSIdeal.main (F := Ideal))) ⟨m, fun _ => 0, g⟩ (fun r => ∀ c : Dev Cert.KernelFSIdeal.nD,
          r.2.mem ((c.tc : Thread Cert.KernelFSIdeal.nD Cert.KernelFSIdeal.τ).loc Cert.KernelFSIdeal.main_v16_0) = v0 c
          ∧ r.2.mem ((c.tc : Thread Cert.KernelFSIdeal.nD Cert.KernelFSIdeal.τ).loc Cert.KernelFSIdeal.main_v16_1) = v1 c
          ∧ r.2.mem ((c.tc : Thread Cert.KernelFSIdeal.nD Cert.KernelFSIdeal.τ).loc Cert.KernelFSIdeal.main_v16_2) = v2 c
          ∧ r.2.mem ((c.tc : Thread Cert.KernelFSIdeal.nD Cert.KernelFSIdeal.τ).loc Cert.KernelFSIdeal.main_v16_3) = v3 c
          ∧ r.2.mem ((c.tc : Thread Cert.KernelFSIdeal.nD Cert.KernelFSIdeal.τ).loc Cert.KernelFSIdeal.main_arg0) = m ((c.tc : Thread Cert.KernelFSIdeal.nD Cert.KernelFSIdeal.τ).loc Cert.KernelFSIdeal.main_arg0)
          ∧ r.2.mem ((c.tc : Thread Cert.KernelFSIdeal.nD Cert.KernelFSIdeal.τ).loc Cert.KernelFSIdeal.main_arg1) = m ((c.tc : Thread Cert.KernelFSIdeal.nD Cert.KernelFSIdeal.τ).loc Cert.KernelFSIdeal.main_arg1)
          ∧ r.2.mem ((c.tc : Thread Cert.KernelFSIdeal.nD Cert.KernelFSIdeal.τ).loc Cert.KernelFSIdeal.main_arg2) = m ((c.tc : Thread Cert.KernelFSIdeal.nD Cert.KernelFSIdeal.τ).loc Cert.KernelFSIdeal.main_arg2)
          ∧ r.2.mem ((c.tc : Thread Cert.KernelFSIdeal.nD Cert.KernelFSIdeal.τ).loc Cert.KernelFSIdeal.main_arg3) = m ((c.tc : Thread Cert.KernelFSIdeal.nD Cert.KernelFSIdeal.τ).loc Cert.KernelFSIdeal.main_arg3))
      ∧ θ_run (Cert.ReferenceFSIdeal.defs (F := Ideal)) (onTc (τ := Cert.ReferenceFSIdeal.τ) (Cert.ReferenceFSIdeal.main (F := Ideal))) ⟨m', fun _ => 0, g'⟩ (fun r => ∀ c : Dev Cert.ReferenceFSIdeal.nD,
          r.2.mem ((c.tc : Thread Cert.ReferenceFSIdeal.nD Cert.ReferenceFSIdeal.τ).loc Cert.ReferenceFSIdeal.main_v29) = v0 c
          ∧ r.2.mem ((c.tc : Thread Cert.ReferenceFSIdeal.nD Cert.ReferenceFSIdeal.τ).loc Cert.ReferenceFSIdeal.main_v31) = v1 c
          ∧ r.2.mem ((c.tc : Thread Cert.ReferenceFSIdeal.nD Cert.ReferenceFSIdeal.τ).loc Cert.ReferenceFSIdeal.main_v33) = v2 c
          ∧ r.2.mem ((c.tc : Thread Cert.ReferenceFSIdeal.nD Cert.ReferenceFSIdeal.τ).loc Cert.ReferenceFSIdeal.main_v34) = v3 c
          ∧ r.2.mem ((c.tc : Thread Cert.ReferenceFSIdeal.nD Cert.ReferenceFSIdeal.τ).loc Cert.ReferenceFSIdeal.main_arg0) = m' ((c.tc : Thread Cert.ReferenceFSIdeal.nD Cert.ReferenceFSIdeal.τ).loc Cert.ReferenceFSIdeal.main_arg0)
          ∧ r.2.mem ((c.tc : Thread Cert.ReferenceFSIdeal.nD Cert.ReferenceFSIdeal.τ).loc Cert.ReferenceFSIdeal.main_arg1) = m' ((c.tc : Thread Cert.ReferenceFSIdeal.nD Cert.ReferenceFSIdeal.τ).loc Cert.ReferenceFSIdeal.main_arg1)
          ∧ r.2.mem ((c.tc : Thread Cert.ReferenceFSIdeal.nD Cert.ReferenceFSIdeal.τ).loc Cert.ReferenceFSIdeal.main_arg2) = m' ((c.tc : Thread Cert.ReferenceFSIdeal.nD Cert.ReferenceFSIdeal.τ).loc Cert.ReferenceFSIdeal.main_arg2)
          ∧ r.2.mem ((c.tc : Thread Cert.ReferenceFSIdeal.nD Cert.ReferenceFSIdeal.τ).loc Cert.ReferenceFSIdeal.main_arg3) = m' ((c.tc : Thread Cert.ReferenceFSIdeal.nD Cert.ReferenceFSIdeal.τ).loc Cert.ReferenceFSIdeal.main_arg3))

def preserves_KernelAP_KernelAPIdeal : Prop :=
  True

def algebraic_KernelAPIdeal_ReferenceAPIdeal [hKernelAPIdeal : Cert.KernelAPIdeal.Facts] [hReferenceAPIdeal : Cert.ReferenceAPIdeal.Facts] : Prop :=
  ∀ (m : (ℓ : Loc Cert.KernelAPIdeal.nD Cert.KernelAPIdeal.τ Cert.KernelAPIdeal.sig) → Buf (Elt Ideal) ℓ) (g : Dev Cert.KernelAPIdeal.nD → PrngReg)
    (m' : (ℓ : Loc Cert.ReferenceAPIdeal.nD Cert.ReferenceAPIdeal.τ Cert.ReferenceAPIdeal.sig) → Buf (Elt Ideal) ℓ) (g' : Dev Cert.ReferenceAPIdeal.nD → PrngReg), Pre_KernelAPIdeal m →
    (∀ c : Dev Cert.KernelAPIdeal.nD,
      m' ((c.tc : Thread Cert.ReferenceAPIdeal.nD Cert.ReferenceAPIdeal.τ).loc Cert.ReferenceAPIdeal.main_arg0) = m ((c.tc : Thread Cert.KernelAPIdeal.nD Cert.KernelAPIdeal.τ).loc Cert.KernelAPIdeal.main_arg0)
      ∧ m' ((c.tc : Thread Cert.ReferenceAPIdeal.nD Cert.ReferenceAPIdeal.τ).loc Cert.ReferenceAPIdeal.main_arg1) = m ((c.tc : Thread Cert.KernelAPIdeal.nD Cert.KernelAPIdeal.τ).loc Cert.KernelAPIdeal.main_arg1)
      ∧ m' ((c.tc : Thread Cert.ReferenceAPIdeal.nD Cert.ReferenceAPIdeal.τ).loc Cert.ReferenceAPIdeal.main_arg2) = m ((c.tc : Thread Cert.KernelAPIdeal.nD Cert.KernelAPIdeal.τ).loc Cert.KernelAPIdeal.main_arg2)
      ∧ m' ((c.tc : Thread Cert.ReferenceAPIdeal.nD Cert.ReferenceAPIdeal.τ).loc Cert.ReferenceAPIdeal.main_arg3) = m ((c.tc : Thread Cert.KernelAPIdeal.nD Cert.KernelAPIdeal.τ).loc Cert.KernelAPIdeal.main_arg3)) →
    ∃ (v0 : (c : Dev Cert.KernelAPIdeal.nD) → Buf (Elt Ideal) ((c.tc : Thread Cert.KernelAPIdeal.nD Cert.KernelAPIdeal.τ).loc Cert.KernelAPIdeal.main_v26_0)) (v1 : (c : Dev Cert.KernelAPIdeal.nD) → Buf (Elt Ideal) ((c.tc : Thread Cert.KernelAPIdeal.nD Cert.KernelAPIdeal.τ).loc Cert.KernelAPIdeal.main_v26_1)) (v2 : (c : Dev Cert.KernelAPIdeal.nD) → Buf (Elt Ideal) ((c.tc : Thread Cert.KernelAPIdeal.nD Cert.KernelAPIdeal.τ).loc Cert.KernelAPIdeal.main_v26_2)) (v3 : (c : Dev Cert.KernelAPIdeal.nD) → Buf (Elt Ideal) ((c.tc : Thread Cert.KernelAPIdeal.nD Cert.KernelAPIdeal.τ).loc Cert.KernelAPIdeal.main_v26_3)) (v4 : (c : Dev Cert.KernelAPIdeal.nD) → Buf (Elt Ideal) ((c.tc : Thread Cert.KernelAPIdeal.nD Cert.KernelAPIdeal.τ).loc Cert.KernelAPIdeal.main_v26_4)) (v5 : (c : Dev Cert.KernelAPIdeal.nD) → Buf (Elt Ideal) ((c.tc : Thread Cert.KernelAPIdeal.nD Cert.KernelAPIdeal.τ).loc Cert.KernelAPIdeal.main_v26_5)) (v6 : (c : Dev Cert.KernelAPIdeal.nD) → Buf (Elt Ideal) ((c.tc : Thread Cert.KernelAPIdeal.nD Cert.KernelAPIdeal.τ).loc Cert.KernelAPIdeal.main_v26_6)) (v7 : (c : Dev Cert.KernelAPIdeal.nD) → Buf (Elt Ideal) ((c.tc : Thread Cert.KernelAPIdeal.nD Cert.KernelAPIdeal.τ).loc Cert.KernelAPIdeal.main_v26_7)),
      θ_run (Cert.KernelAPIdeal.defs (F := Ideal)) (onTc (τ := Cert.KernelAPIdeal.τ) (Cert.KernelAPIdeal.main (F := Ideal))) ⟨m, fun _ => 0, g⟩ (fun r => ∀ c : Dev Cert.KernelAPIdeal.nD,
          r.2.mem ((c.tc : Thread Cert.KernelAPIdeal.nD Cert.KernelAPIdeal.τ).loc Cert.KernelAPIdeal.main_v26_0) = v0 c
          ∧ r.2.mem ((c.tc : Thread Cert.KernelAPIdeal.nD Cert.KernelAPIdeal.τ).loc Cert.KernelAPIdeal.main_v26_1) = v1 c
          ∧ r.2.mem ((c.tc : Thread Cert.KernelAPIdeal.nD Cert.KernelAPIdeal.τ).loc Cert.KernelAPIdeal.main_v26_2) = v2 c
          ∧ r.2.mem ((c.tc : Thread Cert.KernelAPIdeal.nD Cert.KernelAPIdeal.τ).loc Cert.KernelAPIdeal.main_v26_3) = v3 c
          ∧ r.2.mem ((c.tc : Thread Cert.KernelAPIdeal.nD Cert.KernelAPIdeal.τ).loc Cert.KernelAPIdeal.main_v26_4) = v4 c
          ∧ r.2.mem ((c.tc : Thread Cert.KernelAPIdeal.nD Cert.KernelAPIdeal.τ).loc Cert.KernelAPIdeal.main_v26_5) = v5 c
          ∧ r.2.mem ((c.tc : Thread Cert.KernelAPIdeal.nD Cert.KernelAPIdeal.τ).loc Cert.KernelAPIdeal.main_v26_6) = v6 c
          ∧ r.2.mem ((c.tc : Thread Cert.KernelAPIdeal.nD Cert.KernelAPIdeal.τ).loc Cert.KernelAPIdeal.main_v26_7) = v7 c
          ∧ r.2.mem ((c.tc : Thread Cert.KernelAPIdeal.nD Cert.KernelAPIdeal.τ).loc Cert.KernelAPIdeal.main_arg0) = m ((c.tc : Thread Cert.KernelAPIdeal.nD Cert.KernelAPIdeal.τ).loc Cert.KernelAPIdeal.main_arg0)
          ∧ r.2.mem ((c.tc : Thread Cert.KernelAPIdeal.nD Cert.KernelAPIdeal.τ).loc Cert.KernelAPIdeal.main_arg1) = m ((c.tc : Thread Cert.KernelAPIdeal.nD Cert.KernelAPIdeal.τ).loc Cert.KernelAPIdeal.main_arg1)
          ∧ r.2.mem ((c.tc : Thread Cert.KernelAPIdeal.nD Cert.KernelAPIdeal.τ).loc Cert.KernelAPIdeal.main_arg2) = m ((c.tc : Thread Cert.KernelAPIdeal.nD Cert.KernelAPIdeal.τ).loc Cert.KernelAPIdeal.main_arg2)
          ∧ r.2.mem ((c.tc : Thread Cert.KernelAPIdeal.nD Cert.KernelAPIdeal.τ).loc Cert.KernelAPIdeal.main_arg3) = m ((c.tc : Thread Cert.KernelAPIdeal.nD Cert.KernelAPIdeal.τ).loc Cert.KernelAPIdeal.main_arg3))
      ∧ θ_run (Cert.ReferenceAPIdeal.defs (F := Ideal)) (onTc (τ := Cert.ReferenceAPIdeal.τ) (Cert.ReferenceAPIdeal.main (F := Ideal))) ⟨m', fun _ => 0, g'⟩ (fun r => ∀ c : Dev Cert.ReferenceAPIdeal.nD,
          r.2.mem ((c.tc : Thread Cert.ReferenceAPIdeal.nD Cert.ReferenceAPIdeal.τ).loc Cert.ReferenceAPIdeal.main_v35) = v0 c
          ∧ r.2.mem ((c.tc : Thread Cert.ReferenceAPIdeal.nD Cert.ReferenceAPIdeal.τ).loc Cert.ReferenceAPIdeal.main_v39) = v1 c
          ∧ r.2.mem ((c.tc : Thread Cert.ReferenceAPIdeal.nD Cert.ReferenceAPIdeal.τ).loc Cert.ReferenceAPIdeal.main_v41) = v2 c
          ∧ r.2.mem ((c.tc : Thread Cert.ReferenceAPIdeal.nD Cert.ReferenceAPIdeal.τ).loc Cert.ReferenceAPIdeal.main_v42) = v3 c
          ∧ r.2.mem ((c.tc : Thread Cert.ReferenceAPIdeal.nD Cert.ReferenceAPIdeal.τ).loc Cert.ReferenceAPIdeal.main_v44) = v4 c
          ∧ r.2.mem ((c.tc : Thread Cert.ReferenceAPIdeal.nD Cert.ReferenceAPIdeal.τ).loc Cert.ReferenceAPIdeal.main_v51) = v5 c
          ∧ r.2.mem ((c.tc : Thread Cert.ReferenceAPIdeal.nD Cert.ReferenceAPIdeal.τ).loc Cert.ReferenceAPIdeal.main_v52) = v6 c
          ∧ r.2.mem ((c.tc : Thread Cert.ReferenceAPIdeal.nD Cert.ReferenceAPIdeal.τ).loc Cert.ReferenceAPIdeal.main_v50) = v7 c
          ∧ r.2.mem ((c.tc : Thread Cert.ReferenceAPIdeal.nD Cert.ReferenceAPIdeal.τ).loc Cert.ReferenceAPIdeal.main_arg0) = m' ((c.tc : Thread Cert.ReferenceAPIdeal.nD Cert.ReferenceAPIdeal.τ).loc Cert.ReferenceAPIdeal.main_arg0)
          ∧ r.2.mem ((c.tc : Thread Cert.ReferenceAPIdeal.nD Cert.ReferenceAPIdeal.τ).loc Cert.ReferenceAPIdeal.main_arg1) = m' ((c.tc : Thread Cert.ReferenceAPIdeal.nD Cert.ReferenceAPIdeal.τ).loc Cert.ReferenceAPIdeal.main_arg1)
          ∧ r.2.mem ((c.tc : Thread Cert.ReferenceAPIdeal.nD Cert.ReferenceAPIdeal.τ).loc Cert.ReferenceAPIdeal.main_arg2) = m' ((c.tc : Thread Cert.ReferenceAPIdeal.nD Cert.ReferenceAPIdeal.τ).loc Cert.ReferenceAPIdeal.main_arg2)
          ∧ r.2.mem ((c.tc : Thread Cert.ReferenceAPIdeal.nD Cert.ReferenceAPIdeal.τ).loc Cert.ReferenceAPIdeal.main_arg3) = m' ((c.tc : Thread Cert.ReferenceAPIdeal.nD Cert.ReferenceAPIdeal.τ).loc Cert.ReferenceAPIdeal.main_arg3))

def preserves_KernelAS_KernelASIdeal : Prop :=
  True

def algebraic_KernelASIdeal_ReferenceASIdeal [hKernelASIdeal : Cert.KernelASIdeal.Facts] [hReferenceASIdeal : Cert.ReferenceASIdeal.Facts] : Prop :=
  ∀ (m : (ℓ : Loc Cert.KernelASIdeal.nD Cert.KernelASIdeal.τ Cert.KernelASIdeal.sig) → Buf (Elt Ideal) ℓ) (g : Dev Cert.KernelASIdeal.nD → PrngReg)
    (m' : (ℓ : Loc Cert.ReferenceASIdeal.nD Cert.ReferenceASIdeal.τ Cert.ReferenceASIdeal.sig) → Buf (Elt Ideal) ℓ) (g' : Dev Cert.ReferenceASIdeal.nD → PrngReg), Pre_KernelASIdeal m →
    (∀ c : Dev Cert.KernelASIdeal.nD,
      m' ((c.tc : Thread Cert.ReferenceASIdeal.nD Cert.ReferenceASIdeal.τ).loc Cert.ReferenceASIdeal.main_arg0) = m ((c.tc : Thread Cert.KernelASIdeal.nD Cert.KernelASIdeal.τ).loc Cert.KernelASIdeal.main_arg0)
      ∧ m' ((c.tc : Thread Cert.ReferenceASIdeal.nD Cert.ReferenceASIdeal.τ).loc Cert.ReferenceASIdeal.main_arg1) = m ((c.tc : Thread Cert.KernelASIdeal.nD Cert.KernelASIdeal.τ).loc Cert.KernelASIdeal.main_arg1)
      ∧ m' ((c.tc : Thread Cert.ReferenceASIdeal.nD Cert.ReferenceASIdeal.τ).loc Cert.ReferenceASIdeal.main_arg2) = m ((c.tc : Thread Cert.KernelASIdeal.nD Cert.KernelASIdeal.τ).loc Cert.KernelASIdeal.main_arg2)
      ∧ m' ((c.tc : Thread Cert.ReferenceASIdeal.nD Cert.ReferenceASIdeal.τ).loc Cert.ReferenceASIdeal.main_arg3) = m ((c.tc : Thread Cert.KernelASIdeal.nD Cert.KernelASIdeal.τ).loc Cert.KernelASIdeal.main_arg3)) →
    ∃ (v0 : (c : Dev Cert.KernelASIdeal.nD) → Buf (Elt Ideal) ((c.tc : Thread Cert.KernelASIdeal.nD Cert.KernelASIdeal.τ).loc Cert.KernelASIdeal.main_v24_0)) (v1 : (c : Dev Cert.KernelASIdeal.nD) → Buf (Elt Ideal) ((c.tc : Thread Cert.KernelASIdeal.nD Cert.KernelASIdeal.τ).loc Cert.KernelASIdeal.main_v24_1)) (v2 : (c : Dev Cert.KernelASIdeal.nD) → Buf (Elt Ideal) ((c.tc : Thread Cert.KernelASIdeal.nD Cert.KernelASIdeal.τ).loc Cert.KernelASIdeal.main_v24_2)) (v3 : (c : Dev Cert.KernelASIdeal.nD) → Buf (Elt Ideal) ((c.tc : Thread Cert.KernelASIdeal.nD Cert.KernelASIdeal.τ).loc Cert.KernelASIdeal.main_v24_3)) (v4 : (c : Dev Cert.KernelASIdeal.nD) → Buf (Elt Ideal) ((c.tc : Thread Cert.KernelASIdeal.nD Cert.KernelASIdeal.τ).loc Cert.KernelASIdeal.main_v24_4)) (v5 : (c : Dev Cert.KernelASIdeal.nD) → Buf (Elt Ideal) ((c.tc : Thread Cert.KernelASIdeal.nD Cert.KernelASIdeal.τ).loc Cert.KernelASIdeal.main_v24_5)) (v6 : (c : Dev Cert.KernelASIdeal.nD) → Buf (Elt Ideal) ((c.tc : Thread Cert.KernelASIdeal.nD Cert.KernelASIdeal.τ).loc Cert.KernelASIdeal.main_v24_6)) (v7 : (c : Dev Cert.KernelASIdeal.nD) → Buf (Elt Ideal) ((c.tc : Thread Cert.KernelASIdeal.nD Cert.KernelASIdeal.τ).loc Cert.KernelASIdeal.main_v24_7)),
      θ_run (Cert.KernelASIdeal.defs (F := Ideal)) (onTc (τ := Cert.KernelASIdeal.τ) (Cert.KernelASIdeal.main (F := Ideal))) ⟨m, fun _ => 0, g⟩ (fun r => ∀ c : Dev Cert.KernelASIdeal.nD,
          r.2.mem ((c.tc : Thread Cert.KernelASIdeal.nD Cert.KernelASIdeal.τ).loc Cert.KernelASIdeal.main_v24_0) = v0 c
          ∧ r.2.mem ((c.tc : Thread Cert.KernelASIdeal.nD Cert.KernelASIdeal.τ).loc Cert.KernelASIdeal.main_v24_1) = v1 c
          ∧ r.2.mem ((c.tc : Thread Cert.KernelASIdeal.nD Cert.KernelASIdeal.τ).loc Cert.KernelASIdeal.main_v24_2) = v2 c
          ∧ r.2.mem ((c.tc : Thread Cert.KernelASIdeal.nD Cert.KernelASIdeal.τ).loc Cert.KernelASIdeal.main_v24_3) = v3 c
          ∧ r.2.mem ((c.tc : Thread Cert.KernelASIdeal.nD Cert.KernelASIdeal.τ).loc Cert.KernelASIdeal.main_v24_4) = v4 c
          ∧ r.2.mem ((c.tc : Thread Cert.KernelASIdeal.nD Cert.KernelASIdeal.τ).loc Cert.KernelASIdeal.main_v24_5) = v5 c
          ∧ r.2.mem ((c.tc : Thread Cert.KernelASIdeal.nD Cert.KernelASIdeal.τ).loc Cert.KernelASIdeal.main_v24_6) = v6 c
          ∧ r.2.mem ((c.tc : Thread Cert.KernelASIdeal.nD Cert.KernelASIdeal.τ).loc Cert.KernelASIdeal.main_v24_7) = v7 c
          ∧ r.2.mem ((c.tc : Thread Cert.KernelASIdeal.nD Cert.KernelASIdeal.τ).loc Cert.KernelASIdeal.main_arg0) = m ((c.tc : Thread Cert.KernelASIdeal.nD Cert.KernelASIdeal.τ).loc Cert.KernelASIdeal.main_arg0)
          ∧ r.2.mem ((c.tc : Thread Cert.KernelASIdeal.nD Cert.KernelASIdeal.τ).loc Cert.KernelASIdeal.main_arg1) = m ((c.tc : Thread Cert.KernelASIdeal.nD Cert.KernelASIdeal.τ).loc Cert.KernelASIdeal.main_arg1)
          ∧ r.2.mem ((c.tc : Thread Cert.KernelASIdeal.nD Cert.KernelASIdeal.τ).loc Cert.KernelASIdeal.main_arg2) = m ((c.tc : Thread Cert.KernelASIdeal.nD Cert.KernelASIdeal.τ).loc Cert.KernelASIdeal.main_arg2)
          ∧ r.2.mem ((c.tc : Thread Cert.KernelASIdeal.nD Cert.KernelASIdeal.τ).loc Cert.KernelASIdeal.main_arg3) = m ((c.tc : Thread Cert.KernelASIdeal.nD Cert.KernelASIdeal.τ).loc Cert.KernelASIdeal.main_arg3))
      ∧ θ_run (Cert.ReferenceASIdeal.defs (F := Ideal)) (onTc (τ := Cert.ReferenceASIdeal.τ) (Cert.ReferenceASIdeal.main (F := Ideal))) ⟨m', fun _ => 0, g'⟩ (fun r => ∀ c : Dev Cert.ReferenceASIdeal.nD,
          r.2.mem ((c.tc : Thread Cert.ReferenceASIdeal.nD Cert.ReferenceASIdeal.τ).loc Cert.ReferenceASIdeal.main_v35) = v0 c
          ∧ r.2.mem ((c.tc : Thread Cert.ReferenceASIdeal.nD Cert.ReferenceASIdeal.τ).loc Cert.ReferenceASIdeal.main_v39) = v1 c
          ∧ r.2.mem ((c.tc : Thread Cert.ReferenceASIdeal.nD Cert.ReferenceASIdeal.τ).loc Cert.ReferenceASIdeal.main_v41) = v2 c
          ∧ r.2.mem ((c.tc : Thread Cert.ReferenceASIdeal.nD Cert.ReferenceASIdeal.τ).loc Cert.ReferenceASIdeal.main_v42) = v3 c
          ∧ r.2.mem ((c.tc : Thread Cert.ReferenceASIdeal.nD Cert.ReferenceASIdeal.τ).loc Cert.ReferenceASIdeal.main_v44) = v4 c
          ∧ r.2.mem ((c.tc : Thread Cert.ReferenceASIdeal.nD Cert.ReferenceASIdeal.τ).loc Cert.ReferenceASIdeal.main_v46) = v5 c
          ∧ r.2.mem ((c.tc : Thread Cert.ReferenceASIdeal.nD Cert.ReferenceASIdeal.τ).loc Cert.ReferenceASIdeal.main_v48) = v6 c
          ∧ r.2.mem ((c.tc : Thread Cert.ReferenceASIdeal.nD Cert.ReferenceASIdeal.τ).loc Cert.ReferenceASIdeal.main_v50) = v7 c
          ∧ r.2.mem ((c.tc : Thread Cert.ReferenceASIdeal.nD Cert.ReferenceASIdeal.τ).loc Cert.ReferenceASIdeal.main_arg0) = m' ((c.tc : Thread Cert.ReferenceASIdeal.nD Cert.ReferenceASIdeal.τ).loc Cert.ReferenceASIdeal.main_arg0)
          ∧ r.2.mem ((c.tc : Thread Cert.ReferenceASIdeal.nD Cert.ReferenceASIdeal.τ).loc Cert.ReferenceASIdeal.main_arg1) = m' ((c.tc : Thread Cert.ReferenceASIdeal.nD Cert.ReferenceASIdeal.τ).loc Cert.ReferenceASIdeal.main_arg1)
          ∧ r.2.mem ((c.tc : Thread Cert.ReferenceASIdeal.nD Cert.ReferenceASIdeal.τ).loc Cert.ReferenceASIdeal.main_arg2) = m' ((c.tc : Thread Cert.ReferenceASIdeal.nD Cert.ReferenceASIdeal.τ).loc Cert.ReferenceASIdeal.main_arg2)
          ∧ r.2.mem ((c.tc : Thread Cert.ReferenceASIdeal.nD Cert.ReferenceASIdeal.τ).loc Cert.ReferenceASIdeal.main_arg3) = m' ((c.tc : Thread Cert.ReferenceASIdeal.nD Cert.ReferenceASIdeal.τ).loc Cert.ReferenceASIdeal.main_arg3))

def preserves_KernelZP_KernelZPIdeal : Prop :=
  True

def algebraic_KernelZPIdeal_ReferenceZPIdeal [hKernelZPIdeal : Cert.KernelZPIdeal.Facts] [hReferenceZPIdeal : Cert.ReferenceZPIdeal.Facts] : Prop :=
  ∀ (m : (ℓ : Loc Cert.KernelZPIdeal.nD Cert.KernelZPIdeal.τ Cert.KernelZPIdeal.sig) → Buf (Elt Ideal) ℓ) (g : Dev Cert.KernelZPIdeal.nD → PrngReg)
    (m' : (ℓ : Loc Cert.ReferenceZPIdeal.nD Cert.ReferenceZPIdeal.τ Cert.ReferenceZPIdeal.sig) → Buf (Elt Ideal) ℓ) (g' : Dev Cert.ReferenceZPIdeal.nD → PrngReg), Pre_KernelZPIdeal m →
    (∀ c : Dev Cert.KernelZPIdeal.nD,
      m' ((c.tc : Thread Cert.ReferenceZPIdeal.nD Cert.ReferenceZPIdeal.τ).loc Cert.ReferenceZPIdeal.main_arg0) = m ((c.tc : Thread Cert.KernelZPIdeal.nD Cert.KernelZPIdeal.τ).loc Cert.KernelZPIdeal.main_arg0)
      ∧ m' ((c.tc : Thread Cert.ReferenceZPIdeal.nD Cert.ReferenceZPIdeal.τ).loc Cert.ReferenceZPIdeal.main_arg1) = m ((c.tc : Thread Cert.KernelZPIdeal.nD Cert.KernelZPIdeal.τ).loc Cert.KernelZPIdeal.main_arg1)
      ∧ m' ((c.tc : Thread Cert.ReferenceZPIdeal.nD Cert.ReferenceZPIdeal.τ).loc Cert.ReferenceZPIdeal.main_arg2) = m ((c.tc : Thread Cert.KernelZPIdeal.nD Cert.KernelZPIdeal.τ).loc Cert.KernelZPIdeal.main_arg2)
      ∧ m' ((c.tc : Thread Cert.ReferenceZPIdeal.nD Cert.ReferenceZPIdeal.τ).loc Cert.ReferenceZPIdeal.main_arg3) = m ((c.tc : Thread Cert.KernelZPIdeal.nD Cert.KernelZPIdeal.τ).loc Cert.KernelZPIdeal.main_arg3)
      ∧ m' ((c.tc : Thread Cert.ReferenceZPIdeal.nD Cert.ReferenceZPIdeal.τ).loc Cert.ReferenceZPIdeal.main_arg4) = m ((c.tc : Thread Cert.KernelZPIdeal.nD Cert.KernelZPIdeal.τ).loc Cert.KernelZPIdeal.main_arg4)
      ∧ m' ((c.tc : Thread Cert.ReferenceZPIdeal.nD Cert.ReferenceZPIdeal.τ).loc Cert.ReferenceZPIdeal.main_arg5) = m ((c.tc : Thread Cert.KernelZPIdeal.nD Cert.KernelZPIdeal.τ).loc Cert.KernelZPIdeal.main_arg5)
      ∧ m' ((c.tc : Thread Cert.ReferenceZPIdeal.nD Cert.ReferenceZPIdeal.τ).loc Cert.ReferenceZPIdeal.main_arg6) = m ((c.tc : Thread Cert.KernelZPIdeal.nD Cert.KernelZPIdeal.τ).loc Cert.KernelZPIdeal.main_arg6)
      ∧ m' ((c.tc : Thread Cert.ReferenceZPIdeal.nD Cert.ReferenceZPIdeal.τ).loc Cert.ReferenceZPIdeal.main_arg7) = m ((c.tc : Thread Cert.KernelZPIdeal.nD Cert.KernelZPIdeal.τ).loc Cert.KernelZPIdeal.main_arg7)) →
    ∃ (v0 : (c : Dev Cert.KernelZPIdeal.nD) → Buf (Elt Ideal) ((c.tc : Thread Cert.KernelZPIdeal.nD Cert.KernelZPIdeal.τ).loc Cert.KernelZPIdeal.main_v8)),
      θ_run (Cert.KernelZPIdeal.defs (F := Ideal)) (onTc (τ := Cert.KernelZPIdeal.τ) (Cert.KernelZPIdeal.main (F := Ideal))) ⟨m, fun _ => 0, g⟩ (fun r => ∀ c : Dev Cert.KernelZPIdeal.nD,
          r.2.mem ((c.tc : Thread Cert.KernelZPIdeal.nD Cert.KernelZPIdeal.τ).loc Cert.KernelZPIdeal.main_v8) = v0 c
          ∧ r.2.mem ((c.tc : Thread Cert.KernelZPIdeal.nD Cert.KernelZPIdeal.τ).loc Cert.KernelZPIdeal.main_arg0) = m ((c.tc : Thread Cert.KernelZPIdeal.nD Cert.KernelZPIdeal.τ).loc Cert.KernelZPIdeal.main_arg0)
          ∧ r.2.mem ((c.tc : Thread Cert.KernelZPIdeal.nD Cert.KernelZPIdeal.τ).loc Cert.KernelZPIdeal.main_arg1) = m ((c.tc : Thread Cert.KernelZPIdeal.nD Cert.KernelZPIdeal.τ).loc Cert.KernelZPIdeal.main_arg1)
          ∧ r.2.mem ((c.tc : Thread Cert.KernelZPIdeal.nD Cert.KernelZPIdeal.τ).loc Cert.KernelZPIdeal.main_arg2) = m ((c.tc : Thread Cert.KernelZPIdeal.nD Cert.KernelZPIdeal.τ).loc Cert.KernelZPIdeal.main_arg2)
          ∧ r.2.mem ((c.tc : Thread Cert.KernelZPIdeal.nD Cert.KernelZPIdeal.τ).loc Cert.KernelZPIdeal.main_arg3) = m ((c.tc : Thread Cert.KernelZPIdeal.nD Cert.KernelZPIdeal.τ).loc Cert.KernelZPIdeal.main_arg3)
          ∧ r.2.mem ((c.tc : Thread Cert.KernelZPIdeal.nD Cert.KernelZPIdeal.τ).loc Cert.KernelZPIdeal.main_arg4) = m ((c.tc : Thread Cert.KernelZPIdeal.nD Cert.KernelZPIdeal.τ).loc Cert.KernelZPIdeal.main_arg4)
          ∧ r.2.mem ((c.tc : Thread Cert.KernelZPIdeal.nD Cert.KernelZPIdeal.τ).loc Cert.KernelZPIdeal.main_arg5) = m ((c.tc : Thread Cert.KernelZPIdeal.nD Cert.KernelZPIdeal.τ).loc Cert.KernelZPIdeal.main_arg5)
          ∧ r.2.mem ((c.tc : Thread Cert.KernelZPIdeal.nD Cert.KernelZPIdeal.τ).loc Cert.KernelZPIdeal.main_arg6) = m ((c.tc : Thread Cert.KernelZPIdeal.nD Cert.KernelZPIdeal.τ).loc Cert.KernelZPIdeal.main_arg6)
          ∧ r.2.mem ((c.tc : Thread Cert.KernelZPIdeal.nD Cert.KernelZPIdeal.τ).loc Cert.KernelZPIdeal.main_arg7) = m ((c.tc : Thread Cert.KernelZPIdeal.nD Cert.KernelZPIdeal.τ).loc Cert.KernelZPIdeal.main_arg7))
      ∧ θ_run (Cert.ReferenceZPIdeal.defs (F := Ideal)) (onTc (τ := Cert.ReferenceZPIdeal.τ) (Cert.ReferenceZPIdeal.main (F := Ideal))) ⟨m', fun _ => 0, g'⟩ (fun r => ∀ c : Dev Cert.ReferenceZPIdeal.nD,
          r.2.mem ((c.tc : Thread Cert.ReferenceZPIdeal.nD Cert.ReferenceZPIdeal.τ).loc Cert.ReferenceZPIdeal.main_v31) = v0 c
          ∧ r.2.mem ((c.tc : Thread Cert.ReferenceZPIdeal.nD Cert.ReferenceZPIdeal.τ).loc Cert.ReferenceZPIdeal.main_arg0) = m' ((c.tc : Thread Cert.ReferenceZPIdeal.nD Cert.ReferenceZPIdeal.τ).loc Cert.ReferenceZPIdeal.main_arg0)
          ∧ r.2.mem ((c.tc : Thread Cert.ReferenceZPIdeal.nD Cert.ReferenceZPIdeal.τ).loc Cert.ReferenceZPIdeal.main_arg1) = m' ((c.tc : Thread Cert.ReferenceZPIdeal.nD Cert.ReferenceZPIdeal.τ).loc Cert.ReferenceZPIdeal.main_arg1)
          ∧ r.2.mem ((c.tc : Thread Cert.ReferenceZPIdeal.nD Cert.ReferenceZPIdeal.τ).loc Cert.ReferenceZPIdeal.main_arg2) = m' ((c.tc : Thread Cert.ReferenceZPIdeal.nD Cert.ReferenceZPIdeal.τ).loc Cert.ReferenceZPIdeal.main_arg2)
          ∧ r.2.mem ((c.tc : Thread Cert.ReferenceZPIdeal.nD Cert.ReferenceZPIdeal.τ).loc Cert.ReferenceZPIdeal.main_arg3) = m' ((c.tc : Thread Cert.ReferenceZPIdeal.nD Cert.ReferenceZPIdeal.τ).loc Cert.ReferenceZPIdeal.main_arg3)
          ∧ r.2.mem ((c.tc : Thread Cert.ReferenceZPIdeal.nD Cert.ReferenceZPIdeal.τ).loc Cert.ReferenceZPIdeal.main_arg4) = m' ((c.tc : Thread Cert.ReferenceZPIdeal.nD Cert.ReferenceZPIdeal.τ).loc Cert.ReferenceZPIdeal.main_arg4)
          ∧ r.2.mem ((c.tc : Thread Cert.ReferenceZPIdeal.nD Cert.ReferenceZPIdeal.τ).loc Cert.ReferenceZPIdeal.main_arg5) = m' ((c.tc : Thread Cert.ReferenceZPIdeal.nD Cert.ReferenceZPIdeal.τ).loc Cert.ReferenceZPIdeal.main_arg5)
          ∧ r.2.mem ((c.tc : Thread Cert.ReferenceZPIdeal.nD Cert.ReferenceZPIdeal.τ).loc Cert.ReferenceZPIdeal.main_arg6) = m' ((c.tc : Thread Cert.ReferenceZPIdeal.nD Cert.ReferenceZPIdeal.τ).loc Cert.ReferenceZPIdeal.main_arg6)
          ∧ r.2.mem ((c.tc : Thread Cert.ReferenceZPIdeal.nD Cert.ReferenceZPIdeal.τ).loc Cert.ReferenceZPIdeal.main_arg7) = m' ((c.tc : Thread Cert.ReferenceZPIdeal.nD Cert.ReferenceZPIdeal.τ).loc Cert.ReferenceZPIdeal.main_arg7))

def preserves_KernelZS_KernelZSIdeal : Prop :=
  True

def algebraic_KernelZSIdeal_ReferenceZSIdeal [hKernelZSIdeal : Cert.KernelZSIdeal.Facts] [hReferenceZSIdeal : Cert.ReferenceZSIdeal.Facts] : Prop :=
  ∀ (m : (ℓ : Loc Cert.KernelZSIdeal.nD Cert.KernelZSIdeal.τ Cert.KernelZSIdeal.sig) → Buf (Elt Ideal) ℓ) (g : Dev Cert.KernelZSIdeal.nD → PrngReg)
    (m' : (ℓ : Loc Cert.ReferenceZSIdeal.nD Cert.ReferenceZSIdeal.τ Cert.ReferenceZSIdeal.sig) → Buf (Elt Ideal) ℓ) (g' : Dev Cert.ReferenceZSIdeal.nD → PrngReg), Pre_KernelZSIdeal m →
    (∀ c : Dev Cert.KernelZSIdeal.nD,
      m' ((c.tc : Thread Cert.ReferenceZSIdeal.nD Cert.ReferenceZSIdeal.τ).loc Cert.ReferenceZSIdeal.main_arg0) = m ((c.tc : Thread Cert.KernelZSIdeal.nD Cert.KernelZSIdeal.τ).loc Cert.KernelZSIdeal.main_arg0)
      ∧ m' ((c.tc : Thread Cert.ReferenceZSIdeal.nD Cert.ReferenceZSIdeal.τ).loc Cert.ReferenceZSIdeal.main_arg1) = m ((c.tc : Thread Cert.KernelZSIdeal.nD Cert.KernelZSIdeal.τ).loc Cert.KernelZSIdeal.main_arg1)
      ∧ m' ((c.tc : Thread Cert.ReferenceZSIdeal.nD Cert.ReferenceZSIdeal.τ).loc Cert.ReferenceZSIdeal.main_arg2) = m ((c.tc : Thread Cert.KernelZSIdeal.nD Cert.KernelZSIdeal.τ).loc Cert.KernelZSIdeal.main_arg2)
      ∧ m' ((c.tc : Thread Cert.ReferenceZSIdeal.nD Cert.ReferenceZSIdeal.τ).loc Cert.ReferenceZSIdeal.main_arg3) = m ((c.tc : Thread Cert.KernelZSIdeal.nD Cert.KernelZSIdeal.τ).loc Cert.KernelZSIdeal.main_arg3)
      ∧ m' ((c.tc : Thread Cert.ReferenceZSIdeal.nD Cert.ReferenceZSIdeal.τ).loc Cert.ReferenceZSIdeal.main_arg4) = m ((c.tc : Thread Cert.KernelZSIdeal.nD Cert.KernelZSIdeal.τ).loc Cert.KernelZSIdeal.main_arg4)
      ∧ m' ((c.tc : Thread Cert.ReferenceZSIdeal.nD Cert.ReferenceZSIdeal.τ).loc Cert.ReferenceZSIdeal.main_arg5) = m ((c.tc : Thread Cert.KernelZSIdeal.nD Cert.KernelZSIdeal.τ).loc Cert.KernelZSIdeal.main_arg5)
      ∧ m' ((c.tc : Thread Cert.ReferenceZSIdeal.nD Cert.ReferenceZSIdeal.τ).loc Cert.ReferenceZSIdeal.main_arg6) = m ((c.tc : Thread Cert.KernelZSIdeal.nD Cert.KernelZSIdeal.τ).loc Cert.KernelZSIdeal.main_arg6)
      ∧ m' ((c.tc : Thread Cert.ReferenceZSIdeal.nD Cert.ReferenceZSIdeal.τ).loc Cert.ReferenceZSIdeal.main_arg7) = m ((c.tc : Thread Cert.KernelZSIdeal.nD Cert.KernelZSIdeal.τ).loc Cert.KernelZSIdeal.main_arg7)) →
    ∃ (v0 : (c : Dev Cert.KernelZSIdeal.nD) → Buf (Elt Ideal) ((c.tc : Thread Cert.KernelZSIdeal.nD Cert.KernelZSIdeal.τ).loc Cert.KernelZSIdeal.main_v8)),
      θ_run (Cert.KernelZSIdeal.defs (F := Ideal)) (onTc (τ := Cert.KernelZSIdeal.τ) (Cert.KernelZSIdeal.main (F := Ideal))) ⟨m, fun _ => 0, g⟩ (fun r => ∀ c : Dev Cert.KernelZSIdeal.nD,
          r.2.mem ((c.tc : Thread Cert.KernelZSIdeal.nD Cert.KernelZSIdeal.τ).loc Cert.KernelZSIdeal.main_v8) = v0 c
          ∧ r.2.mem ((c.tc : Thread Cert.KernelZSIdeal.nD Cert.KernelZSIdeal.τ).loc Cert.KernelZSIdeal.main_arg0) = m ((c.tc : Thread Cert.KernelZSIdeal.nD Cert.KernelZSIdeal.τ).loc Cert.KernelZSIdeal.main_arg0)
          ∧ r.2.mem ((c.tc : Thread Cert.KernelZSIdeal.nD Cert.KernelZSIdeal.τ).loc Cert.KernelZSIdeal.main_arg1) = m ((c.tc : Thread Cert.KernelZSIdeal.nD Cert.KernelZSIdeal.τ).loc Cert.KernelZSIdeal.main_arg1)
          ∧ r.2.mem ((c.tc : Thread Cert.KernelZSIdeal.nD Cert.KernelZSIdeal.τ).loc Cert.KernelZSIdeal.main_arg2) = m ((c.tc : Thread Cert.KernelZSIdeal.nD Cert.KernelZSIdeal.τ).loc Cert.KernelZSIdeal.main_arg2)
          ∧ r.2.mem ((c.tc : Thread Cert.KernelZSIdeal.nD Cert.KernelZSIdeal.τ).loc Cert.KernelZSIdeal.main_arg3) = m ((c.tc : Thread Cert.KernelZSIdeal.nD Cert.KernelZSIdeal.τ).loc Cert.KernelZSIdeal.main_arg3)
          ∧ r.2.mem ((c.tc : Thread Cert.KernelZSIdeal.nD Cert.KernelZSIdeal.τ).loc Cert.KernelZSIdeal.main_arg4) = m ((c.tc : Thread Cert.KernelZSIdeal.nD Cert.KernelZSIdeal.τ).loc Cert.KernelZSIdeal.main_arg4)
          ∧ r.2.mem ((c.tc : Thread Cert.KernelZSIdeal.nD Cert.KernelZSIdeal.τ).loc Cert.KernelZSIdeal.main_arg5) = m ((c.tc : Thread Cert.KernelZSIdeal.nD Cert.KernelZSIdeal.τ).loc Cert.KernelZSIdeal.main_arg5)
          ∧ r.2.mem ((c.tc : Thread Cert.KernelZSIdeal.nD Cert.KernelZSIdeal.τ).loc Cert.KernelZSIdeal.main_arg6) = m ((c.tc : Thread Cert.KernelZSIdeal.nD Cert.KernelZSIdeal.τ).loc Cert.KernelZSIdeal.main_arg6)
          ∧ r.2.mem ((c.tc : Thread Cert.KernelZSIdeal.nD Cert.KernelZSIdeal.τ).loc Cert.KernelZSIdeal.main_arg7) = m ((c.tc : Thread Cert.KernelZSIdeal.nD Cert.KernelZSIdeal.τ).loc Cert.KernelZSIdeal.main_arg7))
      ∧ θ_run (Cert.ReferenceZSIdeal.defs (F := Ideal)) (onTc (τ := Cert.ReferenceZSIdeal.τ) (Cert.ReferenceZSIdeal.main (F := Ideal))) ⟨m', fun _ => 0, g'⟩ (fun r => ∀ c : Dev Cert.ReferenceZSIdeal.nD,
          r.2.mem ((c.tc : Thread Cert.ReferenceZSIdeal.nD Cert.ReferenceZSIdeal.τ).loc Cert.ReferenceZSIdeal.main_v31) = v0 c
          ∧ r.2.mem ((c.tc : Thread Cert.ReferenceZSIdeal.nD Cert.ReferenceZSIdeal.τ).loc Cert.ReferenceZSIdeal.main_arg0) = m' ((c.tc : Thread Cert.ReferenceZSIdeal.nD Cert.ReferenceZSIdeal.τ).loc Cert.ReferenceZSIdeal.main_arg0)
          ∧ r.2.mem ((c.tc : Thread Cert.ReferenceZSIdeal.nD Cert.ReferenceZSIdeal.τ).loc Cert.ReferenceZSIdeal.main_arg1) = m' ((c.tc : Thread Cert.ReferenceZSIdeal.nD Cert.ReferenceZSIdeal.τ).loc Cert.ReferenceZSIdeal.main_arg1)
          ∧ r.2.mem ((c.tc : Thread Cert.ReferenceZSIdeal.nD Cert.ReferenceZSIdeal.τ).loc Cert.ReferenceZSIdeal.main_arg2) = m' ((c.tc : Thread Cert.ReferenceZSIdeal.nD Cert.ReferenceZSIdeal.τ).loc Cert.ReferenceZSIdeal.main_arg2)
          ∧ r.2.mem ((c.tc : Thread Cert.ReferenceZSIdeal.nD Cert.ReferenceZSIdeal.τ).loc Cert.ReferenceZSIdeal.main_arg3) = m' ((c.tc : Thread Cert.ReferenceZSIdeal.nD Cert.ReferenceZSIdeal.τ).loc Cert.ReferenceZSIdeal.main_arg3)
          ∧ r.2.mem ((c.tc : Thread Cert.ReferenceZSIdeal.nD Cert.ReferenceZSIdeal.τ).loc Cert.ReferenceZSIdeal.main_arg4) = m' ((c.tc : Thread Cert.ReferenceZSIdeal.nD Cert.ReferenceZSIdeal.τ).loc Cert.ReferenceZSIdeal.main_arg4)
          ∧ r.2.mem ((c.tc : Thread Cert.ReferenceZSIdeal.nD Cert.ReferenceZSIdeal.τ).loc Cert.ReferenceZSIdeal.main_arg5) = m' ((c.tc : Thread Cert.ReferenceZSIdeal.nD Cert.ReferenceZSIdeal.τ).loc Cert.ReferenceZSIdeal.main_arg5)
          ∧ r.2.mem ((c.tc : Thread Cert.ReferenceZSIdeal.nD Cert.ReferenceZSIdeal.τ).loc Cert.ReferenceZSIdeal.main_arg6) = m' ((c.tc : Thread Cert.ReferenceZSIdeal.nD Cert.ReferenceZSIdeal.τ).loc Cert.ReferenceZSIdeal.main_arg6)
          ∧ r.2.mem ((c.tc : Thread Cert.ReferenceZSIdeal.nD Cert.ReferenceZSIdeal.τ).loc Cert.ReferenceZSIdeal.main_arg7) = m' ((c.tc : Thread Cert.ReferenceZSIdeal.nD Cert.ReferenceZSIdeal.τ).loc Cert.ReferenceZSIdeal.main_arg7))

def Claim : Prop :=
  ∃ (hKernel : Cert.Kernel.Facts) (hKernelIdeal : Cert.KernelIdeal.Facts) (hReferenceIdeal : Cert.ReferenceIdeal.Facts) (hKernelYP : Cert.KernelYP.Facts) (hKernelYPIdeal : Cert.KernelYPIdeal.Facts) (hReferenceYPIdeal : Cert.ReferenceYPIdeal.Facts) (hKernelYS : Cert.KernelYS.Facts) (hKernelYSIdeal : Cert.KernelYSIdeal.Facts) (hReferenceYSIdeal : Cert.ReferenceYSIdeal.Facts) (hKernelFP : Cert.KernelFP.Facts) (hKernelFPIdeal : Cert.KernelFPIdeal.Facts) (hReferenceFPIdeal : Cert.ReferenceFPIdeal.Facts) (hKernelFS : Cert.KernelFS.Facts) (hKernelFSIdeal : Cert.KernelFSIdeal.Facts) (hReferenceFSIdeal : Cert.ReferenceFSIdeal.Facts) (hKernelAP : Cert.KernelAP.Facts) (hKernelAPIdeal : Cert.KernelAPIdeal.Facts) (hReferenceAPIdeal : Cert.ReferenceAPIdeal.Facts) (hKernelAS : Cert.KernelAS.Facts) (hKernelASIdeal : Cert.KernelASIdeal.Facts) (hReferenceASIdeal : Cert.ReferenceASIdeal.Facts) (hKernelZP : Cert.KernelZP.Facts) (hKernelZPIdeal : Cert.KernelZPIdeal.Facts) (hReferenceZPIdeal : Cert.ReferenceZPIdeal.Facts) (hKernelZS : Cert.KernelZS.Facts) (hKernelZSIdeal : Cert.KernelZSIdeal.Facts) (hReferenceZSIdeal : Cert.ReferenceZSIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_KernelYP (hKernelYP := hKernelYP)
    ∧ quiescent_KernelYPIdeal (hKernelYPIdeal := hKernelYPIdeal)
    ∧ quiescent_ReferenceYPIdeal (hReferenceYPIdeal := hReferenceYPIdeal)
    ∧ quiescent_KernelYS (hKernelYS := hKernelYS)
    ∧ quiescent_KernelYSIdeal (hKernelYSIdeal := hKernelYSIdeal)
    ∧ quiescent_ReferenceYSIdeal (hReferenceYSIdeal := hReferenceYSIdeal)
    ∧ quiescent_KernelFP (hKernelFP := hKernelFP)
    ∧ quiescent_KernelFPIdeal (hKernelFPIdeal := hKernelFPIdeal)
    ∧ quiescent_ReferenceFPIdeal (hReferenceFPIdeal := hReferenceFPIdeal)
    ∧ quiescent_KernelFS (hKernelFS := hKernelFS)
    ∧ quiescent_KernelFSIdeal (hKernelFSIdeal := hKernelFSIdeal)
    ∧ quiescent_ReferenceFSIdeal (hReferenceFSIdeal := hReferenceFSIdeal)
    ∧ quiescent_KernelAP (hKernelAP := hKernelAP)
    ∧ quiescent_KernelAPIdeal (hKernelAPIdeal := hKernelAPIdeal)
    ∧ quiescent_ReferenceAPIdeal (hReferenceAPIdeal := hReferenceAPIdeal)
    ∧ quiescent_KernelAS (hKernelAS := hKernelAS)
    ∧ quiescent_KernelASIdeal (hKernelASIdeal := hKernelASIdeal)
    ∧ quiescent_ReferenceASIdeal (hReferenceASIdeal := hReferenceASIdeal)
    ∧ quiescent_KernelZP (hKernelZP := hKernelZP)
    ∧ quiescent_KernelZPIdeal (hKernelZPIdeal := hKernelZPIdeal)
    ∧ quiescent_ReferenceZPIdeal (hReferenceZPIdeal := hReferenceZPIdeal)
    ∧ quiescent_KernelZS (hKernelZS := hKernelZS)
    ∧ quiescent_KernelZSIdeal (hKernelZSIdeal := hKernelZSIdeal)
    ∧ quiescent_ReferenceZSIdeal (hReferenceZSIdeal := hReferenceZSIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_KernelYP_KernelYPIdeal
    ∧ algebraic_KernelYPIdeal_ReferenceYPIdeal (hKernelYPIdeal := hKernelYPIdeal) (hReferenceYPIdeal := hReferenceYPIdeal)
    ∧ preserves_KernelYS_KernelYSIdeal
    ∧ algebraic_KernelYSIdeal_ReferenceYSIdeal (hKernelYSIdeal := hKernelYSIdeal) (hReferenceYSIdeal := hReferenceYSIdeal)
    ∧ preserves_KernelFP_KernelFPIdeal
    ∧ algebraic_KernelFPIdeal_ReferenceFPIdeal (hKernelFPIdeal := hKernelFPIdeal) (hReferenceFPIdeal := hReferenceFPIdeal)
    ∧ preserves_KernelFS_KernelFSIdeal
    ∧ algebraic_KernelFSIdeal_ReferenceFSIdeal (hKernelFSIdeal := hKernelFSIdeal) (hReferenceFSIdeal := hReferenceFSIdeal)
    ∧ preserves_KernelAP_KernelAPIdeal
    ∧ algebraic_KernelAPIdeal_ReferenceAPIdeal (hKernelAPIdeal := hKernelAPIdeal) (hReferenceAPIdeal := hReferenceAPIdeal)
    ∧ preserves_KernelAS_KernelASIdeal
    ∧ algebraic_KernelASIdeal_ReferenceASIdeal (hKernelASIdeal := hKernelASIdeal) (hReferenceASIdeal := hReferenceASIdeal)
    ∧ preserves_KernelZP_KernelZPIdeal
    ∧ algebraic_KernelZPIdeal_ReferenceZPIdeal (hKernelZPIdeal := hKernelZPIdeal) (hReferenceZPIdeal := hReferenceZPIdeal)
    ∧ preserves_KernelZS_KernelZSIdeal
    ∧ algebraic_KernelZSIdeal_ReferenceZSIdeal (hKernelZSIdeal := hKernelZSIdeal) (hReferenceZSIdeal := hReferenceZSIdeal)
-- ==== Pre_finite_logits.lean ====
abbrev S32x16x64x64 : Shape := ⟨4, ![32, 16, 64, 64]⟩
abbrev S1x32x16x2048x64 : Shape := ⟨5, ![1, 32, 16, 2048, 64]⟩
abbrev S512x2176 : Shape := ⟨2, ![512, 2176]⟩
abbrev S_ : Shape := ⟨0, ![]⟩
abbrev S512x2112 : Shape := ⟨2, ![512, 2112]⟩

class Facts : Prop where
  bcast_S_S32x16x64x64 : S_.BroadcastsInDim S32x16x64x64 (![] : Fin 0 → Fin S32x16x64x64.rank)
  reducesTo_S32x16x64x64_S_d0_1_2_3 : S32x16x64x64.ReducesTo [0, 1, 2, 3] S_
  h_S_ : 0 < S_.numel
  bcast_S_S1x32x16x2048x64 : S_.BroadcastsInDim S1x32x16x2048x64 (![] : Fin 0 → Fin S1x32x16x2048x64.rank)
  reducesTo_S1x32x16x2048x64_S_d0_1_2_3_4 : S1x32x16x2048x64.ReducesTo [0, 1, 2, 3, 4] S_
  slices_S512x2176_S512x2112_0_0 : S512x2176.Slices ![0, 0] S512x2112
  bcast_S_S512x2112 : S_.BroadcastsInDim S512x2112 (![] : Fin 0 → Fin S512x2112.rank)
  reducesTo_S512x2112_S_d0_1 : S512x2112.ReducesTo [0, 1] S_

variable [Facts]

def fn_part1 {F : FTy → Type} [FloatOps F] (main_v13 : IVec S_ 1) (main_v15 : FVec F S512x2112 .f32) (main_v16 : FVec F S512x2112 .f32) : IVec S_ 1 :=
  let main_v17 : IVec S512x2112 1 := cmpf .olt main_v15 main_v16
  let main_c_5 : IVec S_ 1 := constantI S_ 1 1#1
  let main_v18 : IVec S_ 1 := (fun x v => Host.reduce IntOp.andi x v reducesTo_S512x2112_S_d0_1 h_S_) main_v17 main_c_5
  let main_v19 : IVec S_ 1 := andi main_v13 main_v18
  main_v19

def fn {F : FTy → Type} [FloatOps F] (main_arg0 : FVec F S32x16x64x64 .f32) (main_arg1 : FVec F S32x16x64x64 .f32) (main_arg2 : FVec F S32x16x64x64 .f32) (main_arg3 : FVec F S1x32x16x2048x64 .f32) (main_arg4 : FVec F S1x32x16x2048x64 .f32) (main_arg5 : FVec F S512x2176 .f32) : IVec S_ 1 :=
  let main_v0 : FVec F S32x16x64x64 .f32 := Host.absf main_arg0
  let main_cst : FVec F S_ .f32 := constant S_ .f32 0x7F800000#32
  let main_v1 : FVec F S32x16x64x64 .f32 := broadcastInDim S32x16x64x64 ![] bcast_S_S32x16x64x64 main_cst
  let main_v2 : IVec S32x16x64x64 1 := cmpf .olt main_v0 main_v1
  let main_c : IVec S_ 1 := constantI S_ 1 1#1
  let main_v3 : IVec S_ 1 := (fun x v => Host.reduce IntOp.andi x v reducesTo_S32x16x64x64_S_d0_1_2_3 h_S_) main_v2 main_c
  let main_v4 : FVec F S32x16x64x64 .f32 := Host.absf main_arg1
  let main_cst_0 : FVec F S_ .f32 := constant S_ .f32 0x7F800000#32
  let main_v5 : FVec F S32x16x64x64 .f32 := broadcastInDim S32x16x64x64 ![] bcast_S_S32x16x64x64 main_cst_0
  let main_v6 : IVec S32x16x64x64 1 := cmpf .olt main_v4 main_v5
  let main_c_1 : IVec S_ 1 := constantI S_ 1 1#1
  let main_v7 : IVec S_ 1 := (fun x v => Host.reduce IntOp.andi x v reducesTo_S32x16x64x64_S_d0_1_2_3 h_S_) main_v6 main_c_1
  let main_v8 : IVec S_ 1 := andi main_v3 main_v7
  let main_v9 : FVec F S1x32x16x2048x64 .f32 := Host.absf main_arg3
  let main_cst_2 : FVec F S_ .f32 := constant S_ .f32 0x7F800000#32
  let main_v10 : FVec F S1x32x16x2048x64 .f32 := broadcastInDim S1x32x16x2048x64 ![] bcast_S_S1x32x16x2048x64 main_cst_2
  let main_v11 : IVec S1x32x16x2048x64 1 := cmpf .olt main_v9 main_v10
  let main_c_3 : IVec S_ 1 := constantI S_ 1 1#1
  let main_v12 : IVec S_ 1 := (fun x v => Host.reduce IntOp.andi x v reducesTo_S1x32x16x2048x64_S_d0_1_2_3_4 h_S_) main_v11 main_c_3
  let main_v13 : IVec S_ 1 := andi main_v8 main_v12
  let main_v14 : FVec F S512x2112 .f32 := (extractStridedSlice S512x2112 ![0, 0] · slices_S512x2176_S512x2112_0_0) main_arg5
  let main_v15 : FVec F S512x2112 .f32 := Host.absf main_v14
  let main_cst_4 : FVec F S_ .f32 := constant S_ .f32 0x7F800000#32
  let main_v16 : FVec F S512x2112 .f32 := broadcastInDim S512x2112 ![] bcast_S_S512x2112 main_cst_4
  fn_part1 (F := F) main_v13 main_v15 main_v16
-- ==== Kernel.lean ====
abbrev S32x16x64x64 : Shape := ⟨4, ![32, 16, 64, 64]⟩
abbrev S1x32x16x2048x64 : Shape := ⟨5, ![1, 32, 16, 2048, 64]⟩
abbrev S512x2176 : Shape := ⟨2, ![512, 2176]⟩
abbrev S1x32x16x64x2048 : Shape := ⟨5, ![1, 32, 16, 64, 2048]⟩
abbrev S32x1x16x2176 : Shape := ⟨4, ![32, 1, 16, 2176]⟩
abbrev S2048x1024 : Shape := ⟨2, ![2048, 1024]⟩
abbrev S1x16x64x64 : Shape := ⟨4, ![1, 16, 64, 64]⟩
abbrev S1x1x16x64x2048 : Shape := ⟨5, ![1, 1, 16, 64, 2048]⟩
abbrev S1x1x16x2176 : Shape := ⟨4, ![1, 1, 16, 2176]⟩
abbrev S64x1024 : Shape := ⟨2, ![64, 1024]⟩
abbrev S64x64 : Shape := ⟨2, ![64, 64]⟩
abbrev S1x1x1x2176 : Shape := ⟨4, ![1, 1, 1, 2176]⟩
abbrev S1x2176 : Shape := ⟨2, ![1, 2176]⟩
abbrev S1x128 : Shape := ⟨2, ![1, 128]⟩
abbrev S128x128 : Shape := ⟨2, ![128, 128]⟩
abbrev S64x128 : Shape := ⟨2, ![64, 128]⟩
abbrev S1x1x64x64 : Shape := ⟨4, ![1, 1, 64, 64]⟩
abbrev S64x2048 : Shape := ⟨2, ![64, 2048]⟩
abbrev S1x1x1x64x2048 : Shape := ⟨5, ![1, 1, 1, 64, 2048]⟩
abbrev S128x2048 : Shape := ⟨2, ![128, 2048]⟩
abbrev S1x2048 : Shape := ⟨2, ![1, 2048]⟩
abbrev S64 : Shape := ⟨1, ![64]⟩
abbrev S64x1 : Shape := ⟨2, ![64, 1]⟩

abbrev nBuf : Space → Nat
  | .hbm => 10
  | .vmem => 14
  | .smem => 0
  | _ => 0

abbrev bufTy : (tb : Table) → Fin (tcTables nBuf tb) → BufTy
  | .hbm, ⟨0, _⟩ => ⟨S32x16x64x64, .f32⟩
  | .hbm, ⟨1, _⟩ => ⟨S32x16x64x64, .f32⟩
  | .hbm, ⟨2, _⟩ => ⟨S32x16x64x64, .f32⟩
  | .hbm, ⟨3, _⟩ => ⟨S1x32x16x2048x64, .f32⟩
  | .hbm, ⟨4, _⟩ => ⟨S1x32x16x2048x64, .f32⟩
  | .hbm, ⟨5, _⟩ => ⟨S512x2176, .f32⟩
  | .hbm, ⟨6, _⟩ => ⟨S1x32x16x64x2048, .f32⟩
  | .hbm, ⟨7, _⟩ => ⟨S1x32x16x64x2048, .f32⟩
  | .hbm, ⟨8, _⟩ => ⟨S32x1x16x2176, .f32⟩
  | .hbm, ⟨9, _⟩ => ⟨S2048x1024, .bf16⟩
  | .local _ .vmem, ⟨0, _⟩ => ⟨S1x16x64x64, .f32⟩
  | .local _ .vmem, ⟨1, _⟩ => ⟨S1x16x64x64, .f32⟩
  | .local _ .vmem, ⟨2, _⟩ => ⟨S1x16x64x64, .f32⟩
  | .local _ .vmem, ⟨3, _⟩ => ⟨S1x16x64x64, .f32⟩
  | .local _ .vmem, ⟨4, _⟩ => ⟨S1x16x64x64, .f32⟩
  | .local _ .vmem, ⟨5, _⟩ => ⟨S1x16x64x64, .f32⟩
  | .local _ .vmem, ⟨6, _⟩ => ⟨S1x1x16x64x2048, .f32⟩
  | .local _ .vmem, ⟨7, _⟩ => ⟨S1x1x16x64x2048, .f32⟩
  | .local _ .vmem, ⟨8, _⟩ => ⟨S1x1x16x64x2048, .f32⟩
  | .local _ .vmem, ⟨9, _⟩ => ⟨S1x1x16x64x2048, .f32⟩
  | .local _ .vmem, ⟨10, _⟩ => ⟨S1x1x16x2176, .f32⟩
  | .local _ .vmem, ⟨11, _⟩ => ⟨S1x1x16x2176, .f32⟩
  | .local _ .vmem, ⟨12, _⟩ => ⟨S64x1024, .bf16⟩
  | .local _ .vmem, ⟨13, _⟩ => ⟨S64x1024, .bf16⟩
  | _, _ => ⟨S32x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x16x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x16x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x16x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((1 / 8) * (Real.log 2)⁻¹ : ℝ) : EReal)
  | _ => none
-- ==== ReferenceIdeal.lean ====
abbrev S32x16x64x64 : Shape := ⟨4, ![32, 16, 64, 64]⟩
abbrev S1x32x16x2048x64 : Shape := ⟨5, ![1, 32, 16, 2048, 64]⟩
abbrev S512x2176 : Shape := ⟨2, ![512, 2176]⟩
abbrev S512x2112 : Shape := ⟨2, ![512, 2112]⟩
abbrev S32x16x2112 : Shape := ⟨3, ![32, 16, 2112]⟩
abbrev S32x16x2048x64 : Shape := ⟨4, ![32, 16, 2048, 64]⟩
abbrev S32x16x2112x64 : Shape := ⟨4, ![32, 16, 2112, 64]⟩
abbrev S2112 : Shape := ⟨1, ![2112]⟩
abbrev S32x16x64 : Shape := ⟨3, ![32, 16, 64]⟩
abbrev S64 : Shape := ⟨1, ![64]⟩
abbrev S32x16x64x2112 : Shape := ⟨4, ![32, 16, 64, 2112]⟩
abbrev S_ : Shape := ⟨0, ![]⟩
abbrev S32x16x64x1 : Shape := ⟨4, ![32, 16, 64, 1]⟩
abbrev S32x16x1x2112 : Shape := ⟨4, ![32, 16, 1, 2112]⟩
abbrev S1x2112 : Shape := ⟨2, ![1, 2112]⟩
abbrev S64x1 : Shape := ⟨2, ![64, 1]⟩
abbrev S64x2112 : Shape := ⟨2, ![64, 2112]⟩
abbrev S32x64x16x64 : Shape := ⟨4, ![32, 64, 16, 64]⟩
abbrev S32x64x1024 : Shape := ⟨3, ![32, 64, 1024]⟩
abbrev S2048x1024 : Shape := ⟨2, ![2048, 1024]⟩

abbrev nBuf : Space → Nat
  | .hbm => 54
  | .vmem => 0
  | .smem => 0
  | _ => 0

abbrev bufTy : (tb : Table) → Fin (tcTables nBuf tb) → BufTy
  | .hbm, ⟨0, _⟩ => ⟨S32x16x64x64, .f32⟩
  | .hbm, ⟨1, _⟩ => ⟨S32x16x64x64, .f32⟩
  | .hbm, ⟨2, _⟩ => ⟨S32x16x64x64, .f32⟩
  | .hbm, ⟨3, _⟩ => ⟨S1x32x16x2048x64, .f32⟩
  | .hbm, ⟨4, _⟩ => ⟨S1x32x16x2048x64, .f32⟩
  | .hbm, ⟨5, _⟩ => ⟨S512x2176, .f32⟩
  | .hbm, ⟨6, _⟩ => ⟨S512x2112, .f32⟩
  | .hbm, ⟨7, _⟩ => ⟨S32x16x2112, .f32⟩
  | .hbm, ⟨8, _⟩ => ⟨S32x16x2048x64, .f32⟩
  | .hbm, ⟨9, _⟩ => ⟨S32x16x2112x64, .f32⟩
  | .hbm, ⟨10, _⟩ => ⟨S32x16x2048x64, .f32⟩
  | .hbm, ⟨11, _⟩ => ⟨S32x16x2112x64, .f32⟩
  | .hbm, ⟨12, _⟩ => ⟨S2112, .i32⟩
  | .hbm, ⟨13, _⟩ => ⟨S32x16x64, .f32⟩
  | .hbm, ⟨14, _⟩ => ⟨S64, .i32⟩
  | .hbm, ⟨15, _⟩ => ⟨S32x16x64x2112, .f32⟩
  | .hbm, ⟨16, _⟩ => ⟨S_, .f32⟩
  | .hbm, ⟨17, _⟩ => ⟨S32x16x64x2112, .f32⟩
  | .hbm, ⟨18, _⟩ => ⟨S32x16x64x2112, .f32⟩
  | .hbm, ⟨19, _⟩ => ⟨S32x16x64x1, .f32⟩
  | .hbm, ⟨20, _⟩ => ⟨S32x16x64x2112, .f32⟩
  | .hbm, ⟨21, _⟩ => ⟨S32x16x64x2112, .f32⟩
  | .hbm, ⟨22, _⟩ => ⟨S32x16x1x2112, .f32⟩
  | .hbm, ⟨23, _⟩ => ⟨S32x16x64x2112, .f32⟩
  | .hbm, ⟨24, _⟩ => ⟨S32x16x64x2112, .f32⟩
  | .hbm, ⟨25, _⟩ => ⟨S1x2112, .i32⟩
  | .hbm, ⟨26, _⟩ => ⟨S64x1, .i32⟩
  | .hbm, ⟨27, _⟩ => ⟨S64x2112, .i32⟩
  | .hbm, ⟨28, _⟩ => ⟨S64x2112, .i32⟩
  | .hbm, ⟨29, _⟩ => ⟨S64x2112, .i1⟩
  | .hbm, ⟨30, _⟩ => ⟨S_, .f32⟩
  | .hbm, ⟨31, _⟩ => ⟨S_, .f32⟩
  | .hbm, ⟨32, _⟩ => ⟨S32x16x64x2112, .i1⟩
  | .hbm, ⟨33, _⟩ => ⟨S32x16x64x2112, .f32⟩
  | .hbm, ⟨34, _⟩ => ⟨S32x16x64x2112, .f32⟩
  | .hbm, ⟨35, _⟩ => ⟨S_, .f32⟩
  | .hbm, ⟨36, _⟩ => ⟨S32x16x64, .f32⟩
  | .hbm, ⟨37, _⟩ => ⟨S_, .f32⟩
  | .hbm, ⟨38, _⟩ => ⟨S32x16x64, .f32⟩
  | .hbm, ⟨39, _⟩ => ⟨S32x16x64, .f32⟩
  | .hbm, ⟨40, _⟩ => ⟨S32x16x64x1, .f32⟩
  | .hbm, ⟨41, _⟩ => ⟨S32x16x64x2112, .f32⟩
  | .hbm, ⟨42, _⟩ => ⟨S32x16x64x2112, .f32⟩
  | .hbm, ⟨43, _⟩ => ⟨S32x16x64x2112, .f32⟩
  | .hbm, ⟨44, _⟩ => ⟨S_, .f32⟩
  | .hbm, ⟨45, _⟩ => ⟨S32x16x64, .f32⟩
  | .hbm, ⟨46, _⟩ => ⟨S32x16x64x1, .f32⟩
  | .hbm, ⟨47, _⟩ => ⟨S32x16x64x2112, .f32⟩
  | .hbm, ⟨48, _⟩ => ⟨S32x16x64x2112, .f32⟩
  | .hbm, ⟨49, _⟩ => ⟨S32x16x64x64, .f32⟩
  | .hbm, ⟨50, _⟩ => ⟨S32x64x16x64, .f32⟩
  | .hbm, ⟨51, _⟩ => ⟨S32x64x1024, .f32⟩
  | .hbm, ⟨52, _⟩ => ⟨S2048x1024, .f32⟩
  | .hbm, ⟨53, _⟩ => ⟨S2048x1024, .bf16⟩
  | _, _ => ⟨S32x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelYP.lean ====
abbrev S16384x1024 : Shape := ⟨2, ![16384, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 16
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1024, .f32⟩
  | .hbm, ⟨11, _⟩ => ⟨S2x1024x5632, .bf16⟩
  | .hbm, ⟨12, _⟩ => ⟨S2x2816x1024, .bf16⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024x5632, .bf16⟩
  | .local _ .vmem, ⟨7, _⟩ => ⟨S1x2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelYPIdeal.lean ====
abbrev S16384x1024 : Shape := ⟨2, ![16384, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 16
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1024, .f32⟩
  | .hbm, ⟨11, _⟩ => ⟨S2x1024x5632, .bf16⟩
  | .hbm, ⟨12, _⟩ => ⟨S2x2816x1024, .bf16⟩
  | .hbm, ⟨13, _⟩ => ⟨S1x1024, .f32⟩
  | .hbm, ⟨14, _⟩ => ⟨S1x1024, .f32⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024x5632, .bf16⟩
  | .local _ .vmem, ⟨7, _⟩ => ⟨S1x2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceYPIdeal.lean ====
abbrev S16384x1024 : Shape := ⟨2, ![16384, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024, .f32⟩
  | .hbm, ⟨7, _⟩ => ⟨S16384x1024, .f32⟩
  | .hbm, ⟨8, _⟩ => ⟨S1024x1024, .f32⟩
  | .hbm, ⟨9, _⟩ => ⟨S16384x1024, .f32⟩
  | .hbm, ⟨10, _⟩ => ⟨S16384x1024, .f32⟩
  | .hbm, ⟨11, _⟩ => ⟨S1x1024, .f32⟩
  | .hbm, ⟨12, _⟩ => ⟨S1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S1x1024x5632, .f32⟩
  | .hbm, ⟨30, _⟩ => ⟨S1024x5632, .f32⟩
  | .hbm, ⟨31, _⟩ => ⟨S1x2816x1024, .f32⟩
  | .hbm, ⟨32, _⟩ => ⟨S2816x1024, .f32⟩
  | .hbm, ⟨33, _⟩ => ⟨S16384x5632, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== KernelYS.lean ====
abbrev S2048x1024 : Shape := ⟨2, ![2048, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 16
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S1024, .f32⟩
  | .hbm, ⟨11, _⟩ => ⟨S2x1024x5632, .bf16⟩
  | .hbm, ⟨12, _⟩ => ⟨S2x2816x1024, .bf16⟩
  | .hbm, ⟨13, _⟩ => ⟨S1x1024, .f32⟩
  | .hbm, ⟨14, _⟩ => ⟨S1x1024, .f32⟩
  | .hbm, ⟨15, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024x5632, .bf16⟩
  | .local _ .vmem, ⟨7, _⟩ => ⟨S1x2816x1024, .bf16⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceYSIdeal.lean ====
abbrev S2048x1024 : Shape := ⟨2, ![2048, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2048x5632 : Shape := ⟨2, ![2048, 5632]⟩
abbrev S2048x2816 : Shape := ⟨2, ![2048, 2816]⟩

abbrev nBuf : Space → Nat
  | .hbm => 64
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x2816x1024, .f32⟩
  | .hbm, ⟨6, _⟩ => ⟨S1024, .f32⟩
  | .hbm, ⟨7, _⟩ => ⟨S2048x1024, .f32⟩
  | .hbm, ⟨8, _⟩ => ⟨S1024x1024, .f32⟩
  | .hbm, ⟨9, _⟩ => ⟨S2048x1024, .f32⟩
  | .hbm, ⟨10, _⟩ => ⟨S2048x1024, .f32⟩
  | .hbm, ⟨11, _⟩ => ⟨S1x1024, .f32⟩
  | .hbm, ⟨12, _⟩ => ⟨S1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S1x1024x5632, .f32⟩
  | .hbm, ⟨30, _⟩ => ⟨S1024x5632, .f32⟩
  | .hbm, ⟨31, _⟩ => ⟨S1x2816x1024, .f32⟩
  | .hbm, ⟨32, _⟩ => ⟨S2816x1024, .f32⟩
  | .hbm, ⟨33, _⟩ => ⟨S2048x5632, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S1x1024, .f32⟩
  | .hbm, ⟨62, _⟩ => ⟨S2048x1024, .f32⟩
  | .hbm, ⟨63, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== KernelFP.lean ====
abbrev S16384x1024 : Shape := ⟨2, ![16384, 1024]⟩
abbrev S2x1024 : Shape := ⟨2, ![2, 1024]⟩
abbrev S1x1024x3088 : Shape := ⟨3, ![1, 1024, 3088]⟩
abbrev S1x16 : Shape := ⟨2, ![1, 16]⟩
abbrev S1024x3088 : Shape := ⟨2, ![1024, 3088]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S1x128 : Shape := ⟨2, ![1, 128]⟩
abbrev S1024x1024 : Shape := ⟨2, ![1024, 1024]⟩
abbrev S1x1024 : Shape := ⟨2, ![1, 1024]⟩
abbrev S1024 : Shape := ⟨1, ![1024]⟩
abbrev S4x16x4096x64 : Shape := ⟨4, ![4, 16, 4096, 64]⟩
abbrev S4x16x64x4096 : Shape := ⟨4, ![4, 16, 64, 4096]⟩
abbrev S16384x128 : Shape := ⟨2, ![16384, 128]⟩
abbrev S512x1024 : Shape := ⟨2, ![512, 1024]⟩
abbrev S1x16x512x64 : Shape := ⟨4, ![1, 16, 512, 64]⟩
abbrev S1x16x64x512 : Shape := ⟨4, ![1, 16, 64, 512]⟩
abbrev S512x128 : Shape := ⟨2, ![512, 128]⟩
abbrev S512 : Shape := ⟨1, ![512]⟩
abbrev S512x1 : Shape := ⟨2, ![512, 1]⟩
abbrev S512x64 : Shape := ⟨2, ![512, 64]⟩
abbrev S1x1x512x64 : Shape := ⟨4, ![1, 1, 512, 64]⟩
abbrev S1024x512 : Shape := ⟨2, ![1024, 512]⟩
abbrev S64x512 : Shape := ⟨2, ![64, 512]⟩
abbrev S1x1x64x512 : Shape := ⟨4, ![1, 1, 64, 512]⟩

abbrev nBuf : Space → Nat
  | .hbm => 30
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3088, .f32⟩
  | .hbm, ⟨3, _⟩ => ⟨S1x16, .f32⟩
  | .hbm, ⟨4, _⟩ => ⟨S1024x3088, .f32⟩
  | .hbm, ⟨5, _⟩ => ⟨S1024x16, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S16, .f32⟩
  | .hbm, ⟨11, _⟩ => ⟨S1x16, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024, .f32⟩
  | .hbm, ⟨20, _⟩ => ⟨S1024x1024, .bf16⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .bf16⟩
  | .hbm, ⟨25, _⟩ => ⟨S1x1024, .f32⟩
  | .hbm, ⟨26, _⟩ => ⟨S4x16x4096x64, .f32⟩
  | .hbm, ⟨27, _⟩ => ⟨S4x16x64x4096, .f32⟩
  | .hbm, ⟨28, _⟩ => ⟨S4x16x64x4096, .f32⟩
  | .hbm, ⟨29, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S1x128, .f32⟩
  | .local _ .vmem, ⟨8, _⟩ => ⟨S1x16x512x64, .f32⟩
  | .local _ .vmem, ⟨9, _⟩ => ⟨S1x16x512x64, .f32⟩
  | .local _ .vmem, ⟨10, _⟩ => ⟨S1x16x64x512, .f32⟩
  | .local _ .vmem, ⟨11, _⟩ => ⟨S1x16x64x512, .f32⟩
  | .local _ .vmem, ⟨12, _⟩ => ⟨S1x16x64x512, .f32⟩
  | .local _ .vmem, ⟨13, _⟩ => ⟨S1x16x64x512, .f32⟩
  | .local _ .vmem, ⟨14, _⟩ => ⟨S512x128, .f32⟩
  | .local _ .vmem, ⟨15, _⟩ => ⟨S512x128, .f32⟩
  | .local _ .vmem, ⟨16, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

def cc0_transform_8 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

def cc0_transform_9 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceFPIdeal.lean ====
abbrev S16384x1024 : Shape := ⟨2, ![16384, 1024]⟩
abbrev S2x1024 : Shape := ⟨2, ![2, 1024]⟩
abbrev S1x1024x3088 : Shape := ⟨3, ![1, 1024, 3088]⟩
abbrev S1x16 : Shape := ⟨2, ![1, 16]⟩
abbrev S4x4096x1024 : Shape := ⟨3, ![4, 4096, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3088 : Shape := ⟨2, ![1024, 3088]⟩
abbrev S4x4096x3088 : Shape := ⟨3, ![4, 4096, 3088]⟩
abbrev S4x4096x16 : Shape := ⟨3, ![4, 4096, 16]⟩
abbrev S16 : Shape := ⟨1, ![16]⟩
abbrev S1x1x16 : Shape := ⟨3, ![1, 1, 16]⟩
abbrev S4x4096x128 : Shape := ⟨3, ![4, 4096, 128]⟩
abbrev S4x4096x16x64 : Shape := ⟨4, ![4, 4096, 16, 64]⟩
abbrev S4x16x4096x64 : Shape := ⟨4, ![4, 16, 4096, 64]⟩
abbrev S16384x128 : Shape := ⟨2, ![16384, 128]⟩
abbrev S4x16x64x4096 : Shape := ⟨4, ![4, 16, 64, 4096]⟩

abbrev nBuf : Space → Nat
  | .hbm => 61
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3088, .f32⟩
  | .hbm, ⟨3, _⟩ => ⟨S1x16, .f32⟩
  | .hbm, ⟨4, _⟩ => ⟨S4x4096x1024, .f32⟩
  | .hbm, ⟨5, _⟩ => ⟨S1x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1024x3088, .f32⟩
  | .hbm, ⟨24, _⟩ => ⟨S4x4096x3088, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S4x4096x16, .f32⟩
  | .hbm, ⟨29, _⟩ => ⟨S16, .f32⟩
  | .hbm, ⟨30, _⟩ => ⟨S1x1x16, .f32⟩
  | .hbm, ⟨31, _⟩ => ⟨S4x4096x16, .f32⟩
  | .hbm, ⟨32, _⟩ => ⟨S4x4096x16, .f32⟩
  | .hbm, ⟨33, _⟩ => ⟨S_, .i32⟩
  | .hbm, ⟨34, _⟩ => ⟨S_, .f32⟩
  | .hbm, ⟨35, _⟩ => ⟨S4x4096x128, .f32⟩
  | .hbm, ⟨36, _⟩ => ⟨S4x4096x128, .f32⟩
  | .hbm, ⟨37, _⟩ => ⟨S_, .f32⟩
  | .hbm, ⟨38, _⟩ => ⟨S4x4096x128, .f32⟩
  | .hbm, ⟨39, _⟩ => ⟨S4x4096x128, .f32⟩
  | .hbm, ⟨40, _⟩ => ⟨S4x4096x128, .f32⟩
  | .hbm, ⟨41, _⟩ => ⟨S4x4096x128, .f32⟩
  | .hbm, ⟨42, _⟩ => ⟨S4x4096x128, .i1⟩
  | .hbm, ⟨43, _⟩ => ⟨S4x4096x128, .f32⟩
  | .hbm, ⟨44, _⟩ => ⟨S4x4096x128, .f32⟩
  | .hbm, ⟨45, _⟩ => ⟨S4x4096x128, .f32⟩
  | .hbm, ⟨46, _⟩ => ⟨S4x4096x128, .f32⟩
  | .hbm, ⟨47, _⟩ => ⟨S4x4096x128, .f32⟩
  | .hbm, ⟨48, _⟩ => ⟨S4x4096x128, .f32⟩
  | .hbm, ⟨49, _⟩ => ⟨S4x4096x128, .f32⟩
  | .hbm, ⟨50, _⟩ => ⟨S4x4096x128, .f32⟩
  | .hbm, ⟨51, _⟩ => ⟨S4x4096x128, .f32⟩
  | .hbm, ⟨52, _⟩ => ⟨S4x4096x16x64, .f32⟩
  | .hbm, ⟨53, _⟩ => ⟨S4x16x4096x64, .f32⟩
  | .hbm, ⟨54, _⟩ => ⟨S4x4096x16x64, .f32⟩
  | .hbm, ⟨55, _⟩ => ⟨S4x16x4096x64, .f32⟩
  | .hbm, ⟨56, _⟩ => ⟨S4x4096x16x64, .f32⟩
  | .hbm, ⟨57, _⟩ => ⟨S4x16x4096x64, .f32⟩
  | .hbm, ⟨58, _⟩ => ⟨S16384x128, .f32⟩
  | .hbm, ⟨59, _⟩ => ⟨S4x16x64x4096, .f32⟩
  | .hbm, ⟨60, _⟩ => ⟨S4x16x64x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_call0_v0 : Ref sig .tc := ⟨.hbm, 34, rfl⟩
abbrev main_v26 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== KernelFS.lean ====
abbrev S2048x1024 : Shape := ⟨2, ![2048, 1024]⟩
abbrev S2x1024 : Shape := ⟨2, ![2, 1024]⟩
abbrev S1x1024x3088 : Shape := ⟨3, ![1, 1024, 3088]⟩
abbrev S1x16 : Shape := ⟨2, ![1, 16]⟩
abbrev S1024x3088 : Shape := ⟨2, ![1024, 3088]⟩
abbrev S1024x16 : Shape := ⟨2, ![1024, 16]⟩
abbrev S_ : Shape := ⟨0, ![]⟩
abbrev S1024x128 : Shape := ⟨2, ![1024, 128]⟩
abbrev S16 : Shape := ⟨1, ![16]⟩
abbrev S1x128 : Shape := ⟨2, ![1, 128]⟩
abbrev S1024x1024 : Shape := ⟨2, ![1024, 1024]⟩
abbrev S1x1024 : Shape := ⟨2, ![1, 1024]⟩
abbrev S1024 : Shape := ⟨1, ![1024]⟩
abbrev S32x16x64x64 : Shape := ⟨4, ![32, 16, 64, 64]⟩
abbrev S2048x128 : Shape := ⟨2, ![2048, 128]⟩
abbrev S512x1024 : Shape := ⟨2, ![512, 1024]⟩
abbrev S8x16x64x64 : Shape := ⟨4, ![8, 16, 64, 64]⟩
abbrev S512x128 : Shape := ⟨2, ![512, 128]⟩
abbrev S512 : Shape := ⟨1, ![512]⟩
abbrev S512x1 : Shape := ⟨2, ![512, 1]⟩
abbrev S64x64 : Shape := ⟨2, ![64, 64]⟩
abbrev S1x1x64x64 : Shape := ⟨4, ![1, 1, 64, 64]⟩

abbrev nBuf : Space → Nat
  | .hbm => 28
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2x1024, .f32⟩
  | .hbm, ⟨2, _⟩ => ⟨S1x1024x3088, .f32⟩
  | .hbm, ⟨3, _⟩ => ⟨S1x16, .f32⟩
  | .hbm, ⟨4, _⟩ => ⟨S1024x3088, .f32⟩
  | .hbm, ⟨5, _⟩ => ⟨S1024x16, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S16, .f32⟩
  | .hbm, ⟨11, _⟩ => ⟨S1x16, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024, .f32⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S32x16x64x64, .f32⟩
  | .hbm, ⟨25, _⟩ => ⟨S32x16x64x64, .f32⟩
  | .hbm, ⟨26, _⟩ => ⟨S32x16x64x64, .f32⟩
  | .hbm, ⟨27, _⟩ => ⟨S2048x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S1x128, .f32⟩
  | .local _ .vmem, ⟨8, _⟩ => ⟨S8x16x64x64, .f32⟩
  | .local _ .vmem, ⟨9, _⟩ => ⟨S8x16x64x64, .f32⟩
  | .local _ .vmem, ⟨10, _⟩ => ⟨S8x16x64x64, .f32⟩
  | .local _ .vmem, ⟨11, _⟩ => ⟨S8x16x64x64, .f32⟩
  | .local _ .vmem, ⟨12, _⟩ => ⟨S8x16x64x64, .f32⟩
  | .local _ .vmem, ⟨13, _⟩ => ⟨S8x16x64x64, .f32⟩
  | .local _ .vmem, ⟨14, _⟩ => ⟨S512x128, .f32⟩
  | .local _ .vmem, ⟨15, _⟩ => ⟨S512x128, .f32⟩
  | .local _ .vmem, ⟨16, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v16_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S8x16x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x16x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x16x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceFSIdeal.lean ====
abbrev S2048x1024 : Shape := ⟨2, ![2048, 1024]⟩
abbrev S2x1024 : Shape := ⟨2, ![2, 1024]⟩
abbrev S1x1024x3088 : Shape := ⟨3, ![1, 1024, 3088]⟩
abbrev S1x16 : Shape := ⟨2, ![1, 16]⟩
abbrev S32x64x1024 : Shape := ⟨3, ![32, 64, 1024]⟩
abbrev S1x1024 : Shape := ⟨2, ![1, 1024]⟩
abbrev S1024 : Shape := ⟨1, ![1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S1024x3088 : Shape := ⟨2, ![1024, 3088]⟩
abbrev S32x64x3088 : Shape := ⟨3, ![32, 64, 3088]⟩
abbrev S32x64x16 : Shape := ⟨3, ![32, 64, 16]⟩
abbrev S16 : Shape := ⟨1, ![16]⟩
abbrev S1x1x16 : Shape := ⟨3, ![1, 1, 16]⟩
abbrev S32x64x128 : Shape := ⟨3, ![32, 64, 128]⟩
abbrev S32x64x16x64 : Shape := ⟨4, ![32, 64, 16, 64]⟩
abbrev S32x16x64x64 : Shape := ⟨4, ![32, 16, 64, 64]⟩
abbrev S2048x128 : Shape := ⟨2, ![2048, 128]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1024, .f32⟩
  | .hbm, ⟨2, _⟩ => ⟨S1x1024x3088, .f32⟩
  | .hbm, ⟨3, _⟩ => ⟨S1x16, .f32⟩
  | .hbm, ⟨4, _⟩ => ⟨S32x64x1024, .f32⟩
  | .hbm, ⟨5, _⟩ => ⟨S1x1024, .f32⟩
  | .hbm, ⟨6, _⟩ => ⟨S1024, .f32⟩
  | .hbm, ⟨7, _⟩ => ⟨S32x64x1024, .f32⟩
  | .hbm, ⟨8, _⟩ => ⟨S_, .f32⟩
  | .hbm, ⟨9, _⟩ => ⟨S32x64, .f32⟩
  | .hbm, ⟨10, _⟩ => ⟨S32x64x1, .f32⟩
  | .hbm, ⟨11, _⟩ => ⟨S_, .f32⟩
  | .hbm, ⟨12, _⟩ => ⟨S32x64x1, .f32⟩
  | .hbm, ⟨13, _⟩ => ⟨S32x64x1, .f32⟩
  | .hbm, ⟨14, _⟩ => ⟨S_, .f32⟩
  | .hbm, ⟨15, _⟩ => ⟨S32x64x1, .f32⟩
  | .hbm, ⟨16, _⟩ => ⟨S32x64x1, .f32⟩
  | .hbm, ⟨17, _⟩ => ⟨S32x64x1, .f32⟩
  | .hbm, ⟨18, _⟩ => ⟨S32x64x1024, .f32⟩
  | .hbm, ⟨19, _⟩ => ⟨S32x64x1024, .f32⟩
  | .hbm, ⟨20, _⟩ => ⟨S1x1x1024, .f32⟩
  | .hbm, ⟨21, _⟩ => ⟨S32x64x1024, .f32⟩
  | .hbm, ⟨22, _⟩ => ⟨S32x64x1024, .f32⟩
  | .hbm, ⟨23, _⟩ => ⟨S1024x3088, .f32⟩
  | .hbm, ⟨24, _⟩ => ⟨S32x64x3088, .f32⟩
  | .hbm, ⟨25, _⟩ => ⟨S32x64x1024, .f32⟩
  | .hbm, ⟨26, _⟩ => ⟨S32x64x1024, .f32⟩
  | .hbm, ⟨27, _⟩ => ⟨S32x64x1024, .f32⟩
  | .hbm, ⟨28, _⟩ => ⟨S32x64x16, .f32⟩
  | .hbm, ⟨29, _⟩ => ⟨S16, .f32⟩
  | .hbm, ⟨30, _⟩ => ⟨S1x1x16, .f32⟩
  | .hbm, ⟨31, _⟩ => ⟨S32x64x16, .f32⟩
  | .hbm, ⟨32, _⟩ => ⟨S32x64x16, .f32⟩
  | .hbm, ⟨33, _⟩ => ⟨S_, .i32⟩
  | .hbm, ⟨34, _⟩ => ⟨S_, .f32⟩
  | .hbm, ⟨35, _⟩ => ⟨S32x64x128, .f32⟩
  | .hbm, ⟨36, _⟩ => ⟨S32x64x128, .f32⟩
  | .hbm, ⟨37, _⟩ => ⟨S_, .f32⟩
  | .hbm, ⟨38, _⟩ => ⟨S32x64x128, .f32⟩
  | .hbm, ⟨39, _⟩ => ⟨S32x64x128, .f32⟩
  | .hbm, ⟨40, _⟩ => ⟨S32x64x128, .f32⟩
  | .hbm, ⟨41, _⟩ => ⟨S32x64x128, .f32⟩
  | .hbm, ⟨42, _⟩ => ⟨S32x64x128, .i1⟩
  | .hbm, ⟨43, _⟩ => ⟨S32x64x128, .f32⟩
  | .hbm, ⟨44, _⟩ => ⟨S32x64x128, .f32⟩
  | .hbm, ⟨45, _⟩ => ⟨S32x64x128, .f32⟩
  | .hbm, ⟨46, _⟩ => ⟨S32x64x128, .f32⟩
  | .hbm, ⟨47, _⟩ => ⟨S32x64x128, .f32⟩
  | .hbm, ⟨48, _⟩ => ⟨S32x64x128, .f32⟩
  | .hbm, ⟨49, _⟩ => ⟨S32x64x128, .f32⟩
  | .hbm, ⟨50, _⟩ => ⟨S32x64x128, .f32⟩
  | .hbm, ⟨51, _⟩ => ⟨S32x64x128, .f32⟩
  | .hbm, ⟨52, _⟩ => ⟨S32x64x16x64, .f32⟩
  | .hbm, ⟨53, _⟩ => ⟨S32x16x64x64, .f32⟩
  | .hbm, ⟨54, _⟩ => ⟨S32x64x16x64, .f32⟩
  | .hbm, ⟨55, _⟩ => ⟨S32x16x64x64, .f32⟩
  | .hbm, ⟨56, _⟩ => ⟨S32x64x16x64, .f32⟩
  | .hbm, ⟨57, _⟩ => ⟨S32x16x64x64, .f32⟩
  | .hbm, ⟨58, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_call0_v0 : Ref sig .tc := ⟨.hbm, 34, rfl⟩
abbrev main_v26 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== KernelAP.lean ====
abbrev S16384x1024 : Shape := ⟨2, ![16384, 1024]⟩
abbrev S2x1024 : Shape := ⟨2, ![2, 1024]⟩
abbrev S1x1024x3592 : Shape := ⟨3, ![1, 1024, 3592]⟩
abbrev S1x8 : Shape := ⟨2, ![1, 8]⟩
abbrev S1024x3592 : Shape := ⟨2, ![1024, 3592]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S1x128 : Shape := ⟨2, ![1, 128]⟩
abbrev S1x1024 : Shape := ⟨2, ![1, 1024]⟩
abbrev S1024 : Shape := ⟨1, ![1024]⟩
abbrev S512x1024 : Shape := ⟨2, ![512, 1024]⟩
abbrev S16384x512 : Shape := ⟨2, ![16384, 512]⟩
abbrev S4x8x4096x64 : Shape := ⟨4, ![4, 8, 4096, 64]⟩
abbrev S4x8x64x4096 : Shape := ⟨4, ![4, 8, 64, 4096]⟩
abbrev S16384x128 : Shape := ⟨2, ![16384, 128]⟩
abbrev S512x512 : Shape := ⟨2, ![512, 512]⟩
abbrev S1x8x512x64 : Shape := ⟨4, ![1, 8, 512, 64]⟩
abbrev S1x8x64x512 : Shape := ⟨4, ![1, 8, 64, 512]⟩
abbrev S512x128 : Shape := ⟨2, ![512, 128]⟩
abbrev S512 : Shape := ⟨1, ![512]⟩
abbrev S512x1 : Shape := ⟨2, ![512, 1]⟩
abbrev S512x64 : Shape := ⟨2, ![512, 64]⟩
abbrev S1x1x512x64 : Shape := ⟨4, ![1, 1, 512, 64]⟩
abbrev S64x512 : Shape := ⟨2, ![64, 512]⟩
abbrev S1x1x64x512 : Shape := ⟨4, ![1, 1, 64, 512]⟩

abbrev nBuf : Space → Nat
  | .hbm => 42
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3592, .f32⟩
  | .hbm, ⟨3, _⟩ => ⟨S1x8, .f32⟩
  | .hbm, ⟨4, _⟩ => ⟨S1024x3592, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x8, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S8, .f32⟩
  | .hbm, ⟨18, _⟩ => ⟨S1x8, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S1x1024, .f32⟩
  | .hbm, ⟨23, _⟩ => ⟨S1024, .f32⟩
  | .hbm, ⟨24, _⟩ => ⟨S1024x512, .bf16⟩
  | .hbm, ⟨25, _⟩ => ⟨S1024x512, .bf16⟩
  | .hbm, ⟨26, _⟩ => ⟨S1024x512, .bf16⟩
  | .hbm, ⟨27, _⟩ => ⟨S1024x512, .bf16⟩
  | .hbm, ⟨28, _⟩ => ⟨S1024x512, .bf16⟩
  | .hbm, ⟨29, _⟩ => ⟨S512x1024, .f32⟩
  | .hbm, ⟨30, _⟩ => ⟨S512x1024, .bf16⟩
  | .hbm, ⟨31, _⟩ => ⟨S512x1024, .f32⟩
  | .hbm, ⟨32, _⟩ => ⟨S512x1024, .bf16⟩
  | .hbm, ⟨33, _⟩ => ⟨S1x1024, .f32⟩
  | .hbm, ⟨34, _⟩ => ⟨S16384x512, .bf16⟩
  | .hbm, ⟨35, _⟩ => ⟨S16384x512, .bf16⟩
  | .hbm, ⟨36, _⟩ => ⟨S16384x512, .bf16⟩
  | .hbm, ⟨37, _⟩ => ⟨S16384x512, .f32⟩
  | .hbm, ⟨38, _⟩ => ⟨S4x8x4096x64, .f32⟩
  | .hbm, ⟨39, _⟩ => ⟨S4x8x64x4096, .f32⟩
  | .hbm, ⟨40, _⟩ => ⟨S4x8x64x4096, .f32⟩
  | .hbm, ⟨41, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .vmem, ⟨9, _⟩ => ⟨S512x1024, .bf16⟩
  | .local _ .vmem, ⟨10, _⟩ => ⟨S1024x128, .bf16⟩
  | .local _ .vmem, ⟨11, _⟩ => ⟨S1x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S1x8x512x64, .f32⟩
  | .local _ .vmem, ⟨21, _⟩ => ⟨S1x8x512x64, .f32⟩
  | .local _ .vmem, ⟨22, _⟩ => ⟨S1x8x64x512, .f32⟩
  | .local _ .vmem, ⟨23, _⟩ => ⟨S1x8x64x512, .f32⟩
  | .local _ .vmem, ⟨24, _⟩ => ⟨S1x8x64x512, .f32⟩
  | .local _ .vmem, ⟨25, _⟩ => ⟨S1x8x64x512, .f32⟩
  | .local _ .vmem, ⟨26, _⟩ => ⟨S512x128, .f32⟩
  | .local _ .vmem, ⟨27, _⟩ => ⟨S512x128, .f32⟩
  | .local _ .vmem, ⟨28, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev main_v26_3 : Ref sig .tc := ⟨.hbm, 37, rfl⟩
abbrev main_v26_4 : Ref sig .tc := ⟨.hbm, 38, rfl⟩
abbrev main_v26_5 : Ref sig .tc := ⟨.hbm, 39, rfl⟩
abbrev main_v26_6 : Ref sig .tc := ⟨.hbm, 40, rfl⟩
abbrev main_v26_7 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![32, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

def cc0_transform_16 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

def cc0_transform_17 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, c0_i32_10.toNat, v26.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x64x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== ReferenceAPIdeal.lean ====
abbrev S16384x1024 : Shape := ⟨2, ![16384, 1024]⟩
abbrev S2x1024 : Shape := ⟨2, ![2, 1024]⟩
abbrev S1x1024x3592 : Shape := ⟨3, ![1, 1024, 3592]⟩
abbrev S1x8 : Shape := ⟨2, ![1, 8]⟩
abbrev S4x4096x1024 : Shape := ⟨3, ![4, 4096, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3592 : Shape := ⟨2, ![1024, 3592]⟩
abbrev S4x4096x3592 : Shape := ⟨3, ![4, 4096, 3592]⟩
abbrev S4x4096x512 : Shape := ⟨3, ![4, 4096, 512]⟩
abbrev S4x4096x8 : Shape := ⟨3, ![4, 4096, 8]⟩
abbrev S8 : Shape := ⟨1, ![8]⟩
abbrev S1x1x8 : Shape := ⟨3, ![1, 1, 8]⟩
abbrev S4x4096x128 : Shape := ⟨3, ![4, 4096, 128]⟩
abbrev S4x4096x4 : Shape := ⟨3, ![4, 4096, 4]⟩
abbrev S4x4096x124 : Shape := ⟨3, ![4, 4096, 124]⟩
abbrev S16384x512 : Shape := ⟨2, ![16384, 512]⟩
abbrev S4x4096x8x64 : Shape := ⟨4, ![4, 4096, 8, 64]⟩
abbrev S4x8x4096x64 : Shape := ⟨4, ![4, 8, 4096, 64]⟩
abbrev S16384x128 : Shape := ⟨2, ![16384, 128]⟩
abbrev S4x8x64x4096 : Shape := ⟨4, ![4, 8, 64, 4096]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S1x1024x3592, .f32⟩
  | .hbm, ⟨3, _⟩ => ⟨S1x8, .f32⟩
  | .hbm, ⟨4, _⟩ => ⟨S4x4096x1024, .f32⟩
  | .hbm, ⟨5, _⟩ => ⟨S1x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1024x3592, .f32⟩
  | .hbm, ⟨24, _⟩ => ⟨S4x4096x3592, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x8, .f32⟩
  | .hbm, ⟨30, _⟩ => ⟨S4x4096x512, .f32⟩
  | .hbm, ⟨31, _⟩ => ⟨S4x4096x512, .f32⟩
  | .hbm, ⟨32, _⟩ => ⟨S4x4096x512, .f32⟩
  | .hbm, ⟨33, _⟩ => ⟨S8, .f32⟩
  | .hbm, ⟨34, _⟩ => ⟨S1x1x8, .f32⟩
  | .hbm, ⟨35, _⟩ => ⟨S4x4096x8, .f32⟩
  | .hbm, ⟨36, _⟩ => ⟨S4x4096x8, .f32⟩
  | .hbm, ⟨37, _⟩ => ⟨S_, .i32⟩
  | .hbm, ⟨38, _⟩ => ⟨S_, .f32⟩
  | .hbm, ⟨39, _⟩ => ⟨S4x4096x128, .f32⟩
  | .hbm, ⟨40, _⟩ => ⟨S4x4096x4, .f32⟩
  | .hbm, ⟨41, _⟩ => ⟨S4x4096x124, .f32⟩
  | .hbm, ⟨42, _⟩ => ⟨S4x4096x124, .f32⟩
  | .hbm, ⟨43, _⟩ => ⟨S_, .f32⟩
  | .hbm, ⟨44, _⟩ => ⟨S4x4096x124, .f32⟩
  | .hbm, ⟨45, _⟩ => ⟨S4x4096x124, .f32⟩
  | .hbm, ⟨46, _⟩ => ⟨S4x4096x124, .f32⟩
  | .hbm, ⟨47, _⟩ => ⟨S4x4096x124, .f32⟩
  | .hbm, ⟨48, _⟩ => ⟨S4x4096x124, .i1⟩
  | .hbm, ⟨49, _⟩ => ⟨S4x4096x124, .f32⟩
  | .hbm, ⟨50, _⟩ => ⟨S4x4096x124, .f32⟩
  | .hbm, ⟨51, _⟩ => ⟨S4x4096x124, .f32⟩
  | .hbm, ⟨52, _⟩ => ⟨S4x4096x124, .f32⟩
  | .hbm, ⟨53, _⟩ => ⟨S4x4096x124, .f32⟩
  | .hbm, ⟨54, _⟩ => ⟨S4x4096x124, .f32⟩
  | .hbm, ⟨55, _⟩ => ⟨S4x4096x124, .f32⟩
  | .hbm, ⟨56, _⟩ => ⟨S4x4096x124, .f32⟩
  | .hbm, ⟨57, _⟩ => ⟨S4x4096x124, .f32⟩
  | .hbm, ⟨58, _⟩ => ⟨S16384x512, .f32⟩
  | .hbm, ⟨59, _⟩ => ⟨S16384x512, .bf16⟩
  | .hbm, ⟨60, _⟩ => ⟨S_, .f32⟩
  | .hbm, ⟨61, _⟩ => ⟨S4x4096x512, .f32⟩
  | .hbm, ⟨62, _⟩ => ⟨S4x4096x512, .f32⟩
  | .hbm, ⟨63, _⟩ => ⟨S16384x512, .f32⟩
  | .hbm, ⟨64, _⟩ => ⟨S16384x512, .bf16⟩
  | .hbm, ⟨65, _⟩ => ⟨S16384x512, .f32⟩
  | .hbm, ⟨66, _⟩ => ⟨S16384x512, .bf16⟩
  | .hbm, ⟨67, _⟩ => ⟨S16384x512, .f32⟩
  | .hbm, ⟨68, _⟩ => ⟨S4x4096x8x64, .f32⟩
  | .hbm, ⟨69, _⟩ => ⟨S4x8x4096x64, .f32⟩
  | .hbm, ⟨70, _⟩ => ⟨S4x4096x8x64, .f32⟩
  | .hbm, ⟨71, _⟩ => ⟨S4x8x4096x64, .f32⟩
  | .hbm, ⟨72, _⟩ => ⟨S4x4096x8x64, .f32⟩
  | .hbm, ⟨73, _⟩ => ⟨S4x8x4096x64, .f32⟩
  | .hbm, ⟨74, _⟩ => ⟨S4x4096x128, .f32⟩
  | .hbm, ⟨75, _⟩ => ⟨S16384x128, .f32⟩
  | .hbm, ⟨76, _⟩ => ⟨S4x8x64x4096, .f32⟩
  | .hbm, ⟨77, _⟩ => ⟨S4x8x64x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_call0_v0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call1_v0 : Ref sig .tc := ⟨.hbm, 42, rfl⟩
abbrev main_call1_call0_cst : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_call0_v2 : Ref sig .tc := ⟨.hbm, 46, rfl⟩
abbrev main_call1_call0_v3 : Ref sig .tc := ⟨.hbm, 47, rfl⟩
abbrev main_call1_call0_v4 : Ref sig .tc := ⟨.hbm, 48, rfl⟩
abbrev main_call1_call0_v5 : Ref sig .tc := ⟨.hbm, 49, rfl⟩
abbrev main_call1_call0_v6 : Ref sig .tc := ⟨.hbm, 50, rfl⟩
abbrev main_call1_call0_v7 : Ref sig .tc := ⟨.hbm, 51, rfl⟩
abbrev main_call1_call0_v8 : Ref sig .tc := ⟨.hbm, 52, rfl⟩
abbrev main_call1_call0_v9 : Ref sig .tc := ⟨.hbm, 53, rfl⟩
abbrev main_call1_call0_v10 : Ref sig .tc := ⟨.hbm, 54, rfl⟩
abbrev main_call1_call0_v11 : Ref sig .tc := ⟨.hbm, 55, rfl⟩
abbrev main_call1_v1 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]
-- ==== KernelAS.lean ====
abbrev S2048x1024 : Shape := ⟨2, ![2048, 1024]⟩
abbrev S2x1024 : Shape := ⟨2, ![2, 1024]⟩
abbrev S1x1024x3592 : Shape := ⟨3, ![1, 1024, 3592]⟩
abbrev S1x8 : Shape := ⟨2, ![1, 8]⟩
abbrev S1024x3592 : Shape := ⟨2, ![1024, 3592]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S1x128 : Shape := ⟨2, ![1, 128]⟩
abbrev S1x1024 : Shape := ⟨2, ![1, 1024]⟩
abbrev S1024 : Shape := ⟨1, ![1024]⟩
abbrev S2048x512 : Shape := ⟨2, ![2048, 512]⟩
abbrev S32x8x64x64 : Shape := ⟨4, ![32, 8, 64, 64]⟩
abbrev S2048x128 : Shape := ⟨2, ![2048, 128]⟩
abbrev S512x1024 : Shape := ⟨2, ![512, 1024]⟩
abbrev S512x512 : Shape := ⟨2, ![512, 512]⟩
abbrev S8x8x64x64 : Shape := ⟨4, ![8, 8, 64, 64]⟩
abbrev S512x128 : Shape := ⟨2, ![512, 128]⟩
abbrev S512 : Shape := ⟨1, ![512]⟩
abbrev S512x1 : Shape := ⟨2, ![512, 1]⟩
abbrev S64x64 : Shape := ⟨2, ![64, 64]⟩
abbrev S1x1x64x64 : Shape := ⟨4, ![1, 1, 64, 64]⟩

abbrev nBuf : Space → Nat
  | .hbm => 40
  | .vmem => 29
  | .smem => 0
  | _ => 0

abbrev bufTy : (tb : Table) → Fin (tcTables nBuf tb) → BufTy
  | .hbm, ⟨0, _⟩ => ⟨S2048x1024, .f32⟩
  | .hbm, ⟨1, _⟩ => ⟨S2x1024, .f32⟩
  | .hbm, ⟨2, _⟩ => ⟨S1x1024x3592, .f32⟩
  | .hbm, ⟨3, _⟩ => ⟨S1x8, .f32⟩
  | .hbm, ⟨4, _⟩ => ⟨S1024x3592, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x8, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S8, .f32⟩
  | .hbm, ⟨18, _⟩ => ⟨S1x8, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S1x1024, .f32⟩
  | .hbm, ⟨23, _⟩ => ⟨S1024, .f32⟩
  | .hbm, ⟨24, _⟩ => ⟨S1024x512, .bf16⟩
  | .hbm, ⟨25, _⟩ => ⟨S1024x512, .bf16⟩
  | .hbm, ⟨26, _⟩ => ⟨S1024x512, .bf16⟩
  | .hbm, ⟨27, _⟩ => ⟨S1024x512, .bf16⟩
  | .hbm, ⟨28, _⟩ => ⟨S1024x512, .bf16⟩
  | .hbm, ⟨29, _⟩ => ⟨S1024x512, .bf16⟩
  | .hbm, ⟨30, _⟩ => ⟨S1024x512, .bf16⟩
  | .hbm, ⟨31, _⟩ => ⟨S1x1024, .f32⟩
  | .hbm, ⟨32, _⟩ => ⟨S2048x512, .bf16⟩
  | .hbm, ⟨33, _⟩ => ⟨S2048x512, .bf16⟩
  | .hbm, ⟨34, _⟩ => ⟨S2048x512, .bf16⟩
  | .hbm, ⟨35, _⟩ => ⟨S2048x512, .f32⟩
  | .hbm, ⟨36, _⟩ => ⟨S32x8x64x64, .f32⟩
  | .hbm, ⟨37, _⟩ => ⟨S32x8x64x64, .f32⟩
  | .hbm, ⟨38, _⟩ => ⟨S32x8x64x64, .f32⟩
  | .hbm, ⟨39, _⟩ => ⟨S2048x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x128, .bf16⟩
  | .local _ .vmem, ⟨11, _⟩ => ⟨S1x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | .local _ .vmem, ⟨20, _⟩ => ⟨S8x8x64x64, .f32⟩
  | .local _ .vmem, ⟨21, _⟩ => ⟨S8x8x64x64, .f32⟩
  | .local _ .vmem, ⟨22, _⟩ => ⟨S8x8x64x64, .f32⟩
  | .local _ .vmem, ⟨23, _⟩ => ⟨S8x8x64x64, .f32⟩
  | .local _ .vmem, ⟨24, _⟩ => ⟨S8x8x64x64, .f32⟩
  | .local _ .vmem, ⟨25, _⟩ => ⟨S8x8x64x64, .f32⟩
  | .local _ .vmem, ⟨26, _⟩ => ⟨S512x128, .f32⟩
  | .local _ .vmem, ⟨27, _⟩ => ⟨S512x128, .f32⟩
  | .local _ .vmem, ⟨28, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev main_v24_3 : Ref sig .tc := ⟨.hbm, 35, rfl⟩
abbrev main_v24_4 : Ref sig .tc := ⟨.hbm, 36, rfl⟩
abbrev main_v24_5 : Ref sig .tc := ⟨.hbm, 37, rfl⟩
abbrev main_v24_6 : Ref sig .tc := ⟨.hbm, 38, rfl⟩
abbrev main_v24_7 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S8x8x64x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x8x64x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S8x8x64x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== ReferenceASIdeal.lean ====
abbrev S2048x1024 : Shape := ⟨2, ![2048, 1024]⟩
abbrev S2x1024 : Shape := ⟨2, ![2, 1024]⟩
abbrev S1x1024x3592 : Shape := ⟨3, ![1, 1024, 3592]⟩
abbrev S1x8 : Shape := ⟨2, ![1, 8]⟩
abbrev S32x64x1024 : Shape := ⟨3, ![32, 64, 1024]⟩
abbrev S1x1024 : Shape := ⟨2, ![1, 1024]⟩
abbrev S1024 : Shape := ⟨1, ![1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S1024x3592 : Shape := ⟨2, ![1024, 3592]⟩
abbrev S32x64x3592 : Shape := ⟨3, ![32, 64, 3592]⟩
abbrev S32x64x512 : Shape := ⟨3, ![32, 64, 512]⟩
abbrev S32x64x8 : Shape := ⟨3, ![32, 64, 8]⟩
abbrev S8 : Shape := ⟨1, ![8]⟩
abbrev S1x1x8 : Shape := ⟨3, ![1, 1, 8]⟩
abbrev S32x64x128 : Shape := ⟨3, ![32, 64, 128]⟩
abbrev S32x64x4 : Shape := ⟨3, ![32, 64, 4]⟩
abbrev S32x64x124 : Shape := ⟨3, ![32, 64, 124]⟩
abbrev S2048x512 : Shape := ⟨2, ![2048, 512]⟩
abbrev S32x64x8x64 : Shape := ⟨4, ![32, 64, 8, 64]⟩
abbrev S32x8x64x64 : Shape := ⟨4, ![32, 8, 64, 64]⟩
abbrev S2048x128 : Shape := ⟨2, ![2048, 128]⟩

abbrev nBuf : Space → Nat
  | .hbm => 76
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2x1024, .f32⟩
  | .hbm, ⟨2, _⟩ => ⟨S1x1024x3592, .f32⟩
  | .hbm, ⟨3, _⟩ => ⟨S1x8, .f32⟩
  | .hbm, ⟨4, _⟩ => ⟨S32x64x1024, .f32⟩
  | .hbm, ⟨5, _⟩ => ⟨S1x1024, .f32⟩
  | .hbm, ⟨6, _⟩ => ⟨S1024, .f32⟩
  | .hbm, ⟨7, _⟩ => ⟨S32x64x1024, .f32⟩
  | .hbm, ⟨8, _⟩ => ⟨S_, .f32⟩
  | .hbm, ⟨9, _⟩ => ⟨S32x64, .f32⟩
  | .hbm, ⟨10, _⟩ => ⟨S32x64x1, .f32⟩
  | .hbm, ⟨11, _⟩ => ⟨S_, .f32⟩
  | .hbm, ⟨12, _⟩ => ⟨S32x64x1, .f32⟩
  | .hbm, ⟨13, _⟩ => ⟨S32x64x1, .f32⟩
  | .hbm, ⟨14, _⟩ => ⟨S_, .f32⟩
  | .hbm, ⟨15, _⟩ => ⟨S32x64x1, .f32⟩
  | .hbm, ⟨16, _⟩ => ⟨S32x64x1, .f32⟩
  | .hbm, ⟨17, _⟩ => ⟨S32x64x1, .f32⟩
  | .hbm, ⟨18, _⟩ => ⟨S32x64x1024, .f32⟩
  | .hbm, ⟨19, _⟩ => ⟨S32x64x1024, .f32⟩
  | .hbm, ⟨20, _⟩ => ⟨S1x1x1024, .f32⟩
  | .hbm, ⟨21, _⟩ => ⟨S32x64x1024, .f32⟩
  | .hbm, ⟨22, _⟩ => ⟨S32x64x1024, .f32⟩
  | .hbm, ⟨23, _⟩ => ⟨S1024x3592, .f32⟩
  | .hbm, ⟨24, _⟩ => ⟨S32x64x3592, .f32⟩
  | .hbm, ⟨25, _⟩ => ⟨S32x64x512, .f32⟩
  | .hbm, ⟨26, _⟩ => ⟨S32x64x512, .f32⟩
  | .hbm, ⟨27, _⟩ => ⟨S32x64x512, .f32⟩
  | .hbm, ⟨28, _⟩ => ⟨S32x64x512, .f32⟩
  | .hbm, ⟨29, _⟩ => ⟨S32x64x8, .f32⟩
  | .hbm, ⟨30, _⟩ => ⟨S32x64x512, .f32⟩
  | .hbm, ⟨31, _⟩ => ⟨S32x64x512, .f32⟩
  | .hbm, ⟨32, _⟩ => ⟨S32x64x512, .f32⟩
  | .hbm, ⟨33, _⟩ => ⟨S8, .f32⟩
  | .hbm, ⟨34, _⟩ => ⟨S1x1x8, .f32⟩
  | .hbm, ⟨35, _⟩ => ⟨S32x64x8, .f32⟩
  | .hbm, ⟨36, _⟩ => ⟨S32x64x8, .f32⟩
  | .hbm, ⟨37, _⟩ => ⟨S_, .i32⟩
  | .hbm, ⟨38, _⟩ => ⟨S_, .f32⟩
  | .hbm, ⟨39, _⟩ => ⟨S32x64x128, .f32⟩
  | .hbm, ⟨40, _⟩ => ⟨S32x64x4, .f32⟩
  | .hbm, ⟨41, _⟩ => ⟨S32x64x124, .f32⟩
  | .hbm, ⟨42, _⟩ => ⟨S32x64x124, .f32⟩
  | .hbm, ⟨43, _⟩ => ⟨S_, .f32⟩
  | .hbm, ⟨44, _⟩ => ⟨S32x64x124, .f32⟩
  | .hbm, ⟨45, _⟩ => ⟨S32x64x124, .f32⟩
  | .hbm, ⟨46, _⟩ => ⟨S32x64x124, .f32⟩
  | .hbm, ⟨47, _⟩ => ⟨S32x64x124, .f32⟩
  | .hbm, ⟨48, _⟩ => ⟨S32x64x124, .i1⟩
  | .hbm, ⟨49, _⟩ => ⟨S32x64x124, .f32⟩
  | .hbm, ⟨50, _⟩ => ⟨S32x64x124, .f32⟩
  | .hbm, ⟨51, _⟩ => ⟨S32x64x124, .f32⟩
  | .hbm, ⟨52, _⟩ => ⟨S32x64x124, .f32⟩
  | .hbm, ⟨53, _⟩ => ⟨S32x64x124, .f32⟩
  | .hbm, ⟨54, _⟩ => ⟨S32x64x124, .f32⟩
  | .hbm, ⟨55, _⟩ => ⟨S32x64x124, .f32⟩
  | .hbm, ⟨56, _⟩ => ⟨S32x64x124, .f32⟩
  | .hbm, ⟨57, _⟩ => ⟨S32x64x124, .f32⟩
  | .hbm, ⟨58, _⟩ => ⟨S2048x512, .f32⟩
  | .hbm, ⟨59, _⟩ => ⟨S2048x512, .bf16⟩
  | .hbm, ⟨60, _⟩ => ⟨S_, .f32⟩
  | .hbm, ⟨61, _⟩ => ⟨S32x64x512, .f32⟩
  | .hbm, ⟨62, _⟩ => ⟨S32x64x512, .f32⟩
  | .hbm, ⟨63, _⟩ => ⟨S2048x512, .f32⟩
  | .hbm, ⟨64, _⟩ => ⟨S2048x512, .bf16⟩
  | .hbm, ⟨65, _⟩ => ⟨S2048x512, .f32⟩
  | .hbm, ⟨66, _⟩ => ⟨S2048x512, .bf16⟩
  | .hbm, ⟨67, _⟩ => ⟨S2048x512, .f32⟩
  | .hbm, ⟨68, _⟩ => ⟨S32x64x8x64, .f32⟩
  | .hbm, ⟨69, _⟩ => ⟨S32x8x64x64, .f32⟩
  | .hbm, ⟨70, _⟩ => ⟨S32x64x8x64, .f32⟩
  | .hbm, ⟨71, _⟩ => ⟨S32x8x64x64, .f32⟩
  | .hbm, ⟨72, _⟩ => ⟨S32x64x8x64, .f32⟩
  | .hbm, ⟨73, _⟩ => ⟨S32x8x64x64, .f32⟩
  | .hbm, ⟨74, _⟩ => ⟨S32x64x128, .f32⟩
  | .hbm, ⟨75, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_call0_v0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call1_v0 : Ref sig .tc := ⟨.hbm, 42, rfl⟩
abbrev main_call1_call0_cst : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_call0_v2 : Ref sig .tc := ⟨.hbm, 46, rfl⟩
abbrev main_call1_call0_v3 : Ref sig .tc := ⟨.hbm, 47, rfl⟩
abbrev main_call1_call0_v4 : Ref sig .tc := ⟨.hbm, 48, rfl⟩
abbrev main_call1_call0_v5 : Ref sig .tc := ⟨.hbm, 49, rfl⟩
abbrev main_call1_call0_v6 : Ref sig .tc := ⟨.hbm, 50, rfl⟩
abbrev main_call1_call0_v7 : Ref sig .tc := ⟨.hbm, 51, rfl⟩
abbrev main_call1_call0_v8 : Ref sig .tc := ⟨.hbm, 52, rfl⟩
abbrev main_call1_call0_v9 : Ref sig .tc := ⟨.hbm, 53, rfl⟩
abbrev main_call1_call0_v10 : Ref sig .tc := ⟨.hbm, 54, rfl⟩
abbrev main_call1_call0_v11 : Ref sig .tc := ⟨.hbm, 55, rfl⟩
abbrev main_call1_v1 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]
-- ==== KernelZP.lean ====
abbrev S16384x1024 : Shape := ⟨2, ![16384, 1024]⟩
abbrev S16384x512 : Shape := ⟨2, ![16384, 512]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S1024x512 : Shape := ⟨2, ![1024, 512]⟩
abbrev S1x1024x5632 : Shape := ⟨3, ![1, 1024, 5632]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 17
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S2x1024x5632, .bf16⟩
  | .hbm, ⟨13, _⟩ => ⟨S2x2816x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024x5632, .bf16⟩
  | .local _ .vmem, ⟨9, _⟩ => ⟨S1x2816x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelZPIdeal.lean ====
abbrev S16384x1024 : Shape := ⟨2, ![16384, 1024]⟩
abbrev S16384x512 : Shape := ⟨2, ![16384, 512]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S1024x512 : Shape := ⟨2, ![1024, 512]⟩
abbrev S1x1024x5632 : Shape := ⟨3, ![1, 1024, 5632]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 17
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S2x1024x5632, .bf16⟩
  | .hbm, ⟨13, _⟩ => ⟨S2x2816x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024x5632, .bf16⟩
  | .local _ .vmem, ⟨9, _⟩ => ⟨S1x2816x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceZPIdeal.lean ====
abbrev S16384x1024 : Shape := ⟨2, ![16384, 1024]⟩
abbrev S16384x512 : Shape := ⟨2, ![16384, 512]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S1024, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S16384x1024, .f32⟩
  | .hbm, ⟨14, _⟩ => ⟨S1x1024, .f32⟩
  | .hbm, ⟨15, _⟩ => ⟨S1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S1x1024x5632, .f32⟩
  | .hbm, ⟨33, _⟩ => ⟨S1024x5632, .f32⟩
  | .hbm, ⟨34, _⟩ => ⟨S1x2816x1024, .f32⟩
  | .hbm, ⟨35, _⟩ => ⟨S2816x1024, .f32⟩
  | .hbm, ⟨36, _⟩ => ⟨S16384x5632, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x1024, .f32⟩
  | .hbm, ⟨50, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== KernelZS.lean ====
abbrev S2048x1024 : Shape := ⟨2, ![2048, 1024]⟩
abbrev S2048x512 : Shape := ⟨2, ![2048, 512]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S1024x512 : Shape := ⟨2, ![1024, 512]⟩
abbrev S1x1024x5632 : Shape := ⟨3, ![1, 1024, 5632]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 17
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S1x1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S1024, .f32⟩
  | .hbm, ⟨12, _⟩ => ⟨S2x1024x5632, .bf16⟩
  | .hbm, ⟨13, _⟩ => ⟨S2x2816x1024, .bf16⟩
  | .hbm, ⟨14, _⟩ => ⟨S1x1024, .f32⟩
  | .hbm, ⟨15, _⟩ => ⟨S1x1024, .f32⟩
  | .hbm, ⟨16, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024x5632, .bf16⟩
  | .local _ .vmem, ⟨9, _⟩ => ⟨S1x2816x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceZSIdeal.lean ====
abbrev S2048x1024 : Shape := ⟨2, ![2048, 1024]⟩
abbrev S2048x512 : Shape := ⟨2, ![2048, 512]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S2048x5632 : Shape := ⟨2, ![2048, 5632]⟩
abbrev S2048x2816 : Shape := ⟨2, ![2048, 2816]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S1x1024x1024, .f32⟩
  | .hbm, ⟨4, _⟩ => ⟨S2x1024, .f32⟩
  | .hbm, ⟨5, _⟩ => ⟨S2x1024x5632, .f32⟩
  | .hbm, ⟨6, _⟩ => ⟨S2x2816x1024, .f32⟩
  | .hbm, ⟨7, _⟩ => ⟨S1024, .f32⟩
  | .hbm, ⟨8, _⟩ => ⟨S2048x512, .f32⟩
  | .hbm, ⟨9, _⟩ => ⟨S2048x512, .f32⟩
  | .hbm, ⟨10, _⟩ => ⟨S2048x1024, .f32⟩
  | .hbm, ⟨11, _⟩ => ⟨S1024x1024, .f32⟩
  | .hbm, ⟨12, _⟩ => ⟨S2048x1024, .f32⟩
  | .hbm, ⟨13, _⟩ => ⟨S2048x1024, .f32⟩
  | .hbm, ⟨14, _⟩ => ⟨S1x1024, .f32⟩
  | .hbm, ⟨15, _⟩ => ⟨S1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S1x1024x5632, .f32⟩
  | .hbm, ⟨33, _⟩ => ⟨S1024x5632, .f32⟩
  | .hbm, ⟨34, _⟩ => ⟨S1x2816x1024, .f32⟩
  | .hbm, ⟨35, _⟩ => ⟨S2816x1024, .f32⟩
  | .hbm, ⟨36, _⟩ => ⟨S2048x5632, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S2048x2816, .f32⟩
  | .hbm, ⟨43, _⟩ => ⟨S2048x2816, .f32⟩
  | .hbm, ⟨44, _⟩ => ⟨S_, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2048x1024, .f32⟩
  | .hbm, ⟨50, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Proof.FoxHead.lean ====
module

public import proofs.«01_k».proof.Proof.Gen.KernelIdeal.Value
public import Idealize.ShloMosaic.Lib.Pointwise

/-! One head of the attention of the sample batch, as one function of that head's blocks, and the value the body
    leaves in its result block as the sixteen heads' columns. -/

@[expose] public section

set_option maxRecDepth 16384

noncomputable section

namespace Cert.Fox

open Idealize.ShloMosaic Idealize.ShloMosaic.TcCoe Idealize.ShloMosaic.Tactic
open Cert.KernelIdeal Cert.KernelIdeal.Gen

variable [Cert.KernelIdeal.Facts]

/-- The head's decay row, as a matrix of one row. -/
def row (f : Vec Ideal S1x1x1x2176 .f32) : FVec Ideal S1x2176 .f32 := k0_pay17 f

/-- The new positions' decay, split in three and laid out in columns `0, 1, 2`; columns `3, 4, 5` hold one. -/
def cols (f : Vec Ideal S1x1x1x2176 .f32) : FVec Ideal S64x128 .f32 := k0_pay94 (k0_pay93 (row f))

/-- The queries with the decay columns beside them. -/
def qa (q : Vec Ideal S1x1x64x64 .f32) (f : Vec Ideal S1x1x1x2176 .f32) : FVec Ideal S64x128 .bf16 :=
  k0_pay161 (k0_pay159 q) (k0_pay160 (k0_pay110 (cols f)))

/-- The logits at the cached positions. -/
def sOld (q : Vec Ideal S1x1x64x64 .f32) (ck : Vec Ideal S1x1x1x64x2048 .f32) (f : Vec Ideal S1x1x1x2176 .f32) :
    FVec Ideal S64x2048 .f32 :=
  k0_pay216 (k0_pay214 (qa q f) (k0_pay179 (k0_pay162 (F := Ideal)) ck)) (k0_pay215 (row f))
    (Named.named κ "log2e" 0x3FB8AA3B#32)

/-- The logits at the new positions, masked above the diagonal. -/
def sNew (q : Vec Ideal S1x1x64x64 .f32) (k : Vec Ideal S1x1x64x64 .f32) (f : Vec Ideal S1x1x1x2176 .f32) :
    FVec Ideal S64x64 .f32 :=
  k0_pay233 (iota .tc S64x64 32 [0] iota_S64x64_d0_w32) (iota .tc S64x64 32 [1] iota_S64x64_d1_w32) (qa q f)
    (k0_pay196 (k0_pay137 (iota .tc S64x64 32 [1] iota_S64x64_d1_w32) (cols f)) k)

/-- The head's result from its logits and values. -/
def fin (so : FVec Ideal S64x2048 .f32) (sn : FVec Ideal S64x64 .f32) (v : Vec Ideal S1x1x64x64 .f32)
    (cv : Vec Ideal S1x1x1x64x2048 .f32) : FVec Ideal S64x64 .bf16 :=
  k0_pay1 (k0_pay268 so (k0_pay252 so sn)) (k0_pay284 sn (k0_pay252 so sn)) cv v

/-- One head's result. -/
def head (q : Vec Ideal S1x1x64x64 .f32) (k v : Vec Ideal S1x1x64x64 .f32) (ck cv : Vec Ideal S1x1x1x64x2048 .f32)
    (f : Vec Ideal S1x1x1x2176 .f32) : FVec Ideal S64x64 .bf16 :=
  fin (sOld q ck f) (sNew q k f) v cv

variable (x0 : Vec Ideal S1x16x64x64 .f32) (x1 x2 : Vec Ideal S1x16x64x64 .f32) (x3 x4 : Vec Ideal S1x1x16x64x2048 .f32)
  (x5 : Vec Ideal S1x1x16x2176 .f32)

/-- The result block: each head's columns, by that head's function of its parts of the input blocks. -/
theorem out_eq : out0_6 x0 x1 x2 x3 x4 x5 = View.canon [
    ⟨r0_63, head (View.ld x0 r0_31) (View.ld x1 r0_31) (View.ld x2 r0_31) (View.ld x3 r0_47) (View.ld x4 r0_47) (View.ld x5 r0_15)⟩,
    ⟨r0_62, head (View.ld x0 r0_30) (View.ld x1 r0_30) (View.ld x2 r0_30) (View.ld x3 r0_46) (View.ld x4 r0_46) (View.ld x5 r0_14)⟩,
    ⟨r0_61, head (View.ld x0 r0_29) (View.ld x1 r0_29) (View.ld x2 r0_29) (View.ld x3 r0_45) (View.ld x4 r0_45) (View.ld x5 r0_13)⟩,
    ⟨r0_60, head (View.ld x0 r0_28) (View.ld x1 r0_28) (View.ld x2 r0_28) (View.ld x3 r0_44) (View.ld x4 r0_44) (View.ld x5 r0_12)⟩,
    ⟨r0_59, head (View.ld x0 r0_27) (View.ld x1 r0_27) (View.ld x2 r0_27) (View.ld x3 r0_43) (View.ld x4 r0_43) (View.ld x5 r0_11)⟩,
    ⟨r0_58, head (View.ld x0 r0_26) (View.ld x1 r0_26) (View.ld x2 r0_26) (View.ld x3 r0_42) (View.ld x4 r0_42) (View.ld x5 r0_10)⟩,
    ⟨r0_57, head (View.ld x0 r0_25) (View.ld x1 r0_25) (View.ld x2 r0_25) (View.ld x3 r0_41) (View.ld x4 r0_41) (View.ld x5 r0_9)⟩,
    ⟨r0_56, head (View.ld x0 r0_24) (View.ld x1 r0_24) (View.ld x2 r0_24) (View.ld x3 r0_40) (View.ld x4 r0_40) (View.ld x5 r0_8)⟩,
    ⟨r0_55, head (View.ld x0 r0_23) (View.ld x1 r0_23) (View.ld x2 r0_23) (View.ld x3 r0_39) (View.ld x4 r0_39) (View.ld x5 r0_7)⟩,
    ⟨r0_54, head (View.ld x0 r0_22) (View.ld x1 r0_22) (View.ld x2 r0_22) (View.ld x3 r0_38) (View.ld x4 r0_38) (View.ld x5 r0_6)⟩,
    ⟨r0_53, head (View.ld x0 r0_21) (View.ld x1 r0_21) (View.ld x2 r0_21) (View.ld x3 r0_37) (View.ld x4 r0_37) (View.ld x5 r0_5)⟩,
    ⟨r0_52, head (View.ld x0 r0_20) (View.ld x1 r0_20) (View.ld x2 r0_20) (View.ld x3 r0_36) (View.ld x4 r0_36) (View.ld x5 r0_4)⟩,
    ⟨r0_51, head (View.ld x0 r0_19) (View.ld x1 r0_19) (View.ld x2 r0_19) (View.ld x3 r0_35) (View.ld x4 r0_35) (View.ld x5 r0_3)⟩,
    ⟨r0_50, head (View.ld x0 r0_18) (View.ld x1 r0_18) (View.ld x2 r0_18) (View.ld x3 r0_34) (View.ld x4 r0_34) (View.ld x5 r0_2)⟩,
    ⟨r0_49, head (View.ld x0 r0_17) (View.ld x1 r0_17) (View.ld x2 r0_17) (View.ld x3 r0_33) (View.ld x4 r0_33) (View.ld x5 r0_1)⟩,
    ⟨r0_48, head (View.ld x0 r0_16) (View.ld x1 r0_16) (View.ld x2 r0_16) (View.ld x3 r0_32) (View.ld x4 r0_32) (View.ld x5 r0_0)⟩] := by
  rfl

end Cert.Fox
-- ==== Proof.FoxArray.lean ====
module

public import proofs.«01_k».proof.Proof.FoxHead
public import Idealize.ShloMosaic.Lib.Pipeline.ValueKit

/-! The kernel's result array: each element is its head's function of that batch's and head's rows of the arguments. -/

@[expose] public section

set_option maxRecDepth 16384

noncomputable section

namespace Cert.Fox

open Idealize.ShloMosaic Idealize.ShloMosaic.TcCoe Idealize.ShloMosaic.Tactic Idealize.SL.Sem
open Cert.KernelIdeal Cert.KernelIdeal.Gen

variable [Cert.KernelIdeal.Facts]

/-- One batch's and head's rows of the queries, keys or values. -/
def rows (q : Vec Ideal S32x16x64x64 .f32) (b : Fin 32) (h : Fin 16) : Vec Ideal S1x1x64x64 .f32 :=
  fun x => q (ix4 b h (x 2) (x 3))

/-- One batch's and head's cached rows, laid out with the positions last. -/
def cached (ck : Vec Ideal S1x32x16x2048x64 .f32) (b : Fin 32) (h : Fin 16) : Vec Ideal S1x1x1x64x2048 .f32 :=
  fun x => ck (ix5 0 b h (x 4) (x 3))

/-- One batch's and head's running sums. -/
def decay (f : Vec Ideal S512x2176 .f32) (b : Fin 32) (h : Fin 16) : Vec Ideal S1x1x1x2176 .f32 :=
  fun x => f (ix2 ⟨b.val * 16 + h.val, by omega⟩ (x 3))

/-- The result array of the argument arrays. -/
def result (q k v : Vec Ideal S32x16x64x64 .f32) (ck cv : Vec Ideal S1x32x16x2048x64 .f32) (f : Vec Ideal S512x2176 .f32) :
    FVec Ideal S2048x1024 .bf16 := fun i =>
  head (rows q ⟨(i 0).val / 64, Nat.div_lt_of_lt_mul (i 0).isLt⟩ ⟨(i 1).val / 64, Nat.div_lt_of_lt_mul (i 1).isLt⟩)
    (rows k ⟨(i 0).val / 64, Nat.div_lt_of_lt_mul (i 0).isLt⟩ ⟨(i 1).val / 64, Nat.div_lt_of_lt_mul (i 1).isLt⟩)
    (rows v ⟨(i 0).val / 64, Nat.div_lt_of_lt_mul (i 0).isLt⟩ ⟨(i 1).val / 64, Nat.div_lt_of_lt_mul (i 1).isLt⟩)
    (cached ck ⟨(i 0).val / 64, Nat.div_lt_of_lt_mul (i 0).isLt⟩ ⟨(i 1).val / 64, Nat.div_lt_of_lt_mul (i 1).isLt⟩)
    (cached cv ⟨(i 0).val / 64, Nat.div_lt_of_lt_mul (i 0).isLt⟩ ⟨(i 1).val / 64, Nat.div_lt_of_lt_mul (i 1).isLt⟩)
    (decay f ⟨(i 0).val / 64, Nat.div_lt_of_lt_mul (i 0).isLt⟩ ⟨(i 1).val / 64, Nat.div_lt_of_lt_mul (i 1).isLt⟩)
    (ix2 ⟨(i 0).val % 64, Nat.mod_lt _ (by decide)⟩ ⟨(i 1).val % 64, Nat.mod_lt _ (by decide)⟩)

theorem idx : ∀ t : Fin grid0.N, win0_0.index t = ![t.val, 0, 0, 0] ∧ win0_1.index t = ![t.val, 0, 0, 0]
    ∧ win0_2.index t = ![t.val, 0, 0, 0] ∧ win0_3.index t = ![0, t.val, 0, 0, 0] ∧ win0_4.index t = ![0, t.val, 0, 0, 0]
    ∧ win0_5.index t = ![t.val, 0, 0, 0] ∧ win0_6.index t = ![t.val, 0] := by
  decide +kernel

variable (m : (ℓ : Loc nD τ sig) → Buf (Elt Ideal) ℓ) (c : Dev nD)

theorem ld0 (t : Fin grid0.N) (n : ℕ) (hn : n < 16) (inb) :
    View.ld (iblk m c 0 t) (Rect.unit (s := S1x16x64x64) ![0, n, 0, 0] S1x1x64x64.size inb)
      = rows (m (c.tc.loc main_arg0)) t ⟨n, hn⟩ := by
  funext x
  rw [View.ld_unit_apply_of _ _ _ _ x (ix4 0 ⟨n, hn⟩ (x 2) (x 3)) (fun a => by fin_cases a <;> simp)]
  unfold rows
  blk_simp [iblk, idx t]
  blk_ext [iblk, V, idx t]

theorem ld1 (t : Fin grid0.N) (n : ℕ) (hn : n < 16) (inb) :
    View.ld (iblk m c 1 t) (Rect.unit (s := S1x16x64x64) ![0, n, 0, 0] S1x1x64x64.size inb)
      = rows (m (c.tc.loc main_arg1)) t ⟨n, hn⟩ := by
  funext x
  rw [View.ld_unit_apply_of _ _ _ _ x (ix4 0 ⟨n, hn⟩ (x 2) (x 3)) (fun a => by fin_cases a <;> simp)]
  unfold rows
  blk_simp [iblk, idx t]
  blk_ext [iblk, V, idx t]

theorem ld2 (t : Fin grid0.N) (n : ℕ) (hn : n < 16) (inb) :
    View.ld (iblk m c 2 t) (Rect.unit (s := S1x16x64x64) ![0, n, 0, 0] S1x1x64x64.size inb)
      = rows (m (c.tc.loc main_arg2)) t ⟨n, hn⟩ := by
  funext x
  rw [View.ld_unit_apply_of _ _ _ _ x (ix4 0 ⟨n, hn⟩ (x 2) (x 3)) (fun a => by fin_cases a <;> simp)]
  unfold rows
  blk_simp [iblk, idx t]
  blk_ext [iblk, V, idx t]

theorem ld3 (t : Fin grid0.N) (n : ℕ) (hn : n < 16) (inb) :
    View.ld (iblk m c 3 t) (Rect.unit (s := S1x1x16x64x2048) ![0, 0, n, 0, 0] S1x1x1x64x2048.size inb)
      = cached (m (c.tc.loc main_arg3)) t ⟨n, hn⟩ := by
  funext x
  rw [View.ld_unit_apply_of _ _ _ _ x (ix5 0 0 ⟨n, hn⟩ (x 3) (x 4)) (fun a => by fin_cases a <;> simp)]
  unfold cached
  blk_simp [iblk, idx t]
  entry_read
  pointwise
  blk_ext [iblk, V, idx t]

theorem ld4 (t : Fin grid0.N) (n : ℕ) (hn : n < 16) (inb) :
    View.ld (iblk m c 4 t) (Rect.unit (s := S1x1x16x64x2048) ![0, 0, n, 0, 0] S1x1x1x64x2048.size inb)
      = cached (m (c.tc.loc main_arg4)) t ⟨n, hn⟩ := by
  funext x
  rw [View.ld_unit_apply_of _ _ _ _ x (ix5 0 0 ⟨n, hn⟩ (x 3) (x 4)) (fun a => by fin_cases a <;> simp)]
  unfold cached
  blk_simp [iblk, idx t]
  entry_read
  pointwise
  blk_ext [iblk, V, idx t]

theorem ld5 (t : Fin grid0.N) (n : ℕ) (hn : n < 16) (inb) :
    View.ld (iblk m c 5 t) (Rect.unit (s := S1x1x16x2176) ![0, 0, n, 0] S1x1x1x2176.size inb)
      = decay (m (c.tc.loc main_arg5)) t ⟨n, hn⟩ := by
  funext x
  rw [View.ld_unit_apply_of _ _ _ _ x (ix4 0 0 ⟨n, hn⟩ (x 3)) (fun a => by fin_cases a <;> simp)]
  unfold decay
  blk_simp [iblk, idx t]
  entry_read
  pointwise
  blk_ext [iblk, V, idx t]

/-- One head's columns of one batch's block are that part of the result array. -/
theorem tile (t : Fin grid0.N) (n : ℕ) (hn : n < 16) (i0 i1 i2 i3 i4 i5) (x : S64x64.Idx) (i : S2048x1024.Idx)
    (h0 : (i 0).val = t.val * 64 + (x 0).val) (h1 : (i 1).val = n * 64 + (x 1).val) :
    head (View.ld (iblk m c 0 t) (Rect.unit (s := S1x16x64x64) ![0, n, 0, 0] S1x1x64x64.size i0))
      (View.ld (iblk m c 1 t) (Rect.unit (s := S1x16x64x64) ![0, n, 0, 0] S1x1x64x64.size i1))
      (View.ld (iblk m c 2 t) (Rect.unit (s := S1x16x64x64) ![0, n, 0, 0] S1x1x64x64.size i2))
      (View.ld (iblk m c 3 t) (Rect.unit (s := S1x1x16x64x2048) ![0, 0, n, 0, 0] S1x1x1x64x2048.size i3))
      (View.ld (iblk m c 4 t) (Rect.unit (s := S1x1x16x64x2048) ![0, 0, n, 0, 0] S1x1x1x64x2048.size i4))
      (View.ld (iblk m c 5 t) (Rect.unit (s := S1x1x16x2176) ![0, 0, n, 0] S1x1x1x2176.size i5)) x
    = result (m (c.tc.loc main_arg0)) (m (c.tc.loc main_arg1)) (m (c.tc.loc main_arg2)) (m (c.tc.loc main_arg3))
      (m (c.tc.loc main_arg4)) (m (c.tc.loc main_arg5)) i := by
  have b0 : (x 0).val < 64 := (x 0).isLt
  have b1 : (x 1).val < 64 := (x 1).isLt
  have e0 : (⟨(i 0).val / 64, Nat.div_lt_of_lt_mul (i 0).isLt⟩ : Fin 32) = t := Fin.ext (show (i 0).val / 64 = t.val by omega)
  have e1 : (⟨(i 1).val / 64, Nat.div_lt_of_lt_mul (i 1).isLt⟩ : Fin 16) = ⟨n, hn⟩ := Fin.ext (show (i 1).val / 64 = n by omega)
  have ex : x = ix2 (⟨(i 0).val % 64, Nat.mod_lt _ (by decide)⟩ : Fin 64) (⟨(i 1).val % 64, Nat.mod_lt _ (by decide)⟩ : Fin 64) := by
    funext a
    fin_cases a
    · exact Fin.ext (show (x 0).val = (i 0).val % 64 by omega)
    · exact Fin.ext (show (x 1).val = (i 1).val % 64 by omega)
  rw [ld0 m c t n hn, ld1 m c t n hn, ld2 m c t n hn, ld3 m c t n hn, ld4 m c t n hn, ld5 m c t n hn]
  unfold result
  rw [e0, e1, ← ex]

theorem array_eq : (dats m 0 c).arrAt 6 cfg0.N
    = result (m (c.tc.loc main_arg0)) (m (c.tc.loc main_arg1)) (m (c.tc.loc main_arg2)) (m (c.tc.loc main_arg3))
      (m (c.tc.loc main_arg4)) (m (c.tc.loc main_arg5)) := by
  refine (dats m 0 c).arrAt_eq_of_covers 6 _ (by decide +kernel) fun t hf y => ?_
  blk_simp
  rw [after0_6, out_eq]
  have g0 : (((win0_6.blk t).view.emb y) 0 : ℕ) = t.val * 64 + (y 0).val := by blk_simp [idx t]
  have g1 : (((win0_6.blk t).view.emb y) 1 : ℕ) = (y 1).val := by blk_simp [idx t]
  generalize (win0_6.blk t).view.emb y = i at g0 g1 ⊢
  canon_tiles x h
  all_goals exact tile m c t _ (by omega) _ _ _ _ _ _ x i (by omega) (by omega)

end Cert.Fox
-- ==== Proof.FoxMath.lean ====
module

public import Idealize.ShloMosaic.Lib.Pointwise
public import Mathlib.Analysis.SpecialFunctions.Pow.Real

/-! The arithmetic of a softmax over logits that are finite or masked to minus infinity, at the extended reals. -/

@[expose] public section

noncomputable section

namespace Cert.Soft

open Idealize.ShloMosaic

/-- An extended real that is no infinity is a real number. -/
theorem coe_of_fin {x : EReal} (h : max x (-x) < ⊤) : ∃ r : ℝ, x = r := by
  induction x with
  | bot => simp at h
  | top => simp at h
  | coe r => exact ⟨r, rfl⟩

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A logit: a real number, or masked. -/
def lift (m : Option ℝ) : EReal := m.elim ⊥ (fun r => (r : EReal))

/-- Its weight against the maximum `M`. -/
def wt (M : ℝ) (m : Option ℝ) : ℝ := m.elim 0 (fun r => Real.exp (r - M))

theorem wt_nonneg (M : ℝ) (m : Option ℝ) : 0 ≤ wt M m := by
  cases m with
  | none => exact le_refl _
  | some r => exact (Real.exp_pos _).le

theorem exp_lift (M : ℝ) (m : Option ℝ) : Ideal.exp (lift m - (M : EReal)) = (wt M m : EReal) := by
  cases m with
  | none => show Ideal.exp (⊥ - (M : EReal)) = _; rw [EReal.bot_sub]; rfl
  | some r => show Ideal.exp ((r : EReal) - (M : EReal)) = _; rw [← EReal.coe_sub]; rfl

/-- The base-two logit: the natural one times `1 / log 2`. -/
def kap : ℝ := (Real.log 2)⁻¹

theorem kap_pos : 0 < kap := inv_pos.mpr (Real.log_pos (by norm_num))

theorem exp2_lift (M : ℝ) (m : Option ℝ) :
    Ideal.exp2 (lift (m.map (kap * ·)) - ((kap * M : ℝ) : EReal)) = (wt M m : EReal) := by
  cases m with
  | none => show Ideal.exp2 (⊥ - _) = _; rw [EReal.bot_sub]; rfl
  | some r =>
    show Ideal.exp2 (((kap * r : ℝ) : EReal) - ((kap * M : ℝ) : EReal)) = _
    rw [← EReal.coe_sub]
    show ((Real.rpow 2 (kap * r - kap * M) : ℝ) : EReal) = ((Real.exp (r - M) : ℝ) : EReal)
    congr 1
    show (2 : ℝ) ^ (kap * r - kap * M) = _
    rw [Real.rpow_def_of_pos (by norm_num)]
    congr 1
    have h : Real.log 2 ≠ 0 := (Real.log_pos (by norm_num)).ne'
    unfold kap
    field_simp

/-- The largest of a family of logits, by the machine's fold from minus infinity. -/
def top {n : ℕ} (l : Fin n → Option ℝ) : EReal := Finset.univ.fold max ⊥ fun j => lift (l j)

theorem fold_max_eq_sup {ι : Type*} (s : Finset ι) (f : ι → EReal) : s.fold max ⊥ f = s.sup f := rfl

/-- With one logit that is not masked, the largest is a real number. -/
theorem top_real {n : ℕ} (l : Fin n → Option ℝ) (j₀ : Fin n) (h : (l j₀).isSome) : ∃ M : ℝ, top l = M := by
  unfold top
  rw [fold_max_eq_sup]
  have hne : (Finset.univ : Finset (Fin n)).Nonempty := ⟨j₀, Finset.mem_univ _⟩
  obtain ⟨j, -, hj⟩ := Finset.exists_mem_eq_sup Finset.univ hne fun j => lift (l j)
  have hle : lift (l j₀) ≤ lift (l j) := hj ▸ Finset.le_sup (f := fun j => lift (l j)) (Finset.mem_univ j₀)
  rw [hj]
  cases hl : l j with
  | some r => exact ⟨r, rfl⟩
  | none =>
    obtain ⟨r, hr⟩ := Option.isSome_iff_exists.mp h
    rw [hl, hr] at hle
    exact absurd hle (by simp [lift])

theorem lift_scale_mono : Monotone fun x : EReal => (kap : EReal) * x := fun _ _ h =>
  mul_le_mul_of_nonneg_left h (EReal.coe_nonneg.mpr kap_pos.le)

theorem lift_map (m : Option ℝ) : lift (m.map (kap * ·)) = (kap : EReal) * lift m := by
  cases m with
  | none => exact (EReal.coe_mul_bot_of_pos kap_pos).symm
  | some r => exact EReal.coe_mul _ _

/-- The largest of the scaled logits is the largest logit, scaled. -/
theorem top_map {n : ℕ} (l : Fin n → Option ℝ) :
    top (fun j => (l j).map (kap * ·)) = (kap : EReal) * top l := by
  unfold top
  simp only [lift_map]
  rw [fold_max_eq_sup, fold_max_eq_sup,
    Finset.comp_sup_eq_sup_comp_of_is_total (fun x : EReal => (kap : EReal) * x) lift_scale_mono
      (EReal.coe_mul_bot_of_pos kap_pos)]
  rfl

/-- The largest over two runs of positions one after the other. -/
theorem top_append {a b : ℕ} (l : Fin (a + b) → Option ℝ) :
    top l = max (top fun j => l (Fin.castAdd b j)) (top fun j => l (Fin.natAdd a j)) := by
  unfold top
  simp only [fold_max_eq_sup]
  apply le_antisymm
  · refine Finset.sup_le fun j _ => ?_
    induction j using Fin.addCases with
    | left i => exact le_max_of_le_left (Finset.le_sup (f := fun j => lift (l (Fin.castAdd b j))) (Finset.mem_univ i))
    | right i => exact le_max_of_le_right (Finset.le_sup (f := fun j => lift (l (Fin.natAdd a j))) (Finset.mem_univ i))
  · exact max_le (Finset.sup_le fun j _ => Finset.le_sup (f := fun j => lift (l j)) (Finset.mem_univ (Fin.castAdd b j)))
      (Finset.sup_le fun j _ => Finset.le_sup (f := fun j => lift (l j)) (Finset.mem_univ (Fin.natAdd a j)))

/-- A product with a real number passes through a sum of extended reals. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The weights' sum, the largest logit being among them, is positive. -/
theorem sum_wt_pos {n : ℕ} (l : Fin n → Option ℝ) (M : ℝ) (j₀ : Fin n) (h : (l j₀).isSome) :
    0 < ∑ j, wt M (l j) := by
  refine Finset.sum_pos' (fun j _ => wt_nonneg _ _) ⟨j₀, Finset.mem_univ _, ?_⟩
  obtain ⟨r, hr⟩ := Option.isSome_iff_exists.mp h
  rw [hr]
  exact Real.exp_pos _

theorem div_coe_pos (x : EReal) {S : ℝ} (hS : 0 < S) : Ideal.div x (S : EReal) = x * ((S⁻¹ : ℝ) : EReal) := by
  unfold Ideal.div
  rw [if_neg (by exact_mod_cast hS.ne'), EReal.coe_inv]

/-- Normalising after the products or before them is the same: the weighted sum of any extended reals over the
    weights' sum, the positions in two runs, is the sum of the normalised weights' products. -/
theorem soft_eq {a b : ℕ} (l : Fin (a + b) → Option ℝ) (j₀ : Fin (a + b)) (h : (l j₀).isSome)
    (v : Fin (a + b) → EReal) (m : EReal)
    (hm : m = max (top fun j => (l (Fin.castAdd b j)).map (kap * ·)) (top fun j => (l (Fin.natAdd a j)).map (kap * ·))) :
    Ideal.div
      (∑ j, Ideal.exp2 (lift ((l (Fin.castAdd b j)).map (kap * ·)) - m) * v (Fin.castAdd b j)
        + ∑ j, Ideal.exp2 (lift ((l (Fin.natAdd a j)).map (kap * ·)) - m) * v (Fin.natAdd a j))
      (∑ j, Ideal.exp2 (lift ((l (Fin.castAdd b j)).map (kap * ·)) - m)
        + ∑ j, Ideal.exp2 (lift ((l (Fin.natAdd a j)).map (kap * ·)) - m))
      = ∑ j, Ideal.div (Ideal.exp (lift (l j) - top l)) (∑ i, Ideal.exp (lift (l i) - top l)) * v j := by
  obtain ⟨M, hM⟩ := top_real l j₀ h
  have hm' : m = ((kap * M : ℝ) : EReal) := by
    rw [hm, EReal.coe_mul, ← hM, ← top_map l, top_append]
  have hS := sum_wt_pos l M j₀ h
  simp only [hm', hM, exp2_lift, exp_lift]
  rw [← Fin.sum_univ_add (f := fun j => (wt M (l j) : EReal) * v j),
    ← Fin.sum_univ_add (f := fun j => (wt M (l j) : EReal)), ← coe_sum, div_coe_pos _ hS,
    sum_mul_coe _ _ _ (inv_nonneg.mpr hS.le)]
  refine Finset.sum_congr rfl fun j _ => ?_
  rw [div_coe_pos _ hS]
  exact mul_right_comm _ _ _

end Cert.Soft
-- ==== Proof.FoxRead.lean ====
module

public import proofs.«01_k».proof.Proof.FoxHead
public import proofs.«01_k».proof.Proof.FoxMath
public import Idealize.ShloMosaic.Lib.WordCmp
public import Idealize.ShloMosaic.PureOps.Ideal

/-! One head's logits and result, element by element, as real arithmetic over that head's blocks. -/

@[expose] public section

set_option maxRecDepth 16384

noncomputable section

namespace Cert.Fox

open Idealize.ShloMosaic Idealize.ShloMosaic.TcCoe Idealize.ShloMosaic.Tactic
open Cert.KernelIdeal Cert.KernelIdeal.Gen
open Cert.Soft

variable [Cert.KernelIdeal.Facts]

theorem log2e_eq : Named.named (F := Ideal) κ "log2e" (φ := .f32) 0x3FB8AA3B#32 = (kap : EReal) :=
  IdealRules.named_const.ideal_named_scalar _ _ _ _ rfl

theorem qscale_eq : Named.named (F := Ideal) κ "qscale" (φ := .f32) 0x3E38AA3B#32 = (((1 / 8) * kap : ℝ) : EReal) :=
  IdealRules.named_const.ideal_named_scalar _ _ _ _ rfl

theorem mask_eq : Named.named (F := Ideal) κ "mask" (φ := .f32) 0xF149F2CA#32 = (⊥ : EReal) :=
  IdealRules.named_const.ideal_named_scalar _ _ _ _ rfl

theorem neg_inf_eq : Ideal.ofBits .f32 0xFF800000#32 = (⊥ : EReal) := by
  simp [Ideal.ofBits, Ideal.ieee]

/-- A comparison's bit, widened and read as a number. -/
theorem bit_eq (b : Bool) : FloatOps.sitofp (F := Ideal) .f32 (BitVec.setWidth 32 (BitVec.ofBool b)) = if b then 1 else 0 := by
  cases b <;> simp [FloatOps.sitofp]

theorem lt_eq (n k : ℕ) (hn : n < 4096) (hk : k < 4096) :
    IntOp.cmpi .slt (BitVec.ofNat 32 n) (BitVec.ofNat 32 k) = BitVec.ofBool (decide (n < k)) :=
  WordCmp.cmpi_slt_ofNat (by omega) (by omega)

theorem le_eq (n k : ℕ) (hn : n < 4096) (hk : k < 4096) :
    IntOp.cmpi .sle (BitVec.ofNat 32 n) (BitVec.ofNat 32 k) = BitVec.ofBool (decide (n ≤ k)) :=
  WordCmp.cmpi_sle_ofNat (by omega) (by omega)

theorem eq_eq (n k : ℕ) (hn : n < 4096) (hk : k < 4096) :
    IntOp.cmpi .eq (BitVec.ofNat 32 n) (BitVec.ofNat 32 k) = BitVec.ofBool (decide (n = k)) :=
  WordCmp.cmpi_eq_ofNat (by omega) (by omega)

/-- What the decay columns hold for a decay of `a`: `a / log 2`, two remainders that vanish, three ones, zeros. -/
def colv (a : ℝ) (e : ℕ) : ℝ := if e = 0 then a * kap else if e = 1 then 0 else if e = 2 then 0 else if e < 6 then 1 else 0

theorem cols_apply (f : Vec Ideal S1x1x1x2176 .f32) (t : Fin 64) (e : Fin 128) (a : ℝ)
    (ha : f (ix4 0 0 0 ⟨2048 + t.val, by omega⟩) = (a : EReal)) : cols f (ix2 t e) = (colv a e.val : EReal) := by
  pointwise [cols, row, k0_pay94, k0_pay93, k0_pay17]
  rw [Finset.sum_eq_single (⟨t.val, by omega⟩ : Fin 128)]
  · simp only [ha, log2e_eq]
    rw [eq_eq t.val t.val (by omega) (by omega), bit_eq, eq_eq e.val 0 (by omega) (by omega),
      eq_eq e.val 1 (by omega) (by omega), eq_eq e.val 2 (by omega) (by omega), lt_eq e.val 6 (by omega) (by omega)]
    simp only [decide_true, if_true, one_mul, Scalar.select_ofBool, ← EReal.coe_mul, ← EReal.coe_sub, sub_self,
      decide_eq_true_eq]
    unfold colv
    split_ifs <;> rfl
  · intro x _ hx
    rw [eq_eq t.val x.val (by omega) (by omega), bit_eq, decide_eq_false (fun h => hx (Fin.ext h.symm))]
    simp
  · intro h
    exact absurd (Finset.mem_univ _) h

/-- The decay columns against the columns that pick the query's own decay. -/
theorem pick_sum (a : ℝ) : (∑ x : Fin 64, (colv a x.val : EReal) * (if x.val < 3 then (1 : EReal) else 0)) = ((a * kap : ℝ) : EReal) := by
  have : ∀ x : Fin 64, (colv a x.val : EReal) * (if x.val < 3 then (1 : EReal) else 0)
      = ((if x = 0 then a * kap else 0 : ℝ) : EReal) := by
    intro x
    by_cases h0 : x = 0
    · subst h0; simp [colv]
    · have h0' : x.val ≠ 0 := fun h => h0 (Fin.ext h)
      rw [if_neg h0]
      by_cases h3 : x.val < 3
      · have : x.val = 1 ∨ x.val = 2 := by omega
        rcases this with h | h <;> simp [colv, h]
      · simp [h3]
  simp only [this]
  rw [← coe_sum]
  simp

/-- The decay columns of the queries against those of the keys. -/
theorem diff_sum (a : ℝ) (g : ℕ → EReal) (b : ℝ) (hg : ∀ x, g x = (colv b ((x + 128 - 3) % 128) : EReal)) :
    (∑ x : Fin 64, (colv a x.val : EReal) * (if x.val < 3 then (1 : EReal) else if x.val < 6 then 0 - g x.val else 0))
      = ((a * kap - b * kap : ℝ) : EReal) := by
  have : ∀ x : Fin 64, (colv a x.val : EReal) * (if x.val < 3 then (1 : EReal) else if x.val < 6 then 0 - g x.val else 0)
      = (((if x = 0 then a * kap else 0) + (if x = 3 then - (b * kap) else 0) : ℝ) : EReal) := by
    intro x
    rw [hg]
    by_cases h6 : x.val < 6
    · have : x = 0 ∨ x = 1 ∨ x = 2 ∨ x = 3 ∨ x = 4 ∨ x = 5 := by omega
      rcases this with h | h | h | h | h | h <;> subst h <;> simp [colv]
    · have h0 : x ≠ 0 := fun h => h6 (by subst h; decide)
      have h3 : x ≠ 3 := fun h => h6 (by subst h; decide)
      simp [h6, show ¬ x.val < 3 by omega, h0, h3]
  simp only [this]
  rw [← coe_sum]
  simp [Finset.sum_add_distrib, sub_eq_add_neg]

/-- A logit at a cached position: the dot product's, and the decay's difference, over `log 2`. -/
theorem sOld_apply (q : Vec Ideal S1x1x64x64 .f32) (ck : Vec Ideal S1x1x1x64x2048 .f32) (f : Vec Ideal S1x1x1x2176 .f32)
    (t : Fin 64) (j : Fin 2048) (Q C : Fin 64 → ℝ) (a b : ℝ)
    (hq : ∀ c, q (ix4 0 0 t c) = (Q c : EReal))
    (hc : ∀ c, ck (ix5 0 0 0 c j) = (C c : EReal))
    (ha : f (ix4 0 0 0 ⟨2048 + t.val, by omega⟩) = (a : EReal))
    (hb : f (ix4 0 0 0 ⟨j.val, by omega⟩) = (b : EReal)) :
    sOld q ck f (ix2 t j) = lift ((some ((∑ c, Q c * C c) * (1 / 8) + (a - b))).map (kap * ·)) := by
  pointwise [sOld, row, k0_pay17, k0_pay216, k0_pay214, k0_pay215, k0_pay179, k0_pay162, qa, k0_pay161, k0_pay159, k0_pay160, k0_pay110]
  simp only [cols_apply f t _ a ha, hq, hc, hb, log2e_eq, qscale_eq]
  have hl : ∀ x : Fin 64, IntOp.cmpi .slt (BitVec.ofNat 32 x.val) 3#32 = BitVec.ofBool (decide (x.val < 3)) :=
    fun x => lt_eq x.val 3 (by omega) (by omega)
  simp only [hl, bit_eq, decide_eq_true_eq]
  rw [pick_sum]
  simp only [← EReal.coe_mul, ← coe_sum, ← EReal.coe_add, ← EReal.coe_sub]
  show _ = ((_ : ℝ) : EReal)
  congr 1
  have : ∀ c, Q c * ((1 / 8) * kap) * C c = Q c * C c * ((1 / 8) * kap) := fun c => by ring
  simp only [this]
  rw [← Finset.sum_mul]
  ring

/-- A logit at a new position, masked above the diagonal. -/
theorem sNew_apply (q : Vec Ideal S1x1x64x64 .f32) (k : Vec Ideal S1x1x64x64 .f32) (f : Vec Ideal S1x1x1x2176 .f32)
    (t j : Fin 64) (Q C : Fin 64 → ℝ) (a b : ℝ)
    (hq : ∀ c, q (ix4 0 0 t c) = (Q c : EReal))
    (hc : ∀ c, k (ix4 0 0 j c) = (C c : EReal))
    (ha : f (ix4 0 0 0 ⟨2048 + t.val, by omega⟩) = (a : EReal))
    (hb : f (ix4 0 0 0 ⟨2048 + j.val, by omega⟩) = (b : EReal)) :
    sNew q k f (ix2 t j)
      = lift ((if j.val ≤ t.val then some ((∑ c, Q c * C c) * (1 / 8) + (a - b)) else none).map (kap * ·)) := by
  pointwise [sNew, k0_pay233, k0_pay196, k0_pay137, qa, k0_pay161, k0_pay159, k0_pay160, k0_pay110]
  rw [le_eq j.val t.val (by omega) (by omega), Scalar.select_ofBool, mask_eq]
  by_cases h : j.val ≤ t.val
  · rw [decide_eq_true h, if_pos rfl, if_pos h]
    simp only [cols_apply f t _ a ha, cols_apply f j _ b hb, hq, hc, qscale_eq]
    have hl3 : ∀ x : Fin 64, IntOp.cmpi .slt (BitVec.ofNat 32 x.val) 3#32 = BitVec.ofBool (decide (x.val < 3)) :=
      fun x => lt_eq x.val 3 (by omega) (by omega)
    have hl6 : ∀ x : Fin 64, IntOp.cmpi .slt (BitVec.ofNat 32 x.val) 6#32 = BitVec.ofBool (decide (x.val < 6)) :=
      fun x => lt_eq x.val 6 (by omega) (by omega)
    simp only [hl3, hl6, Scalar.select_ofBool, decide_eq_true_eq]
    rw [diff_sum a (fun x => (colv b ((x + 128 - 3) % 128) : EReal)) b fun _ => rfl]
    simp only [← EReal.coe_mul, ← coe_sum, ← EReal.coe_add, ← EReal.coe_sub]
    show _ = ((_ : ℝ) : EReal)
    congr 1
    have : ∀ c, Q c * ((1 / 8) * kap) * C c = Q c * C c * ((1 / 8) * kap) := fun c => by ring
    simp only [this]
    rw [← Finset.sum_mul]
    ring
  · rw [decide_eq_false h, if_neg (by simp), if_neg h]
    rfl

/-- The head's result: the weighted values over the weights' sum. -/
theorem fin_apply (so : FVec Ideal S64x2048 .f32) (sn : FVec Ideal S64x64 .f32) (v : Vec Ideal S1x1x64x64 .f32)
    (cv : Vec Ideal S1x1x1x64x2048 .f32) (t d : Fin 64) (m : EReal)
    (hm : m = max (Finset.univ.fold max ⊥ fun j : Fin 2048 => so (ix2 t j)) (Finset.univ.fold max ⊥ fun j : Fin 64 => sn (ix2 t j))) :
    fin so sn v cv (ix2 t d) = Ideal.div
      (∑ j : Fin 2048, Ideal.exp2 (so (ix2 t j) - m) * cv (ix5 0 0 0 d j)
        + ∑ j : Fin 64, Ideal.exp2 (sn (ix2 t j) - m) * v (ix4 0 0 j d))
      (∑ j : Fin 2048, Ideal.exp2 (so (ix2 t j) - m) + ∑ j : Fin 64, Ideal.exp2 (sn (ix2 t j) - m)) := by
  pointwise [fin, k0_pay1, k0_pay268, k0_pay284, k0_pay252]
  rw [neg_inf_eq, ← hm]
  rfl

end Cert.Fox
-- ==== Proof.FoxRef.lean ====
module

public import proofs.«01_k».proof.Proof.FoxMath
public import proofs.«01_k».proof.Proof.Gen.ReferenceIdeal.Run
public import Idealize.ShloMosaic.Lib.Tactic.CleanTypes
public import Idealize.ShloMosaic.Lib.WordCmp

/-! The reference's attention of the sample batch, element by element. -/

@[expose] public section

set_option maxRecDepth 16384

noncomputable section

namespace Cert.FoxRef

open Idealize.ShloMosaic Idealize.ShloMosaic.TcCoe Idealize.ShloMosaic.Tactic Idealize.SL.Sem
open Cert.ReferenceIdeal Cert.ReferenceIdeal.Facts₀ Cert.ReferenceIdeal.Facts

/-- A reduction over the last of four axes, at an element: the fold along that axis. -/
theorem reduce_last {A B C D : ℕ} {u : Shape} (f : EReal → EReal → EReal) [Std.Commutative f] [Std.Associative f]
    (s : (⟨4, ![A, B, C, D]⟩ : Shape).Idx → EReal) (c : u.Idx → EReal)
    (h : (⟨4, ![A, B, C, D]⟩ : Shape).ReducesTo [3] ⟨3, ![A, B, C]⟩) (h' : (⟨4, ![A, B, C, D]⟩ : Shape).Reduces [3] ⟨3, ![A, B, C]⟩)
    (hu : 0 < u.numel) (x : Fin A) (y : Fin B) (z : Fin C) :
    Host.reduce f s c h hu (ix3 x y z)
      = Finset.univ.fold f (c (Shape.Idx.first hu)) fun j : Fin D => s (ix4 x y z j) := by
  have e : ∀ j : Fin D, h'.lift (ix3 x y z) j = ix4 x y z j := fun j => by
    funext i
    fin_cases i <;> rfl
  rw [Host.reduce_eq_fold_single _ s _ h h' hu]
  exact congrArg (Finset.fold f (c (Shape.Idx.first hu)) · Finset.univ) (funext fun j => congrArg s (e j))

variable [Cert.ReferenceIdeal.Facts]
variable (q k v : FVec Ideal S32x16x64x64 .f32) (ck cv : FVec Ideal S1x32x16x2048x64 .f32) (f : FVec Ideal S512x2176 .f32)

/-- Old and new rows, one after the other. -/
def joined (ck : FVec Ideal S1x32x16x2048x64 .f32) (k : FVec Ideal S32x16x64x64 .f32) : FVec Ideal S32x16x2112x64 .f32 :=
  concatenate S32x16x2112x64 2 [⟨S32x16x2048x64, shapeCast _ ck shapeCasts_S1x32x16x2048x64_S32x16x2048x64⟩, ⟨S32x16x64x64, k⟩]
    concatenates_S32x16x2048x64_S32x16x64x64_S32x16x2112x64_d2

/-- The running sums of the log forget gates, by batch and head. -/
def sums (f : FVec Ideal S512x2176 .f32) : FVec Ideal S32x16x2112 .f32 :=
  shapeCast _ (extractStridedSlice S512x2112 ![0, 0] f slices_S512x2176_S512x2112_0_0) shapeCasts_S512x2112_S32x16x2112

/-- The causal mask: the key's position is at most the query's. -/
def causal : IVec S64x2112 1 :=
  cmpi .sle (broadcastInDim S64x2112 ![0, 1] bcast_S1x2112_S64x2112_0_1 (broadcastInDim S1x2112 ![1] bcast_S2112_S1x2112_1 (iotaInDim S2112 32 0)))
    (broadcastInDim S64x2112 ![0, 1] bcast_S64x1_S64x2112_0_1
      (broadcastInDim S64x1 ![0] bcast_S64_S64x1_0 (extractStridedSlice S64 ![2048] (iotaInDim S2112 32 0) slices_S2112_S64_2048)))

/-- The masked logits. -/
def logits : FVec Ideal S32x16x64x2112 .f32 :=
  select (broadcastInDim S32x16x64x2112 ![2, 3] bcast_S64x2112_S32x16x64x2112_2_3 causal)
    (subf (addf (mulf (Host.dotGeneral dot_S32x16x64x64_S32x16x2112x64_S32x16x64x2112_3_3_2_2_01_01 none q (joined ck k))
        (broadcastInDim S32x16x64x2112 ![] bcast_S_S32x16x64x2112 (constant S_ .f32 0x3E000000#32)))
      (broadcastInDim S32x16x64x2112 ![0, 1, 2, 3] bcast_S32x16x64x1_S32x16x64x2112_0_1_2_3
        (broadcastInDim S32x16x64x1 ![0, 1, 2] bcast_S32x16x64_S32x16x64x1_0_1_2
          (extractStridedSlice S32x16x64 ![0, 0, 2048] (sums f) slices_S32x16x2112_S32x16x64_0_0_2048))))
      (broadcastInDim S32x16x64x2112 ![0, 1, 2, 3] bcast_S32x16x1x2112_S32x16x64x2112_0_1_2_3
        (broadcastInDim S32x16x1x2112 ![0, 1, 3] bcast_S32x16x2112_S32x16x1x2112_0_1_3 (sums f))))
    (broadcastInDim S32x16x64x2112 ![] bcast_S_S32x16x64x2112 (id (constant S_ .f32 0xFF800000#32)))

/-- Each query's largest logit. -/
def rowMax (s : FVec Ideal S32x16x64x2112 .f32) : FVec Ideal S32x16x64 .f32 :=
  Host.reduce FloatOps.maximumf s (constant S_ .f32 0xFF800000#32) reducesTo_S32x16x64x2112_S32x16x64_d3 h_S_

/-- The exponentials of the logits less each query's given number, or less minus infinity if that is larger. -/
def weigh (rm : FVec Ideal S32x16x64 .f32) (s : FVec Ideal S32x16x64x2112 .f32) : FVec Ideal S32x16x64x2112 .f32 :=
  Host.exp (subf s (broadcastInDim S32x16x64x2112 ![0, 1, 2, 3] bcast_S32x16x64x1_S32x16x64x2112_0_1_2_3
    (broadcastInDim S32x16x64x1 ![0, 1, 2] bcast_S32x16x64_S32x16x64x1_0_1_2
      (maximumf (broadcastInDim S32x16x64 ![] bcast_S_S32x16x64 (constant S_ .f32 0xFF800000#32)) rm))))

/-- The softmax's products with the values, the heads side by side. -/
def attend (p : FVec Ideal S32x16x64x2112 .f32) (vv : FVec Ideal S32x16x2112x64 .f32) : FVec Ideal S2048x1024 .bf16 :=
  truncf .bf16 (shapeCast S2048x1024 (shapeCast S32x64x1024 (transpose S32x64x16x64 [0, 2, 1, 3]
    (Host.dotGeneral dot_S32x16x64x2112_S32x16x2112x64_S32x16x64x64_3_2_2_3_01_01 none
      (Host.divf p (broadcastInDim S32x16x64x2112 ![0, 1, 2, 3] bcast_S32x16x64x1_S32x16x64x2112_0_1_2_3
        (broadcastInDim S32x16x64x1 ![0, 1, 2] bcast_S32x16x64_S32x16x64x1_0_1_2
          (Host.reduceAdd p (constant S_ .f32 0x00000000#32) reducesTo_S32x16x64x2112_S32x16x64_d3 h_S_)))) vv)
    transposes_S32x16x64x64_S32x64x16x64_0_2_1_3) shapeCasts_S32x64x16x64_S32x64x1024) shapeCasts_S32x64x1024_S2048x1024) bitsLt_bf16_f32

/-- The reference of its argument arrays. -/
def out : FVec Ideal S2048x1024 .bf16 := attend (weigh (rowMax (logits q k ck f)) (logits q k ck f)) (joined cv v)

theorem run_eq (m : (ℓ : Loc nD τ sig) → Buf (Elt Ideal) ℓ) (c : Dev nD) :
    Cert.ReferenceIdeal.Value.res_out0 m c = out (m (c.tc.loc main_arg0)) (m (c.tc.loc main_arg1)) (m (c.tc.loc main_arg2))
      (m (c.tc.loc main_arg3)) (m (c.tc.loc main_arg4)) (m (c.tc.loc main_arg5)) := rfl

theorem rowMax_apply (s : FVec Ideal S32x16x64x2112 .f32) (b : Fin 32) (h : Fin 16) (t : Fin 64) :
    rowMax s (ix3 b h t) = Finset.univ.fold max (Ideal.ofBits .f32 0xFF800000#32) fun j : Fin 2112 => s (ix4 b h t j) := by
  unfold rowMax
  exact reduce_last _ s (constant (F := Ideal) S_ .f32 0xFF800000#32) reducesTo_S32x16x64x2112_S32x16x64_d3 (by decide) h_S_ b h t

theorem attend_apply (p : FVec Ideal S32x16x64x2112 .f32) (vv : FVec Ideal S32x16x2112x64 .f32) (r : Fin 2048) (w : Fin 1024) :
    attend p vv (ix2 r w) = ∑ x : Fin 2112,
      Ideal.div (p (ix4 ⟨r.val / 64, by omega⟩ ⟨w.val / 64, by omega⟩ ⟨r.val % 64, by omega⟩ x))
          (∑ y : Fin 2112, p (ix4 ⟨r.val / 64, by omega⟩ ⟨w.val / 64, by omega⟩ ⟨r.val % 64, by omega⟩ y))
        * vv (ix4 ⟨r.val / 64, by omega⟩ ⟨w.val / 64, by omega⟩ x ⟨w.val % 64, by omega⟩) := by
  pointwise [attend]

theorem weigh_apply (rm : FVec Ideal S32x16x64 .f32) (s : FVec Ideal S32x16x64x2112 .f32) (b : Fin 32) (h : Fin 16)
    (t : Fin 64) (j : Fin 2112) :
    weigh rm s (ix4 b h t j) = Ideal.exp (s (ix4 b h t j) - max (Ideal.ofBits .f32 0xFF800000#32) (rm (ix3 b h t))) := by
  pointwise [weigh]

theorem logits_apply (b : Fin 32) (h : Fin 16) (t : Fin 64) (j : Fin 2112) :
    logits q k ck f (ix4 b h t j)
      = Scalar.select (Scalar.cmpi .sle (BitVec.ofNat 32 j.val) (BitVec.ofNat 32 (2048 + t.val)))
        ((∑ x : Fin 64, q (ix4 b h t x) * joined ck k (ix4 b h j x)) * Ideal.ofBits .f32 0x3E000000#32
          + f (ix2 ⟨b.val * 16 + h.val, by omega⟩ ⟨2048 + t.val, by omega⟩)
          - f (ix2 ⟨b.val * 16 + h.val, by omega⟩ ⟨j.val, by omega⟩))
        (Ideal.ofBits .f32 0xFF800000#32) := by
  pointwise [logits, causal, sums]
  rfl

theorem joined_apply (b : Fin 32) (h : Fin 16) (j : Fin 2112) (d : Fin 64) :
    joined ck k (ix4 b h j d) = if hj : j.val < 2048 then ck (ix5 0 b h ⟨j.val, hj⟩ d) else k (ix4 b h ⟨j.val - 2048, by omega⟩ d) := by
  pointwise [joined]

end Cert.FoxRef
-- ==== Proof.FoxFinal.lean ====
module

public import proofs.«01_k».proof.Proof.FoxArray
public import proofs.«01_k».proof.Proof.FoxRead
public import proofs.«01_k».proof.Proof.FoxRef
public import proofs.«01_k».proof.Proof.Gen.Pre_finite_logits
public import Idealize.ShloMosaic.Lib.ReduceAll

/-! The kernel's attention of the sample batch is the reference's, where queries, keys and running sums are finite. -/

@[expose] public section

set_option maxRecDepth 16384

noncomputable section

namespace Cert.FoxFinal

open Idealize.ShloMosaic Idealize.ShloMosaic.TcCoe Idealize.ShloMosaic.Tactic Idealize.SL.Sem
open Cert.KernelIdeal Cert.Soft Cert.Fox

variable [Cert.KernelIdeal.Facts] [Cert.ReferenceIdeal.Facts]

/-- One query's masked logits as real numbers, over the cached and the new positions. -/
def lg (Q : Fin 64 → ℝ) (J : Fin (2048 + 64) → Fin 64 → ℝ) (A : Fin (2048 + 64) → ℝ) (t : Fin 64) (j : Fin (2048 + 64)) : Option ℝ :=
  if j.val ≤ 2048 + t.val then some ((∑ x, Q x * J j x) * (1 / 8) + (A ⟨2048 + t.val, by omega⟩ - A j)) else none

theorem eighth_eq : Ideal.ofBits .f32 0x3E000000#32 = ((1 / 8 : ℝ) : EReal) := by
  simp [Ideal.ofBits, Ideal.ieee, -EReal.coe_mul]; norm_num

section

variable (q k v : FVec Ideal S32x16x64x64 .f32) (ck cv : FVec Ideal S1x32x16x2048x64 .f32) (f : FVec Ideal S512x2176 .f32)
variable (b : Fin 32) (h : Fin 16) (t : Fin 64)
variable (Q : Fin 64 → ℝ) (J : Fin (2048 + 64) → Fin 64 → ℝ) (A : Fin (2048 + 64) → ℝ)
variable (hQ : ∀ x, q (ix4 b h t x) = (Q x : EReal)) (hJ : ∀ j x, FoxRef.joined ck k (ix4 b h j x) = (J j x : EReal))
variable (hA : ∀ j : Fin (2048 + 64), f (ix2 ⟨b.val * 16 + h.val, by omega⟩ ⟨j.val, by omega⟩) = (A j : EReal))
include hQ hJ hA

theorem ref_logit (j : Fin (2048 + 64)) : FoxRef.logits q k ck f (ix4 b h t j) = lift (lg Q J A t j) := by
  have hA' := hA ⟨2048 + t.val, by omega⟩
  rw [FoxRef.logits_apply, hA j]
  dsimp only at hA'
  rw [hA', eighth_eq, neg_inf_eq]
  simp only [hQ, hJ]
  rw [show Scalar.cmpi .sle (BitVec.ofNat 32 j.val) (BitVec.ofNat 32 (2048 + t.val))
    = BitVec.ofBool (decide (j.val ≤ 2048 + t.val)) from le_eq _ _ (by omega) (by omega), Scalar.select_ofBool]
  unfold lg
  by_cases hj : j.val ≤ 2048 + t.val
  · rw [if_pos hj, decide_eq_true hj, if_pos rfl]
    simp only [← EReal.coe_mul, ← coe_sum, ← EReal.coe_add, ← EReal.coe_sub]
    exact congrArg (fun r : ℝ => (r : EReal)) (add_sub_assoc _ _ _)
  · rw [if_neg hj, decide_eq_false hj, if_neg (by decide)]
    rfl

theorem old_logit (j : Fin 2048) :
    sOld (rows q b h) (cached ck b h) (decay f b h) (ix2 t j) = lift ((lg Q J A t (Fin.castAdd 64 j)).map (kap * ·)) := by
  have hA' := hA ⟨2048 + t.val, by omega⟩
  refine (sOld_apply _ _ _ t j Q (J (Fin.castAdd 64 j)) (A ⟨2048 + t.val, by omega⟩) (A (Fin.castAdd 64 j))
    hQ (fun x => ?_) hA' (hA (Fin.castAdd 64 j))).trans ?_
  · rw [← hJ, FoxRef.joined_apply, dif_pos (show (Fin.castAdd 64 j).val < 2048 from j.isLt)]
    rfl
  · unfold lg
    rw [if_pos (show (Fin.castAdd 64 j).val ≤ 2048 + t.val from le_trans j.isLt.le (Nat.le_add_right _ _))]

theorem new_logit (j : Fin 64) :
    sNew (rows q b h) (rows k b h) (decay f b h) (ix2 t j) = lift ((lg Q J A t (Fin.natAdd 2048 j)).map (kap * ·)) := by
  have hA' := hA ⟨2048 + t.val, by omega⟩
  refine (sNew_apply _ _ _ t j Q (J (Fin.natAdd 2048 j)) (A ⟨2048 + t.val, by omega⟩) (A (Fin.natAdd 2048 j))
    hQ (fun x => ?_) hA' (hA (Fin.natAdd 2048 j))).trans ?_
  · rw [← hJ, FoxRef.joined_apply, dif_neg (show ¬ (Fin.natAdd 2048 j).val < 2048 from Nat.not_lt.mpr (Nat.le_add_right _ _))]
    exact congrArg k (congrArg (fun y => ix4 b h y x) (Fin.ext (show j.val = 2048 + j.val - 2048 by omega)))
  · unfold lg
    by_cases hj : j.val ≤ t.val
    · rw [if_pos hj, if_pos (show (Fin.natAdd 2048 j).val ≤ 2048 + t.val from Nat.add_le_add_left hj 2048)]
    · rw [if_neg hj, if_neg (show ¬ (Fin.natAdd 2048 j).val ≤ 2048 + t.val from fun h' => hj (Nat.le_of_add_le_add_left h'))]

theorem head_eq (d : Fin 64) :
    head (rows q b h) (rows k b h) (rows v b h) (cached ck b h) (cached cv b h) (decay f b h) (ix2 t d)
      = ∑ j : Fin (2048 + 64), Ideal.div (Ideal.exp (lift (lg Q J A t j) - top (lg Q J A t)))
          (∑ i, Ideal.exp (lift (lg Q J A t i) - top (lg Q J A t))) * FoxRef.joined cv v (ix4 b h j d) := by
  unfold head
  rw [fin_apply _ _ _ _ t d _ rfl]
  simp only [old_logit q k ck f b h t Q J A hQ hJ hA, new_logit q k ck f b h t Q J A hQ hJ hA]
  have hv : ∀ j : Fin 2048, cached cv b h (ix5 0 0 0 d j) = FoxRef.joined cv v (ix4 b h (Fin.castAdd 64 j) d) := fun j => by
    rw [FoxRef.joined_apply, dif_pos (show (Fin.castAdd 64 j).val < 2048 from j.isLt)]
    rfl
  have hw : ∀ j : Fin 64, rows v b h (ix4 0 0 j d) = FoxRef.joined cv v (ix4 b h (Fin.natAdd 2048 j) d) := fun j => by
    rw [FoxRef.joined_apply, dif_neg (show ¬ (Fin.natAdd 2048 j).val < 2048 from Nat.not_lt.mpr (Nat.le_add_right _ _))]
    exact congrArg v (congrArg (fun y => ix4 b h y d) (Fin.ext (show j.val = 2048 + j.val - 2048 by omega)))
  simp only [hv, hw]
  exact soft_eq (lg Q J A t) ⟨0, by omega⟩ (by simp [lg]) (fun j => FoxRef.joined cv v (ix4 b h j d)) _ rfl

end

/-- The two results agree, element by element. -/
theorem value_eq (q k v : FVec Ideal S32x16x64x64 .f32) (ck cv : FVec Ideal S1x32x16x2048x64 .f32) (f : FVec Ideal S512x2176 .f32)
    (hq : ∀ i, ∃ r : ℝ, q i = (r : EReal)) (hk : ∀ i, ∃ r : ℝ, k i = (r : EReal)) (hck : ∀ i, ∃ r : ℝ, ck i = (r : EReal))
    (hf : ∀ (a : Fin 512) (j : Fin (2048 + 64)), ∃ r : ℝ, f (ix2 a ⟨j.val, by omega⟩) = (r : EReal)) :
    result q k v ck cv f = FoxRef.out q k v ck cv f := by
  funext i
  have e : i = ix2 (⟨(i 0).val, (i 0).isLt⟩ : Fin 2048) (⟨(i 1).val, (i 1).isLt⟩ : Fin 1024) := by
    funext a; fin_cases a <;> rfl
  obtain ⟨r, w, rfl⟩ : ∃ (r : Fin 2048) (w : Fin 1024), i = ix2 r w := ⟨_, _, e⟩
  let b : Fin 32 := ⟨r.val / 64, by omega⟩
  let h : Fin 16 := ⟨w.val / 64, by omega⟩
  let t : Fin 64 := ⟨r.val % 64, by omega⟩
  let d : Fin 64 := ⟨w.val % 64, by omega⟩
  have hj : ∀ (j : Fin (2048 + 64)) (x : Fin 64), ∃ y : ℝ, FoxRef.joined ck k (ix4 b h j x) = (y : EReal) := fun j x => by
    rw [FoxRef.joined_apply]
    split
    · exact hck _
    · exact hk _
  choose Q hQ using fun x => hq (ix4 b h t x)
  choose J hJ using hj
  choose A hA using hf ⟨b.val * 16 + h.val, by omega⟩
  refine (head_eq q k v ck cv f b h t Q J A hQ hJ hA d).trans ?_
  unfold FoxRef.out
  rw [FoxRef.attend_apply]
  have hl := ref_logit q k ck f b h t Q J A hQ hJ hA
  have hm : FoxRef.rowMax (FoxRef.logits q k ck f) (ix3 b h t) = top (lg Q J A t) := by
    rw [FoxRef.rowMax_apply, neg_inf_eq]
    exact congrArg (Finset.fold max ⊥ · Finset.univ) (funext hl)
  have hw : ∀ j : Fin (2048 + 64), FoxRef.weigh (FoxRef.rowMax (FoxRef.logits q k ck f)) (FoxRef.logits q k ck f) (ix4 b h t j)
      = Ideal.exp (lift (lg Q J A t j) - top (lg Q J A t)) := fun j => by
    rw [FoxRef.weigh_apply, hm, neg_inf_eq, bot_sup_eq, hl j]
  exact (Finset.sum_congr rfl fun j _ => congrArg (· * FoxRef.joined cv v (ix4 b h j d))
    (congrArg₂ Ideal.div (hw j) (Finset.sum_congr rfl fun y _ => hw y))).symm

section

variable [Cert.Pre_finite_logits.Facts]

/-- An element whose magnitude compares below infinity is a real number. -/
theorem real_of_lt {x : EReal} (h : FloatOps.cmpf (F := Ideal) (φ := .f32) .olt (max x (-x)) (Ideal.ofBits .f32 0x7F800000#32) = 1#1) :
    ∃ r : ℝ, x = (r : EReal) := by
  refine coe_of_fin ?_
  have ht : Ideal.ofBits .f32 0x7F800000#32 = (⊤ : EReal) := by simp [Ideal.ofBits, Ideal.ieee]
  rw [ht] at h
  by_contra hn
  simp [FloatOps.cmpf, Ideal.cmp, hn] at h

theorem pre_reals (q k v : FVec Ideal S32x16x64x64 .f32) (ck cv : FVec Ideal S1x32x16x2048x64 .f32) (f : FVec Ideal S512x2176 .f32)
    (h : Cert.Pre_finite_logits.fn (F := Ideal) q k v ck cv f ix0 = 1#1) :
    (∀ i, ∃ r : ℝ, q i = (r : EReal)) ∧ (∀ i, ∃ r : ℝ, k i = (r : EReal)) ∧ (∀ i, ∃ r : ℝ, ck i = (r : EReal))
      ∧ ∀ (a : Fin 512) (j : Fin (2048 + 64)), ∃ r : ℝ, f (ix2 a ⟨j.val, by omega⟩) = (r : EReal) := by
  unfold Cert.Pre_finite_logits.fn Cert.Pre_finite_logits.fn_part1 at h
  dsimp only at h
  obtain ⟨h, hf⟩ := IntOp.andi_eq_one.1 h
  obtain ⟨h, hc⟩ := IntOp.andi_eq_one.1 h
  obtain ⟨hq, hk⟩ := IntOp.andi_eq_one.1 h
  have : Subsingleton Cert.Pre_finite_logits.S_.Idx := ⟨fun a b => funext fun x => x.elim0⟩
  refine ⟨fun i => real_of_lt (Host.reduce_andi_all _ _ _ _ _ hq i), fun i => real_of_lt (Host.reduce_andi_all _ _ _ _ _ hk i),
    fun i => real_of_lt (Host.reduce_andi_all _ _ _ _ _ hc i), fun a j => ?_⟩
  have hx := real_of_lt (Host.reduce_andi_all _ _ _ _ _ hf (ix2 a (⟨j.val, j.isLt⟩ : Fin 2112)))
  have e : extractStridedSlice Cert.Pre_finite_logits.S512x2112 ![0, 0] f Cert.Pre_finite_logits.Facts.slices_S512x2176_S512x2112_0_0
      (ix2 a (⟨j.val, j.isLt⟩ : Fin 2112)) = f (ix2 a ⟨j.val, by omega⟩) := by
    pointwise
  exact e ▸ hx

theorem value_of_pre (q k v : FVec Ideal S32x16x64x64 .f32) (ck cv : FVec Ideal S1x32x16x2048x64 .f32) (f : FVec Ideal S512x2176 .f32)
    (h : Cert.Pre_finite_logits.fn (F := Ideal) q k v ck cv f = fun _ => 1#1) :
    FoxRef.out q k v ck cv f = result q k v ck cv f :=
  have hr := pre_reals q k v ck cv f (congrFun h ix0)
  (value_eq q k v ck cv f hr.1 hr.2.1 hr.2.2.1 hr.2.2.2).symm

end

end Cert.FoxFinal
-- ==== Proof.FfnBody.lean ====
module

public import proofs.«01_k».proof.Proof.Gen.KernelYPIdeal.Value
public import Idealize.ShloMosaic.Lib.Pointwise
public import Idealize.ShloMosaic.Lib.Pipeline.ValueKit

/-! One block of the feed-forward call: what the body leaves in its result block, one hidden tile at a time. -/

@[expose] public section

set_option maxRecDepth 16384

noncomputable section

namespace Cert.Ffn

open Idealize.ShloMosaic Idealize.ShloMosaic.TcCoe Idealize.ShloMosaic.Tactic
open Cert.KernelYPIdeal Cert.KernelYPIdeal.Gen

variable [Cert.KernelYPIdeal.Facts]

/-- The residual stream with the mixer's output projected onto it. -/
def mix (x : Vec Ideal S1024x1024 .f32) (o w : Vec Ideal S1024x1024 .bf16) : FVec Ideal S1024x1024 .f32 :=
  addf x (matmul (φ₁ := .bf16) (φ₂ := .bf16) dot_S1024x1024_S1024x1024_S1024x1024_1_0_0_1_n_n none o (shapeCast S1024x1024 w shapeCasts_S1024x1024_S1024x1024)
    (constant S1024x1024 .f32 0x00000000#32))

/-- A block's rows divided by their root mean squares and scaled. -/
def norm (y : FVec Ideal S1024x1024 .f32) (g : Vec Ideal S1x1024 .f32) : FVec Ideal S1024x1024 .f32 :=
  mulf (mulf y (broadcastTo S1024x1024 (rsqrt (addf (divf
      (shapeCast S1024x1 (multiReduction .add [1] S1024 (mulf y y) 0x00000000#32 reduces_S1024x1024_S1024 (.inl rfl) rfl) shapeCasts_S1024_S1024x1)
      (broadcast S1024x1 (Scalar.ofBits .f32 0x44800000#32))) (broadcast S1024x1 (Scalar.ofBits .f32 0x358637BD#32)))) broadcasts_S1024x1_S1024x1024))
    (broadcastTo S1024x1024 (shapeCast S1x1024 g shapeCasts_S1x1024_S1x1024) broadcasts_S1x1024_S1024x1024)

/-- One half of a hidden tile: 256 columns of the inner projection. -/
def half (h : FVec Ideal S1024x1024 .bf16) (w : Vec Ideal S1x1024x256 .bf16) : FVec Ideal S1024x256 .f32 :=
  matmul (φ₁ := .bf16) (φ₂ := .bf16) dot_S1024x1024_S1024x256_S1024x256_1_0_0_1_n_n none h (shapeCast S1024x256 w shapeCasts_S1x1024x256_S1024x256)
    (constant S1024x256 .f32 0x00000000#32)

/-- The gate's half through the logistic function, times the other half. -/
def gated (a b : FVec Ideal S1024x256 .f32) : FVec Ideal S1024x256 .f32 :=
  mulf (mulf a (divf (broadcast S1024x256 (Scalar.ofBits .f32 0x3F800000#32)) (addf (broadcast S1024x256 (Scalar.ofBits .f32 0x3F800000#32))
    (exp (subf (broadcast S1024x256 (Scalar.ofBits .f32 0x00000000#32)) a))))) b

/-- One hidden tile's share of the block's result added on. -/
def step (h : FVec Ideal S1024x1024 .bf16) (y : FVec Ideal S1024x1024 .f32) (wg wu : Vec Ideal S1x1024x256 .bf16)
    (wo : Vec Ideal S1x256x1024 .bf16) : FVec Ideal S1024x1024 .f32 :=
  addf y (matmul (φ₁ := .bf16) (φ₂ := .bf16) dot_S1024x256_S256x1024_S1024x1024_1_0_0_1_n_n none (truncf .bf16 (gated (half h wg) (half h wu)) bitsLt_bf16_f32)
    (shapeCast S256x1024 wo shapeCasts_S1x256x1024_S256x1024) (constant S1024x1024 .f32 0x00000000#32))

/-- The eleven hidden tiles in the body's order. -/
def sweep (h : FVec Ideal S1024x1024 .bf16) (y : FVec Ideal S1024x1024 .f32) (wi : Vec Ideal S1x1024x5632 .bf16)
    (wo : Vec Ideal S1x2816x1024 .bf16) : FVec Ideal S1024x1024 .f32 :=
  step h (step h (step h (step h (step h (step h (step h (step h (step h (step h (step h y
    (View.ld wi r0_2) (View.ld wi r0_3) (View.ld wo r0_4))
    (View.ld wi r0_5) (View.ld wi r0_6) (View.ld wo r0_7))
    (View.ld wi r0_8) (View.ld wi r0_9) (View.ld wo r0_10))
    (View.ld wi r0_11) (View.ld wi r0_12) (View.ld wo r0_13))
    (View.ld wi r0_14) (View.ld wi r0_15) (View.ld wo r0_16))
    (View.ld wi r0_17) (View.ld wi r0_18) (View.ld wo r0_19))
    (View.ld wi r0_20) (View.ld wi r0_21) (View.ld wo r0_22))
    (View.ld wi r0_23) (View.ld wi r0_24) (View.ld wo r0_25))
    (View.ld wi r0_26) (View.ld wi r0_27) (View.ld wo r0_28))
    (View.ld wi r0_29) (View.ld wi r0_30) (View.ld wo r0_31))
    (View.ld wi r0_32) (View.ld wi r0_33) (View.ld wo r0_34)

/-- The block the body stores. -/
def block (x : Vec Ideal S1024x1024 .f32) (o w : Vec Ideal S1024x1024 .bf16) (g : Vec Ideal S1x1024 .f32)
    (wi : Vec Ideal S1x1024x5632 .bf16) (wo : Vec Ideal S1x2816x1024 .bf16) (gf : Vec Ideal S1x1024 .f32) :
    FVec Ideal S1024x1024 .f32 :=
  norm (sweep (truncf .bf16 (norm (mix (View.ld x r0_0) (View.ld o r0_0) (View.ld w r0_0)) (View.ld g r0_1)) bitsLt_bf16_f32)
    (mix (View.ld x r0_0) (View.ld o r0_0) (View.ld w r0_0)) wi wo) (View.ld gf r0_1)

theorem out_eq (x : Vec Ideal S1024x1024 .f32) (o w : Vec Ideal S1024x1024 .bf16) (g : Vec Ideal S1x1024 .f32)
    (wi : Vec Ideal S1x1024x5632 .bf16) (wo : Vec Ideal S1x2816x1024 .bf16) (gf : Vec Ideal S1x1024 .f32) :
    out0_7 x o w g wi wo gf = View.canon [⟨r0_0, block x o w g wi wo gf⟩] := rfl

theorem mix_apply (x : Vec Ideal S1024x1024 .f32) (o w : Vec Ideal S1024x1024 .bf16) (r n : Fin 1024) :
    mix x o w (ix2 r n) = x (ix2 r n) + ∑ k : Fin 1024, o (ix2 r k) * w (ix2 k n) := by
  pointwise [mix]

theorem norm_apply (y : FVec Ideal S1024x1024 .f32) (g : Vec Ideal S1x1024 .f32) (r n : Fin 1024) :
    norm y g (ix2 r n) = y (ix2 r n) * Ideal.rsqrt (Ideal.div (∑ k : Fin 1024, y (ix2 r k) * y (ix2 r k)) (Ideal.ofBits .f32 0x44800000#32)
      + Ideal.ofBits .f32 0x358637BD#32) * g (ix2 0 n) := by
  pointwise [norm]

theorem step_apply (h : FVec Ideal S1024x1024 .bf16) (y : FVec Ideal S1024x1024 .f32) (wg wu : Vec Ideal S1x1024x256 .bf16)
    (wo : Vec Ideal S1x256x1024 .bf16) (r n : Fin 1024) :
    step h y wg wu wo (ix2 r n) = y (ix2 r n) + ∑ j : Fin 256,
      (∑ k : Fin 1024, h (ix2 r k) * wg (ix3 0 k j))
        * Ideal.div (Ideal.ofBits .f32 0x3F800000#32) (Ideal.ofBits .f32 0x3F800000#32 + Ideal.exp (0 - ∑ k : Fin 1024, h (ix2 r k) * wg (ix3 0 k j)))
        * (∑ k : Fin 1024, h (ix2 r k) * wu (ix3 0 k j)) * wo (ix3 0 j n) := by
  pointwise [step, gated, half]

end Cert.Ffn
-- ==== Proof.FfnRow.lean ====
module

public import proofs.«01_k».proof.Proof.FfnBody

/-! One token's feed-forward network as a function of that token's rows, and the body's block as that function of each
    row of its blocks: the eleven hidden tiles' sums are one sum over the hidden units. -/

@[expose] public section

set_option maxRecDepth 16384

noncomputable section

namespace Cert.Ffn

open Idealize.ShloMosaic Idealize.ShloMosaic.TcCoe Idealize.ShloMosaic.Tactic

/-- The logistic gate: the first number times its logistic, times the second. -/
def gate (a b : EReal) : EReal :=
  a * Ideal.div (Ideal.ofBits .f32 0x3F800000#32) (Ideal.ofBits .f32 0x3F800000#32 + Ideal.exp (-a)) * b

/-- A row divided by its root mean square and scaled. -/
def unit (y g : Fin 1024 → EReal) (n : Fin 1024) : EReal :=
  y n * Ideal.rsqrt (Ideal.div (∑ k, y k * y k) (Ideal.ofBits .f32 0x44800000#32) + Ideal.ofBits .f32 0x358637BD#32) * g n

/-- A row with the mixer's projected output added. -/
def joinRow (x o : Fin 1024 → EReal) (w : Fin 1024 → Fin 1024 → EReal) (n : Fin 1024) : EReal :=
  x n + ∑ k, o k * w k n

/-- One hidden unit of a normed row. -/
def hidden (h : Fin 1024 → EReal) (wi : Fin 1024 → Fin 5632 → EReal) (j : Fin 2816) : EReal :=
  gate (∑ k, h k * wi k ⟨j.val, by omega⟩) (∑ k, h k * wi k ⟨2816 + j.val, by omega⟩)

/-- A token's row of the result. -/
def row (x o : Fin 1024 → EReal) (w : Fin 1024 → Fin 1024 → EReal) (g : Fin 1024 → EReal) (wi : Fin 1024 → Fin 5632 → EReal)
    (wo : Fin 2816 → Fin 1024 → EReal) (gf : Fin 1024 → EReal) : Fin 1024 → EReal :=
  unit (fun n => joinRow x o w n + ∑ j, hidden (unit (joinRow x o w) g) wi j * wo j n) gf

/-- A sum over the hidden units, tile by tile. -/
theorem sum_tiles (f : Fin 2816 → EReal) :
    ∑ j, f j = ∑ t : Fin 11, ∑ j : Fin 256, f ⟨256 * t.val + j.val, by omega⟩ := by
  rw [← Fintype.sum_prod_type' (f := fun (t : Fin 11) (j : Fin 256) => f ⟨256 * t.val + j.val, by omega⟩)]
  refine (Fintype.sum_equiv (finProdFinEquiv (m := 11) (n := 256)) _ _ fun p => ?_).symm
  exact congrArg f (Fin.ext (by simp [finProdFinEquiv, Nat.add_comm]))

open Cert.KernelYPIdeal Cert.KernelYPIdeal.Gen

variable [Cert.KernelYPIdeal.Facts]

/-- One tile's step with the tile's columns named by its number. -/
theorem step_tile (h : FVec Ideal S1024x1024 .bf16) (y : FVec Ideal S1024x1024 .f32) (wi : Vec Ideal S1x1024x5632 .bf16)
    (wo : Vec Ideal S1x2816x1024 .bf16) (t a b : ℕ) (ht : t < 11) (ha : a = 256 * t) (hb : b = 2816 + 256 * t) (i0 i1 i2) (r n : Fin 1024) :
    step h y (View.ld wi (Rect.unit (s := S1x1024x5632) ![0, 0, a] S1x1024x256.size i0))
      (View.ld wi (Rect.unit (s := S1x1024x5632) ![0, 0, b] S1x1024x256.size i1))
      (View.ld wo (Rect.unit (s := S1x2816x1024) ![0, a, 0] S1x256x1024.size i2)) (ix2 r n)
    = y (ix2 r n) + ∑ j : Fin 256, hidden (fun k => h (ix2 r k)) (fun k c => wi (ix3 0 k c)) ⟨256 * t + j.val, by omega⟩
        * wo (ix3 0 ⟨256 * t + j.val, by omega⟩ n) := by
  subst ha hb
  have e0 : ∀ (k : Fin 1024) (j : Fin 256), View.ld wi (Rect.unit (s := S1x1024x5632) ![0, 0, 256 * t] S1x1024x256.size i0) (ix3 0 k j)
      = wi (ix3 0 k ⟨256 * t + j.val, by omega⟩) := fun k j =>
    View.ld_unit_apply_of _ _ _ _ _ _ (fun a => by fin_cases a <;> simp)
  have e1 : ∀ (k : Fin 1024) (j : Fin 256), View.ld wi (Rect.unit (s := S1x1024x5632) ![0, 0, 2816 + 256 * t] S1x1024x256.size i1) (ix3 0 k j)
      = wi (ix3 0 k ⟨2816 + (256 * t + j.val), by omega⟩) := fun k j =>
    View.ld_unit_apply_of _ _ _ _ _ _ (fun a => by fin_cases a <;> simp [Nat.add_assoc])
  have e2 : ∀ j : Fin 256, View.ld wo (Rect.unit (s := S1x2816x1024) ![0, 256 * t, 0] S1x256x1024.size i2) (ix3 0 j n)
      = wo (ix3 0 ⟨256 * t + j.val, by omega⟩ n) := fun j =>
    View.ld_unit_apply_of _ _ _ _ _ _ (fun a => by fin_cases a <;> simp)
  rw [step_apply]
  simp only [e0, e1, e2, hidden, gate, zero_sub]

theorem sweep_apply (h : FVec Ideal S1024x1024 .bf16) (y : FVec Ideal S1024x1024 .f32) (wi : Vec Ideal S1x1024x5632 .bf16)
    (wo : Vec Ideal S1x2816x1024 .bf16) (r n : Fin 1024) :
    sweep h y wi wo (ix2 r n) = y (ix2 r n) + ∑ j, hidden (fun k => h (ix2 r k)) (fun k c => wi (ix3 0 k c)) j * wo (ix3 0 j n) := by
  rw [sum_tiles]
  unfold sweep
  rw [step_tile h _ wi wo 10 _ _ (by decide) rfl rfl, step_tile h _ wi wo 9 _ _ (by decide) rfl rfl,
    step_tile h _ wi wo 8 _ _ (by decide) rfl rfl, step_tile h _ wi wo 7 _ _ (by decide) rfl rfl,
    step_tile h _ wi wo 6 _ _ (by decide) rfl rfl, step_tile h _ wi wo 5 _ _ (by decide) rfl rfl,
    step_tile h _ wi wo 4 _ _ (by decide) rfl rfl, step_tile h _ wi wo 3 _ _ (by decide) rfl rfl,
    step_tile h _ wi wo 2 _ _ (by decide) rfl rfl, step_tile h _ wi wo 1 _ _ (by decide) rfl rfl,
    step_tile h _ wi wo 0 _ _ (by decide) rfl rfl]
  generalize hidden (fun k => h (ix2 r k)) (fun k c => wi (ix3 0 k c)) = u
  simp only [Fin.sum_univ_castSucc (n := 10), Fin.sum_univ_castSucc (n := 9), Fin.sum_univ_castSucc (n := 8),
    Fin.sum_univ_castSucc (n := 7), Fin.sum_univ_castSucc (n := 6), Fin.sum_univ_castSucc (n := 5), Fin.sum_univ_castSucc (n := 4),
    Fin.sum_univ_castSucc (n := 3), Fin.sum_univ_castSucc (n := 2), Fin.sum_univ_castSucc (n := 1), Fin.sum_univ_castSucc (n := 0),
    Fin.sum_univ_zero, zero_add, add_assoc]
  rfl

/-- Each row of the stored block is the row function of the blocks' rows. -/
theorem block_apply (x : Vec Ideal S1024x1024 .f32) (o w : Vec Ideal S1024x1024 .bf16) (g : Vec Ideal S1x1024 .f32)
    (wi : Vec Ideal S1x1024x5632 .bf16) (wo : Vec Ideal S1x2816x1024 .bf16) (gf : Vec Ideal S1x1024 .f32) (r n : Fin 1024) :
    block x o w g wi wo gf (ix2 r n) = row (fun k => x (ix2 r k)) (fun k => o (ix2 r k)) (fun k c => w (ix2 k c)) (fun k => g (ix2 0 k))
      (fun k c => wi (ix3 0 k c)) (fun k c => wo (ix3 0 k c)) (fun k => gf (ix2 0 k)) n := by
  have l0 : ∀ {e} (v : Vec Ideal S1024x1024 e), View.ld v r0_0 = v := fun v => View.ld_unit_lit' _ v (by decide)
  have l1 : ∀ (v : Vec Ideal S1x1024 .f32), View.ld v r0_1 = v := fun v => View.ld_unit_lit' _ v (by decide)
  have hn : ∀ k : Fin 1024, (truncf .bf16 (norm (mix x o w) g) bitsLt_bf16_f32 : FVec Ideal S1024x1024 .bf16) (ix2 r k)
      = norm (mix x o w) g (ix2 r k) := fun _ => rfl
  unfold block
  rw [l0, l0, l0, l1, l1]
  simp only [norm_apply, sweep_apply, hn, mix_apply, row, unit, joinRow]
  rfl

end Cert.Ffn
-- ==== Proof.FfnArray.lean ====
module

public import proofs.«01_k».proof.Proof.FfnRow

/-! The feed-forward call's result array of the prompt: each row is the row function of the arguments' rows. -/

@[expose] public section

set_option maxRecDepth 16384

noncomputable section

namespace Cert.FfnP

open Idealize.ShloMosaic Idealize.ShloMosaic.TcCoe Idealize.ShloMosaic.Tactic Idealize.SL.Sem
open Cert.KernelYPIdeal Cert.KernelYPIdeal.Gen

variable [Cert.KernelYPIdeal.Facts]

/-- The result array of the argument arrays. -/
def result (x : Vec Ideal S16384x1024 .f32) (o : Vec Ideal S16384x1024 .bf16) (w : Vec Ideal S1x1024x1024 .f32) (g : Vec Ideal S2x1024 .f32)
    (wi : Vec Ideal S2x1024x5632 .f32) (wo : Vec Ideal S2x2816x1024 .f32) (gf : Vec Ideal S1024 .f32) : FVec Ideal S16384x1024 .f32 := fun i =>
  Ffn.row (fun k => x (ix2 (i 0) k)) (fun k => o (ix2 (i 0) k)) (fun k c => w (ix3 0 k c)) (fun k => g (ix2 1 k))
    (fun k c => wi (ix3 1 k c)) (fun k c => wo (ix3 1 k c)) (fun k => gf (ix1 k)) (i 1)

theorem idx : ∀ t : Fin grid0.N, win0_0.index t = ![t.val, 0] ∧ win0_1.index t = ![t.val, 0]
    ∧ win0_2.index t = ![0, 0] ∧ win0_3.index t = ![0, 0] ∧ win0_4.index t = ![1, 0, 0]
    ∧ win0_5.index t = ![1, 0, 0] ∧ win0_6.index t = ![0, 0] ∧ win0_7.index t = ![t.val, 0] := by
  decide +kernel

variable (m : (ℓ : Loc nD τ sig) → Buf (Elt Ideal) ℓ) (c : Dev nD)

theorem blk0 (t : Fin grid0.N) (r k : Fin 1024) (R : Fin 16384) (hR : R.val = t.val * 1024 + r.val) :
    iblk m c 0 t (ix2 r k) = (m (c.tc.loc main_arg0) : Vec Ideal S16384x1024 .f32) (ix2 R k) := by
  blk_simp [iblk, idx t]
  blk_ext [iblk, V, idx t]

theorem blk1 (t : Fin grid0.N) (r k : Fin 1024) (R : Fin 16384) (hR : R.val = t.val * 1024 + r.val) :
    iblk m c 1 t (ix2 r k) = (m (c.tc.loc main_arg1) : Vec Ideal S16384x1024 .bf16) (ix2 R k) := by
  blk_simp [iblk, idx t]
  blk_ext [iblk, V, idx t]

theorem blk2 (t : Fin grid0.N) (k n : Fin 1024) :
    iblk m c 2 t (ix2 k n) = (m (c.tc.loc main_arg2) : Vec Ideal S1x1024x1024 .f32) (ix3 0 k n) := by
  blk_simp [iblk, idx t]
  entry_read
  pointwise
  blk_ext [iblk, V, idx t]

theorem blk3 (t : Fin grid0.N) (k : Fin 1024) :
    iblk m c 3 t (ix2 0 k) = (m (c.tc.loc main_arg3) : Vec Ideal S2x1024 .f32) (ix2 1 k) := by
  blk_simp [iblk, idx t]
  entry_read
  pointwise
  blk_ext [iblk, V, idx t]

theorem blk4 (t : Fin grid0.N) (k : Fin 1024) (n : Fin 5632) :
    iblk m c 4 t (ix3 0 k n) = (m (c.tc.loc main_arg4) : Vec Ideal S2x1024x5632 .f32) (ix3 1 k n) := by
  blk_simp [iblk, idx t]
  entry_read
  pointwise
  blk_ext [iblk, V, idx t]

theorem blk5 (t : Fin grid0.N) (k : Fin 2816) (n : Fin 1024) :
    iblk m c 5 t (ix3 0 k n) = (m (c.tc.loc main_arg5) : Vec Ideal S2x2816x1024 .f32) (ix3 1 k n) := by
  blk_simp [iblk, idx t]
  entry_read
  pointwise
  blk_ext [iblk, V, idx t]

theorem blk6 (t : Fin grid0.N) (k : Fin 1024) :
    iblk m c 6 t (ix2 0 k) = (m (c.tc.loc main_arg6) : Vec Ideal S1024 .f32) (ix1 k) := by
  blk_simp [iblk, idx t]
  entry_read
  pointwise
  blk_ext [iblk, V, idx t]

/-- A block's rows are that part of the result array. -/
theorem tile (t : Fin grid0.N) (y : S1024x1024.Idx) (i : S16384x1024.Idx) (h0 : (i 0).val = t.val * 1024 + (y 0).val)
    (h1 : (i 1).val = (y 1).val) :
    Ffn.block (iblk m c 0 t) (iblk m c 1 t) (iblk m c 2 t) (iblk m c 3 t) (iblk m c 4 t) (iblk m c 5 t) (iblk m c 6 t) y
    = result (m (c.tc.loc main_arg0)) (m (c.tc.loc main_arg1)) (m (c.tc.loc main_arg2)) (m (c.tc.loc main_arg3))
      (m (c.tc.loc main_arg4)) (m (c.tc.loc main_arg5)) (m (c.tc.loc main_arg6)) i := by
  obtain ⟨r, n, rfl⟩ : ∃ r n : Fin 1024, y = ix2 r n := ⟨y 0, y 1, by
    funext a
    fin_cases a <;> rfl⟩
  rw [Ffn.block_apply]
  unfold result
  simp only [fun k => blk0 m c t r k (i 0) h0, fun k => blk1 m c t r k (i 0) h0, blk2, blk3, blk4, blk5, blk6]
  exact congrArg _ (Fin.ext h1.symm)

theorem array_eq : (dats m 0 c).arrAt 7 cfg0.N
    = result (m (c.tc.loc main_arg0)) (m (c.tc.loc main_arg1)) (m (c.tc.loc main_arg2)) (m (c.tc.loc main_arg3))
      (m (c.tc.loc main_arg4)) (m (c.tc.loc main_arg5)) (m (c.tc.loc main_arg6)) := by
  refine (dats m 0 c).arrAt_eq_of_covers 7 _ (by decide +kernel) fun t hf y => ?_
  blk_simp
  rw [after0_7, Ffn.out_eq, View.canon_cons_unit_lit' _ _ _ (by decide)]
  exact tile m c t y _ (by blk_simp [idx t]) (by blk_simp [idx t])

end Cert.FfnP
-- ==== Proof.FfnRef.lean ====
module

public import proofs.«01_k».proof.Proof.FfnArray
public import proofs.«01_k».proof.Proof.Gen.ReferenceYPIdeal.Run
public import Idealize.ShloMosaic.Lib.Pointwise
public import Idealize.ShloMosaic.Lib.Tactic.CleanTypes

/-! The reference's output projection, feed-forward network and final norm of the prompt, element by element. -/

@[expose] public section

set_option maxRecDepth 16384

noncomputable section

namespace Cert.FfnRef

open Idealize.ShloMosaic Idealize.ShloMosaic.TcCoe Idealize.ShloMosaic.Tactic Idealize.SL.Sem
open Cert.ReferenceYPIdeal Cert.ReferenceYPIdeal.Facts₀ Cert.ReferenceYPIdeal.Facts

variable [Cert.ReferenceYPIdeal.Facts]

/-- The residual stream with the mixer's output projected onto it. -/
def mix (x : FVec Ideal S16384x1024 .f32) (o : FVec Ideal S16384x1024 .bf16) (w : FVec Ideal S1x1024x1024 .f32) : FVec Ideal S16384x1024 .f32 :=
  addf x (Host.dotGeneral dot_S16384x1024_S1024x1024_S16384x1024_1_0_0_1_n_n none (extf .f32 o bitsLt_bf16_f32)
    (shapeCast _ w shapeCasts_S1x1024x1024_S1024x1024))

/-- Rows divided by their root mean squares and scaled. -/
def norm (y : FVec Ideal S16384x1024 .f32) (g : FVec Ideal S1024 .f32) : FVec Ideal S16384x1024 .f32 :=
  mulf (mulf y (broadcastInDim S16384x1024 ![0, 1] bcast_S16384x1_S16384x1024_0_1 (Host.rsqrt (addf (Host.divf
      (broadcastInDim S16384x1 ![0] bcast_S16384_S16384x1_0
        (Host.reduceAdd (mulf y y) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The inner projection, both halves side by side. -/
def inner (h : FVec Ideal S16384x1024 .f32) (wi : FVec Ideal S2x1024x5632 .f32) : FVec Ideal S16384x5632 .f32 :=
  Host.dotGeneral dot_S16384x1024_S1024x5632_S16384x5632_1_0_0_1_n_n none h
    (shapeCast _ (extractStridedSlice S1x1024x5632 ![1, 0, 0] wi slices_S2x1024x5632_S1x1024x5632_1_0_0) shapeCasts_S1x1024x5632_S1024x5632)

/-- The gate's half times its logistic function, times the other half. -/
def gated (u : FVec Ideal S16384x5632 .f32) : FVec Ideal S16384x2816 .f32 :=
  mulf (mulf (extractStridedSlice S16384x2816 ![0, 0] u slices_S16384x5632_S16384x2816_0_0)
    (Host.divf (broadcastInDim S16384x2816 ![] bcast_S_S16384x2816 (constant S_ .f32 0x3F800000#32))
      (addf (broadcastInDim S16384x2816 ![] bcast_S_S16384x2816 (constant S_ .f32 0x3F800000#32))
        (Host.exp (Host.negf (extractStridedSlice S16384x2816 ![0, 0] u slices_S16384x5632_S16384x2816_0_0))))))
    (extractStridedSlice S16384x2816 ![0, 2816] u slices_S16384x5632_S16384x2816_0_2816)

/-- The outer projection added to the residual stream. -/
def outer (y : FVec Ideal S16384x1024 .f32) (a : FVec Ideal S16384x2816 .f32) (wo : FVec Ideal S2x2816x1024 .f32) : FVec Ideal S16384x1024 .f32 :=
  addf y (Host.dotGeneral dot_S16384x2816_S2816x1024_S16384x1024_1_0_0_1_n_n none a
    (shapeCast _ (extractStridedSlice S1x2816x1024 ![1, 0, 0] wo slices_S2x2816x1024_S1x2816x1024_1_0_0) shapeCasts_S1x2816x1024_S2816x1024))

/-- The second layer's scale of the norm before the feed-forward network. -/
def scale (g : FVec Ideal S2x1024 .f32) : FVec Ideal S1024 .f32 :=
  shapeCast _ (extractStridedSlice S1x1024 ![1, 0] g slices_S2x1024_S1x1024_1_0) shapeCasts_S1x1024_S1024

/-- The reference of its argument arrays. -/
def out (x : FVec Ideal S16384x1024 .f32) (o : FVec Ideal S16384x1024 .bf16) (w : FVec Ideal S1x1024x1024 .f32) (g : FVec Ideal S2x1024 .f32)
    (wi : FVec Ideal S2x1024x5632 .f32) (wo : FVec Ideal S2x2816x1024 .f32) (gf : FVec Ideal S1024 .f32) : FVec Ideal S16384x1024 .f32 :=
  norm (outer (mix x o w) (gated (inner (norm (mix x o w) (scale g)) wi)) wo) gf

theorem run_eq (m : (ℓ : Loc nD τ sig) → Buf (Elt Ideal) ℓ) (c : Dev nD) :
    Cert.ReferenceYPIdeal.Value.res_out0 m c = out (m (c.tc.loc main_arg0)) (m (c.tc.loc main_arg1)) (m (c.tc.loc main_arg2))
      (m (c.tc.loc main_arg3)) (m (c.tc.loc main_arg4)) (m (c.tc.loc main_arg5)) (m (c.tc.loc main_arg6)) := rfl

theorem mix_apply (x : FVec Ideal S16384x1024 .f32) (o : FVec Ideal S16384x1024 .bf16) (w : FVec Ideal S1x1024x1024 .f32) (r : Fin 16384) (n : Fin 1024) :
    mix x o w (ix2 r n) = x (ix2 r n) + ∑ k : Fin 1024, o (ix2 r k) * w (ix3 0 k n) := by
  pointwise [mix]

theorem norm_apply (y : FVec Ideal S16384x1024 .f32) (g : FVec Ideal S1024 .f32) (r : Fin 16384) (n : Fin 1024) :
    norm y g (ix2 r n) = y (ix2 r n) * Ideal.rsqrt (Ideal.div (∑ k : Fin 1024, y (ix2 r k) * y (ix2 r k)) (Ideal.ofBits .f32 0x44800000#32)
      + Ideal.ofBits .f32 0x358637BD#32) * g (ix1 n) := by
  pointwise [norm]

theorem inner_apply (h : FVec Ideal S16384x1024 .f32) (wi : FVec Ideal S2x1024x5632 .f32) (r : Fin 16384) (j : Fin 5632) :
    inner h wi (ix2 r j) = ∑ k : Fin 1024, h (ix2 r k) * wi (ix3 1 k j) := by
  pointwise [inner]

theorem gated_apply (u : FVec Ideal S16384x5632 .f32) (r : Fin 16384) (j : Fin 2816) :
    gated u (ix2 r j) = u (ix2 r ⟨j.val, by omega⟩)
        * Ideal.div (Ideal.ofBits .f32 0x3F800000#32) (Ideal.ofBits .f32 0x3F800000#32 + Ideal.exp (-(u (ix2 r ⟨j.val, by omega⟩))))
        * u (ix2 r ⟨2816 + j.val, by omega⟩) := by
  pointwise [gated]

theorem outer_apply (y : FVec Ideal S16384x1024 .f32) (a : FVec Ideal S16384x2816 .f32) (wo : FVec Ideal S2x2816x1024 .f32) (r : Fin 16384) (n : Fin 1024) :
    outer y a wo (ix2 r n) = y (ix2 r n) + ∑ j : Fin 2816, a (ix2 r j) * wo (ix3 1 j n) := by
  pointwise [outer]

theorem scale_apply (g : FVec Ideal S2x1024 .f32) (n : Fin 1024) : scale g (ix1 n) = g (ix2 1 n) := by
  pointwise [scale]

/-- Each row of the reference's result is the row function of the arguments' rows. -/
theorem out_apply (x : FVec Ideal S16384x1024 .f32) (o : FVec Ideal S16384x1024 .bf16) (w : FVec Ideal S1x1024x1024 .f32) (g : FVec Ideal S2x1024 .f32)
    (wi : FVec Ideal S2x1024x5632 .f32) (wo : FVec Ideal S2x2816x1024 .f32) (gf : FVec Ideal S1024 .f32) (r : Fin 16384) (n : Fin 1024) :
    out x o w g wi wo gf (ix2 r n) = Ffn.row (fun k => x (ix2 r k)) (fun k => o (ix2 r k)) (fun k c => w (ix3 0 k c)) (fun k => g (ix2 1 k))
      (fun k c => wi (ix3 1 k c)) (fun k c => wo (ix3 1 k c)) (fun k => gf (ix1 k)) n := by
  unfold out
  simp only [norm_apply, outer_apply, gated_apply, inner_apply, scale_apply, mix_apply, Ffn.row, Ffn.unit, Ffn.joinRow]
  rfl

theorem out_eq (x : FVec Ideal S16384x1024 .f32) (o : FVec Ideal S16384x1024 .bf16) (w : FVec Ideal S1x1024x1024 .f32) (g : FVec Ideal S2x1024 .f32)
    (wi : FVec Ideal S2x1024x5632 .f32) (wo : FVec Ideal S2x2816x1024 .f32) (gf : FVec Ideal S1024 .f32) :
    out x o w g wi wo gf = FfnP.result x o w g wi wo gf := by
  funext i
  obtain ⟨r, n, rfl⟩ : ∃ (r : Fin 16384) (n : Fin 1024), i = ix2 r n := ⟨i 0, i 1, by
    funext a
    fin_cases a <;> rfl⟩
  exact out_apply x o w g wi wo gf r n

end Cert.FfnRef
-- ==== Proof.FfnArrayS.lean ====
module

public import proofs.«01_k».proof.Proof.FfnRow
public import proofs.«01_k».proof.Proof.Gen.KernelYSIdeal.Value

/-! The feed-forward call's result array of the sample batch: each row is the row function of the arguments' rows. -/

@[expose] public section

set_option maxRecDepth 2048

noncomputable section

namespace Cert.FfnS

open Idealize.ShloMosaic Idealize.ShloMosaic.TcCoe Idealize.ShloMosaic.Tactic Idealize.SL.Sem
open Cert.KernelYSIdeal Cert.KernelYSIdeal.Gen

variable [Cert.KernelYSIdeal.Facts] [Cert.KernelYPIdeal.Facts]

/-- The result array of the argument arrays. -/
def result (x : Vec Ideal S2048x1024 .f32) (o : Vec Ideal S2048x1024 .bf16) (w : Vec Ideal S1x1024x1024 .f32) (g : Vec Ideal S2x1024 .f32)
    (wi : Vec Ideal S2x1024x5632 .f32) (wo : Vec Ideal S2x2816x1024 .f32) (gf : Vec Ideal S1024 .f32) : FVec Ideal S2048x1024 .f32 := fun i =>
  Ffn.row (fun k => x (ix2 (i 0) k)) (fun k => o (ix2 (i 0) k)) (fun k c => w (ix3 0 k c)) (fun k => g (ix2 1 k))
    (fun k c => wi (ix3 1 k c)) (fun k c => wo (ix3 1 k c)) (fun k => gf (ix1 k)) (i 1)

theorem idx : ∀ t : Fin grid0.N, win0_0.index t = ![t.val, 0] ∧ win0_1.index t = ![t.val, 0]
    ∧ win0_2.index t = ![0, 0] ∧ win0_3.index t = ![0, 0] ∧ win0_4.index t = ![1, 0, 0]
    ∧ win0_5.index t = ![1, 0, 0] ∧ win0_6.index t = ![0, 0] ∧ win0_7.index t = ![t.val, 0] := by
  decide +kernel

variable (m : (ℓ : Loc nD τ sig) → Buf (Elt Ideal) ℓ) (c : Dev nD)

theorem blk0 (t : Fin grid0.N) (r k : Fin 1024) (R : Fin 2048) (hR : R.val = t.val * 1024 + r.val) :
    iblk m c 0 t (ix2 r k) = (m (c.tc.loc main_arg0) : Vec Ideal S2048x1024 .f32) (ix2 R k) := by
  blk_simp [iblk, idx t]
  blk_ext [iblk, V, idx t]

theorem blk1 (t : Fin grid0.N) (r k : Fin 1024) (R : Fin 2048) (hR : R.val = t.val * 1024 + r.val) :
    iblk m c 1 t (ix2 r k) = (m (c.tc.loc main_arg1) : Vec Ideal S2048x1024 .bf16) (ix2 R k) := by
  blk_simp [iblk, idx t]
  blk_ext [iblk, V, idx t]

theorem blk2 (t : Fin grid0.N) (k n : Fin 1024) :
    iblk m c 2 t (ix2 k n) = (m (c.tc.loc main_arg2) : Vec Ideal S1x1024x1024 .f32) (ix3 0 k n) := by
  blk_simp [iblk, idx t]
  entry_read
  pointwise
  blk_ext [iblk, V, idx t]

theorem blk3 (t : Fin grid0.N) (k : Fin 1024) :
    iblk m c 3 t (ix2 0 k) = (m (c.tc.loc main_arg3) : Vec Ideal S2x1024 .f32) (ix2 1 k) := by
  blk_simp [iblk, idx t]
  entry_read
  pointwise
  blk_ext [iblk, V, idx t]

theorem blk4 (t : Fin grid0.N) (k : Fin 1024) (n : Fin 5632) :
    iblk m c 4 t (ix3 0 k n) = (m (c.tc.loc main_arg4) : Vec Ideal S2x1024x5632 .f32) (ix3 1 k n) := by
  blk_simp [iblk, idx t]
  entry_read
  pointwise
  blk_ext [iblk, V, idx t]

theorem blk5 (t : Fin grid0.N) (k : Fin 2816) (n : Fin 1024) :
    iblk m c 5 t (ix3 0 k n) = (m (c.tc.loc main_arg5) : Vec Ideal S2x2816x1024 .f32) (ix3 1 k n) := by
  blk_simp [iblk, idx t]
  entry_read
  pointwise
  blk_ext [iblk, V, idx t]

theorem blk6 (t : Fin grid0.N) (k : Fin 1024) :
    iblk m c 6 t (ix2 0 k) = (m (c.tc.loc main_arg6) : Vec Ideal S1024 .f32) (ix1 k) := by
  blk_simp [iblk, idx t]
  entry_read
  pointwise
  blk_ext [iblk, V, idx t]

/-- The body is the prompt's, at the same block shapes. -/
theorem out_eq (x : Vec Ideal S1024x1024 .f32) (o w : Vec Ideal S1024x1024 .bf16) (g : Vec Ideal S1x1024 .f32)
    (wi : Vec Ideal S1x1024x5632 .bf16) (wo : Vec Ideal S1x2816x1024 .bf16) (gf : Vec Ideal S1x1024 .f32) :
    out0_7 x o w g wi wo gf = View.canon [⟨r0_0, Ffn.block x o w g wi wo gf⟩] := rfl

/-- A block's rows are that part of the result array. -/
theorem tile (t : Fin grid0.N) (y : S1024x1024.Idx) (i : S2048x1024.Idx) (h0 : (i 0).val = t.val * 1024 + (y 0).val)
    (h1 : (i 1).val = (y 1).val) :
    Ffn.block (iblk m c 0 t) (iblk m c 1 t) (iblk m c 2 t) (iblk m c 3 t) (iblk m c 4 t) (iblk m c 5 t) (iblk m c 6 t) y
    = result (m (c.tc.loc main_arg0)) (m (c.tc.loc main_arg1)) (m (c.tc.loc main_arg2)) (m (c.tc.loc main_arg3))
      (m (c.tc.loc main_arg4)) (m (c.tc.loc main_arg5)) (m (c.tc.loc main_arg6)) i := by
  obtain ⟨r, n, rfl⟩ : ∃ r n : Fin 1024, y = ix2 r n := ⟨y 0, y 1, by
    funext a
    fin_cases a <;> rfl⟩
  rw [Ffn.block_apply]
  unfold result
  simp only [fun k => blk0 m c t r k (i 0) h0, fun k => blk1 m c t r k (i 0) h0, blk2, blk3, blk4, blk5, blk6]
  exact congrArg _ (Fin.ext h1.symm)

theorem array_eq : (dats m 0 c).arrAt 7 cfg0.N
    = result (m (c.tc.loc main_arg0)) (m (c.tc.loc main_arg1)) (m (c.tc.loc main_arg2)) (m (c.tc.loc main_arg3))
      (m (c.tc.loc main_arg4)) (m (c.tc.loc main_arg5)) (m (c.tc.loc main_arg6)) := by
  refine (dats m 0 c).arrAt_eq_of_covers 7 _ (by decide +kernel) fun t hf y => ?_
  blk_simp
  rw [after0_7, out_eq, View.canon_cons_unit_lit' _ _ _ (by decide)]
  exact tile m c t y _ (by blk_simp [idx t]) (by blk_simp [idx t])

end Cert.FfnS
-- ==== Proof.FfnRefS.lean ====
module

public import proofs.«01_k».proof.Proof.FfnArrayS
public import proofs.«01_k».proof.Proof.Gen.ReferenceYSIdeal.Run
public import Idealize.ShloMosaic.Lib.Pointwise
public import Idealize.ShloMosaic.Lib.Tactic.CleanTypes

/-! The reference's output projection, feed-forward network and final norm of the sample batch, element by element. -/

@[expose] public section

set_option maxRecDepth 2048

noncomputable section

namespace Cert.FfnRefS

open Idealize.ShloMosaic Idealize.ShloMosaic.TcCoe Idealize.ShloMosaic.Tactic Idealize.SL.Sem
open Cert.ReferenceYSIdeal Cert.ReferenceYSIdeal.Facts₀ Cert.ReferenceYSIdeal.Facts

variable [Cert.ReferenceYSIdeal.Facts]

/-- The residual stream with the mixer's output projected onto it. -/
def mix (x : FVec Ideal S2048x1024 .f32) (o : FVec Ideal S2048x1024 .bf16) (w : FVec Ideal S1x1024x1024 .f32) : FVec Ideal S2048x1024 .f32 :=
  addf x (Host.dotGeneral dot_S2048x1024_S1024x1024_S2048x1024_1_0_0_1_n_n none (extf .f32 o bitsLt_bf16_f32)
    (shapeCast _ w shapeCasts_S1x1024x1024_S1024x1024))

/-- Rows divided by their root mean squares and scaled. -/
def norm (y : FVec Ideal S2048x1024 .f32) (g : FVec Ideal S1024 .f32) : FVec Ideal S2048x1024 .f32 :=
  mulf (mulf y (broadcastInDim S2048x1024 ![0, 1] bcast_S2048x1_S2048x1024_0_1 (Host.rsqrt (addf (Host.divf
      (broadcastInDim S2048x1 ![0] bcast_S2048_S2048x1_0
        (Host.reduceAdd (mulf y y) (constant S_ .f32 0x00000000#32) reducesTo_S2048x1024_S2048_d1 h_S_))
      (broadcastInDim S2048x1 ![] bcast_S_S2048x1 (constant S_ .f32 0x44800000#32)))
      (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 g))

/-- The inner projection, both halves side by side. -/
def inner (h : FVec Ideal S2048x1024 .f32) (wi : FVec Ideal S2x1024x5632 .f32) : FVec Ideal S2048x5632 .f32 :=
  Host.dotGeneral dot_S2048x1024_S1024x5632_S2048x5632_1_0_0_1_n_n none h
    (shapeCast _ (extractStridedSlice S1x1024x5632 ![1, 0, 0] wi slices_S2x1024x5632_S1x1024x5632_1_0_0) shapeCasts_S1x1024x5632_S1024x5632)

/-- The gate's half times its logistic function, times the other half. -/
def gated (u : FVec Ideal S2048x5632 .f32) : FVec Ideal S2048x2816 .f32 :=
  mulf (mulf (extractStridedSlice S2048x2816 ![0, 0] u slices_S2048x5632_S2048x2816_0_0)
    (Host.divf (broadcastInDim S2048x2816 ![] bcast_S_S2048x2816 (constant S_ .f32 0x3F800000#32))
      (addf (broadcastInDim S2048x2816 ![] bcast_S_S2048x2816 (constant S_ .f32 0x3F800000#32))
        (Host.exp (Host.negf (extractStridedSlice S2048x2816 ![0, 0] u slices_S2048x5632_S2048x2816_0_0))))))
    (extractStridedSlice S2048x2816 ![0, 2816] u slices_S2048x5632_S2048x2816_0_2816)

/-- The outer projection added to the residual stream. -/
def outer (y : FVec Ideal S2048x1024 .f32) (a : FVec Ideal S2048x2816 .f32) (wo : FVec Ideal S2x2816x1024 .f32) : FVec Ideal S2048x1024 .f32 :=
  addf y (Host.dotGeneral dot_S2048x2816_S2816x1024_S2048x1024_1_0_0_1_n_n none a
    (shapeCast _ (extractStridedSlice S1x2816x1024 ![1, 0, 0] wo slices_S2x2816x1024_S1x2816x1024_1_0_0) shapeCasts_S1x2816x1024_S2816x1024))

/-- The second layer's scale of the norm before the feed-forward network. -/
def scale (g : FVec Ideal S2x1024 .f32) : FVec Ideal S1024 .f32 :=
  shapeCast _ (extractStridedSlice S1x1024 ![1, 0] g slices_S2x1024_S1x1024_1_0) shapeCasts_S1x1024_S1024

/-- The reference of its argument arrays. -/
def out (x : FVec Ideal S2048x1024 .f32) (o : FVec Ideal S2048x1024 .bf16) (w : FVec Ideal S1x1024x1024 .f32) (g : FVec Ideal S2x1024 .f32)
    (wi : FVec Ideal S2x1024x5632 .f32) (wo : FVec Ideal S2x2816x1024 .f32) (gf : FVec Ideal S1024 .f32) : FVec Ideal S2048x1024 .f32 :=
  norm (outer (mix x o w) (gated (inner (norm (mix x o w) (scale g)) wi)) wo) gf

theorem run_eq (m : (ℓ : Loc nD τ sig) → Buf (Elt Ideal) ℓ) (c : Dev nD) :
    Cert.ReferenceYSIdeal.Value.res_out0 m c = out (m (c.tc.loc main_arg0)) (m (c.tc.loc main_arg1)) (m (c.tc.loc main_arg2))
      (m (c.tc.loc main_arg3)) (m (c.tc.loc main_arg4)) (m (c.tc.loc main_arg5)) (m (c.tc.loc main_arg6)) := rfl

theorem mix_apply (x : FVec Ideal S2048x1024 .f32) (o : FVec Ideal S2048x1024 .bf16) (w : FVec Ideal S1x1024x1024 .f32) (r : Fin 2048) (n : Fin 1024) :
    mix x o w (ix2 r n) = x (ix2 r n) + ∑ k : Fin 1024, o (ix2 r k) * w (ix3 0 k n) := by
  pointwise [mix]

theorem norm_apply (y : FVec Ideal S2048x1024 .f32) (g : FVec Ideal S1024 .f32) (r : Fin 2048) (n : Fin 1024) :
    norm y g (ix2 r n) = y (ix2 r n) * Ideal.rsqrt (Ideal.div (∑ k : Fin 1024, y (ix2 r k) * y (ix2 r k)) (Ideal.ofBits .f32 0x44800000#32)
      + Ideal.ofBits .f32 0x358637BD#32) * g (ix1 n) := by
  pointwise [norm]

theorem inner_apply (h : FVec Ideal S2048x1024 .f32) (wi : FVec Ideal S2x1024x5632 .f32) (r : Fin 2048) (j : Fin 5632) :
    inner h wi (ix2 r j) = ∑ k : Fin 1024, h (ix2 r k) * wi (ix3 1 k j) := by
  pointwise [inner]

theorem gated_apply (u : FVec Ideal S2048x5632 .f32) (r : Fin 2048) (j : Fin 2816) :
    gated u (ix2 r j) = u (ix2 r ⟨j.val, by omega⟩)
        * Ideal.div (Ideal.ofBits .f32 0x3F800000#32) (Ideal.ofBits .f32 0x3F800000#32 + Ideal.exp (-(u (ix2 r ⟨j.val, by omega⟩))))
        * u (ix2 r ⟨2816 + j.val, by omega⟩) := by
  pointwise [gated]

theorem outer_apply (y : FVec Ideal S2048x1024 .f32) (a : FVec Ideal S2048x2816 .f32) (wo : FVec Ideal S2x2816x1024 .f32) (r : Fin 2048) (n : Fin 1024) :
    outer y a wo (ix2 r n) = y (ix2 r n) + ∑ j : Fin 2816, a (ix2 r j) * wo (ix3 1 j n) := by
  pointwise [outer]

theorem scale_apply (g : FVec Ideal S2x1024 .f32) (n : Fin 1024) : scale g (ix1 n) = g (ix2 1 n) := by
  pointwise [scale]

/-- Each row of the reference's result is the row function of the arguments' rows. -/
theorem out_apply (x : FVec Ideal S2048x1024 .f32) (o : FVec Ideal S2048x1024 .bf16) (w : FVec Ideal S1x1024x1024 .f32) (g : FVec Ideal S2x1024 .f32)
    (wi : FVec Ideal S2x1024x5632 .f32) (wo : FVec Ideal S2x2816x1024 .f32) (gf : FVec Ideal S1024 .f32) (r : Fin 2048) (n : Fin 1024) :
    out x o w g wi wo gf (ix2 r n) = Ffn.row (fun k => x (ix2 r k)) (fun k => o (ix2 r k)) (fun k c => w (ix3 0 k c)) (fun k => g (ix2 1 k))
      (fun k c => wi (ix3 1 k c)) (fun k c => wo (ix3 1 k c)) (fun k => gf (ix1 k)) n := by
  unfold out
  simp only [norm_apply, outer_apply, gated_apply, inner_apply, scale_apply, mix_apply, Ffn.row, Ffn.unit, Ffn.joinRow]
  rfl

theorem out_eq (x : FVec Ideal S2048x1024 .f32) (o : FVec Ideal S2048x1024 .bf16) (w : FVec Ideal S1x1024x1024 .f32) (g : FVec Ideal S2x1024 .f32)
    (wi : FVec Ideal S2x1024x5632 .f32) (wo : FVec Ideal S2x2816x1024 .f32) (gf : FVec Ideal S1024 .f32) :
    out x o w g wi wo gf = FfnS.result x o w g wi wo gf := by
  funext i
  obtain ⟨r, n, rfl⟩ : ∃ (r : Fin 2048) (n : Fin 1024), i = ix2 r n := ⟨i 0, i 1, by
    funext a
    fin_cases a <;> rfl⟩
  exact out_apply x o w g wi wo gf r n

end Cert.FfnRefS
-- ==== Proof.ProjRow.lean ====
module

public import proofs.«01_k».proof.Proof.FfnRow

/-! One token's input projection as a function of that token's row, and the two spellings of its log forget gate. -/

@[expose] public section

noncomputable section

namespace Cert.Proj

open Idealize.ShloMosaic

/-- One projected number of a token: its normed row against one column of the weights. -/
def dot (x g w : Fin 1024 → EReal) : EReal := ∑ k, Ffn.unit x g k * w k

/-- The log of the logistic function, from the smaller of the number and zero. -/
def keep (z : EReal) : EReal := min z 0 - Ideal.log1p (Ideal.exp (-(max z (-z))))

/-- The logarithm in `keep` is a real number whatever its argument. -/
theorem tail_real (z : EReal) : ∃ r : ℝ, Ideal.log1p (Ideal.exp (-(max z (-z)))) = r := by
  have h : ∀ r : ℝ, ∃ s : ℝ, Ideal.log1p ((Real.exp r : ℝ) : EReal) = s := fun r => by
    have e : (1 : EReal) + ((Real.exp r : ℝ) : EReal) = ((1 + Real.exp r : ℝ) : EReal) := by norm_cast
    unfold Ideal.log1p
    rw [e]
    have p : ¬ (1 + Real.exp r ≤ 0) := not_le.2 (by positivity)
    exact ⟨Real.log (1 + Real.exp r), if_neg p⟩
  have h0 : ∃ s : ℝ, Ideal.log1p (0 : EReal) = s := by
    unfold Ideal.log1p
    rw [add_zero, ← EReal.coe_one]
    exact ⟨Real.log 1, if_neg (by norm_num)⟩
  induction z using EReal.rec with
  | bot =>
    rw [EReal.neg_bot, max_eq_right bot_le, EReal.neg_top]
    exact h0
  | top =>
    rw [EReal.neg_top, max_eq_left bot_le, EReal.neg_top]
    exact h0
  | coe r =>
    rw [← EReal.coe_neg, ← EReal.coe_strictMono.monotone.map_max, ← EReal.coe_neg]
    exact h _

/-- The log of the logistic function, as the negated softplus of the negated number. -/
theorem keep_eq (z : EReal) : -(max (-z) 0 + Ideal.log1p (Ideal.exp (-(max (-z) z)))) = keep z := by
  unfold keep
  rw [max_comm (-z) z]
  obtain ⟨r, hr⟩ := tail_real z
  rw [hr, EReal.neg_add (.inr (EReal.coe_ne_top r)) (.inr (EReal.coe_ne_bot r))]
  congr 1
  rcases le_total z 0 with h | h
  · rw [min_eq_left h, max_eq_left (by simpa using h), neg_neg]
  · rw [min_eq_right h, max_eq_right (by simpa using h), neg_zero]

theorem zero_int : FloatOps.sitofp (F := Ideal) .f32 (0#32) = (0 : EReal) := by
  show (((0#32 : BitVec 32).toInt : ℝ) : EReal) = 0
  simp

end Cert.Proj
-- ==== Proof.ProjP.lean ====
module

public import proofs.«01_k».proof.Proof.Gen.KernelFPIdeal.Value
public import proofs.«01_k».proof.Proof.ProjRow

/-! Layer 1's input projection of the prompt: its four result arrays, each number the token's own. -/

@[expose] public section

set_option maxRecDepth 16384

noncomputable section

namespace Cert.ProjP

open Idealize.ShloMosaic Idealize.ShloMosaic.TcCoe Idealize.ShloMosaic.Tactic
open Cert.KernelFPIdeal Cert.KernelFPIdeal.Gen

variable [Cert.KernelFPIdeal.Facts]
/-- The queries' array of the argument arrays. -/
def resQ (x : Vec Ideal S16384x1024 .f32) (g : Vec Ideal S2x1024 .f32) (w : Vec Ideal S1x1024x3088 .f32) : FVec Ideal S4x16x4096x64 .f32 := fun i =>
  Proj.dot (fun k => x (ix2 ⟨4096 * (i 0).val + (i 2).val, by have := (i 0).isLt; have := (i 2).isLt; simp at *; omega⟩ k)) (fun k => g (ix2 1 k))
    (fun k => w (ix3 0 k ⟨64 * (i 1).val + (i 3).val, by have := (i 1).isLt; have := (i 3).isLt; simp at *; omega⟩))

/-- The array of one of the other two, its columns `a` and on, positions last. -/
def resC (a : ℕ) (ha : a ≤ 2048) (x : Vec Ideal S16384x1024 .f32) (g : Vec Ideal S2x1024 .f32) (w : Vec Ideal S1x1024x3088 .f32) :
    FVec Ideal S4x16x64x4096 .f32 := fun i =>
  Proj.dot (fun k => x (ix2 ⟨4096 * (i 0).val + (i 3).val, by have := (i 0).isLt; have := (i 3).isLt; simp at *; omega⟩ k)) (fun k => g (ix2 1 k))
    (fun k => w (ix3 0 k ⟨a + (64 * (i 1).val + (i 2).val), by have := (i 1).isLt; have := (i 2).isLt; simp at *; omega⟩))

/-- The log forget gates, one per head and token, in the first sixteen of 128 columns; the others hold those of zero. -/
def resG (x : Vec Ideal S16384x1024 .f32) (g : Vec Ideal S2x1024 .f32) (w : Vec Ideal S1x1024x3088 .f32) (b : Vec Ideal S1x16 .f32) :
    FVec Ideal S16384x128 .f32 := fun i =>
  Proj.keep (if h : (i 1).val < 16 then Proj.dot (fun k => x (ix2 (i 0) k)) (fun k => g (ix2 1 k)) (fun k => w (ix3 0 k ⟨3072 + (i 1).val, by omega⟩))
    + b (ix2 0 ⟨(i 1).val, h⟩) else 0)

/-- Sixty-four columns of the rows' product with a weight matrix, as one head's block. -/
def chunk (h : FVec Ideal S512x1024 .bf16) (w : Vec Ideal S1024x1024 .bf16) (o : ℕ) (s : S512x1024.Slices ![0, o] S512x64) :
    FVec Ideal S1x1x512x64 .f32 :=
  shapeCast S1x1x512x64 (extractStridedSlice S512x64 ![0, o] (matmul (φ₁ := .bf16) (φ₂ := .bf16) dot_S512x1024_S1024x1024_S512x1024_1_0_0_1_n_n none h
    (shapeCast S1024x1024 w shapeCasts_S1024x1024_S1024x1024) (constant S512x1024 .f32 0x00000000#32)) s) shapeCasts_S512x64_S1x1x512x64

/-- The same with positions last, from the transposed weights. -/
def chunkT (h : FVec Ideal S512x1024 .bf16) (w : Vec Ideal S1024x1024 .bf16) (o : ℕ) (s : S1024x512.Slices ![o, 0] S64x512) :
    FVec Ideal S1x1x64x512 .f32 :=
  shapeCast S1x1x64x512 (extractStridedSlice S64x512 ![o, 0] (k0_pay27 h w) s) shapeCasts_S64x512_S1x1x64x512

theorem unit_apply (x : Vec Ideal S512x1024 .f32) (g : Vec Ideal S1x1024 .f32) (r : Fin 512) (n : Fin 1024) :
    k0_pay6 x g (ix2 r n) = Ffn.unit (fun k => x (ix2 r k)) (fun k => g (ix2 0 k)) n := by
  unfold Ffn.unit
  pointwise [k0_pay6]

theorem chunk_apply (h : FVec Ideal S512x1024 .bf16) (w : Vec Ideal S1024x1024 .bf16) (o : ℕ) (s) (r : Fin 512) (d : Fin 64) (n : Fin 1024)
    (hn : n.val = o + d.val) : chunk h w o s (ix4 0 0 r d) = ∑ k : Fin 1024, h (ix2 r k) * w (ix2 k n) := by
  have e : ∀ p, (⟨o + d.val, p⟩ : Fin 1024) = n := fun _ => Fin.ext hn.symm
  pointwise [chunk]
  simp only [e]

theorem chunkT_apply (h : FVec Ideal S512x1024 .bf16) (w : Vec Ideal S1024x1024 .bf16) (o : ℕ) (s) (r : Fin 512) (d : Fin 64) (n : Fin 1024)
    (hn : n.val = o + d.val) : chunkT h w o s (ix4 0 0 d r) = ∑ k : Fin 1024, w (ix2 n k) * h (ix2 r k) := by
  have e : ∀ p, (⟨o + d.val, p⟩ : Fin 1024) = n := fun _ => Fin.ext hn.symm
  pointwise [chunkT, k0_pay27]
  simp only [e]

theorem gate_apply (h : FVec Ideal S512x1024 .bf16) (w : Vec Ideal S1024x128 .bf16) (b : Vec Ideal S1x128 .f32) (r : Fin 512) (n : Fin 128) :
    k0_pay7 h w b (ix2 r n) = Proj.keep (∑ k : Fin 1024, h (ix2 r k) * w (ix2 k n) + b (ix2 0 n)) := by
  unfold Proj.keep
  pointwise [k0_pay7]
  have e : ∀ n : Fin 128, IntOp.cmpi CmpIPredicate.sge (BitVec.ofNat 32 n.val) 0#32 = 1#1 := by decide
  rw [e, Scalar.select, zero_sub]
  rfl

theorem idx : ∀ t : Fin grid0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![t.val / 8, 0, t.val % 8, 0]
    ∧ win0_8.index t = ![t.val / 8, 0, 0, t.val % 8] ∧ win0_9.index t = ![t.val / 8, 0, 0, t.val % 8] ∧ win0_10.index t = ![t.val, 0] := by
  decide +kernel

variable (m : (ℓ : Loc nD τ sig) → Buf (Elt Ideal) ℓ) (c : Dev nD)

/-- The weights without their unit axis. -/
def weights (w : Vec Ideal S1x1024x3088 .f32) : FVec Ideal S1024x3088 .f32 := shapeCast _ w shapeCasts_S1x1024x3088_S1024x3088

/-- The arrays that the host's operations leave for the call, each from the arguments. -/
theorem entry_wg : V m c main_v3 = truncf (F := Ideal) .bf16 (pad S1024x128 ![0, 0] ![0, 112] ![0, 0]
    (extractStridedSlice S1024x16 ![0, 3072] (weights (m (c.tc.loc main_arg2))) slices_S1024x3088_S1024x16_0_3072)
    (sitofp .f32 (constantI S_ 32 0#32)) pads_S1024x16_S1024x128_000_01120 h_S_) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_bg : V m c main_v6 = pad S1x128 ![0, 0] ![0, 112] ![0, 0]
    (shapeCast S1x16 (shapeCast S16 (m (c.tc.loc main_arg3) : Vec Ideal S1x16 .f32) shapeCasts_S1x16_S16) shapeCasts_S16_S1x16)
    (sitofp (F := Ideal) .f32 (constantI S_ 32 0#32)) pads_S1x16_S1x128_000_01120 h_S_ := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_q : V m c main_v12 = truncf (F := Ideal) .bf16 (extractStridedSlice S1024x1024 ![0, 0] (weights (m (c.tc.loc main_arg2)))
    slices_S1024x3088_S1024x1024_0_0) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_k : V m c main_v14 = truncf (F := Ideal) .bf16 (transpose S1024x1024 [1, 0] (extractStridedSlice S1024x1024 ![0, 1024]
    (weights (m (c.tc.loc main_arg2))) slices_S1024x3088_S1024x1024_0_1024) transposes_S1024x1024_S1024x1024_1_0) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_v : V m c main_v16 = truncf (F := Ideal) .bf16 (transpose S1024x1024 [1, 0] (extractStridedSlice S1024x1024 ![0, 2048]
    (weights (m (c.tc.loc main_arg2))) slices_S1024x3088_S1024x1024_0_2048) transposes_S1024x1024_S1024x1024_1_0) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_g : V m c main_v17 = shapeCast S1x1024 (shapeCast S1024 (extractStridedSlice S1x1024 ![1, 0]
    (m (c.tc.loc main_arg1) : Vec Ideal S2x1024 .f32) slices_S2x1024_S1x1024_1_0) shapeCasts_S1x1024_S1024) shapeCasts_S1024_S1x1024 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem blk0 (t : Fin grid0.N) (r : Fin 512) (k : Fin 1024) (R : Fin 16384) (hR : R.val = t.val * 512 + r.val) :
    iblk m c 0 t (ix2 r k) = (m (c.tc.loc main_arg0) : Vec Ideal S16384x1024 .f32) (ix2 R k) := by
  blk_simp [iblk, idx t]
  blk_ext [iblk, V, idx t]

theorem blk1 (t : Fin grid0.N) (k : Fin 1024) :
    iblk m c 1 t (ix2 0 k) = (m (c.tc.loc main_arg1) : Vec Ideal S2x1024 .f32) (ix2 1 k) := by
  blk_simp [iblk, idx t]
  rw [entry_g]
  pointwise [weights]
  blk_ext [iblk, V, idx t]

theorem blk2 (t : Fin grid0.N) (k n : Fin 1024) (N : Fin 3088) (hN : N.val = n.val) :
    iblk m c 2 t (ix2 k n) = (m (c.tc.loc main_arg2) : Vec Ideal S1x1024x3088 .f32) (ix3 0 k N) := by
  blk_simp [iblk, idx t]
  rw [entry_q]
  pointwise [weights]
  blk_ext [iblk, V, idx t]

theorem blk3 (t : Fin grid0.N) (k n : Fin 1024) (N : Fin 3088) (hN : N.val = 1024 + n.val) :
    iblk m c 3 t (ix2 n k) = (m (c.tc.loc main_arg2) : Vec Ideal S1x1024x3088 .f32) (ix3 0 k N) := by
  blk_simp [iblk, idx t]
  rw [entry_k]
  pointwise [weights]
  blk_ext [iblk, V, idx t]

theorem blk4 (t : Fin grid0.N) (k n : Fin 1024) (N : Fin 3088) (hN : N.val = 2048 + n.val) :
    iblk m c 4 t (ix2 n k) = (m (c.tc.loc main_arg2) : Vec Ideal S1x1024x3088 .f32) (ix3 0 k N) := by
  blk_simp [iblk, idx t]
  rw [entry_v]
  pointwise [weights]
  blk_ext [iblk, V, idx t]

theorem blk5 (t : Fin grid0.N) (k : Fin 1024) (n : Fin 128) :
    iblk m c 5 t (ix2 k n) = if h : n.val < 16 then (m (c.tc.loc main_arg2) : Vec Ideal S1x1024x3088 .f32) (ix3 0 k ⟨3072 + n.val, by omega⟩) else (0 : EReal) := by
  blk_simp [iblk, idx t]
  rw [entry_wg]
  pointwise [weights]
  have g1 : ((win0_5.blk t).view.emb (ix2 k n) 1 : ℕ) = n.val := by blk_simp [idx t]
  by_cases h : n.val < 16
  · rw [dif_pos h]
    refine (dif_pos (lt_of_eq_of_lt g1 h)).trans ?_
    blk_ext [iblk, V, idx t]
  · rw [dif_neg h]
    exact (dif_neg fun p => h (lt_of_eq_of_lt g1.symm p)).trans Proj.zero_int

theorem blk6 (t : Fin grid0.N) (n : Fin 128) :
    iblk m c 6 t (ix2 0 n) = if h : n.val < 16 then (m (c.tc.loc main_arg3) : Vec Ideal S1x16 .f32) (ix2 0 ⟨n.val, h⟩) else (0 : EReal) := by
  blk_simp [iblk, idx t]
  rw [entry_bg]
  pointwise [weights]
  have g1 : ((win0_6.blk t).view.emb (ix2 0 n) 1 : ℕ) = n.val := by blk_simp [idx t]
  by_cases h : n.val < 16
  · rw [dif_pos h]
    refine (dif_pos (lt_of_eq_of_lt g1 h)).trans ?_
    blk_ext [iblk, V, idx t]
  · rw [dif_neg h]
    exact (dif_neg fun p => h (lt_of_eq_of_lt g1.symm p)).trans Proj.zero_int

theorem normed (t : Fin grid0.N) (r : Fin 512) (n : Fin 1024) (R : Fin 16384) (hR : R.val = t.val * 512 + r.val) :
    k0_pay6 (iblk m c 0 t) (iblk m c 1 t) (ix2 r n) = Ffn.unit (fun k => (m (c.tc.loc main_arg0) : Vec Ideal S16384x1024 .f32) (ix2 R k))
      (fun k => (m (c.tc.loc main_arg1) : Vec Ideal S2x1024 .f32) (ix2 1 k)) n := by
  rw [unit_apply]
  simp only [fun k => blk0 m c t r k R hR, blk1]

/-- One head's block of the queries is that part of their array. -/
theorem tileQ (t : Fin grid0.N) (o : ℕ) (s) (x : S1x1x512x64.Idx) (i : S4x16x4096x64.Idx) (ho : o = 64 * (i 1).val)
    (h2 : 4096 * (i 0).val + (i 2).val = t.val * 512 + (x 2).val) (h3 : (i 3).val = (x 3).val) :
    chunk (k0_pay6 (iblk m c 0 t) (iblk m c 1 t)) (iblk m c 2 t) o s x
    = resQ (m (c.tc.loc main_arg0)) (m (c.tc.loc main_arg1)) (m (c.tc.loc main_arg2)) i := by
  obtain ⟨r, d, rfl⟩ : ∃ (r : Fin 512) (d : Fin 64), x = ix4 0 0 r d := ⟨x 2, x 3, by
    funext a
    fin_cases a <;> first | rfl | exact Subsingleton.elim (α := Fin 1) _ _⟩
  have b1 : (i 1).val < 16 := (i 1).isLt
  have b3 : (i 3).val < 64 := (i 3).isLt
  have b0 : (i 0).val < 4 := (i 0).isLt
  have b2 : (i 2).val < 4096 := (i 2).isLt
  have e3 : (i 3).val = d.val := h3
  rw [chunk_apply _ _ _ _ r d ⟨64 * (i 1).val + (i 3).val, by omega⟩ (by show 64 * (i 1).val + (i 3).val = _; omega)]
  unfold resQ Proj.dot
  refine Finset.sum_congr rfl fun k _ => ?_
  rw [normed m c t r k ⟨4096 * (i 0).val + (i 2).val, by omega⟩ h2, blk2 m c t k _ ⟨64 * (i 1).val + (i 3).val, by omega⟩ rfl]

/-- One head's block of the keys is that part of their array. -/
theorem tileK (t : Fin grid0.N) (o : ℕ) (s) (x : S1x1x64x512.Idx) (i : S4x16x64x4096.Idx) (ho : o = 64 * (i 1).val)
    (h2 : (i 2).val = (x 2).val) (h3 : 4096 * (i 0).val + (i 3).val = t.val * 512 + (x 3).val) :
    chunkT (k0_pay6 (iblk m c 0 t) (iblk m c 1 t)) (iblk m c 3 t) o s x
    = resC 1024 (by decide) (m (c.tc.loc main_arg0)) (m (c.tc.loc main_arg1)) (m (c.tc.loc main_arg2)) i := by
  obtain ⟨d, r, rfl⟩ : ∃ (d : Fin 64) (r : Fin 512), x = ix4 0 0 d r := ⟨x 2, x 3, by
    funext a
    fin_cases a <;> first | rfl | exact Subsingleton.elim (α := Fin 1) _ _⟩
  have b1 : (i 1).val < 16 := (i 1).isLt
  have b2 : (i 2).val < 64 := (i 2).isLt
  have b0 : (i 0).val < 4 := (i 0).isLt
  have b3 : (i 3).val < 4096 := (i 3).isLt
  have e2 : (i 2).val = d.val := h2
  rw [chunkT_apply _ _ _ _ r d ⟨64 * (i 1).val + (i 2).val, by omega⟩ (by show 64 * (i 1).val + (i 2).val = _; omega)]
  unfold resC Proj.dot
  refine Finset.sum_congr rfl fun k _ => ?_
  rw [normed m c t r k ⟨4096 * (i 0).val + (i 3).val, by omega⟩ h3, blk3 m c t k _ ⟨1024 + (64 * (i 1).val + (i 2).val), by omega⟩ rfl, mul_comm]

/-- One head's block of the values is that part of their array. -/
theorem tileV (t : Fin grid0.N) (o : ℕ) (s) (x : S1x1x64x512.Idx) (i : S4x16x64x4096.Idx) (ho : o = 64 * (i 1).val)
    (h2 : (i 2).val = (x 2).val) (h3 : 4096 * (i 0).val + (i 3).val = t.val * 512 + (x 3).val) :
    chunkT (k0_pay6 (iblk m c 0 t) (iblk m c 1 t)) (iblk m c 4 t) o s x
    = resC 2048 (by decide) (m (c.tc.loc main_arg0)) (m (c.tc.loc main_arg1)) (m (c.tc.loc main_arg2)) i := by
  obtain ⟨d, r, rfl⟩ : ∃ (d : Fin 64) (r : Fin 512), x = ix4 0 0 d r := ⟨x 2, x 3, by
    funext a
    fin_cases a <;> first | rfl | exact Subsingleton.elim (α := Fin 1) _ _⟩
  have b1 : (i 1).val < 16 := (i 1).isLt
  have b2 : (i 2).val < 64 := (i 2).isLt
  have b0 : (i 0).val < 4 := (i 0).isLt
  have b3 : (i 3).val < 4096 := (i 3).isLt
  have e2 : (i 2).val = d.val := h2
  rw [chunkT_apply _ _ _ _ r d ⟨64 * (i 1).val + (i 2).val, by omega⟩ (by show 64 * (i 1).val + (i 2).val = _; omega)]
  unfold resC Proj.dot
  refine Finset.sum_congr rfl fun k _ => ?_
  rw [normed m c t r k ⟨4096 * (i 0).val + (i 3).val, by omega⟩ h3, blk4 m c t k _ ⟨2048 + (64 * (i 1).val + (i 2).val), by omega⟩ rfl, mul_comm]

/-- A block of gates is that part of their array. -/
theorem tileG (t : Fin grid0.N) (x : S512x128.Idx) (i : S16384x128.Idx) (h0 : (i 0).val = t.val * 512 + (x 0).val)
    (h1 : (i 1).val = (x 1).val) :
    k0_pay7 (k0_pay6 (iblk m c 0 t) (iblk m c 1 t)) (iblk m c 5 t) (iblk m c 6 t) x
    = resG (m (c.tc.loc main_arg0)) (m (c.tc.loc main_arg1)) (m (c.tc.loc main_arg2)) (m (c.tc.loc main_arg3)) i := by
  obtain ⟨r, n, rfl⟩ : ∃ (r : Fin 512) (n : Fin 128), x = ix2 r n := ⟨x 0, x 1, by
    funext a
    fin_cases a <;> rfl⟩
  obtain ⟨R, N, rfl⟩ : ∃ (R : Fin 16384) (N : Fin 128), i = ix2 R N := ⟨i 0, i 1, by
    funext a
    fin_cases a <;> rfl⟩
  obtain rfl : N = n := Fin.ext h1
  rw [gate_apply]
  unfold resG Proj.dot
  refine congrArg _ ?_
  simp only [fun k => normed m c t r k R h0, blk5, blk6]
  show _ = if h : N.val < 16 then _ else _
  by_cases h : N.val < 16
  · simp only [dif_pos h]
    rfl
  · simp only [dif_neg h, mul_zero, Finset.sum_const_zero, add_zero]

theorem array_q : (dats m 0 c).arrAt 7 cfg0.N
    = resQ (m (c.tc.loc main_arg0)) (m (c.tc.loc main_arg1)) (m (c.tc.loc main_arg2)) := by
  refine (dats m 0 c).arrAt_eq_of_covers 7 _ (by decide +kernel) fun t hf y => ?_
  blk_simp
  rw [after0_7]
  unfold outsAt0
  dsimp only
  frame_out
  have g0 : (((win0_7.blk t).view.emb y) 0 : ℕ) = t.val / 8 + (y 0).val := by blk_simp [idx t]
  have g1 : (((win0_7.blk t).view.emb y) 1 : ℕ) = (y 1).val := by blk_simp [idx t]
  have g2 : (((win0_7.blk t).view.emb y) 2 : ℕ) = t.val % 8 * 512 + (y 2).val := by blk_simp [idx t]
  have g3 : (((win0_7.blk t).view.emb y) 3 : ℕ) = (y 3).val := by blk_simp [idx t]
  generalize (win0_7.blk t).view.emb y = i at g0 g1 g2 g3 ⊢
  canon_tiles x h
  all_goals exact tileQ m c t _ (by decide) x i (by omega) (by omega) (by omega)

theorem array_k : (dats m 0 c).arrAt 8 cfg0.N
    = resC 1024 (by decide) (m (c.tc.loc main_arg0)) (m (c.tc.loc main_arg1)) (m (c.tc.loc main_arg2)) := by
  refine (dats m 0 c).arrAt_eq_of_covers 8 _ (by decide +kernel) fun t hf y => ?_
  blk_simp
  rw [after0_8]
  unfold outsAt0
  dsimp only
  frame_out
  have g0 : (((win0_8.blk t).view.emb y) 0 : ℕ) = t.val / 8 + (y 0).val := by blk_simp [idx t]
  have g1 : (((win0_8.blk t).view.emb y) 1 : ℕ) = (y 1).val := by blk_simp [idx t]
  have g2 : (((win0_8.blk t).view.emb y) 2 : ℕ) = (y 2).val := by blk_simp [idx t]
  have g3 : (((win0_8.blk t).view.emb y) 3 : ℕ) = t.val % 8 * 512 + (y 3).val := by blk_simp [idx t]
  generalize (win0_8.blk t).view.emb y = i at g0 g1 g2 g3 ⊢
  canon_tiles x h
  all_goals exact tileK m c t _ (by decide) x i (by omega) (by omega) (by omega)

theorem array_v : (dats m 0 c).arrAt 9 cfg0.N
    = resC 2048 (by decide) (m (c.tc.loc main_arg0)) (m (c.tc.loc main_arg1)) (m (c.tc.loc main_arg2)) := by
  refine (dats m 0 c).arrAt_eq_of_covers 9 _ (by decide +kernel) fun t hf y => ?_
  blk_simp
  rw [after0_9]
  unfold outsAt0
  dsimp only
  frame_out
  have g0 : (((win0_9.blk t).view.emb y) 0 : ℕ) = t.val / 8 + (y 0).val := by blk_simp [idx t]
  have g1 : (((win0_9.blk t).view.emb y) 1 : ℕ) = (y 1).val := by blk_simp [idx t]
  have g2 : (((win0_9.blk t).view.emb y) 2 : ℕ) = (y 2).val := by blk_simp [idx t]
  have g3 : (((win0_9.blk t).view.emb y) 3 : ℕ) = t.val % 8 * 512 + (y 3).val := by blk_simp [idx t]
  generalize (win0_9.blk t).view.emb y = i at g0 g1 g2 g3 ⊢
  canon_tiles x h
  all_goals exact tileV m c t _ (by decide) x i (by omega) (by omega) (by omega)

theorem array_g : (dats m 0 c).arrAt 10 cfg0.N
    = resG (m (c.tc.loc main_arg0)) (m (c.tc.loc main_arg1)) (m (c.tc.loc main_arg2)) (m (c.tc.loc main_arg3)) := by
  refine (dats m 0 c).arrAt_eq_of_covers 10 _ (by decide +kernel) fun t hf y => ?_
  blk_simp
  rw [after0_10]
  frame_out
  exact tileG m c t y _ (by blk_simp [idx t]) (by blk_simp [idx t])

end Cert.ProjP
-- ==== Proof.ProjRefP.lean ====
module

public import proofs.«01_k».proof.Proof.ProjP
public import proofs.«01_k».proof.Proof.Gen.ReferenceFPIdeal.Run
public import Idealize.ShloMosaic.Lib.Tactic.CleanTypes

/-! The reference's norm, input projection and log forget gates of the prompt, element by element. -/

@[expose] public section

set_option maxRecDepth 16384

noncomputable section

namespace Cert.ProjRefP

open Idealize.ShloMosaic Idealize.ShloMosaic.TcCoe Idealize.ShloMosaic.Tactic Idealize.SL.Sem
open Cert.ReferenceFPIdeal Cert.ReferenceFPIdeal.Facts₀ Cert.ReferenceFPIdeal.Facts

variable [Cert.ReferenceFPIdeal.Facts]

/-- Tokens divided by their root mean squares and scaled. -/
def norm (y : FVec Ideal S4x4096x1024 .f32) (g : FVec Ideal S2x1024 .f32) : FVec Ideal S4x4096x1024 .f32 :=
  mulf (mulf y (broadcastInDim S4x4096x1024 ![0, 1, 2] bcast_S4x4096x1_S4x4096x1024_0_1_2 (Host.rsqrt (addf (Host.divf
      (broadcastInDim S4x4096x1 ![0, 1] bcast_S4x4096_S4x4096x1_0_1
        (Host.reduceAdd (mulf y y) (constant S_ .f32 0x00000000#32) reducesTo_S4x4096x1024_S4x4096_d2 h_S_))
      (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2
      (shapeCast _ (extractStridedSlice S1x1024 ![1, 0] g slices_S2x1024_S1x1024_1_0) shapeCasts_S1x1024_S1024)))

/-- All four projections side by side. -/
def proj (x : FVec Ideal S16384x1024 .f32) (g : FVec Ideal S2x1024 .f32) (w : FVec Ideal S1x1024x3088 .f32) : FVec Ideal S4x4096x3088 .f32 :=
  Host.dotGeneral dot_S4x4096x1024_S1024x3088_S4x4096x3088_2_0_01_1_n_n none
    (norm (shapeCast _ x shapeCasts_S16384x1024_S4x4096x1024) g) (shapeCast _ w shapeCasts_S1x1024x3088_S1024x3088)

def outQ (p : FVec Ideal S4x4096x3088 .f32) : FVec Ideal S4x16x4096x64 .f32 :=
  transpose S4x16x4096x64 [0, 2, 1, 3] (shapeCast S4x4096x16x64 (extractStridedSlice S4x4096x1024 ![0, 0, 0] p slices_S4x4096x3088_S4x4096x1024_0_0_0)
    shapeCasts_S4x4096x1024_S4x4096x16x64) transposes_S4x4096x16x64_S4x16x4096x64_0_2_1_3

def outC (o : ℕ) (s : S4x4096x3088.Slices ![0, 0, o] S4x4096x1024) (p : FVec Ideal S4x4096x3088 .f32) : FVec Ideal S4x16x64x4096 .f32 :=
  transpose S4x16x64x4096 [0, 1, 3, 2] (transpose S4x16x4096x64 [0, 2, 1, 3] (shapeCast S4x4096x16x64 (extractStridedSlice S4x4096x1024 ![0, 0, o] p s)
    shapeCasts_S4x4096x1024_S4x4096x16x64) transposes_S4x4096x16x64_S4x16x4096x64_0_2_1_3) transposes_S4x16x4096x64_S4x16x64x4096_0_1_3_2

/-- The forget gates' logits in the first sixteen of 128 columns. -/
def logits (p : FVec Ideal S4x4096x3088 .f32) (b : FVec Ideal S1x16 .f32) : FVec Ideal S4x4096x128 .f32 :=
  pad S4x4096x128 ![0, 0, 0] ![0, 0, 112] ![0, 0, 0] (addf (extractStridedSlice S4x4096x16 ![0, 0, 3072] p slices_S4x4096x3088_S4x4096x16_0_0_3072)
    (broadcastInDim S4x4096x16 ![0, 1, 2] bcast_S1x1x16_S4x4096x16_0_1_2 (broadcastInDim S1x1x16 ![2] bcast_S16_S1x1x16_2
      (shapeCast _ b shapeCasts_S1x16_S16)))) (sitofp .f32 (constantI S_ 32 0#32)) pads_S4x4096x16_S4x4096x128_000_000_01120 h_S_

def zeros : FVec Ideal S4x4096x128 .f32 := broadcastInDim S4x4096x128 ![] bcast_S_S4x4096x128 (constant S_ .f32 0x00000000#32)

/-- The log of the logistic function of every logit. -/
def outG (z : FVec Ideal S4x4096x128 .f32) : FVec Ideal S16384x128 .f32 :=
  shapeCast _ (Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))) shapeCasts_S4x4096x128_S16384x128

theorem run_g (m : (ℓ : Loc nD τ sig) → Buf (Elt Ideal) ℓ) (c : Dev nD) :
    Cert.ReferenceFPIdeal.Value.res_out3 m c = outG (logits (proj (m (c.tc.loc main_arg0)) (m (c.tc.loc main_arg1)) (m (c.tc.loc main_arg2)))
      (m (c.tc.loc main_arg3))) := rfl

theorem norm_apply (x : FVec Ideal S16384x1024 .f32) (g : FVec Ideal S2x1024 .f32) (b : Fin 4) (t : Fin 4096) (n : Fin 1024) :
    norm (shapeCast _ x shapeCasts_S16384x1024_S4x4096x1024) g (ix3 b t n)
    = Ffn.unit (fun k => x (ix2 ⟨4096 * b.val + t.val, by omega⟩ k)) (fun k => g (ix2 1 k)) n := by
  unfold Ffn.unit
  have e : ∀ p, (⟨b.val * 4096 + t.val, p⟩ : Fin 16384) = ⟨4096 * b.val + t.val, by omega⟩ := fun _ => Fin.ext (by simp [Nat.mul_comm])
  pointwise [norm]
  simp only [e]

theorem proj_apply (x : FVec Ideal S16384x1024 .f32) (g : FVec Ideal S2x1024 .f32) (w : FVec Ideal S1x1024x3088 .f32) (b : Fin 4) (t : Fin 4096) (n : Fin 3088) :
    proj x g w (ix3 b t n)
    = Proj.dot (fun k => x (ix2 ⟨4096 * b.val + t.val, by omega⟩ k)) (fun k => g (ix2 1 k)) (fun k => w (ix3 0 k n)) := by
  unfold Proj.dot
  simp only [← norm_apply]
  pointwise [proj]

theorem outQ_apply (p : FVec Ideal S4x4096x3088 .f32) (b : Fin 4) (h : Fin 16) (t : Fin 4096) (d : Fin 64) :
    outQ p (ix4 b h t d) = p (ix3 b t ⟨64 * h.val + d.val, by omega⟩) := by
  pointwise [outQ]
  exact congrArg p (congrArg (ix3 b t) (Fin.ext (by simp [Nat.mul_comm])))

theorem outC_apply (o : ℕ) (ho : o ≤ 2048) (s) (p : FVec Ideal S4x4096x3088 .f32) (b : Fin 4) (h : Fin 16) (t : Fin 4096) (d : Fin 64) :
    outC o s p (ix4 b h d t) = p (ix3 b t ⟨o + (64 * h.val + d.val), by omega⟩) := by
  pointwise [outC]
  exact congrArg p (congrArg (ix3 b t) (Fin.ext (by simp [Nat.mul_comm])))

theorem logits_apply (p : FVec Ideal S4x4096x3088 .f32) (g : FVec Ideal S1x16 .f32) (b : Fin 4) (t : Fin 4096) (n : Fin 128) :
    logits p g (ix3 b t n) = if h : n.val < 16 then p (ix3 b t ⟨3072 + n.val, by omega⟩) + g (ix2 0 ⟨n.val, h⟩) else (0 : EReal) := by
  pointwise [logits]
  rw [Proj.zero_int]

theorem outG_apply (z : FVec Ideal S4x4096x128 .f32) (r : Fin 16384) (n : Fin 128) :
    outG z (ix2 r n) = Proj.keep (z (ix3 ⟨r.val / 4096, by omega⟩ ⟨r.val % 4096, by omega⟩ n)) := by
  rw [← Proj.keep_eq]
  pointwise [outG, zeros]
  rw [if_neg fun h => h rfl, Ideal.absf_def, neg_neg]

/-- The reference's queries are the call's. -/
theorem eq_q (x : FVec Ideal S16384x1024 .f32) (g : FVec Ideal S2x1024 .f32) (w : FVec Ideal S1x1024x3088 .f32) :
    outQ (proj x g w) = ProjP.resQ x g w := by
  funext i
  obtain ⟨b, h, t, d, rfl⟩ : ∃ (b : Fin 4) (h : Fin 16) (t : Fin 4096) (d : Fin 64), i = ix4 b h t d := ⟨i 0, i 1, i 2, i 3, by
    funext a
    fin_cases a <;> rfl⟩
  rw [outQ_apply, proj_apply]
  rfl

/-- The reference's keys and values are the call's. -/
theorem eq_c (o : ℕ) (ho : o ≤ 2048) (s) (x : FVec Ideal S16384x1024 .f32) (g : FVec Ideal S2x1024 .f32) (w : FVec Ideal S1x1024x3088 .f32) :
    outC o s (proj x g w) = ProjP.resC o ho x g w := by
  funext i
  obtain ⟨b, h, d, t, rfl⟩ : ∃ (b : Fin 4) (h : Fin 16) (d : Fin 64) (t : Fin 4096), i = ix4 b h d t := ⟨i 0, i 1, i 2, i 3, by
    funext a
    fin_cases a <;> rfl⟩
  rw [outC_apply o ho, proj_apply]
  rfl

/-- The reference's log forget gates are the call's. -/
theorem eq_g (x : FVec Ideal S16384x1024 .f32) (g : FVec Ideal S2x1024 .f32) (w : FVec Ideal S1x1024x3088 .f32) (b : FVec Ideal S1x16 .f32) :
    outG (logits (proj x g w) b) = ProjP.resG x g w b := by
  funext i
  obtain ⟨r, n, rfl⟩ : ∃ (r : Fin 16384) (n : Fin 128), i = ix2 r n := ⟨i 0, i 1, by
    funext a
    fin_cases a <;> rfl⟩
  have e : (⟨4096 * (r.val / 4096) + r.val % 4096, by omega⟩ : Fin 16384) = r := Fin.ext (by simp [Nat.div_add_mod])
  rw [outG_apply, logits_apply]
  simp only [proj_apply, e]
  rfl

/-- The call's arrays from the run's. -/
theorem run_q (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v29) = ProjP.resQ (m (c.tc.loc main_arg0)) (m (c.tc.loc main_arg1)) (m (c.tc.loc main_arg2))
      ∧ r.2.mem (c.tc.loc main_v35) = ProjP.resC 1024 (by decide) (m (c.tc.loc main_arg0)) (m (c.tc.loc main_arg1)) (m (c.tc.loc main_arg2))
      ∧ r.2.mem (c.tc.loc main_v36) = ProjP.resC 2048 (by decide) (m (c.tc.loc main_arg0)) (m (c.tc.loc main_arg1)) (m (c.tc.loc main_arg2))
      ∧ r.2.mem (c.tc.loc main_v34) = ProjP.resG (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run _ _ _).mono (fun r h c => ⟨(h c).1.trans ?_, (h c).2.1.trans ?_, (h c).2.2.1.trans ?_, (h c).2.2.2.1.trans ?_, (h c).2.2.2.2⟩)
    (Cert.ReferenceFPIdeal.Value.run (F := Ideal) m ρ)
  · exact eq_q _ _ _
  · exact eq_c 1024 (by decide) _ _ _ _
  · exact eq_c 2048 (by decide) _ _ _ _
  · exact (run_g m c).trans (eq_g _ _ _ _)

end Cert.ProjRefP
-- ==== Proof.ProjS.lean ====
module

public import proofs.«01_k».proof.Proof.Gen.KernelFSIdeal.Value
public import proofs.«01_k».proof.Proof.ProjRow

/-! Layer 1's input projection of the sample batch: its four result arrays, each number the token's own. -/

@[expose] public section

set_option maxRecDepth 2048

noncomputable section

namespace Cert.ProjS

open Idealize.ShloMosaic Idealize.ShloMosaic.TcCoe Idealize.ShloMosaic.Tactic
open Cert.KernelFSIdeal Cert.KernelFSIdeal.Gen

variable [Cert.KernelFSIdeal.Facts]
/-- The array of one of the three, its columns `a` and on, of the argument arrays. -/
def resC (a : ℕ) (ha : a ≤ 2048) (x : Vec Ideal S2048x1024 .f32) (g : Vec Ideal S2x1024 .f32) (w : Vec Ideal S1x1024x3088 .f32) :
    FVec Ideal S32x16x64x64 .f32 := fun i =>
  Proj.dot (fun k => x (ix2 ⟨64 * (i 0).val + (i 2).val, by have := (i 0).isLt; have := (i 2).isLt; simp at *; omega⟩ k)) (fun k => g (ix2 1 k))
    (fun k => w (ix3 0 k ⟨a + (64 * (i 1).val + (i 3).val), by have := (i 1).isLt; have := (i 3).isLt; simp at *; omega⟩))

/-- The log forget gates, one per head and token, in the first sixteen of 128 columns; the others hold those of zero. -/
def resG (x : Vec Ideal S2048x1024 .f32) (g : Vec Ideal S2x1024 .f32) (w : Vec Ideal S1x1024x3088 .f32) (b : Vec Ideal S1x16 .f32) :
    FVec Ideal S2048x128 .f32 := fun i =>
  Proj.keep (if h : (i 1).val < 16 then Proj.dot (fun k => x (ix2 (i 0) k)) (fun k => g (ix2 1 k)) (fun k => w (ix3 0 k ⟨3072 + (i 1).val, by omega⟩))
    + b (ix2 0 ⟨(i 1).val, h⟩) else 0)

/-- Sixty-four rows and columns of the rows' product with a weight matrix, as one batch and head's block. -/
def chunk (h : FVec Ideal S512x1024 .bf16) (w : Vec Ideal S1024x1024 .bf16) (p o : ℕ) (s : S512x1024.Slices ![p, o] S64x64) :
    FVec Ideal S1x1x64x64 .f32 :=
  shapeCast S1x1x64x64 (extractStridedSlice S64x64 ![p, o] (k0_pay4 h w) s) shapeCasts_S64x64_S1x1x64x64

theorem unit_apply (x : Vec Ideal S512x1024 .f32) (g : Vec Ideal S1x1024 .f32) (r : Fin 512) (n : Fin 1024) :
    k0_pay2 x g (ix2 r n) = Ffn.unit (fun k => x (ix2 r k)) (fun k => g (ix2 0 k)) n := by
  unfold Ffn.unit
  pointwise [k0_pay2]

theorem chunk_apply (h : FVec Ideal S512x1024 .bf16) (w : Vec Ideal S1024x1024 .bf16) (p o : ℕ) (s) (r d : Fin 64) (R : Fin 512) (n : Fin 1024)
    (hR : R.val = p + r.val) (hn : n.val = o + d.val) : chunk h w p o s (ix4 0 0 r d) = ∑ k : Fin 1024, h (ix2 R k) * w (ix2 k n) := by
  have e : ∀ p, (⟨o + d.val, p⟩ : Fin 1024) = n := fun _ => Fin.ext hn.symm
  have f : ∀ q, (⟨p + r.val, q⟩ : Fin 512) = R := fun _ => Fin.ext hR.symm
  pointwise [chunk, k0_pay4]
  simp only [e, f]

theorem gate_apply (h : FVec Ideal S512x1024 .bf16) (w : Vec Ideal S1024x128 .bf16) (b : Vec Ideal S1x128 .f32) (r : Fin 512) (n : Fin 128) :
    k0_pay3 h w b (ix2 r n) = Proj.keep (∑ k : Fin 1024, h (ix2 r k) * w (ix2 k n) + b (ix2 0 n)) := by
  unfold Proj.keep
  pointwise [k0_pay3]
  have e : ∀ n : Fin 128, IntOp.cmpi CmpIPredicate.sge (BitVec.ofNat 32 n.val) 0#32 = 1#1 := by decide
  rw [e, Scalar.select, zero_sub]
  rfl

theorem idx : ∀ t : Fin grid0.N, win0_0.index t = ![t.val, 0] ∧ win0_1.index t = ![0, 0]
    ∧ win0_2.index t = ![0, 0] ∧ win0_3.index t = ![0, 0] ∧ win0_4.index t = ![0, 0]
    ∧ win0_5.index t = ![0, 0] ∧ win0_6.index t = ![0, 0] ∧ win0_7.index t = ![t.val, 0, 0, 0]
    ∧ win0_8.index t = ![t.val, 0, 0, 0] ∧ win0_9.index t = ![t.val, 0, 0, 0] ∧ win0_10.index t = ![t.val, 0] := by
  decide +kernel

variable (m : (ℓ : Loc nD τ sig) → Buf (Elt Ideal) ℓ) (c : Dev nD)

/-- The weights without their unit axis. -/
def weights (w : Vec Ideal S1x1024x3088 .f32) : FVec Ideal S1024x3088 .f32 := shapeCast _ w shapeCasts_S1x1024x3088_S1024x3088

/-- The arrays that the host's operations leave for the call, each from the arguments. -/
theorem entry_wg : V m c main_v3 = truncf (F := Ideal) .bf16 (pad S1024x128 ![0, 0] ![0, 112] ![0, 0]
    (extractStridedSlice S1024x16 ![0, 3072] (weights (m (c.tc.loc main_arg2))) slices_S1024x3088_S1024x16_0_3072)
    (sitofp .f32 (constantI S_ 32 0#32)) pads_S1024x16_S1024x128_000_01120 h_S_) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_bg : V m c main_v6 = pad S1x128 ![0, 0] ![0, 112] ![0, 0]
    (shapeCast S1x16 (shapeCast S16 (m (c.tc.loc main_arg3) : Vec Ideal S1x16 .f32) shapeCasts_S1x16_S16) shapeCasts_S16_S1x16)
    (sitofp (F := Ideal) .f32 (constantI S_ 32 0#32)) pads_S1x16_S1x128_000_01120 h_S_ := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_q : V m c main_v12 = truncf (F := Ideal) .bf16 (extractStridedSlice S1024x1024 ![0, 0] (weights (m (c.tc.loc main_arg2)))
    slices_S1024x3088_S1024x1024_0_0) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_k : V m c main_v13 = truncf (F := Ideal) .bf16 (extractStridedSlice S1024x1024 ![0, 1024] (weights (m (c.tc.loc main_arg2)))
    slices_S1024x3088_S1024x1024_0_1024) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_v : V m c main_v14 = truncf (F := Ideal) .bf16 (extractStridedSlice S1024x1024 ![0, 2048] (weights (m (c.tc.loc main_arg2)))
    slices_S1024x3088_S1024x1024_0_2048) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_g : V m c main_v15 = shapeCast S1x1024 (shapeCast S1024 (extractStridedSlice S1x1024 ![1, 0]
    (m (c.tc.loc main_arg1) : Vec Ideal S2x1024 .f32) slices_S2x1024_S1x1024_1_0) shapeCasts_S1x1024_S1024) shapeCasts_S1024_S1x1024 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem blk0 (t : Fin grid0.N) (r : Fin 512) (k : Fin 1024) (R : Fin 2048) (hR : R.val = t.val * 512 + r.val) :
    iblk m c 0 t (ix2 r k) = (m (c.tc.loc main_arg0) : Vec Ideal S2048x1024 .f32) (ix2 R k) := by
  blk_simp [iblk, idx t]
  blk_ext [iblk, V, idx t]

theorem blk1 (t : Fin grid0.N) (k : Fin 1024) :
    iblk m c 1 t (ix2 0 k) = (m (c.tc.loc main_arg1) : Vec Ideal S2x1024 .f32) (ix2 1 k) := by
  blk_simp [iblk, idx t]
  rw [entry_g]
  pointwise [weights]
  blk_ext [iblk, V, idx t]

theorem blk2 (t : Fin grid0.N) (k n : Fin 1024) (N : Fin 3088) (hN : N.val = n.val) :
    iblk m c 2 t (ix2 k n) = (m (c.tc.loc main_arg2) : Vec Ideal S1x1024x3088 .f32) (ix3 0 k N) := by
  blk_simp [iblk, idx t]
  rw [entry_q]
  pointwise [weights]
  blk_ext [iblk, V, idx t]

theorem blk3 (t : Fin grid0.N) (k n : Fin 1024) (N : Fin 3088) (hN : N.val = 1024 + n.val) :
    iblk m c 3 t (ix2 k n) = (m (c.tc.loc main_arg2) : Vec Ideal S1x1024x3088 .f32) (ix3 0 k N) := by
  blk_simp [iblk, idx t]
  rw [entry_k]
  pointwise [weights]
  blk_ext [iblk, V, idx t]

theorem blk4 (t : Fin grid0.N) (k n : Fin 1024) (N : Fin 3088) (hN : N.val = 2048 + n.val) :
    iblk m c 4 t (ix2 k n) = (m (c.tc.loc main_arg2) : Vec Ideal S1x1024x3088 .f32) (ix3 0 k N) := by
  blk_simp [iblk, idx t]
  rw [entry_v]
  pointwise [weights]
  blk_ext [iblk, V, idx t]

theorem blk5 (t : Fin grid0.N) (k : Fin 1024) (n : Fin 128) :
    iblk m c 5 t (ix2 k n) = if h : n.val < 16 then (m (c.tc.loc main_arg2) : Vec Ideal S1x1024x3088 .f32) (ix3 0 k ⟨3072 + n.val, by omega⟩) else (0 : EReal) := by
  blk_simp [iblk, idx t]
  rw [entry_wg]
  pointwise [weights]
  have g1 : ((win0_5.blk t).view.emb (ix2 k n) 1 : ℕ) = n.val := by blk_simp [idx t]
  by_cases h : n.val < 16
  · rw [dif_pos h]
    refine (dif_pos (lt_of_eq_of_lt g1 h)).trans ?_
    blk_ext [iblk, V, idx t]
  · rw [dif_neg h]
    exact (dif_neg fun p => h (lt_of_eq_of_lt g1.symm p)).trans Proj.zero_int

theorem blk6 (t : Fin grid0.N) (n : Fin 128) :
    iblk m c 6 t (ix2 0 n) = if h : n.val < 16 then (m (c.tc.loc main_arg3) : Vec Ideal S1x16 .f32) (ix2 0 ⟨n.val, h⟩) else (0 : EReal) := by
  blk_simp [iblk, idx t]
  rw [entry_bg]
  pointwise [weights]
  have g1 : ((win0_6.blk t).view.emb (ix2 0 n) 1 : ℕ) = n.val := by blk_simp [idx t]
  by_cases h : n.val < 16
  · rw [dif_pos h]
    refine (dif_pos (lt_of_eq_of_lt g1 h)).trans ?_
    blk_ext [iblk, V, idx t]
  · rw [dif_neg h]
    exact (dif_neg fun p => h (lt_of_eq_of_lt g1.symm p)).trans Proj.zero_int

theorem normed (t : Fin grid0.N) (r : Fin 512) (n : Fin 1024) (R : Fin 2048) (hR : R.val = t.val * 512 + r.val) :
    k0_pay2 (iblk m c 0 t) (iblk m c 1 t) (ix2 r n) = Ffn.unit (fun k => (m (c.tc.loc main_arg0) : Vec Ideal S2048x1024 .f32) (ix2 R k))
      (fun k => (m (c.tc.loc main_arg1) : Vec Ideal S2x1024 .f32) (ix2 1 k)) n := by
  rw [unit_apply]
  simp only [fun k => blk0 m c t r k R hR, blk1]

/-- One batch and head's block of one of the three is that part of its array. -/
theorem tile (t : Fin grid0.N) (a : ℕ) (ha : a ≤ 2048) (w : Vec Ideal S1024x1024 .bf16)
    (hw : ∀ (k n : Fin 1024) (N : Fin 3088), N.val = a + n.val → w (ix2 k n) = (m (c.tc.loc main_arg2) : Vec Ideal S1x1024x3088 .f32) (ix3 0 k N))
    (p o : ℕ) (s) (x : S1x1x64x64.Idx) (i : S32x16x64x64.Idx) (ho : o = 64 * (i 1).val)
    (h2 : 64 * (i 0).val + (i 2).val = t.val * 512 + (p + (x 2).val)) (hp : p ≤ 448) (h3 : (i 3).val = (x 3).val) :
    chunk (k0_pay2 (iblk m c 0 t) (iblk m c 1 t)) w p o s x
    = resC a ha (m (c.tc.loc main_arg0)) (m (c.tc.loc main_arg1)) (m (c.tc.loc main_arg2)) i := by
  obtain ⟨r, d, rfl⟩ : ∃ (r d : Fin 64), x = ix4 0 0 r d := ⟨x 2, x 3, by
    funext a
    fin_cases a <;> first | rfl | exact Subsingleton.elim (α := Fin 1) _ _⟩
  have b0 : (i 0).val < 32 := (i 0).isLt
  have b1 : (i 1).val < 16 := (i 1).isLt
  have b2 : (i 2).val < 64 := (i 2).isLt
  have b3 : (i 3).val < 64 := (i 3).isLt
  have e3 : (i 3).val = d.val := h3
  rw [chunk_apply _ _ _ _ _ r d ⟨p + r.val, by omega⟩ ⟨64 * (i 1).val + (i 3).val, by omega⟩ rfl (by show 64 * (i 1).val + (i 3).val = _; omega)]
  unfold resC Proj.dot
  refine Finset.sum_congr rfl fun k _ => ?_
  rw [normed m c t ⟨p + r.val, by omega⟩ k ⟨64 * (i 0).val + (i 2).val, by omega⟩ h2, hw k _ ⟨a + (64 * (i 1).val + (i 3).val), by omega⟩ rfl]

/-- A block of gates is that part of their array. -/
theorem tileG (t : Fin grid0.N) (x : S512x128.Idx) (i : S2048x128.Idx) (h0 : (i 0).val = t.val * 512 + (x 0).val)
    (h1 : (i 1).val = (x 1).val) :
    k0_pay3 (k0_pay2 (iblk m c 0 t) (iblk m c 1 t)) (iblk m c 5 t) (iblk m c 6 t) x
    = resG (m (c.tc.loc main_arg0)) (m (c.tc.loc main_arg1)) (m (c.tc.loc main_arg2)) (m (c.tc.loc main_arg3)) i := by
  obtain ⟨r, n, rfl⟩ : ∃ (r : Fin 512) (n : Fin 128), x = ix2 r n := ⟨x 0, x 1, by
    funext a
    fin_cases a <;> rfl⟩
  obtain ⟨R, N, rfl⟩ : ∃ (R : Fin 2048) (N : Fin 128), i = ix2 R N := ⟨i 0, i 1, by
    funext a
    fin_cases a <;> rfl⟩
  obtain rfl : N = n := Fin.ext h1
  rw [gate_apply]
  unfold resG Proj.dot
  refine congrArg _ ?_
  simp only [fun k => normed m c t r k R h0, blk5, blk6]
  show _ = if h : N.val < 16 then _ else _
  by_cases h : N.val < 16
  · simp only [dif_pos h]
    rfl
  · simp only [dif_neg h, mul_zero, Finset.sum_const_zero, add_zero]

set_option maxHeartbeats 4000000 in
theorem array_q : (dats m 0 c).arrAt 7 cfg0.N
    = resC 0 (by decide) (m (c.tc.loc main_arg0)) (m (c.tc.loc main_arg1)) (m (c.tc.loc main_arg2)) := by
  refine (dats m 0 c).arrAt_eq_of_covers 7 _ (by decide +kernel) fun t hf y => ?_
  blk_simp
  rw [after0_7]
  unfold outsAt0
  dsimp only
  frame_out
  have g0 : (((win0_7.blk t).view.emb y) 0 : ℕ) = t.val * 8 + (y 0).val := by blk_simp [idx t]
  have g1 : (((win0_7.blk t).view.emb y) 1 : ℕ) = (y 1).val := by blk_simp [idx t]
  have g2 : (((win0_7.blk t).view.emb y) 2 : ℕ) = (y 2).val := by blk_simp [idx t]
  have g3 : (((win0_7.blk t).view.emb y) 3 : ℕ) = (y 3).val := by blk_simp [idx t]
  generalize (win0_7.blk t).view.emb y = i at g0 g1 g2 g3 ⊢
  canon_tiles x h
  all_goals exact tile m c t 0 _ _ (fun k n N h => blk2 m c t k n N (h.trans (Nat.zero_add _))) _ _ (by decide) x i (by omega) (by omega) (by omega) (by omega)

set_option maxHeartbeats 4000000 in
theorem array_k : (dats m 0 c).arrAt 8 cfg0.N
    = resC 1024 (by decide) (m (c.tc.loc main_arg0)) (m (c.tc.loc main_arg1)) (m (c.tc.loc main_arg2)) := by
  refine (dats m 0 c).arrAt_eq_of_covers 8 _ (by decide +kernel) fun t hf y => ?_
  blk_simp
  rw [after0_8]
  unfold outsAt0
  dsimp only
  frame_out
  have g0 : (((win0_8.blk t).view.emb y) 0 : ℕ) = t.val * 8 + (y 0).val := by blk_simp [idx t]
  have g1 : (((win0_8.blk t).view.emb y) 1 : ℕ) = (y 1).val := by blk_simp [idx t]
  have g2 : (((win0_8.blk t).view.emb y) 2 : ℕ) = (y 2).val := by blk_simp [idx t]
  have g3 : (((win0_8.blk t).view.emb y) 3 : ℕ) = (y 3).val := by blk_simp [idx t]
  generalize (win0_8.blk t).view.emb y = i at g0 g1 g2 g3 ⊢
  canon_tiles x h
  all_goals exact tile m c t 1024 _ _ (fun k n N h => blk3 m c t k n N h) _ _ (by decide) x i (by omega) (by omega) (by omega) (by omega)

set_option maxHeartbeats 4000000 in
theorem array_v : (dats m 0 c).arrAt 9 cfg0.N
    = resC 2048 (by decide) (m (c.tc.loc main_arg0)) (m (c.tc.loc main_arg1)) (m (c.tc.loc main_arg2)) := by
  refine (dats m 0 c).arrAt_eq_of_covers 9 _ (by decide +kernel) fun t hf y => ?_
  blk_simp
  rw [after0_9]
  unfold outsAt0
  dsimp only
  frame_out
  have g0 : (((win0_9.blk t).view.emb y) 0 : ℕ) = t.val * 8 + (y 0).val := by blk_simp [idx t]
  have g1 : (((win0_9.blk t).view.emb y) 1 : ℕ) = (y 1).val := by blk_simp [idx t]
  have g2 : (((win0_9.blk t).view.emb y) 2 : ℕ) = (y 2).val := by blk_simp [idx t]
  have g3 : (((win0_9.blk t).view.emb y) 3 : ℕ) = (y 3).val := by blk_simp [idx t]
  generalize (win0_9.blk t).view.emb y = i at g0 g1 g2 g3 ⊢
  canon_tiles x h
  all_goals exact tile m c t 2048 _ _ (fun k n N h => blk4 m c t k n N h) _ _ (by decide) x i (by omega) (by omega) (by omega) (by omega)

set_option maxHeartbeats 4000000 in
theorem array_g : (dats m 0 c).arrAt 10 cfg0.N
    = resG (m (c.tc.loc main_arg0)) (m (c.tc.loc main_arg1)) (m (c.tc.loc main_arg2)) (m (c.tc.loc main_arg3)) := by
  refine (dats m 0 c).arrAt_eq_of_covers 10 _ (by decide +kernel) fun t hf y => ?_
  blk_simp
  rw [after0_10]
  frame_out
  exact tileG m c t y _ (by blk_simp [idx t]) (by blk_simp [idx t])

end Cert.ProjS
-- ==== Proof.ProjRefS.lean ====
module

public import proofs.«01_k».proof.Proof.ProjS
public import proofs.«01_k».proof.Proof.Gen.ReferenceFSIdeal.Run
public import Idealize.ShloMosaic.Lib.Tactic.CleanTypes

/-! The reference's norm, input projection and log forget gates of the sample batch, element by element. -/

@[expose] public section

set_option maxRecDepth 16384

noncomputable section

namespace Cert.ProjRefS

open Idealize.ShloMosaic Idealize.ShloMosaic.TcCoe Idealize.ShloMosaic.Tactic Idealize.SL.Sem
open Cert.ReferenceFSIdeal Cert.ReferenceFSIdeal.Facts₀ Cert.ReferenceFSIdeal.Facts

variable [Cert.ReferenceFSIdeal.Facts]

/-- Tokens divided by their root mean squares and scaled. -/
def norm (y : FVec Ideal S32x64x1024 .f32) (g : FVec Ideal S2x1024 .f32) : FVec Ideal S32x64x1024 .f32 :=
  mulf (mulf y (broadcastInDim S32x64x1024 ![0, 1, 2] bcast_S32x64x1_S32x64x1024_0_1_2 (Host.rsqrt (addf (Host.divf
      (broadcastInDim S32x64x1 ![0, 1] bcast_S32x64_S32x64x1_0_1
        (Host.reduceAdd (mulf y y) (constant S_ .f32 0x00000000#32) reducesTo_S32x64x1024_S32x64_d2 h_S_))
      (broadcastInDim S32x64x1 ![] bcast_S_S32x64x1 (constant S_ .f32 0x44800000#32)))
      (broadcastInDim S32x64x1 ![] bcast_S_S32x64x1 (constant S_ .f32 0x358637BD#32))))))
    (broadcastInDim S32x64x1024 ![0, 1, 2] bcast_S1x1x1024_S32x64x1024_0_1_2 (broadcastInDim S1x1x1024 ![2] bcast_S1024_S1x1x1024_2
      (shapeCast _ (extractStridedSlice S1x1024 ![1, 0] g slices_S2x1024_S1x1024_1_0) shapeCasts_S1x1024_S1024)))

/-- All four projections side by side. -/
def proj (x : FVec Ideal S2048x1024 .f32) (g : FVec Ideal S2x1024 .f32) (w : FVec Ideal S1x1024x3088 .f32) : FVec Ideal S32x64x3088 .f32 :=
  Host.dotGeneral dot_S32x64x1024_S1024x3088_S32x64x3088_2_0_01_1_n_n none
    (norm (shapeCast _ x shapeCasts_S2048x1024_S32x64x1024) g) (shapeCast _ w shapeCasts_S1x1024x3088_S1024x3088)

/-- One of the three, its columns `o` and on, head by head. -/
def outC (o : ℕ) (s : S32x64x3088.Slices ![0, 0, o] S32x64x1024) (p : FVec Ideal S32x64x3088 .f32) : FVec Ideal S32x16x64x64 .f32 :=
  transpose S32x16x64x64 [0, 2, 1, 3] (shapeCast S32x64x16x64 (extractStridedSlice S32x64x1024 ![0, 0, o] p s)
    shapeCasts_S32x64x1024_S32x64x16x64) transposes_S32x64x16x64_S32x16x64x64_0_2_1_3

/-- The forget gates' logits in the first sixteen of 128 columns. -/
def logits (p : FVec Ideal S32x64x3088 .f32) (b : FVec Ideal S1x16 .f32) : FVec Ideal S32x64x128 .f32 :=
  pad S32x64x128 ![0, 0, 0] ![0, 0, 112] ![0, 0, 0] (addf (extractStridedSlice S32x64x16 ![0, 0, 3072] p slices_S32x64x3088_S32x64x16_0_0_3072)
    (broadcastInDim S32x64x16 ![0, 1, 2] bcast_S1x1x16_S32x64x16_0_1_2 (broadcastInDim S1x1x16 ![2] bcast_S16_S1x1x16_2
      (shapeCast _ b shapeCasts_S1x16_S16)))) (sitofp .f32 (constantI S_ 32 0#32)) pads_S32x64x16_S32x64x128_000_000_01120 h_S_

def zeros : FVec Ideal S32x64x128 .f32 := broadcastInDim S32x64x128 ![] bcast_S_S32x64x128 (constant S_ .f32 0x00000000#32)

/-- The log of the logistic function of every logit. -/
def outG (z : FVec Ideal S32x64x128 .f32) : FVec Ideal S2048x128 .f32 :=
  shapeCast _ (Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))) shapeCasts_S32x64x128_S2048x128

theorem run_g (m : (ℓ : Loc nD τ sig) → Buf (Elt Ideal) ℓ) (c : Dev nD) :
    Cert.ReferenceFSIdeal.Value.res_out3 m c = outG (logits (proj (m (c.tc.loc main_arg0)) (m (c.tc.loc main_arg1)) (m (c.tc.loc main_arg2)))
      (m (c.tc.loc main_arg3))) := rfl

theorem norm_apply (x : FVec Ideal S2048x1024 .f32) (g : FVec Ideal S2x1024 .f32) (b : Fin 32) (t : Fin 64) (n : Fin 1024) :
    norm (shapeCast _ x shapeCasts_S2048x1024_S32x64x1024) g (ix3 b t n)
    = Ffn.unit (fun k => x (ix2 ⟨64 * b.val + t.val, by omega⟩ k)) (fun k => g (ix2 1 k)) n := by
  unfold Ffn.unit
  have e : ∀ p, (⟨b.val * 64 + t.val, p⟩ : Fin 2048) = ⟨64 * b.val + t.val, by omega⟩ := fun _ => Fin.ext (by simp [Nat.mul_comm])
  pointwise [norm]
  simp only [e]

theorem proj_apply (x : FVec Ideal S2048x1024 .f32) (g : FVec Ideal S2x1024 .f32) (w : FVec Ideal S1x1024x3088 .f32) (b : Fin 32) (t : Fin 64) (n : Fin 3088) :
    proj x g w (ix3 b t n)
    = Proj.dot (fun k => x (ix2 ⟨64 * b.val + t.val, by omega⟩ k)) (fun k => g (ix2 1 k)) (fun k => w (ix3 0 k n)) := by
  unfold Proj.dot
  simp only [← norm_apply]
  pointwise [proj]

theorem outC_apply (o : ℕ) (ho : o ≤ 2048) (s) (p : FVec Ideal S32x64x3088 .f32) (b : Fin 32) (h : Fin 16) (t : Fin 64) (d : Fin 64) :
    outC o s p (ix4 b h t d) = p (ix3 b t ⟨o + (64 * h.val + d.val), by omega⟩) := by
  pointwise [outC]
  exact congrArg p (congrArg (ix3 b t) (Fin.ext (by simp [Nat.mul_comm])))

theorem logits_apply (p : FVec Ideal S32x64x3088 .f32) (g : FVec Ideal S1x16 .f32) (b : Fin 32) (t : Fin 64) (n : Fin 128) :
    logits p g (ix3 b t n) = if h : n.val < 16 then p (ix3 b t ⟨3072 + n.val, by omega⟩) + g (ix2 0 ⟨n.val, h⟩) else (0 : EReal) := by
  pointwise [logits]
  rw [Proj.zero_int]

theorem outG_apply (z : FVec Ideal S32x64x128 .f32) (r : Fin 2048) (n : Fin 128) :
    outG z (ix2 r n) = Proj.keep (z (ix3 ⟨r.val / 64, by omega⟩ ⟨r.val % 64, by omega⟩ n)) := by
  rw [← Proj.keep_eq]
  pointwise [outG, zeros]
  rw [if_neg fun h => h rfl, Ideal.absf_def, neg_neg]

/-- The reference's queries, keys and values are the call's. -/
theorem eq_c (o : ℕ) (ho : o ≤ 2048) (s) (x : FVec Ideal S2048x1024 .f32) (g : FVec Ideal S2x1024 .f32) (w : FVec Ideal S1x1024x3088 .f32) :
    outC o s (proj x g w) = ProjS.resC o ho x g w := by
  funext i
  obtain ⟨b, h, d, t, rfl⟩ : ∃ (b : Fin 32) (h : Fin 16) (t : Fin 64) (d : Fin 64), i = ix4 b h t d := ⟨i 0, i 1, i 2, i 3, by
    funext a
    fin_cases a <;> rfl⟩
  rw [outC_apply o ho, proj_apply]
  rfl

/-- The reference's log forget gates are the call's. -/
theorem eq_g (x : FVec Ideal S2048x1024 .f32) (g : FVec Ideal S2x1024 .f32) (w : FVec Ideal S1x1024x3088 .f32) (b : FVec Ideal S1x16 .f32) :
    outG (logits (proj x g w) b) = ProjS.resG x g w b := by
  funext i
  obtain ⟨r, n, rfl⟩ : ∃ (r : Fin 2048) (n : Fin 128), i = ix2 r n := ⟨i 0, i 1, by
    funext a
    fin_cases a <;> rfl⟩
  have e : (⟨64 * (r.val / 64) + r.val % 64, by omega⟩ : Fin 2048) = r := Fin.ext (by simp [Nat.div_add_mod])
  rw [outG_apply, logits_apply]
  simp only [proj_apply, e]
  rfl

/-- The call's arrays from the run's. -/
theorem run_q (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v29) = ProjS.resC 0 (by decide) (m (c.tc.loc main_arg0)) (m (c.tc.loc main_arg1)) (m (c.tc.loc main_arg2))
      ∧ r.2.mem (c.tc.loc main_v31) = ProjS.resC 1024 (by decide) (m (c.tc.loc main_arg0)) (m (c.tc.loc main_arg1)) (m (c.tc.loc main_arg2))
      ∧ r.2.mem (c.tc.loc main_v33) = ProjS.resC 2048 (by decide) (m (c.tc.loc main_arg0)) (m (c.tc.loc main_arg1)) (m (c.tc.loc main_arg2))
      ∧ r.2.mem (c.tc.loc main_v34) = ProjS.resG (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run _ _ _).mono (fun r h c => ⟨(h c).1.trans ?_, (h c).2.1.trans ?_, (h c).2.2.1.trans ?_, (h c).2.2.2.1.trans ?_, (h c).2.2.2.2⟩)
    (Cert.ReferenceFSIdeal.Value.run (F := Ideal) m ρ)
  · exact eq_c 0 (by decide) _ _ _ _
  · exact eq_c 1024 (by decide) _ _ _ _
  · exact eq_c 2048 (by decide) _ _ _ _
  · exact (run_g m c).trans (eq_g _ _ _ _)

end Cert.ProjRefS
-- ==== Proof.ProjGate.lean ====
module

public import proofs.«01_k».proof.Proof.ProjRow

/-! Layer 0's gates and the scale of its keys. -/

@[expose] public section

noncomputable section

namespace Cert.Proj

open Idealize.ShloMosaic

/-- One over the root of the mLSTM's head dimension, in f32. -/
def keyScale : EReal := Scalar.ofBits (F := Ideal) .f32 0x3DB504F3#32

/-- A gate of layer 0 by its column: four input gates as they are, the others the log of the logistic function. -/
def gate (n : ℕ) (z : EReal) : EReal := if n < 4 then z else keep z

end Cert.Proj
-- ==== Proof.ProjAP.lean ====
module

public import proofs.«01_k».proof.Proof.Gen.KernelAPIdeal.Value
public import proofs.«01_k».proof.Proof.ProjGate

/-! Layer 0's input projection of the prompt: its eight result arrays, each number the token's own. -/

@[expose] public section

set_option maxRecDepth 16384

noncomputable section

namespace Cert.ProjAP

open Idealize.ShloMosaic Idealize.ShloMosaic.TcCoe Idealize.ShloMosaic.Tactic
open Cert.KernelAPIdeal Cert.KernelAPIdeal.Gen

variable [Cert.KernelAPIdeal.Facts]

/-- The array, by rows of tokens, of the columns `a` and on. -/
def resT (a : ℕ) (ha : a ≤ 1536) (x : Vec Ideal S16384x1024 .f32) (g : Vec Ideal S2x1024 .f32) (w : Vec Ideal S1x1024x3592 .f32) : Vec Ideal S16384x512 .f32 := fun i =>
  Proj.dot (fun k => x (ix2 (i 0) k)) (fun k => g (ix2 0 k))
    (fun k => w (ix3 0 k ⟨a + (i 1).val, by have := (i 1).isLt; simp at *; omega⟩))

/-- The mLSTM's keys, scaled. -/
def resK (x : Vec Ideal S16384x1024 .f32) (g : Vec Ideal S2x1024 .f32) (w : Vec Ideal S1x1024x3592 .f32) : FVec Ideal S16384x512 .bf16 := fun i =>
  resT 512 (by decide) x g w i * Proj.keyScale

/-- The array, head by head, of the columns `a` and on. -/
def resC (a : ℕ) (ha : a ≤ 3080) (x : Vec Ideal S16384x1024 .f32) (g : Vec Ideal S2x1024 .f32) (w : Vec Ideal S1x1024x3592 .f32) :
    FVec Ideal S4x8x4096x64 .f32 := fun i =>
  Proj.dot (fun k => x (ix2 ⟨4096 * (i 0).val + (i 2).val, by have := (i 0).isLt; have := (i 2).isLt; simp at *; omega⟩ k)) (fun k => g (ix2 0 k))
    (fun k => w (ix3 0 k ⟨a + (64 * (i 1).val + (i 3).val), by have := (i 1).isLt; have := (i 3).isLt; simp at *; omega⟩))

/-- The same with positions last. -/
def resL (a : ℕ) (ha : a ≤ 3080) (x : Vec Ideal S16384x1024 .f32) (g : Vec Ideal S2x1024 .f32) (w : Vec Ideal S1x1024x3592 .f32) :
    FVec Ideal S4x8x64x4096 .f32 := fun i =>
  Proj.dot (fun k => x (ix2 ⟨4096 * (i 0).val + (i 3).val, by have := (i 0).isLt; have := (i 3).isLt; simp at *; omega⟩ k)) (fun k => g (ix2 0 k))
    (fun k => w (ix3 0 k ⟨a + (64 * (i 1).val + (i 2).val), by have := (i 1).isLt; have := (i 2).isLt; simp at *; omega⟩))

/-- The gates: four input gates, four log forget gates, and in the other columns the log forget gates of zero. -/
def resG (x : Vec Ideal S16384x1024 .f32) (g : Vec Ideal S2x1024 .f32) (w : Vec Ideal S1x1024x3592 .f32) (b : Vec Ideal S1x8 .f32) :
    FVec Ideal S16384x128 .f32 := fun i =>
  Proj.gate (i 1).val (if h : (i 1).val < 8 then Proj.dot (fun k => x (ix2 (i 0) k)) (fun k => g (ix2 0 k)) (fun k => w (ix3 0 k ⟨2048 + (i 1).val, by omega⟩))
    + b (ix2 0 ⟨(i 1).val, h⟩) else 0)

/-- Part of a product, as one head's block. -/
def chunk (u : FVec Ideal S512x512 .f32) (o : ℕ) (s : S512x512.Slices ![0, o] S512x64) :
    FVec Ideal S1x1x512x64 .f32 :=
  shapeCast S1x1x512x64 (extractStridedSlice S512x64 ![0, o] u s) shapeCasts_S512x64_S1x1x512x64

/-- The same with positions last. -/
def chunkT (u : FVec Ideal S512x512 .f32) (o : ℕ) (s : S512x512.Slices ![o, 0] S64x512) :
    FVec Ideal S1x1x64x512 .f32 :=
  shapeCast S1x1x64x512 (extractStridedSlice S64x512 ![o, 0] u s) shapeCasts_S64x512_S1x1x64x512

theorem chunk_apply (u : FVec Ideal S512x512 .f32) (o : ℕ) (s) (r : Fin 512) (d : Fin 64) (n : Fin 512)
    (hn : n.val = o + d.val) : chunk u o s (ix4 0 0 r d) = u (ix2 r n) := by
  have e : ∀ p, (⟨o + d.val, p⟩ : Fin 512) = n := fun _ => Fin.ext hn.symm
  pointwise [chunk]
  simp only [e]

theorem chunkT_apply (u : FVec Ideal S512x512 .f32) (o : ℕ) (s) (r : Fin 512) (d : Fin 64) (n : Fin 512)
    (hn : n.val = o + d.val) : chunkT u o s (ix4 0 0 d r) = u (ix2 n r) := by
  have e : ∀ p, (⟨o + d.val, p⟩ : Fin 512) = n := fun _ => Fin.ext hn.symm
  pointwise [chunkT]
  simp only [e]

theorem unit_apply (x : Vec Ideal S512x1024 .f32) (g : Vec Ideal S1x1024 .f32) (r : Fin 512) (n : Fin 1024) :
    k0_pay7 x g (ix2 r n) = Ffn.unit (fun k => x (ix2 r k)) (fun k => g (ix2 0 k)) n := by
  unfold Ffn.unit
  pointwise [k0_pay7]

/-- One number of a product of rows with a weight matrix. -/
def sum (h : FVec Ideal S512x1024 .bf16) (w : Vec Ideal S1024x512 .bf16) (r n : Fin 512) : EReal :=
  ∑ k : Fin 1024, h (ix2 r k) * w (ix2 k n)

theorem q_apply (h : FVec Ideal S512x1024 .bf16) (w : Vec Ideal S1024x512 .bf16) (r n : Fin 512) : k0_pay9 h w (ix2 r n) = sum h w r n := by
  unfold sum
  pointwise [k0_pay9]

theorem k_apply (h : FVec Ideal S512x1024 .bf16) (w : Vec Ideal S1024x512 .bf16) (r n : Fin 512) :
    k0_pay10 h w (ix2 r n) = sum h w r n * Proj.keyScale := by
  unfold sum Proj.keyScale
  pointwise [k0_pay10]

theorem v_apply (h : FVec Ideal S512x1024 .bf16) (w : Vec Ideal S1024x512 .bf16) (r n : Fin 512) : k0_pay11 h w (ix2 r n) = sum h w r n := by
  unfold sum
  pointwise [k0_pay11]

theorem o_apply (h : FVec Ideal S512x1024 .bf16) (w : Vec Ideal S1024x512 .bf16) (r n : Fin 512) : k0_pay12 h w (ix2 r n) = sum h w r n := by
  unfold sum
  pointwise [k0_pay12]

theorem qb_apply (h : FVec Ideal S512x1024 .bf16) (w : Vec Ideal S1024x512 .bf16) (r n : Fin 512) : k0_pay13 h w (ix2 r n) = sum h w r n := by
  unfold sum
  pointwise [k0_pay13]

theorem kb_apply (h : FVec Ideal S512x1024 .bf16) (w : Vec Ideal S512x1024 .bf16) (r n : Fin 512) :
    k0_pay23 h w (ix2 n r) = ∑ k : Fin 1024, w (ix2 n k) * h (ix2 r k) := by
  pointwise [k0_pay23]

theorem vb_apply (h : FVec Ideal S512x1024 .bf16) (w : Vec Ideal S512x1024 .bf16) (r n : Fin 512) :
    k0_pay33 h w (ix2 n r) = ∑ k : Fin 1024, w (ix2 n k) * h (ix2 r k) := by
  pointwise [k0_pay33]

theorem gate_apply (h : FVec Ideal S512x1024 .bf16) (w : Vec Ideal S1024x128 .bf16) (b : Vec Ideal S1x128 .f32) (r : Fin 512) (n : Fin 128) :
    k0_pay8 h w b (ix2 r n) = Proj.gate n.val (∑ k : Fin 1024, h (ix2 r k) * w (ix2 k n) + b (ix2 0 n)) := by
  unfold Proj.gate Proj.keep
  pointwise [k0_pay8]
  have e : ∀ n : Fin 128, IntOp.cmpi CmpIPredicate.sge (BitVec.ofNat 32 n.val) 4#32 = if n.val < 4 then 0#1 else 1#1 := by decide
  rw [e, zero_sub]
  by_cases p : n.val < 4
  · rw [if_pos p, if_pos p]
    rfl
  · rw [if_neg p, if_neg p]
    rfl

theorem idx : ∀ t : Fin grid0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val, 0]
    ∧ win0_12.index t = ![t.val, 0]
    ∧ win0_13.index t = ![t.val, 0]
    ∧ win0_14.index t = ![t.val, 0]
    ∧ win0_15.index t = ![t.val / 8, 0, t.val % 8, 0] ∧ win0_16.index t = ![t.val / 8, 0, 0, t.val % 8]
    ∧ win0_17.index t = ![t.val / 8, 0, 0, t.val % 8] ∧ win0_18.index t = ![t.val, 0] := by
  decide +kernel

variable (m : (ℓ : Loc nD τ sig) → Buf (Elt Ideal) ℓ) (c : Dev nD)

/-- The weights without their unit axis. -/
def weights (w : Vec Ideal S1x1024x3592 .f32) : FVec Ideal S1024x3592 .f32 := shapeCast _ w shapeCasts_S1x1024x3592_S1024x3592

/-- The arrays that the host's operations leave for the call, each from the arguments. -/
theorem entry_wg : V m c main_v10 = truncf (F := Ideal) .bf16 (pad S1024x128 ![0, 0] ![0, 120] ![0, 0]
    (extractStridedSlice S1024x8 ![0, 2048] (weights (m (c.tc.loc main_arg2))) slices_S1024x3592_S1024x8_0_2048)
    (sitofp .f32 (constantI S_ 32 0#32)) pads_S1024x8_S1024x128_000_01200 h_S_) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_bg : V m c main_v13 = pad S1x128 ![0, 0] ![0, 120] ![0, 0]
    (shapeCast S1x8 (shapeCast S8 (m (c.tc.loc main_arg3) : Vec Ideal S1x8 .f32) shapeCasts_S1x8_S8) shapeCasts_S8_S1x8)
    (sitofp (F := Ideal) .f32 (constantI S_ 32 0#32)) pads_S1x8_S1x128_000_01200 h_S_ := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_g : V m c main_v25 = shapeCast S1x1024 (shapeCast S1024 (extractStridedSlice S1x1024 ![0, 0]
    (m (c.tc.loc main_arg1) : Vec Ideal S2x1024 .f32) slices_S2x1024_S1x1024_0_0) shapeCasts_S1x1024_S1024) shapeCasts_S1024_S1x1024 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_2 : V m c main_v16 = truncf (F := Ideal) .bf16 (extractStridedSlice S1024x512 ![0, 0] (weights (m (c.tc.loc main_arg2))) slices_S1024x3592_S1024x512_0_0) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_3 : V m c main_v17 = truncf (F := Ideal) .bf16 (extractStridedSlice S1024x512 ![0, 512] (weights (m (c.tc.loc main_arg2))) slices_S1024x3592_S1024x512_0_512) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_4 : V m c main_v18 = truncf (F := Ideal) .bf16 (extractStridedSlice S1024x512 ![0, 1024] (weights (m (c.tc.loc main_arg2))) slices_S1024x3592_S1024x512_0_1024) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_5 : V m c main_v19 = truncf (F := Ideal) .bf16 (extractStridedSlice S1024x512 ![0, 1536] (weights (m (c.tc.loc main_arg2))) slices_S1024x3592_S1024x512_0_1536) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_6 : V m c main_v20 = truncf (F := Ideal) .bf16 (extractStridedSlice S1024x512 ![0, 2056] (weights (m (c.tc.loc main_arg2))) slices_S1024x3592_S1024x512_0_2056) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_7 : V m c main_v22 = truncf (F := Ideal) .bf16 (transpose S512x1024 [1, 0] (extractStridedSlice S1024x512 ![0, 2568] (weights (m (c.tc.loc main_arg2))) slices_S1024x3592_S1024x512_0_2568) transposes_S1024x512_S512x1024_1_0) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_8 : V m c main_v24 = truncf (F := Ideal) .bf16 (transpose S512x1024 [1, 0] (extractStridedSlice S1024x512 ![0, 3080] (weights (m (c.tc.loc main_arg2))) slices_S1024x3592_S1024x512_0_3080) transposes_S1024x512_S512x1024_1_0) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem blk0 (t : Fin grid0.N) (r : Fin 512) (k : Fin 1024) (R : Fin 16384) (hR : R.val = t.val * 512 + r.val) :
    iblk m c 0 t (ix2 r k) = (m (c.tc.loc main_arg0) : Vec Ideal S16384x1024 .f32) (ix2 R k) := by
  blk_simp [iblk, idx t]
  blk_ext [iblk, V, idx t]

theorem blk1 (t : Fin grid0.N) (k : Fin 1024) :
    iblk m c 1 t (ix2 0 k) = (m (c.tc.loc main_arg1) : Vec Ideal S2x1024 .f32) (ix2 0 k) := by
  blk_simp [iblk, idx t]
  rw [entry_g]
  pointwise [weights]
  blk_ext [iblk, V, idx t]

theorem blk2 (t : Fin grid0.N) (k : Fin 1024) (n : Fin 512) (N : Fin 3592) (hN : N.val = 0 + n.val) :
    iblk m c 2 t (ix2 k n) = (m (c.tc.loc main_arg2) : Vec Ideal S1x1024x3592 .f32) (ix3 0 k N) := by
  blk_simp [iblk, idx t]
  rw [entry_2]
  pointwise [weights]
  blk_ext [iblk, V, idx t]

theorem blk3 (t : Fin grid0.N) (k : Fin 1024) (n : Fin 512) (N : Fin 3592) (hN : N.val = 512 + n.val) :
    iblk m c 3 t (ix2 k n) = (m (c.tc.loc main_arg2) : Vec Ideal S1x1024x3592 .f32) (ix3 0 k N) := by
  blk_simp [iblk, idx t]
  rw [entry_3]
  pointwise [weights]
  blk_ext [iblk, V, idx t]

theorem blk4 (t : Fin grid0.N) (k : Fin 1024) (n : Fin 512) (N : Fin 3592) (hN : N.val = 1024 + n.val) :
    iblk m c 4 t (ix2 k n) = (m (c.tc.loc main_arg2) : Vec Ideal S1x1024x3592 .f32) (ix3 0 k N) := by
  blk_simp [iblk, idx t]
  rw [entry_4]
  pointwise [weights]
  blk_ext [iblk, V, idx t]

theorem blk5 (t : Fin grid0.N) (k : Fin 1024) (n : Fin 512) (N : Fin 3592) (hN : N.val = 1536 + n.val) :
    iblk m c 5 t (ix2 k n) = (m (c.tc.loc main_arg2) : Vec Ideal S1x1024x3592 .f32) (ix3 0 k N) := by
  blk_simp [iblk, idx t]
  rw [entry_5]
  pointwise [weights]
  blk_ext [iblk, V, idx t]

theorem blk6 (t : Fin grid0.N) (k : Fin 1024) (n : Fin 512) (N : Fin 3592) (hN : N.val = 2056 + n.val) :
    iblk m c 6 t (ix2 k n) = (m (c.tc.loc main_arg2) : Vec Ideal S1x1024x3592 .f32) (ix3 0 k N) := by
  blk_simp [iblk, idx t]
  rw [entry_6]
  pointwise [weights]
  blk_ext [iblk, V, idx t]

theorem blk7 (t : Fin grid0.N) (k : Fin 1024) (n : Fin 512) (N : Fin 3592) (hN : N.val = 2568 + n.val) :
    iblk m c 7 t (ix2 n k) = (m (c.tc.loc main_arg2) : Vec Ideal S1x1024x3592 .f32) (ix3 0 k N) := by
  blk_simp [iblk, idx t]
  rw [entry_7]
  pointwise [weights]
  blk_ext [iblk, V, idx t]

theorem blk8 (t : Fin grid0.N) (k : Fin 1024) (n : Fin 512) (N : Fin 3592) (hN : N.val = 3080 + n.val) :
    iblk m c 8 t (ix2 n k) = (m (c.tc.loc main_arg2) : Vec Ideal S1x1024x3592 .f32) (ix3 0 k N) := by
  blk_simp [iblk, idx t]
  rw [entry_8]
  pointwise [weights]
  blk_ext [iblk, V, idx t]

theorem blk9 (t : Fin grid0.N) (k : Fin 1024) (n : Fin 128) :
    iblk m c 9 t (ix2 k n) = if h : n.val < 8 then (m (c.tc.loc main_arg2) : Vec Ideal S1x1024x3592 .f32) (ix3 0 k ⟨2048 + n.val, by omega⟩) else (0 : EReal) := by
  blk_simp [iblk, idx t]
  rw [entry_wg]
  pointwise [weights]
  have g1 : ((win0_9.blk t).view.emb (ix2 k n) 1 : ℕ) = n.val := by blk_simp [idx t]
  by_cases h : n.val < 8
  · rw [dif_pos h]
    refine (dif_pos (lt_of_eq_of_lt g1 h)).trans ?_
    blk_ext [iblk, V, idx t]
  · rw [dif_neg h]
    exact (dif_neg fun p => h (lt_of_eq_of_lt g1.symm p)).trans Proj.zero_int

theorem blk10 (t : Fin grid0.N) (n : Fin 128) :
    iblk m c 10 t (ix2 0 n) = if h : n.val < 8 then (m (c.tc.loc main_arg3) : Vec Ideal S1x8 .f32) (ix2 0 ⟨n.val, h⟩) else (0 : EReal) := by
  blk_simp [iblk, idx t]
  rw [entry_bg]
  pointwise [weights]
  have g1 : ((win0_10.blk t).view.emb (ix2 0 n) 1 : ℕ) = n.val := by blk_simp [idx t]
  by_cases h : n.val < 8
  · rw [dif_pos h]
    refine (dif_pos (lt_of_eq_of_lt g1 h)).trans ?_
    blk_ext [iblk, V, idx t]
  · rw [dif_neg h]
    exact (dif_neg fun p => h (lt_of_eq_of_lt g1.symm p)).trans Proj.zero_int

/-- The normed rows of a block. -/
def rows (t : Fin grid0.N) : FVec Ideal S512x1024 .bf16 := k0_pay7 (iblk m c 0 t) (iblk m c 1 t)

theorem normed (t : Fin grid0.N) (r : Fin 512) (n : Fin 1024) (R : Fin 16384) (hR : R.val = t.val * 512 + r.val) :
    rows m c t (ix2 r n) = Ffn.unit (fun k => (m (c.tc.loc main_arg0) : Vec Ideal S16384x1024 .f32) (ix2 R k))
      (fun k => (m (c.tc.loc main_arg1) : Vec Ideal S2x1024 .f32) (ix2 0 k)) n := by
  unfold rows
  rw [unit_apply]
  simp only [fun k => blk0 m c t r k R hR, blk1]

/-- A weight block that holds the columns `a` and on. -/
def Holds (a : ℕ) (w : Vec Ideal S1024x512 .bf16) : Prop :=
  ∀ (k : Fin 1024) (n : Fin 512) (N : Fin 3592), N.val = a + n.val → w (ix2 k n) = (m (c.tc.loc main_arg2) : Vec Ideal S1x1024x3592 .f32) (ix3 0 k N)

theorem sum_eq (t : Fin grid0.N) (a : ℕ) (w : Vec Ideal S1024x512 .bf16) (hw : Holds m c a w) (r n : Fin 512) (R : Fin 16384) (N : Fin 3592)
    (hR : R.val = t.val * 512 + r.val) (hN : N.val = a + n.val) :
    sum (rows m c t) w r n = Proj.dot (fun k => (m (c.tc.loc main_arg0) : Vec Ideal S16384x1024 .f32) (ix2 R k))
      (fun k => (m (c.tc.loc main_arg1) : Vec Ideal S2x1024 .f32) (ix2 0 k))
      (fun k => (m (c.tc.loc main_arg2) : Vec Ideal S1x1024x3592 .f32) (ix3 0 k N)) := by
  unfold sum Proj.dot
  refine Finset.sum_congr rfl fun k _ => ?_
  rw [normed m c t r k R hR, hw k n N hN]

/-- A block of token rows is that part of its array. -/
theorem tileT (t : Fin grid0.N) (a : ℕ) (ha : a ≤ 1536) (w : Vec Ideal S1024x512 .bf16) (hw : Holds m c a w)
    (u : Vec Ideal S512x512 .f32) (hu : ∀ r n, u (ix2 r n) = sum (rows m c t) w r n) (x : S512x512.Idx) (i : S16384x512.Idx)
    (h0 : (i 0).val = t.val * 512 + (x 0).val) (h1 : (i 1).val = (x 1).val) :
    u x = resT a ha (m (c.tc.loc main_arg0)) (m (c.tc.loc main_arg1)) (m (c.tc.loc main_arg2)) i := by
  obtain ⟨r, n, rfl⟩ : ∃ r n : Fin 512, x = ix2 r n := ⟨x 0, x 1, by
    funext a
    fin_cases a <;> rfl⟩
  have e1 : (i 1).val = n.val := h1
  rw [hu]
  unfold resT
  exact sum_eq m c t a w hw r n (i 0) _ h0 (by show a + (i 1).val = _; omega)

/-- One head's block is that part of its array. -/
theorem tileC (t : Fin grid0.N) (a : ℕ) (ha : a ≤ 3080) (w : Vec Ideal S1024x512 .bf16) (hw : Holds m c a w)
    (u : FVec Ideal S512x512 .f32) (hu : ∀ r n, u (ix2 r n) = sum (rows m c t) w r n)
    (o : ℕ) (s) (x : S1x1x512x64.Idx) (i : S4x8x4096x64.Idx) (ho : o = 64 * (i 1).val)
    (h2 : 4096 * (i 0).val + (i 2).val = t.val * 512 + (x 2).val) (h3 : (i 3).val = (x 3).val) :
    chunk u o s x = resC a ha (m (c.tc.loc main_arg0)) (m (c.tc.loc main_arg1)) (m (c.tc.loc main_arg2)) i := by
  obtain ⟨r, d, rfl⟩ : ∃ (r : Fin 512) (d : Fin 64), x = ix4 0 0 r d := ⟨x 2, x 3, by
    funext a
    fin_cases a <;> first | rfl | exact Subsingleton.elim (α := Fin 1) _ _⟩
  have b1 : (i 1).val < 8 := (i 1).isLt
  have b3 : (i 3).val < 64 := (i 3).isLt
  have e3 : (i 3).val = d.val := h3
  rw [chunk_apply _ _ _ r d ⟨64 * (i 1).val + (i 3).val, by omega⟩ (by show 64 * (i 1).val + (i 3).val = _; omega), hu]
  unfold resC
  exact sum_eq m c t a w hw r _ _ _ h2 rfl

/-- One head's block with positions last is that part of its array. -/
theorem tileL (t : Fin grid0.N) (a : ℕ) (ha : a ≤ 3080) (w : Vec Ideal S512x1024 .bf16)
    (hw : ∀ (k : Fin 1024) (n : Fin 512) (N : Fin 3592), N.val = a + n.val → w (ix2 n k) = (m (c.tc.loc main_arg2) : Vec Ideal S1x1024x3592 .f32) (ix3 0 k N))
    (u : FVec Ideal S512x512 .f32) (hu : ∀ r n : Fin 512, u (ix2 n r) = ∑ k : Fin 1024, w (ix2 n k) * rows m c t (ix2 r k))
    (o : ℕ) (s) (x : S1x1x64x512.Idx) (i : S4x8x64x4096.Idx) (ho : o = 64 * (i 1).val)
    (h2 : (i 2).val = (x 2).val) (h3 : 4096 * (i 0).val + (i 3).val = t.val * 512 + (x 3).val) :
    chunkT u o s x = resL a ha (m (c.tc.loc main_arg0)) (m (c.tc.loc main_arg1)) (m (c.tc.loc main_arg2)) i := by
  obtain ⟨d, r, rfl⟩ : ∃ (d : Fin 64) (r : Fin 512), x = ix4 0 0 d r := ⟨x 2, x 3, by
    funext a
    fin_cases a <;> first | rfl | exact Subsingleton.elim (α := Fin 1) _ _⟩
  have b1 : (i 1).val < 8 := (i 1).isLt
  have b2 : (i 2).val < 64 := (i 2).isLt
  have b0 : (i 0).val < 4 := (i 0).isLt
  have b3 : (i 3).val < 4096 := (i 3).isLt
  have e2 : (i 2).val = d.val := h2
  rw [chunkT_apply _ _ _ r d ⟨64 * (i 1).val + (i 2).val, by omega⟩ (by show 64 * (i 1).val + (i 2).val = _; omega), hu]
  unfold resL Proj.dot
  refine Finset.sum_congr rfl fun k _ => ?_
  rw [normed m c t r k ⟨4096 * (i 0).val + (i 3).val, by omega⟩ h3, hw k _ ⟨a + (64 * (i 1).val + (i 2).val), by omega⟩ rfl, mul_comm]

/-- A block of gates is that part of their array. -/
theorem tileG (t : Fin grid0.N) (x : S512x128.Idx) (i : S16384x128.Idx) (h0 : (i 0).val = t.val * 512 + (x 0).val)
    (h1 : (i 1).val = (x 1).val) :
    k0_pay8 (rows m c t) (iblk m c 9 t) (iblk m c 10 t) x
    = resG (m (c.tc.loc main_arg0)) (m (c.tc.loc main_arg1)) (m (c.tc.loc main_arg2)) (m (c.tc.loc main_arg3)) i := by
  obtain ⟨r, n, rfl⟩ : ∃ (r : Fin 512) (n : Fin 128), x = ix2 r n := ⟨x 0, x 1, by
    funext a
    fin_cases a <;> rfl⟩
  obtain ⟨R, N, rfl⟩ : ∃ (R : Fin 16384) (N : Fin 128), i = ix2 R N := ⟨i 0, i 1, by
    funext a
    fin_cases a <;> rfl⟩
  obtain rfl : N = n := Fin.ext h1
  rw [gate_apply]
  unfold resG Proj.dot
  refine congrArg _ ?_
  simp only [fun k => normed m c t r k R h0, blk9, blk10]
  show _ = if h : N.val < 8 then _ else _
  by_cases h : N.val < 8
  · simp only [dif_pos h]
    rfl
  · simp only [dif_neg h, mul_zero, Finset.sum_const_zero, add_zero]

set_option maxHeartbeats 4000000 in
theorem array_qa : (dats m 0 c).arrAt 11 cfg0.N
    = resT 0 (by decide) (m (c.tc.loc main_arg0)) (m (c.tc.loc main_arg1)) (m (c.tc.loc main_arg2)) := by
  refine (dats m 0 c).arrAt_eq_of_covers 11 _ (by decide +kernel) fun t hf y => ?_
  blk_simp
  rw [after0_11]
  unfold outsAt0
  dsimp only
  frame_out
  refine Eq.trans ?_ (tileT m c t 0 (by decide) (iblk m c 2 t) (fun k n N h => blk2 m c t k n N h)
    (fun x => sum (rows m c t) (iblk m c 2 t) (x 0) (x 1)) (fun _ _ => rfl) y _ (by blk_simp [idx t]) (by blk_simp [idx t]))
  obtain ⟨r, n, rfl⟩ : ∃ r n : Fin 512, y = ix2 r n := ⟨y 0, y 1, by
    funext a
    fin_cases a <;> rfl⟩
  exact q_apply _ _ r n

set_option maxHeartbeats 4000000 in
theorem array_va : (dats m 0 c).arrAt 13 cfg0.N
    = resT 1024 (by decide) (m (c.tc.loc main_arg0)) (m (c.tc.loc main_arg1)) (m (c.tc.loc main_arg2)) := by
  refine (dats m 0 c).arrAt_eq_of_covers 13 _ (by decide +kernel) fun t hf y => ?_
  blk_simp
  rw [after0_13]
  frame_out
  refine Eq.trans ?_ (tileT m c t 1024 (by decide) (iblk m c 4 t) (fun k n N h => blk4 m c t k n N h)
    (fun x => sum (rows m c t) (iblk m c 4 t) (x 0) (x 1)) (fun _ _ => rfl) y _ (by blk_simp [idx t]) (by blk_simp [idx t]))
  obtain ⟨r, n, rfl⟩ : ∃ r n : Fin 512, y = ix2 r n := ⟨y 0, y 1, by
    funext a
    fin_cases a <;> rfl⟩
  exact v_apply _ _ r n

set_option maxHeartbeats 4000000 in
theorem array_oa : (dats m 0 c).arrAt 14 cfg0.N
    = resT 1536 (by decide) (m (c.tc.loc main_arg0)) (m (c.tc.loc main_arg1)) (m (c.tc.loc main_arg2)) := by
  refine (dats m 0 c).arrAt_eq_of_covers 14 _ (by decide +kernel) fun t hf y => ?_
  blk_simp
  rw [after0_14]
  frame_out
  refine Eq.trans ?_ (tileT m c t 1536 (by decide) (iblk m c 5 t) (fun k n N h => blk5 m c t k n N h)
    (fun x => sum (rows m c t) (iblk m c 5 t) (x 0) (x 1)) (fun _ _ => rfl) y _ (by blk_simp [idx t]) (by blk_simp [idx t]))
  obtain ⟨r, n, rfl⟩ : ∃ r n : Fin 512, y = ix2 r n := ⟨y 0, y 1, by
    funext a
    fin_cases a <;> rfl⟩
  exact o_apply _ _ r n

set_option maxHeartbeats 4000000 in
theorem array_ka : (dats m 0 c).arrAt 12 cfg0.N
    = resK (m (c.tc.loc main_arg0)) (m (c.tc.loc main_arg1)) (m (c.tc.loc main_arg2)) := by
  refine (dats m 0 c).arrAt_eq_of_covers 12 _ (by decide +kernel) fun t hf y => ?_
  blk_simp
  rw [after0_12]
  frame_out
  refine Eq.trans ?_ (congrArg (· * Proj.keyScale) (tileT m c t 512 (by decide) (iblk m c 3 t) (fun k n N h => blk3 m c t k n N h)
    (fun x => sum (rows m c t) (iblk m c 3 t) (x 0) (x 1)) (fun _ _ => rfl) y _ (by blk_simp [idx t]) (by blk_simp [idx t])))
  obtain ⟨r, n, rfl⟩ : ∃ r n : Fin 512, y = ix2 r n := ⟨y 0, y 1, by
    funext a
    fin_cases a <;> rfl⟩
  exact k_apply _ _ r n

theorem array_qb : (dats m 0 c).arrAt 15 cfg0.N
    = resC 2056 (by decide) (m (c.tc.loc main_arg0)) (m (c.tc.loc main_arg1)) (m (c.tc.loc main_arg2)) := by
  refine (dats m 0 c).arrAt_eq_of_covers 15 _ (by decide +kernel) fun t hf y => ?_
  blk_simp
  rw [after0_15]
  unfold outsAt0
  dsimp only
  frame_out
  have g0 : (((win0_15.blk t).view.emb y) 0 : ℕ) = t.val / 8 + (y 0).val := by blk_simp [idx t]
  have g1 : (((win0_15.blk t).view.emb y) 1 : ℕ) = (y 1).val := by blk_simp [idx t]
  have g2 : (((win0_15.blk t).view.emb y) 2 : ℕ) = t.val % 8 * 512 + (y 2).val := by blk_simp [idx t]
  have g3 : (((win0_15.blk t).view.emb y) 3 : ℕ) = (y 3).val := by blk_simp [idx t]
  generalize (win0_15.blk t).view.emb y = i at g0 g1 g2 g3 ⊢
  canon_tiles x h
  all_goals exact tileC m c t 2056 _ (iblk m c 6 t) (fun k n N h => blk6 m c t k n N h) (k0_pay13 (rows m c t) (iblk m c 6 t)) (qb_apply _ _) _ (by decide) x i (by omega) (by omega) (by omega)

theorem array_kb : (dats m 0 c).arrAt 16 cfg0.N
    = resL 2568 (by decide) (m (c.tc.loc main_arg0)) (m (c.tc.loc main_arg1)) (m (c.tc.loc main_arg2)) := by
  refine (dats m 0 c).arrAt_eq_of_covers 16 _ (by decide +kernel) fun t hf y => ?_
  blk_simp
  rw [after0_16]
  unfold outsAt0
  dsimp only
  frame_out
  have g0 : (((win0_16.blk t).view.emb y) 0 : ℕ) = t.val / 8 + (y 0).val := by blk_simp [idx t]
  have g1 : (((win0_16.blk t).view.emb y) 1 : ℕ) = (y 1).val := by blk_simp [idx t]
  have g2 : (((win0_16.blk t).view.emb y) 2 : ℕ) = (y 2).val := by blk_simp [idx t]
  have g3 : (((win0_16.blk t).view.emb y) 3 : ℕ) = t.val % 8 * 512 + (y 3).val := by blk_simp [idx t]
  generalize (win0_16.blk t).view.emb y = i at g0 g1 g2 g3 ⊢
  canon_tiles x h
  all_goals exact tileL m c t 2568 _ (iblk m c 7 t) (fun k n N h => blk7 m c t k n N h) (k0_pay23 (rows m c t) (iblk m c 7 t)) (kb_apply _ _) _ (by decide) x i (by omega) (by omega) (by omega)

theorem array_vb : (dats m 0 c).arrAt 17 cfg0.N
    = resL 3080 (by decide) (m (c.tc.loc main_arg0)) (m (c.tc.loc main_arg1)) (m (c.tc.loc main_arg2)) := by
  refine (dats m 0 c).arrAt_eq_of_covers 17 _ (by decide +kernel) fun t hf y => ?_
  blk_simp
  rw [after0_17]
  unfold outsAt0
  dsimp only
  frame_out
  have g0 : (((win0_17.blk t).view.emb y) 0 : ℕ) = t.val / 8 + (y 0).val := by blk_simp [idx t]
  have g1 : (((win0_17.blk t).view.emb y) 1 : ℕ) = (y 1).val := by blk_simp [idx t]
  have g2 : (((win0_17.blk t).view.emb y) 2 : ℕ) = (y 2).val := by blk_simp [idx t]
  have g3 : (((win0_17.blk t).view.emb y) 3 : ℕ) = t.val % 8 * 512 + (y 3).val := by blk_simp [idx t]
  generalize (win0_17.blk t).view.emb y = i at g0 g1 g2 g3 ⊢
  canon_tiles x h
  all_goals exact tileL m c t 3080 _ (iblk m c 8 t) (fun k n N h => blk8 m c t k n N h) (k0_pay33 (rows m c t) (iblk m c 8 t)) (vb_apply _ _) _ (by decide) x i (by omega) (by omega) (by omega)

theorem array_g : (dats m 0 c).arrAt 18 cfg0.N
    = resG (m (c.tc.loc main_arg0)) (m (c.tc.loc main_arg1)) (m (c.tc.loc main_arg2)) (m (c.tc.loc main_arg3)) := by
  refine (dats m 0 c).arrAt_eq_of_covers 18 _ (by decide +kernel) fun t hf y => ?_
  blk_simp
  rw [after0_18]
  frame_out
  exact tileG m c t y _ (by blk_simp [idx t]) (by blk_simp [idx t])

end Cert.ProjAP
-- ==== Proof.ProjRefAP.lean ====
module

public import proofs.«01_k».proof.Proof.ProjAP
public import proofs.«01_k».proof.Proof.Gen.ReferenceAPIdeal.Run
public import Idealize.ShloMosaic.Lib.Tactic.CleanTypes

/-! The reference's norm, input projection and gates of layer 0 for the prompt, element by element. -/

@[expose] public section

set_option maxRecDepth 16384

noncomputable section

namespace Cert.ProjRefAP

open Idealize.ShloMosaic Idealize.ShloMosaic.TcCoe Idealize.ShloMosaic.Tactic Idealize.SL.Sem
open Cert.ReferenceAPIdeal Cert.ReferenceAPIdeal.Facts₀ Cert.ReferenceAPIdeal.Facts

variable [Cert.ReferenceAPIdeal.Facts]

/-- Tokens divided by their root mean squares and scaled. -/
def norm (y : FVec Ideal S4x4096x1024 .f32) (g : FVec Ideal S2x1024 .f32) : FVec Ideal S4x4096x1024 .f32 :=
  mulf (mulf y (broadcastInDim S4x4096x1024 ![0, 1, 2] bcast_S4x4096x1_S4x4096x1024_0_1_2 (Host.rsqrt (addf (Host.divf
      (broadcastInDim S4x4096x1 ![0, 1] bcast_S4x4096_S4x4096x1_0_1
        (Host.reduceAdd (mulf y y) (constant S_ .f32 0x00000000#32) reducesTo_S4x4096x1024_S4x4096_d2 h_S_))
      (broadcastInDim S4x4096x1 ![] bcast_S_S4x4096x1 (constant S_ .f32 0x44800000#32)))
      (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2
      (shapeCast _ (extractStridedSlice S1x1024 ![0, 0] g slices_S2x1024_S1x1024_0_0) shapeCasts_S1x1024_S1024)))

/-- All projections side by side. -/
def proj (x : FVec Ideal S16384x1024 .f32) (g : FVec Ideal S2x1024 .f32) (w : FVec Ideal S1x1024x3592 .f32) : FVec Ideal S4x4096x3592 .f32 :=
  Host.dotGeneral dot_S4x4096x1024_S1024x3592_S4x4096x3592_2_0_01_1_n_n none
    (norm (shapeCast _ x shapeCasts_S16384x1024_S4x4096x1024) g) (shapeCast _ w shapeCasts_S1x1024x3592_S1024x3592)

def outT (o : ℕ) (s : S4x4096x3592.Slices ![0, 0, o] S4x4096x512) (p : FVec Ideal S4x4096x3592 .f32) : FVec Ideal S16384x512 .f32 :=
  shapeCast _ (extractStridedSlice S4x4096x512 ![0, 0, o] p s) shapeCasts_S4x4096x512_S16384x512

def outK (p : FVec Ideal S4x4096x3592 .f32) : FVec Ideal S16384x512 .f32 :=
  shapeCast _ (mulf (extractStridedSlice S4x4096x512 ![0, 0, 512] p slices_S4x4096x3592_S4x4096x512_0_0_512)
    (broadcastInDim S4x4096x512 ![] bcast_S_S4x4096x512 (constant S_ .f32 0x3DB504F3#32))) shapeCasts_S4x4096x512_S16384x512

def outC (o : ℕ) (s : S4x4096x3592.Slices ![0, 0, o] S4x4096x512) (p : FVec Ideal S4x4096x3592 .f32) : FVec Ideal S4x8x4096x64 .f32 :=
  transpose S4x8x4096x64 [0, 2, 1, 3] (shapeCast S4x4096x8x64 (extractStridedSlice S4x4096x512 ![0, 0, o] p s)
    shapeCasts_S4x4096x512_S4x4096x8x64) transposes_S4x4096x8x64_S4x8x4096x64_0_2_1_3

def outL (o : ℕ) (s : S4x4096x3592.Slices ![0, 0, o] S4x4096x512) (p : FVec Ideal S4x4096x3592 .f32) : FVec Ideal S4x8x64x4096 .f32 :=
  transpose S4x8x64x4096 [0, 1, 3, 2] (outC o s p) transposes_S4x8x4096x64_S4x8x64x4096_0_1_3_2

/-- The gates' logits in the first eight of 128 columns. -/
def logits (p : FVec Ideal S4x4096x3592 .f32) (b : FVec Ideal S1x8 .f32) : FVec Ideal S4x4096x128 .f32 :=
  pad S4x4096x128 ![0, 0, 0] ![0, 0, 120] ![0, 0, 0] (addf (extractStridedSlice S4x4096x8 ![0, 0, 2048] p slices_S4x4096x3592_S4x4096x8_0_0_2048)
    (broadcastInDim S4x4096x8 ![0, 1, 2] bcast_S1x1x8_S4x4096x8_0_1_2 (broadcastInDim S1x1x8 ![2] bcast_S8_S1x1x8_2
      (shapeCast _ b shapeCasts_S1x8_S8)))) (sitofp .f32 (constantI S_ 32 0#32)) pads_S4x4096x8_S4x4096x128_000_000_01200 h_S_

def zeros : FVec Ideal S4x4096x124 .f32 := broadcastInDim S4x4096x124 ![] bcast_S_S4x4096x124 (constant S_ .f32 0x00000000#32)

/-- The log of the logistic function of every logit. -/
def keeps (z : FVec Ideal S4x4096x124 .f32) : FVec Ideal S4x4096x124 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

def outG (z : FVec Ideal S4x4096x128 .f32) : FVec Ideal S16384x128 .f32 :=
  shapeCast _ (concatenate S4x4096x128 2 [⟨S4x4096x4, extractStridedSlice S4x4096x4 ![0, 0, 0] z slices_S4x4096x128_S4x4096x4_0_0_0⟩,
    ⟨S4x4096x124, keeps (extractStridedSlice S4x4096x124 ![0, 0, 4] z slices_S4x4096x128_S4x4096x124_0_0_4)⟩] concatenates_S4x4096x4_S4x4096x124_S4x4096x128_d2) shapeCasts_S4x4096x128_S16384x128

theorem run_g (m : (ℓ : Loc nD τ sig) → Buf (Elt Ideal) ℓ) (c : Dev nD) :
    Cert.ReferenceAPIdeal.Value.res_out7 m c = outG (logits (proj (m (c.tc.loc main_arg0)) (m (c.tc.loc main_arg1)) (m (c.tc.loc main_arg2)))
      (m (c.tc.loc main_arg3))) := rfl

theorem norm_apply (x : FVec Ideal S16384x1024 .f32) (g : FVec Ideal S2x1024 .f32) (b : Fin 4) (t : Fin 4096) (n : Fin 1024) :
    norm (shapeCast _ x shapeCasts_S16384x1024_S4x4096x1024) g (ix3 b t n)
    = Ffn.unit (fun k => x (ix2 ⟨4096 * b.val + t.val, by omega⟩ k)) (fun k => g (ix2 0 k)) n := by
  unfold Ffn.unit
  have e : ∀ p, (⟨b.val * 4096 + t.val, p⟩ : Fin 16384) = ⟨4096 * b.val + t.val, by omega⟩ := fun _ => Fin.ext (by simp [Nat.mul_comm])
  pointwise [norm]
  simp only [e]

theorem proj_apply (x : FVec Ideal S16384x1024 .f32) (g : FVec Ideal S2x1024 .f32) (w : FVec Ideal S1x1024x3592 .f32) (b : Fin 4) (t : Fin 4096) (n : Fin 3592) :
    proj x g w (ix3 b t n)
    = Proj.dot (fun k => x (ix2 ⟨4096 * b.val + t.val, by omega⟩ k)) (fun k => g (ix2 0 k)) (fun k => w (ix3 0 k n)) := by
  unfold Proj.dot
  simp only [← norm_apply]
  pointwise [proj]

theorem outT_apply (o : ℕ) (ho : o ≤ 1536) (s) (p : FVec Ideal S4x4096x3592 .f32) (r : Fin 16384) (n : Fin 512) :
    outT o s p (ix2 r n) = p (ix3 ⟨r.val / 4096, by omega⟩ ⟨r.val % 4096, by omega⟩ ⟨o + n.val, by omega⟩) := by
  pointwise [outT]

theorem outK_apply (p : FVec Ideal S4x4096x3592 .f32) (r : Fin 16384) (n : Fin 512) :
    outK p (ix2 r n) = p (ix3 ⟨r.val / 4096, by omega⟩ ⟨r.val % 4096, by omega⟩ ⟨512 + n.val, by omega⟩) * Proj.keyScale := by
  unfold Proj.keyScale
  pointwise [outK]

theorem outC_apply (o : ℕ) (ho : o ≤ 3080) (s) (p : FVec Ideal S4x4096x3592 .f32) (b : Fin 4) (h : Fin 8) (t : Fin 4096) (d : Fin 64) :
    outC o s p (ix4 b h t d) = p (ix3 b t ⟨o + (64 * h.val + d.val), by omega⟩) := by
  pointwise [outC]
  exact congrArg p (congrArg (ix3 b t) (Fin.ext (by simp [Nat.mul_comm])))

theorem outL_apply (o : ℕ) (ho : o ≤ 3080) (s) (p : FVec Ideal S4x4096x3592 .f32) (b : Fin 4) (h : Fin 8) (t : Fin 4096) (d : Fin 64) :
    outL o s p (ix4 b h d t) = p (ix3 b t ⟨o + (64 * h.val + d.val), by omega⟩) := by
  refine Eq.trans ?_ (outC_apply o ho s p b h t d)
  pointwise [outL]

theorem logits_apply (p : FVec Ideal S4x4096x3592 .f32) (g : FVec Ideal S1x8 .f32) (b : Fin 4) (t : Fin 4096) (n : Fin 128) :
    logits p g (ix3 b t n) = if h : n.val < 8 then p (ix3 b t ⟨2048 + n.val, by omega⟩) + g (ix2 0 ⟨n.val, h⟩) else (0 : EReal) := by
  pointwise [logits]
  rw [Proj.zero_int]

theorem keeps_apply (z : FVec Ideal S4x4096x124 .f32) (b : Fin 4) (t : Fin 4096) (n : Fin 124) :
    keeps z (ix3 b t n) = Proj.keep (z (ix3 b t n)) := by
  rw [← Proj.keep_eq]
  pointwise [keeps, zeros]
  rw [if_neg fun h => h rfl, Ideal.absf_def, neg_neg]

theorem outG_apply (z : FVec Ideal S4x4096x128 .f32) (r : Fin 16384) (n : Fin 128) :
    outG z (ix2 r n) = Proj.gate n.val (z (ix3 ⟨r.val / 4096, by omega⟩ ⟨r.val % 4096, by omega⟩ n)) := by
  unfold Proj.gate
  pointwise [outG]
  simp only [keeps_apply]
  by_cases h : n.val < 4
  · rw [dif_pos h, if_pos h]
  · rw [dif_neg h, if_neg h]
    pointwise
    exact congrArg (fun k => Proj.keep (z (ix3 _ _ k))) (Fin.ext (show 4 + (n.val - 4) = n.val by omega))

/-- The reference's token rows are the call's. -/
theorem eq_t (o : ℕ) (ho : o ≤ 1536) (s) (x : FVec Ideal S16384x1024 .f32) (g : FVec Ideal S2x1024 .f32) (w : FVec Ideal S1x1024x3592 .f32) :
    outT o s (proj x g w) = ProjAP.resT o ho x g w := by
  funext i
  obtain ⟨r, n, rfl⟩ : ∃ (r : Fin 16384) (n : Fin 512), i = ix2 r n := ⟨i 0, i 1, by
    funext a
    fin_cases a <;> rfl⟩
  have e : (⟨4096 * (r.val / 4096) + r.val % 4096, by omega⟩ : Fin 16384) = r := Fin.ext (by simp [Nat.div_add_mod])
  rw [outT_apply o ho, proj_apply]
  simp only [e]
  rfl

/-- The reference's scaled keys are the call's. -/
theorem eq_k (x : FVec Ideal S16384x1024 .f32) (g : FVec Ideal S2x1024 .f32) (w : FVec Ideal S1x1024x3592 .f32) : outK (proj x g w) = ProjAP.resK x g w := by
  funext i
  obtain ⟨r, n, rfl⟩ : ∃ (r : Fin 16384) (n : Fin 512), i = ix2 r n := ⟨i 0, i 1, by
    funext a
    fin_cases a <;> rfl⟩
  have e : (⟨4096 * (r.val / 4096) + r.val % 4096, by omega⟩ : Fin 16384) = r := Fin.ext (by simp [Nat.div_add_mod])
  rw [outK_apply, proj_apply]
  simp only [e]
  rfl

/-- The reference's heads are the call's. -/
theorem eq_c (o : ℕ) (ho : o ≤ 3080) (s) (x : FVec Ideal S16384x1024 .f32) (g : FVec Ideal S2x1024 .f32) (w : FVec Ideal S1x1024x3592 .f32) :
    outC o s (proj x g w) = ProjAP.resC o ho x g w := by
  funext i
  obtain ⟨b, h, t, d, rfl⟩ : ∃ (b : Fin 4) (h : Fin 8) (t : Fin 4096) (d : Fin 64), i = ix4 b h t d := ⟨i 0, i 1, i 2, i 3, by
    funext a
    fin_cases a <;> rfl⟩
  rw [outC_apply o ho, proj_apply]
  rfl

/-- The reference's heads with positions last are the call's. -/
theorem eq_l (o : ℕ) (ho : o ≤ 3080) (s) (x : FVec Ideal S16384x1024 .f32) (g : FVec Ideal S2x1024 .f32) (w : FVec Ideal S1x1024x3592 .f32) :
    outL o s (proj x g w) = ProjAP.resL o ho x g w := by
  funext i
  obtain ⟨b, h, d, t, rfl⟩ : ∃ (b : Fin 4) (h : Fin 8) (d : Fin 64) (t : Fin 4096), i = ix4 b h d t := ⟨i 0, i 1, i 2, i 3, by
    funext a
    fin_cases a <;> rfl⟩
  rw [outL_apply o ho, proj_apply]
  rfl

/-- The reference's gates are the call's. -/
theorem eq_g (x : FVec Ideal S16384x1024 .f32) (g : FVec Ideal S2x1024 .f32) (w : FVec Ideal S1x1024x3592 .f32) (b : FVec Ideal S1x8 .f32) :
    outG (logits (proj x g w) b) = ProjAP.resG x g w b := by
  funext i
  obtain ⟨r, n, rfl⟩ : ∃ (r : Fin 16384) (n : Fin 128), i = ix2 r n := ⟨i 0, i 1, by
    funext a
    fin_cases a <;> rfl⟩
  have e : (⟨4096 * (r.val / 4096) + r.val % 4096, by omega⟩ : Fin 16384) = r := Fin.ext (by simp [Nat.div_add_mod])
  rw [outG_apply, logits_apply]
  simp only [proj_apply, e]
  rfl

/-- The call's arrays from the run's. -/
theorem run_q (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v35) = ProjAP.resT 0 (by decide) (m (c.tc.loc main_arg0)) (m (c.tc.loc main_arg1)) (m (c.tc.loc main_arg2))
      ∧ r.2.mem (c.tc.loc main_v39) = ProjAP.resK (m (c.tc.loc main_arg0)) (m (c.tc.loc main_arg1)) (m (c.tc.loc main_arg2))
      ∧ r.2.mem (c.tc.loc main_v41) = ProjAP.resT 1024 (by decide) (m (c.tc.loc main_arg0)) (m (c.tc.loc main_arg1)) (m (c.tc.loc main_arg2))
      ∧ r.2.mem (c.tc.loc main_v42) = ProjAP.resT 1536 (by decide) (m (c.tc.loc main_arg0)) (m (c.tc.loc main_arg1)) (m (c.tc.loc main_arg2))
      ∧ r.2.mem (c.tc.loc main_v44) = ProjAP.resC 2056 (by decide) (m (c.tc.loc main_arg0)) (m (c.tc.loc main_arg1)) (m (c.tc.loc main_arg2))
      ∧ r.2.mem (c.tc.loc main_v51) = ProjAP.resL 2568 (by decide) (m (c.tc.loc main_arg0)) (m (c.tc.loc main_arg1)) (m (c.tc.loc main_arg2))
      ∧ r.2.mem (c.tc.loc main_v52) = ProjAP.resL 3080 (by decide) (m (c.tc.loc main_arg0)) (m (c.tc.loc main_arg1)) (m (c.tc.loc main_arg2))
      ∧ r.2.mem (c.tc.loc main_v50) = ProjAP.resG (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run _ _ _).mono (fun r h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2.1.trans ?_, (h c).2.2.2.2.2.2.2.1.trans ?_, (h c).2.2.2.2.2.2.2.2⟩)
    (Cert.ReferenceAPIdeal.Value.run (F := Ideal) m ρ)
  · exact eq_t 0 (by decide) _ _ _ _
  · exact eq_k _ _ _
  · exact eq_t 1024 (by decide) _ _ _ _
  · exact eq_t 1536 (by decide) _ _ _ _
  · exact eq_c 2056 (by decide) _ _ _ _
  · exact eq_l 2568 (by decide) _ _ _ _
  · exact eq_l 3080 (by decide) _ _ _ _
  · exact (run_g m c).trans (eq_g _ _ _ _)

end Cert.ProjRefAP
-- ==== Proof.ProjAS.lean ====
module

public import proofs.«01_k».proof.Proof.Gen.KernelASIdeal.Value
public import proofs.«01_k».proof.Proof.ProjGate

/-! Layer 0's input projection of the sample batch: its eight result arrays, each number the token's own. -/

@[expose] public section

set_option maxRecDepth 16384

noncomputable section

namespace Cert.ProjAS

open Idealize.ShloMosaic Idealize.ShloMosaic.TcCoe Idealize.ShloMosaic.Tactic
open Cert.KernelASIdeal Cert.KernelASIdeal.Gen

variable [Cert.KernelASIdeal.Facts]

/-- The array, by rows of tokens, of the columns `a` and on. -/
def resT (a : ℕ) (ha : a ≤ 1536) (x : Vec Ideal S2048x1024 .f32) (g : Vec Ideal S2x1024 .f32) (w : Vec Ideal S1x1024x3592 .f32) : Vec Ideal S2048x512 .f32 := fun i =>
  Proj.dot (fun k => x (ix2 (i 0) k)) (fun k => g (ix2 0 k))
    (fun k => w (ix3 0 k ⟨a + (i 1).val, by have := (i 1).isLt; simp at *; omega⟩))

/-- The mLSTM's keys, scaled. -/
def resK (x : Vec Ideal S2048x1024 .f32) (g : Vec Ideal S2x1024 .f32) (w : Vec Ideal S1x1024x3592 .f32) : FVec Ideal S2048x512 .bf16 := fun i =>
  resT 512 (by decide) x g w i * Proj.keyScale

/-- The array, head by head, of the columns `a` and on. -/
def resC (a : ℕ) (ha : a ≤ 3080) (x : Vec Ideal S2048x1024 .f32) (g : Vec Ideal S2x1024 .f32) (w : Vec Ideal S1x1024x3592 .f32) :
    FVec Ideal S32x8x64x64 .f32 := fun i =>
  Proj.dot (fun k => x (ix2 ⟨64 * (i 0).val + (i 2).val, by have := (i 0).isLt; have := (i 2).isLt; simp at *; omega⟩ k)) (fun k => g (ix2 0 k))
    (fun k => w (ix3 0 k ⟨a + (64 * (i 1).val + (i 3).val), by have := (i 1).isLt; have := (i 3).isLt; simp at *; omega⟩))

/-- The gates: four input gates, four log forget gates, and in the other columns the log forget gates of zero. -/
def resG (x : Vec Ideal S2048x1024 .f32) (g : Vec Ideal S2x1024 .f32) (w : Vec Ideal S1x1024x3592 .f32) (b : Vec Ideal S1x8 .f32) :
    FVec Ideal S2048x128 .f32 := fun i =>
  Proj.gate (i 1).val (if h : (i 1).val < 8 then Proj.dot (fun k => x (ix2 (i 0) k)) (fun k => g (ix2 0 k)) (fun k => w (ix3 0 k ⟨2048 + (i 1).val, by omega⟩))
    + b (ix2 0 ⟨(i 1).val, h⟩) else 0)

/-- Part of a product, as one head's block. -/
def chunk (u : FVec Ideal S512x512 .f32) (p o : ℕ) (s : S512x512.Slices ![p, o] S64x64) :
    FVec Ideal S1x1x64x64 .f32 :=
  shapeCast S1x1x64x64 (extractStridedSlice S64x64 ![p, o] u s) shapeCasts_S64x64_S1x1x64x64

theorem chunk_apply (u : FVec Ideal S512x512 .f32) (p o : ℕ) (s) (r d : Fin 64) (R n : Fin 512)
    (hR : R.val = p + r.val) (hn : n.val = o + d.val) : chunk u p o s (ix4 0 0 r d) = u (ix2 R n) := by
  have e : ∀ p, (⟨o + d.val, p⟩ : Fin 512) = n := fun _ => Fin.ext hn.symm
  have f : ∀ q, (⟨p + r.val, q⟩ : Fin 512) = R := fun _ => Fin.ext hR.symm
  pointwise [chunk]
  simp only [e, f]

theorem unit_apply (x : Vec Ideal S512x1024 .f32) (g : Vec Ideal S1x1024 .f32) (r : Fin 512) (n : Fin 1024) :
    k0_pay2 x g (ix2 r n) = Ffn.unit (fun k => x (ix2 r k)) (fun k => g (ix2 0 k)) n := by
  unfold Ffn.unit
  pointwise [k0_pay2]

/-- One number of a product of rows with a weight matrix. -/
def sum (h : FVec Ideal S512x1024 .bf16) (w : Vec Ideal S1024x512 .bf16) (r n : Fin 512) : EReal :=
  ∑ k : Fin 1024, h (ix2 r k) * w (ix2 k n)

theorem q_apply (h : FVec Ideal S512x1024 .bf16) (w : Vec Ideal S1024x512 .bf16) (r n : Fin 512) : k0_pay4 h w (ix2 r n) = sum h w r n := by
  unfold sum
  pointwise [k0_pay4]

theorem k_apply (h : FVec Ideal S512x1024 .bf16) (w : Vec Ideal S1024x512 .bf16) (r n : Fin 512) :
    k0_pay5 h w (ix2 r n) = sum h w r n * Proj.keyScale := by
  unfold sum Proj.keyScale
  pointwise [k0_pay5]

theorem v_apply (h : FVec Ideal S512x1024 .bf16) (w : Vec Ideal S1024x512 .bf16) (r n : Fin 512) : k0_pay6 h w (ix2 r n) = sum h w r n := by
  unfold sum
  pointwise [k0_pay6]

theorem o_apply (h : FVec Ideal S512x1024 .bf16) (w : Vec Ideal S1024x512 .bf16) (r n : Fin 512) : k0_pay7 h w (ix2 r n) = sum h w r n := by
  unfold sum
  pointwise [k0_pay7]

theorem qb_apply (h : FVec Ideal S512x1024 .bf16) (w : Vec Ideal S1024x512 .bf16) (r n : Fin 512) : k0_pay8 h w (ix2 r n) = sum h w r n := by
  unfold sum
  pointwise [k0_pay8]

theorem kb_apply (h : FVec Ideal S512x1024 .bf16) (w : Vec Ideal S1024x512 .bf16) (r n : Fin 512) : k0_pay79 h w (ix2 r n) = sum h w r n := by
  unfold sum
  pointwise [k0_pay79]

theorem vb_apply (h : FVec Ideal S512x1024 .bf16) (w : Vec Ideal S1024x512 .bf16) (r n : Fin 512) : k0_pay151 h w (ix2 r n) = sum h w r n := by
  unfold sum
  pointwise [k0_pay151]

theorem gate_apply (h : FVec Ideal S512x1024 .bf16) (w : Vec Ideal S1024x128 .bf16) (b : Vec Ideal S1x128 .f32) (r : Fin 512) (n : Fin 128) :
    k0_pay3 h w b (ix2 r n) = Proj.gate n.val (∑ k : Fin 1024, h (ix2 r k) * w (ix2 k n) + b (ix2 0 n)) := by
  unfold Proj.gate Proj.keep
  pointwise [k0_pay3]
  have e : ∀ n : Fin 128, IntOp.cmpi CmpIPredicate.sge (BitVec.ofNat 32 n.val) 4#32 = if n.val < 4 then 0#1 else 1#1 := by decide
  rw [e, zero_sub]
  by_cases p : n.val < 4
  · rw [if_pos p, if_pos p]
    rfl
  · rw [if_neg p, if_neg p]
    rfl

theorem idx : ∀ t : Fin grid0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![t.val, 0]
    ∧ win0_12.index t = ![t.val, 0]
    ∧ win0_13.index t = ![t.val, 0]
    ∧ win0_14.index t = ![t.val, 0]
    ∧ win0_15.index t = ![t.val, 0, 0, 0] ∧ win0_16.index t = ![t.val, 0, 0, 0] ∧ win0_17.index t = ![t.val, 0, 0, 0] ∧ win0_18.index t = ![t.val, 0] := by
  decide +kernel

variable (m : (ℓ : Loc nD τ sig) → Buf (Elt Ideal) ℓ) (c : Dev nD)

/-- The weights without their unit axis. -/
def weights (w : Vec Ideal S1x1024x3592 .f32) : FVec Ideal S1024x3592 .f32 := shapeCast _ w shapeCasts_S1x1024x3592_S1024x3592

/-- The arrays that the host's operations leave for the call, each from the arguments. -/
theorem entry_wg : V m c main_v10 = truncf (F := Ideal) .bf16 (pad S1024x128 ![0, 0] ![0, 120] ![0, 0]
    (extractStridedSlice S1024x8 ![0, 2048] (weights (m (c.tc.loc main_arg2))) slices_S1024x3592_S1024x8_0_2048)
    (sitofp .f32 (constantI S_ 32 0#32)) pads_S1024x8_S1024x128_000_01200 h_S_) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_bg : V m c main_v13 = pad S1x128 ![0, 0] ![0, 120] ![0, 0]
    (shapeCast S1x8 (shapeCast S8 (m (c.tc.loc main_arg3) : Vec Ideal S1x8 .f32) shapeCasts_S1x8_S8) shapeCasts_S8_S1x8)
    (sitofp (F := Ideal) .f32 (constantI S_ 32 0#32)) pads_S1x8_S1x128_000_01200 h_S_ := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_g : V m c main_v23 = shapeCast S1x1024 (shapeCast S1024 (extractStridedSlice S1x1024 ![0, 0]
    (m (c.tc.loc main_arg1) : Vec Ideal S2x1024 .f32) slices_S2x1024_S1x1024_0_0) shapeCasts_S1x1024_S1024) shapeCasts_S1024_S1x1024 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_2 : V m c main_v16 = truncf (F := Ideal) .bf16 (extractStridedSlice S1024x512 ![0, 0] (weights (m (c.tc.loc main_arg2))) slices_S1024x3592_S1024x512_0_0) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_3 : V m c main_v17 = truncf (F := Ideal) .bf16 (extractStridedSlice S1024x512 ![0, 512] (weights (m (c.tc.loc main_arg2))) slices_S1024x3592_S1024x512_0_512) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_4 : V m c main_v18 = truncf (F := Ideal) .bf16 (extractStridedSlice S1024x512 ![0, 1024] (weights (m (c.tc.loc main_arg2))) slices_S1024x3592_S1024x512_0_1024) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_5 : V m c main_v19 = truncf (F := Ideal) .bf16 (extractStridedSlice S1024x512 ![0, 1536] (weights (m (c.tc.loc main_arg2))) slices_S1024x3592_S1024x512_0_1536) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_6 : V m c main_v20 = truncf (F := Ideal) .bf16 (extractStridedSlice S1024x512 ![0, 2056] (weights (m (c.tc.loc main_arg2))) slices_S1024x3592_S1024x512_0_2056) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_7 : V m c main_v21 = truncf (F := Ideal) .bf16 (extractStridedSlice S1024x512 ![0, 2568] (weights (m (c.tc.loc main_arg2))) slices_S1024x3592_S1024x512_0_2568) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem entry_8 : V m c main_v22 = truncf (F := Ideal) .bf16 (extractStridedSlice S1024x512 ![0, 3080] (weights (m (c.tc.loc main_arg2))) slices_S1024x3592_S1024x512_0_3080) bitsLt_bf16_f32 := by
  show StableHlo.after _ _ _ = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_results_simp <;> rfl

theorem blk0 (t : Fin grid0.N) (r : Fin 512) (k : Fin 1024) (R : Fin 2048) (hR : R.val = t.val * 512 + r.val) :
    iblk m c 0 t (ix2 r k) = (m (c.tc.loc main_arg0) : Vec Ideal S2048x1024 .f32) (ix2 R k) := by
  blk_simp [iblk, idx t]
  blk_ext [iblk, V, idx t]

theorem blk1 (t : Fin grid0.N) (k : Fin 1024) :
    iblk m c 1 t (ix2 0 k) = (m (c.tc.loc main_arg1) : Vec Ideal S2x1024 .f32) (ix2 0 k) := by
  blk_simp [iblk, idx t]
  rw [entry_g]
  pointwise [weights]
  blk_ext [iblk, V, idx t]

theorem blk2 (t : Fin grid0.N) (k : Fin 1024) (n : Fin 512) (N : Fin 3592) (hN : N.val = 0 + n.val) :
    iblk m c 2 t (ix2 k n) = (m (c.tc.loc main_arg2) : Vec Ideal S1x1024x3592 .f32) (ix3 0 k N) := by
  blk_simp [iblk, idx t]
  rw [entry_2]
  pointwise [weights]
  blk_ext [iblk, V, idx t]

theorem blk3 (t : Fin grid0.N) (k : Fin 1024) (n : Fin 512) (N : Fin 3592) (hN : N.val = 512 + n.val) :
    iblk m c 3 t (ix2 k n) = (m (c.tc.loc main_arg2) : Vec Ideal S1x1024x3592 .f32) (ix3 0 k N) := by
  blk_simp [iblk, idx t]
  rw [entry_3]
  pointwise [weights]
  blk_ext [iblk, V, idx t]

theorem blk4 (t : Fin grid0.N) (k : Fin 1024) (n : Fin 512) (N : Fin 3592) (hN : N.val = 1024 + n.val) :
    iblk m c 4 t (ix2 k n) = (m (c.tc.loc main_arg2) : Vec Ideal S1x1024x3592 .f32) (ix3 0 k N) := by
  blk_simp [iblk, idx t]
  rw [entry_4]
  pointwise [weights]
  blk_ext [iblk, V, idx t]

theorem blk5 (t : Fin grid0.N) (k : Fin 1024) (n : Fin 512) (N : Fin 3592) (hN : N.val = 1536 + n.val) :
    iblk m c 5 t (ix2 k n) = (m (c.tc.loc main_arg2) : Vec Ideal S1x1024x3592 .f32) (ix3 0 k N) := by
  blk_simp [iblk, idx t]
  rw [entry_5]
  pointwise [weights]
  blk_ext [iblk, V, idx t]

theorem blk6 (t : Fin grid0.N) (k : Fin 1024) (n : Fin 512) (N : Fin 3592) (hN : N.val = 2056 + n.val) :
    iblk m c 6 t (ix2 k n) = (m (c.tc.loc main_arg2) : Vec Ideal S1x1024x3592 .f32) (ix3 0 k N) := by
  blk_simp [iblk, idx t]
  rw [entry_6]
  pointwise [weights]
  blk_ext [iblk, V, idx t]

theorem blk7 (t : Fin grid0.N) (k : Fin 1024) (n : Fin 512) (N : Fin 3592) (hN : N.val = 2568 + n.val) :
    iblk m c 7 t (ix2 k n) = (m (c.tc.loc main_arg2) : Vec Ideal S1x1024x3592 .f32) (ix3 0 k N) := by
  blk_simp [iblk, idx t]
  rw [entry_7]
  pointwise [weights]
  blk_ext [iblk, V, idx t]

theorem blk8 (t : Fin grid0.N) (k : Fin 1024) (n : Fin 512) (N : Fin 3592) (hN : N.val = 3080 + n.val) :
    iblk m c 8 t (ix2 k n) = (m (c.tc.loc main_arg2) : Vec Ideal S1x1024x3592 .f32) (ix3 0 k N) := by
  blk_simp [iblk, idx t]
  rw [entry_8]
  pointwise [weights]
  blk_ext [iblk, V, idx t]

theorem blk9 (t : Fin grid0.N) (k : Fin 1024) (n : Fin 128) :
    iblk m c 9 t (ix2 k n) = if h : n.val < 8 then (m (c.tc.loc main_arg2) : Vec Ideal S1x1024x3592 .f32) (ix3 0 k ⟨2048 + n.val, by omega⟩) else (0 : EReal) := by
  blk_simp [iblk, idx t]
  rw [entry_wg]
  pointwise [weights]
  have g1 : ((win0_9.blk t).view.emb (ix2 k n) 1 : ℕ) = n.val := by blk_simp [idx t]
  by_cases h : n.val < 8
  · rw [dif_pos h]
    refine (dif_pos (lt_of_eq_of_lt g1 h)).trans ?_
    blk_ext [iblk, V, idx t]
  · rw [dif_neg h]
    exact (dif_neg fun p => h (lt_of_eq_of_lt g1.symm p)).trans Proj.zero_int

theorem blk10 (t : Fin grid0.N) (n : Fin 128) :
    iblk m c 10 t (ix2 0 n) = if h : n.val < 8 then (m (c.tc.loc main_arg3) : Vec Ideal S1x8 .f32) (ix2 0 ⟨n.val, h⟩) else (0 : EReal) := by
  blk_simp [iblk, idx t]
  rw [entry_bg]
  pointwise [weights]
  have g1 : ((win0_10.blk t).view.emb (ix2 0 n) 1 : ℕ) = n.val := by blk_simp [idx t]
  by_cases h : n.val < 8
  · rw [dif_pos h]
    refine (dif_pos (lt_of_eq_of_lt g1 h)).trans ?_
    blk_ext [iblk, V, idx t]
  · rw [dif_neg h]
    exact (dif_neg fun p => h (lt_of_eq_of_lt g1.symm p)).trans Proj.zero_int

/-- The normed rows of a block. -/
def rows (t : Fin grid0.N) : FVec Ideal S512x1024 .bf16 := k0_pay2 (iblk m c 0 t) (iblk m c 1 t)

theorem normed (t : Fin grid0.N) (r : Fin 512) (n : Fin 1024) (R : Fin 2048) (hR : R.val = t.val * 512 + r.val) :
    rows m c t (ix2 r n) = Ffn.unit (fun k => (m (c.tc.loc main_arg0) : Vec Ideal S2048x1024 .f32) (ix2 R k))
      (fun k => (m (c.tc.loc main_arg1) : Vec Ideal S2x1024 .f32) (ix2 0 k)) n := by
  unfold rows
  rw [unit_apply]
  simp only [fun k => blk0 m c t r k R hR, blk1]

/-- A weight block that holds the columns `a` and on. -/
def Holds (a : ℕ) (w : Vec Ideal S1024x512 .bf16) : Prop :=
  ∀ (k : Fin 1024) (n : Fin 512) (N : Fin 3592), N.val = a + n.val → w (ix2 k n) = (m (c.tc.loc main_arg2) : Vec Ideal S1x1024x3592 .f32) (ix3 0 k N)

theorem sum_eq (t : Fin grid0.N) (a : ℕ) (w : Vec Ideal S1024x512 .bf16) (hw : Holds m c a w) (r n : Fin 512) (R : Fin 2048) (N : Fin 3592)
    (hR : R.val = t.val * 512 + r.val) (hN : N.val = a + n.val) :
    sum (rows m c t) w r n = Proj.dot (fun k => (m (c.tc.loc main_arg0) : Vec Ideal S2048x1024 .f32) (ix2 R k))
      (fun k => (m (c.tc.loc main_arg1) : Vec Ideal S2x1024 .f32) (ix2 0 k))
      (fun k => (m (c.tc.loc main_arg2) : Vec Ideal S1x1024x3592 .f32) (ix3 0 k N)) := by
  unfold sum Proj.dot
  refine Finset.sum_congr rfl fun k _ => ?_
  rw [normed m c t r k R hR, hw k n N hN]

/-- A block of token rows is that part of its array. -/
theorem tileT (t : Fin grid0.N) (a : ℕ) (ha : a ≤ 1536) (w : Vec Ideal S1024x512 .bf16) (hw : Holds m c a w)
    (u : Vec Ideal S512x512 .f32) (hu : ∀ r n, u (ix2 r n) = sum (rows m c t) w r n) (x : S512x512.Idx) (i : S2048x512.Idx)
    (h0 : (i 0).val = t.val * 512 + (x 0).val) (h1 : (i 1).val = (x 1).val) :
    u x = resT a ha (m (c.tc.loc main_arg0)) (m (c.tc.loc main_arg1)) (m (c.tc.loc main_arg2)) i := by
  obtain ⟨r, n, rfl⟩ : ∃ r n : Fin 512, x = ix2 r n := ⟨x 0, x 1, by
    funext a
    fin_cases a <;> rfl⟩
  have e1 : (i 1).val = n.val := h1
  rw [hu]
  unfold resT
  exact sum_eq m c t a w hw r n (i 0) _ h0 (by show a + (i 1).val = _; omega)

/-- One batch and head's block is that part of its array. -/
theorem tileC (t : Fin grid0.N) (a : ℕ) (ha : a ≤ 3080) (w : Vec Ideal S1024x512 .bf16) (hw : Holds m c a w)
    (u : FVec Ideal S512x512 .f32) (hu : ∀ r n, u (ix2 r n) = sum (rows m c t) w r n)
    (p o : ℕ) (s) (x : S1x1x64x64.Idx) (i : S32x8x64x64.Idx) (ho : o = 64 * (i 1).val)
    (h2 : 64 * (i 0).val + (i 2).val = t.val * 512 + (p + (x 2).val)) (hp : p ≤ 448) (h3 : (i 3).val = (x 3).val) :
    chunk u p o s x = resC a ha (m (c.tc.loc main_arg0)) (m (c.tc.loc main_arg1)) (m (c.tc.loc main_arg2)) i := by
  obtain ⟨r, d, rfl⟩ : ∃ (r d : Fin 64), x = ix4 0 0 r d := ⟨x 2, x 3, by
    funext a
    fin_cases a <;> first | rfl | exact Subsingleton.elim (α := Fin 1) _ _⟩
  have b1 : (i 1).val < 8 := (i 1).isLt
  have b3 : (i 3).val < 64 := (i 3).isLt
  have e3 : (i 3).val = d.val := h3
  rw [chunk_apply _ _ _ _ r d ⟨p + r.val, by omega⟩ ⟨64 * (i 1).val + (i 3).val, by omega⟩ rfl (by show 64 * (i 1).val + (i 3).val = _; omega), hu]
  unfold resC
  exact sum_eq m c t a w hw _ _ _ _ h2 rfl

/-- A block of gates is that part of their array. -/
theorem tileG (t : Fin grid0.N) (x : S512x128.Idx) (i : S2048x128.Idx) (h0 : (i 0).val = t.val * 512 + (x 0).val)
    (h1 : (i 1).val = (x 1).val) :
    k0_pay3 (rows m c t) (iblk m c 9 t) (iblk m c 10 t) x
    = resG (m (c.tc.loc main_arg0)) (m (c.tc.loc main_arg1)) (m (c.tc.loc main_arg2)) (m (c.tc.loc main_arg3)) i := by
  obtain ⟨r, n, rfl⟩ : ∃ (r : Fin 512) (n : Fin 128), x = ix2 r n := ⟨x 0, x 1, by
    funext a
    fin_cases a <;> rfl⟩
  obtain ⟨R, N, rfl⟩ : ∃ (R : Fin 2048) (N : Fin 128), i = ix2 R N := ⟨i 0, i 1, by
    funext a
    fin_cases a <;> rfl⟩
  obtain rfl : N = n := Fin.ext h1
  rw [gate_apply]
  unfold resG Proj.dot
  refine congrArg _ ?_
  simp only [fun k => normed m c t r k R h0, blk9, blk10]
  show _ = if h : N.val < 8 then _ else _
  by_cases h : N.val < 8
  · simp only [dif_pos h]
    rfl
  · simp only [dif_neg h, mul_zero, Finset.sum_const_zero, add_zero]

set_option maxHeartbeats 4000000 in
theorem array_qa : (dats m 0 c).arrAt 11 cfg0.N
    = resT 0 (by decide) (m (c.tc.loc main_arg0)) (m (c.tc.loc main_arg1)) (m (c.tc.loc main_arg2)) := by
  refine (dats m 0 c).arrAt_eq_of_covers 11 _ (by decide +kernel) fun t hf y => ?_
  blk_simp
  rw [after0_11]
  unfold outsAt0
  dsimp only
  frame_out
  refine Eq.trans ?_ (tileT m c t 0 (by decide) (iblk m c 2 t) (fun k n N h => blk2 m c t k n N h)
    (fun x => sum (rows m c t) (iblk m c 2 t) (x 0) (x 1)) (fun _ _ => rfl) y _ (by blk_simp [idx t]) (by blk_simp [idx t]))
  obtain ⟨r, n, rfl⟩ : ∃ r n : Fin 512, y = ix2 r n := ⟨y 0, y 1, by
    funext a
    fin_cases a <;> rfl⟩
  exact q_apply _ _ r n

set_option maxHeartbeats 4000000 in
theorem array_va : (dats m 0 c).arrAt 13 cfg0.N
    = resT 1024 (by decide) (m (c.tc.loc main_arg0)) (m (c.tc.loc main_arg1)) (m (c.tc.loc main_arg2)) := by
  refine (dats m 0 c).arrAt_eq_of_covers 13 _ (by decide +kernel) fun t hf y => ?_
  blk_simp
  rw [after0_13]
  frame_out
  refine Eq.trans ?_ (tileT m c t 1024 (by decide) (iblk m c 4 t) (fun k n N h => blk4 m c t k n N h)
    (fun x => sum (rows m c t) (iblk m c 4 t) (x 0) (x 1)) (fun _ _ => rfl) y _ (by blk_simp [idx t]) (by blk_simp [idx t]))
  obtain ⟨r, n, rfl⟩ : ∃ r n : Fin 512, y = ix2 r n := ⟨y 0, y 1, by
    funext a
    fin_cases a <;> rfl⟩
  exact v_apply _ _ r n

set_option maxHeartbeats 4000000 in
theorem array_oa : (dats m 0 c).arrAt 14 cfg0.N
    = resT 1536 (by decide) (m (c.tc.loc main_arg0)) (m (c.tc.loc main_arg1)) (m (c.tc.loc main_arg2)) := by
  refine (dats m 0 c).arrAt_eq_of_covers 14 _ (by decide +kernel) fun t hf y => ?_
  blk_simp
  rw [after0_14]
  frame_out
  refine Eq.trans ?_ (tileT m c t 1536 (by decide) (iblk m c 5 t) (fun k n N h => blk5 m c t k n N h)
    (fun x => sum (rows m c t) (iblk m c 5 t) (x 0) (x 1)) (fun _ _ => rfl) y _ (by blk_simp [idx t]) (by blk_simp [idx t]))
  obtain ⟨r, n, rfl⟩ : ∃ r n : Fin 512, y = ix2 r n := ⟨y 0, y 1, by
    funext a
    fin_cases a <;> rfl⟩
  exact o_apply _ _ r n

set_option maxHeartbeats 4000000 in
theorem array_ka : (dats m 0 c).arrAt 12 cfg0.N
    = resK (m (c.tc.loc main_arg0)) (m (c.tc.loc main_arg1)) (m (c.tc.loc main_arg2)) := by
  refine (dats m 0 c).arrAt_eq_of_covers 12 _ (by decide +kernel) fun t hf y => ?_
  blk_simp
  rw [after0_12]
  frame_out
  refine Eq.trans ?_ (congrArg (· * Proj.keyScale) (tileT m c t 512 (by decide) (iblk m c 3 t) (fun k n N h => blk3 m c t k n N h)
    (fun x => sum (rows m c t) (iblk m c 3 t) (x 0) (x 1)) (fun _ _ => rfl) y _ (by blk_simp [idx t]) (by blk_simp [idx t])))
  obtain ⟨r, n, rfl⟩ : ∃ r n : Fin 512, y = ix2 r n := ⟨y 0, y 1, by
    funext a
    fin_cases a <;> rfl⟩
  exact k_apply _ _ r n

set_option maxHeartbeats 4000000 in
theorem array_qb : (dats m 0 c).arrAt 15 cfg0.N
    = resC 2056 (by decide) (m (c.tc.loc main_arg0)) (m (c.tc.loc main_arg1)) (m (c.tc.loc main_arg2)) := by
  refine (dats m 0 c).arrAt_eq_of_covers 15 _ (by decide +kernel) fun t hf y => ?_
  blk_simp
  rw [after0_15]
  unfold outsAt0
  dsimp only
  frame_out
  have g0 : (((win0_15.blk t).view.emb y) 0 : ℕ) = t.val * 8 + (y 0).val := by blk_simp [idx t]
  have g1 : (((win0_15.blk t).view.emb y) 1 : ℕ) = (y 1).val := by blk_simp [idx t]
  have g2 : (((win0_15.blk t).view.emb y) 2 : ℕ) = (y 2).val := by blk_simp [idx t]
  have g3 : (((win0_15.blk t).view.emb y) 3 : ℕ) = (y 3).val := by blk_simp [idx t]
  generalize (win0_15.blk t).view.emb y = i at g0 g1 g2 g3 ⊢
  canon_tiles x h
  all_goals exact tileC m c t 2056 _ (iblk m c 6 t) (fun k n N h => blk6 m c t k n N h) (k0_pay8 (rows m c t) (iblk m c 6 t)) (qb_apply _ _) _ _ (by decide) x i (by omega) (by omega) (by omega) (by omega)

set_option maxHeartbeats 4000000 in
theorem array_kb : (dats m 0 c).arrAt 16 cfg0.N
    = resC 2568 (by decide) (m (c.tc.loc main_arg0)) (m (c.tc.loc main_arg1)) (m (c.tc.loc main_arg2)) := by
  refine (dats m 0 c).arrAt_eq_of_covers 16 _ (by decide +kernel) fun t hf y => ?_
  blk_simp
  rw [after0_16]
  unfold outsAt0
  dsimp only
  frame_out
  have g0 : (((win0_16.blk t).view.emb y) 0 : ℕ) = t.val * 8 + (y 0).val := by blk_simp [idx t]
  have g1 : (((win0_16.blk t).view.emb y) 1 : ℕ) = (y 1).val := by blk_simp [idx t]
  have g2 : (((win0_16.blk t).view.emb y) 2 : ℕ) = (y 2).val := by blk_simp [idx t]
  have g3 : (((win0_16.blk t).view.emb y) 3 : ℕ) = (y 3).val := by blk_simp [idx t]
  generalize (win0_16.blk t).view.emb y = i at g0 g1 g2 g3 ⊢
  canon_tiles x h
  all_goals exact tileC m c t 2568 _ (iblk m c 7 t) (fun k n N h => blk7 m c t k n N h) (k0_pay79 (rows m c t) (iblk m c 7 t)) (kb_apply _ _) _ _ (by decide) x i (by omega) (by omega) (by omega) (by omega)

set_option maxHeartbeats 4000000 in
theorem array_vb : (dats m 0 c).arrAt 17 cfg0.N
    = resC 3080 (by decide) (m (c.tc.loc main_arg0)) (m (c.tc.loc main_arg1)) (m (c.tc.loc main_arg2)) := by
  refine (dats m 0 c).arrAt_eq_of_covers 17 _ (by decide +kernel) fun t hf y => ?_
  blk_simp
  rw [after0_17]
  unfold outsAt0
  dsimp only
  frame_out
  have g0 : (((win0_17.blk t).view.emb y) 0 : ℕ) = t.val * 8 + (y 0).val := by blk_simp [idx t]
  have g1 : (((win0_17.blk t).view.emb y) 1 : ℕ) = (y 1).val := by blk_simp [idx t]
  have g2 : (((win0_17.blk t).view.emb y) 2 : ℕ) = (y 2).val := by blk_simp [idx t]
  have g3 : (((win0_17.blk t).view.emb y) 3 : ℕ) = (y 3).val := by blk_simp [idx t]
  generalize (win0_17.blk t).view.emb y = i at g0 g1 g2 g3 ⊢
  canon_tiles x h
  all_goals exact tileC m c t 3080 _ (iblk m c 8 t) (fun k n N h => blk8 m c t k n N h) (k0_pay151 (rows m c t) (iblk m c 8 t)) (vb_apply _ _) _ _ (by decide) x i (by omega) (by omega) (by omega) (by omega)

theorem array_g : (dats m 0 c).arrAt 18 cfg0.N
    = resG (m (c.tc.loc main_arg0)) (m (c.tc.loc main_arg1)) (m (c.tc.loc main_arg2)) (m (c.tc.loc main_arg3)) := by
  refine (dats m 0 c).arrAt_eq_of_covers 18 _ (by decide +kernel) fun t hf y => ?_
  blk_simp
  rw [after0_18]
  frame_out
  exact tileG m c t y _ (by blk_simp [idx t]) (by blk_simp [idx t])

end Cert.ProjAS
-- ==== Proof.ProjRefAS.lean ====
module

public import proofs.«01_k».proof.Proof.ProjAS
public import proofs.«01_k».proof.Proof.Gen.ReferenceASIdeal.Run
public import Idealize.ShloMosaic.Lib.Tactic.CleanTypes

/-! The reference's norm, input projection and gates of layer 0 for the sample batch, element by element. -/

@[expose] public section

set_option maxRecDepth 16384

noncomputable section

namespace Cert.ProjRefAS

open Idealize.ShloMosaic Idealize.ShloMosaic.TcCoe Idealize.ShloMosaic.Tactic Idealize.SL.Sem
open Cert.ReferenceASIdeal Cert.ReferenceASIdeal.Facts₀ Cert.ReferenceASIdeal.Facts

variable [Cert.ReferenceASIdeal.Facts]

/-- Tokens divided by their root mean squares and scaled. -/
def norm (y : FVec Ideal S32x64x1024 .f32) (g : FVec Ideal S2x1024 .f32) : FVec Ideal S32x64x1024 .f32 :=
  mulf (mulf y (broadcastInDim S32x64x1024 ![0, 1, 2] bcast_S32x64x1_S32x64x1024_0_1_2 (Host.rsqrt (addf (Host.divf
      (broadcastInDim S32x64x1 ![0, 1] bcast_S32x64_S32x64x1_0_1
        (Host.reduceAdd (mulf y y) (constant S_ .f32 0x00000000#32) reducesTo_S32x64x1024_S32x64_d2 h_S_))
      (broadcastInDim S32x64x1 ![] bcast_S_S32x64x1 (constant S_ .f32 0x44800000#32)))
      (broadcastInDim S32x64x1 ![] bcast_S_S32x64x1 (constant S_ .f32 0x358637BD#32))))))
    (broadcastInDim S32x64x1024 ![0, 1, 2] bcast_S1x1x1024_S32x64x1024_0_1_2 (broadcastInDim S1x1x1024 ![2] bcast_S1024_S1x1x1024_2
      (shapeCast _ (extractStridedSlice S1x1024 ![0, 0] g slices_S2x1024_S1x1024_0_0) shapeCasts_S1x1024_S1024)))

/-- All projections side by side. -/
def proj (x : FVec Ideal S2048x1024 .f32) (g : FVec Ideal S2x1024 .f32) (w : FVec Ideal S1x1024x3592 .f32) : FVec Ideal S32x64x3592 .f32 :=
  Host.dotGeneral dot_S32x64x1024_S1024x3592_S32x64x3592_2_0_01_1_n_n none
    (norm (shapeCast _ x shapeCasts_S2048x1024_S32x64x1024) g) (shapeCast _ w shapeCasts_S1x1024x3592_S1024x3592)

def outT (o : ℕ) (s : S32x64x3592.Slices ![0, 0, o] S32x64x512) (p : FVec Ideal S32x64x3592 .f32) : FVec Ideal S2048x512 .f32 :=
  shapeCast _ (extractStridedSlice S32x64x512 ![0, 0, o] p s) shapeCasts_S32x64x512_S2048x512

def outK (p : FVec Ideal S32x64x3592 .f32) : FVec Ideal S2048x512 .f32 :=
  shapeCast _ (mulf (extractStridedSlice S32x64x512 ![0, 0, 512] p slices_S32x64x3592_S32x64x512_0_0_512)
    (broadcastInDim S32x64x512 ![] bcast_S_S32x64x512 (constant S_ .f32 0x3DB504F3#32))) shapeCasts_S32x64x512_S2048x512

def outC (o : ℕ) (s : S32x64x3592.Slices ![0, 0, o] S32x64x512) (p : FVec Ideal S32x64x3592 .f32) : FVec Ideal S32x8x64x64 .f32 :=
  transpose S32x8x64x64 [0, 2, 1, 3] (shapeCast S32x64x8x64 (extractStridedSlice S32x64x512 ![0, 0, o] p s)
    shapeCasts_S32x64x512_S32x64x8x64) transposes_S32x64x8x64_S32x8x64x64_0_2_1_3

/-- The gates' logits in the first eight of 128 columns. -/
def logits (p : FVec Ideal S32x64x3592 .f32) (b : FVec Ideal S1x8 .f32) : FVec Ideal S32x64x128 .f32 :=
  pad S32x64x128 ![0, 0, 0] ![0, 0, 120] ![0, 0, 0] (addf (extractStridedSlice S32x64x8 ![0, 0, 2048] p slices_S32x64x3592_S32x64x8_0_0_2048)
    (broadcastInDim S32x64x8 ![0, 1, 2] bcast_S1x1x8_S32x64x8_0_1_2 (broadcastInDim S1x1x8 ![2] bcast_S8_S1x1x8_2
      (shapeCast _ b shapeCasts_S1x8_S8)))) (sitofp .f32 (constantI S_ 32 0#32)) pads_S32x64x8_S32x64x128_000_000_01200 h_S_

def zeros : FVec Ideal S32x64x124 .f32 := broadcastInDim S32x64x124 ![] bcast_S_S32x64x124 (constant S_ .f32 0x00000000#32)

/-- The log of the logistic function of every logit. -/
def keeps (z : FVec Ideal S32x64x124 .f32) : FVec Ideal S32x64x124 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

def outG (z : FVec Ideal S32x64x128 .f32) : FVec Ideal S2048x128 .f32 :=
  shapeCast _ (concatenate S32x64x128 2 [⟨S32x64x4, extractStridedSlice S32x64x4 ![0, 0, 0] z slices_S32x64x128_S32x64x4_0_0_0⟩,
    ⟨S32x64x124, keeps (extractStridedSlice S32x64x124 ![0, 0, 4] z slices_S32x64x128_S32x64x124_0_0_4)⟩] concatenates_S32x64x4_S32x64x124_S32x64x128_d2) shapeCasts_S32x64x128_S2048x128

theorem run_g (m : (ℓ : Loc nD τ sig) → Buf (Elt Ideal) ℓ) (c : Dev nD) :
    Cert.ReferenceASIdeal.Value.res_out7 m c = outG (logits (proj (m (c.tc.loc main_arg0)) (m (c.tc.loc main_arg1)) (m (c.tc.loc main_arg2)))
      (m (c.tc.loc main_arg3))) := rfl

theorem norm_apply (x : FVec Ideal S2048x1024 .f32) (g : FVec Ideal S2x1024 .f32) (b : Fin 32) (t : Fin 64) (n : Fin 1024) :
    norm (shapeCast _ x shapeCasts_S2048x1024_S32x64x1024) g (ix3 b t n)
    = Ffn.unit (fun k => x (ix2 ⟨64 * b.val + t.val, by omega⟩ k)) (fun k => g (ix2 0 k)) n := by
  unfold Ffn.unit
  have e : ∀ p, (⟨b.val * 64 + t.val, p⟩ : Fin 2048) = ⟨64 * b.val + t.val, by omega⟩ := fun _ => Fin.ext (by simp [Nat.mul_comm])
  pointwise [norm]
  simp only [e]

theorem proj_apply (x : FVec Ideal S2048x1024 .f32) (g : FVec Ideal S2x1024 .f32) (w : FVec Ideal S1x1024x3592 .f32) (b : Fin 32) (t : Fin 64) (n : Fin 3592) :
    proj x g w (ix3 b t n)
    = Proj.dot (fun k => x (ix2 ⟨64 * b.val + t.val, by omega⟩ k)) (fun k => g (ix2 0 k)) (fun k => w (ix3 0 k n)) := by
  unfold Proj.dot
  simp only [← norm_apply]
  pointwise [proj]

theorem outT_apply (o : ℕ) (ho : o ≤ 1536) (s) (p : FVec Ideal S32x64x3592 .f32) (r : Fin 2048) (n : Fin 512) :
    outT o s p (ix2 r n) = p (ix3 ⟨r.val / 64, by omega⟩ ⟨r.val % 64, by omega⟩ ⟨o + n.val, by omega⟩) := by
  pointwise [outT]

theorem outK_apply (p : FVec Ideal S32x64x3592 .f32) (r : Fin 2048) (n : Fin 512) :
    outK p (ix2 r n) = p (ix3 ⟨r.val / 64, by omega⟩ ⟨r.val % 64, by omega⟩ ⟨512 + n.val, by omega⟩) * Proj.keyScale := by
  unfold Proj.keyScale
  pointwise [outK]

theorem outC_apply (o : ℕ) (ho : o ≤ 3080) (s) (p : FVec Ideal S32x64x3592 .f32) (b : Fin 32) (h : Fin 8) (t : Fin 64) (d : Fin 64) :
    outC o s p (ix4 b h t d) = p (ix3 b t ⟨o + (64 * h.val + d.val), by omega⟩) := by
  pointwise [outC]
  exact congrArg p (congrArg (ix3 b t) (Fin.ext (by simp [Nat.mul_comm])))

theorem logits_apply (p : FVec Ideal S32x64x3592 .f32) (g : FVec Ideal S1x8 .f32) (b : Fin 32) (t : Fin 64) (n : Fin 128) :
    logits p g (ix3 b t n) = if h : n.val < 8 then p (ix3 b t ⟨2048 + n.val, by omega⟩) + g (ix2 0 ⟨n.val, h⟩) else (0 : EReal) := by
  pointwise [logits]
  rw [Proj.zero_int]

theorem keeps_apply (z : FVec Ideal S32x64x124 .f32) (b : Fin 32) (t : Fin 64) (n : Fin 124) :
    keeps z (ix3 b t n) = Proj.keep (z (ix3 b t n)) := by
  rw [← Proj.keep_eq]
  pointwise [keeps, zeros]
  rw [if_neg fun h => h rfl, Ideal.absf_def, neg_neg]

theorem outG_apply (z : FVec Ideal S32x64x128 .f32) (r : Fin 2048) (n : Fin 128) :
    outG z (ix2 r n) = Proj.gate n.val (z (ix3 ⟨r.val / 64, by omega⟩ ⟨r.val % 64, by omega⟩ n)) := by
  unfold Proj.gate
  pointwise [outG]
  simp only [keeps_apply]
  by_cases h : n.val < 4
  · rw [dif_pos h, if_pos h]
  · rw [dif_neg h, if_neg h]
    pointwise
    exact congrArg (fun k => Proj.keep (z (ix3 _ _ k))) (Fin.ext (show 4 + (n.val - 4) = n.val by omega))

/-- The reference's token rows are the call's. -/
theorem eq_t (o : ℕ) (ho : o ≤ 1536) (s) (x : FVec Ideal S2048x1024 .f32) (g : FVec Ideal S2x1024 .f32) (w : FVec Ideal S1x1024x3592 .f32) :
    outT o s (proj x g w) = ProjAS.resT o ho x g w := by
  funext i
  obtain ⟨r, n, rfl⟩ : ∃ (r : Fin 2048) (n : Fin 512), i = ix2 r n := ⟨i 0, i 1, by
    funext a
    fin_cases a <;> rfl⟩
  have e : (⟨64 * (r.val / 64) + r.val % 64, by omega⟩ : Fin 2048) = r := Fin.ext (by simp [Nat.div_add_mod])
  rw [outT_apply o ho, proj_apply]
  simp only [e]
  rfl

/-- The reference's scaled keys are the call's. -/
theorem eq_k (x : FVec Ideal S2048x1024 .f32) (g : FVec Ideal S2x1024 .f32) (w : FVec Ideal S1x1024x3592 .f32) : outK (proj x g w) = ProjAS.resK x g w := by
  funext i
  obtain ⟨r, n, rfl⟩ : ∃ (r : Fin 2048) (n : Fin 512), i = ix2 r n := ⟨i 0, i 1, by
    funext a
    fin_cases a <;> rfl⟩
  have e : (⟨64 * (r.val / 64) + r.val % 64, by omega⟩ : Fin 2048) = r := Fin.ext (by simp [Nat.div_add_mod])
  rw [outK_apply, proj_apply]
  simp only [e]
  rfl

/-- The reference's heads are the call's. -/
theorem eq_c (o : ℕ) (ho : o ≤ 3080) (s) (x : FVec Ideal S2048x1024 .f32) (g : FVec Ideal S2x1024 .f32) (w : FVec Ideal S1x1024x3592 .f32) :
    outC o s (proj x g w) = ProjAS.resC o ho x g w := by
  funext i
  obtain ⟨b, h, t, d, rfl⟩ : ∃ (b : Fin 32) (h : Fin 8) (t : Fin 64) (d : Fin 64), i = ix4 b h t d := ⟨i 0, i 1, i 2, i 3, by
    funext a
    fin_cases a <;> rfl⟩
  rw [outC_apply o ho, proj_apply]
  rfl

/-- The reference's gates are the call's. -/
theorem eq_g (x : FVec Ideal S2048x1024 .f32) (g : FVec Ideal S2x1024 .f32) (w : FVec Ideal S1x1024x3592 .f32) (b : FVec Ideal S1x8 .f32) :
    outG (logits (proj x g w) b) = ProjAS.resG x g w b := by
  funext i
  obtain ⟨r, n, rfl⟩ : ∃ (r : Fin 2048) (n : Fin 128), i = ix2 r n := ⟨i 0, i 1, by
    funext a
    fin_cases a <;> rfl⟩
  have e : (⟨64 * (r.val / 64) + r.val % 64, by omega⟩ : Fin 2048) = r := Fin.ext (by simp [Nat.div_add_mod])
  rw [outG_apply, logits_apply]
  simp only [proj_apply, e]
  rfl

/-- The call's arrays from the run's. -/
theorem run_q (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v35) = ProjAS.resT 0 (by decide) (m (c.tc.loc main_arg0)) (m (c.tc.loc main_arg1)) (m (c.tc.loc main_arg2))
      ∧ r.2.mem (c.tc.loc main_v39) = ProjAS.resK (m (c.tc.loc main_arg0)) (m (c.tc.loc main_arg1)) (m (c.tc.loc main_arg2))
      ∧ r.2.mem (c.tc.loc main_v41) = ProjAS.resT 1024 (by decide) (m (c.tc.loc main_arg0)) (m (c.tc.loc main_arg1)) (m (c.tc.loc main_arg2))
      ∧ r.2.mem (c.tc.loc main_v42) = ProjAS.resT 1536 (by decide) (m (c.tc.loc main_arg0)) (m (c.tc.loc main_arg1)) (m (c.tc.loc main_arg2))
      ∧ r.2.mem (c.tc.loc main_v44) = ProjAS.resC 2056 (by decide) (m (c.tc.loc main_arg0)) (m (c.tc.loc main_arg1)) (m (c.tc.loc main_arg2))
      ∧ r.2.mem (c.tc.loc main_v46) = ProjAS.resC 2568 (by decide) (m (c.tc.loc main_arg0)) (m (c.tc.loc main_arg1)) (m (c.tc.loc main_arg2))
      ∧ r.2.mem (c.tc.loc main_v48) = ProjAS.resC 3080 (by decide) (m (c.tc.loc main_arg0)) (m (c.tc.loc main_arg1)) (m (c.tc.loc main_arg2))
      ∧ r.2.mem (c.tc.loc main_v50) = ProjAS.resG (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) := by
  refine (θ_run _ _ _).mono (fun r h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2.1.trans ?_, (h c).2.2.2.2.2.2.2.1.trans ?_, (h c).2.2.2.2.2.2.2.2⟩)
    (Cert.ReferenceASIdeal.Value.run (F := Ideal) m ρ)
  · exact eq_t 0 (by decide) _ _ _ _
  · exact eq_k _ _ _
  · exact eq_t 1024 (by decide) _ _ _ _
  · exact eq_t 1536 (by decide) _ _ _ _
  · exact eq_c 2056 (by decide) _ _ _ _
  · exact eq_c 2568 (by decide) _ _ _ _
  · exact eq_c 3080 (by decide) _ _ _ _
  · exact (run_g m c).trans (eq_g _ _ _ _)

end Cert.ProjRefAS
-- ==== Proof.FfnTwo.lean ====
module

public import proofs.«01_k».proof.Proof.FfnRow
public import proofs.«01_k».proof.Proof.Gen.KernelZPIdeal.Value

/-! The feed-forward call of layer 0: the outputs of two mixers side by side, and no final norm. -/

@[expose] public section

set_option maxRecDepth 16384

noncomputable section

namespace Cert.FfnTwo

open Idealize.ShloMosaic Idealize.ShloMosaic.TcCoe Idealize.ShloMosaic.Tactic

/-- Two rows side by side. -/
def two (a b : Fin 512 → EReal) (k : Fin 1024) : EReal := if h : k.val < 512 then a ⟨k.val, h⟩ else b ⟨k.val - 512, by omega⟩

/-- A token's row of the residual stream after the network. -/
def row (x : Fin 1024 → EReal) (a b : Fin 512 → EReal) (w : Fin 1024 → Fin 1024 → EReal) (g : Fin 1024 → EReal)
    (wi : Fin 1024 → Fin 5632 → EReal) (wo : Fin 2816 → Fin 1024 → EReal) (n : Fin 1024) : EReal :=
  Ffn.joinRow x (two a b) w n + ∑ j, Ffn.hidden (Ffn.unit (Ffn.joinRow x (two a b) w) g) wi j * wo j n

open Cert.KernelZPIdeal Cert.KernelZPIdeal.Gen

variable [Cert.KernelZPIdeal.Facts] [Cert.KernelYPIdeal.Facts]

/-- The two mixers' blocks side by side. -/
def beside (a b : Vec Ideal S1024x512 .bf16) : Vec Ideal S1024x1024 .bf16 :=
  concatenate S1024x1024 1 [⟨S1024x512, a⟩, ⟨S1024x512, b⟩] concatenates_S1024x512_S1024x512_S1024x1024_d1

/-- The residual stream's block with both projected outputs added. -/
def mix (x : Vec Ideal S1024x1024 .f32) (a b : Vec Ideal S1024x512 .bf16) (w : Vec Ideal S1024x1024 .bf16) : FVec Ideal S1024x1024 .f32 :=
  Ffn.mix (View.ld x r0_1) (beside (View.ld a r0_0) (View.ld b r0_0)) (View.ld w r0_1)

/-- The block the body stores. -/
def block (x : Vec Ideal S1024x1024 .f32) (a b : Vec Ideal S1024x512 .bf16) (w : Vec Ideal S1024x1024 .bf16) (g : Vec Ideal S1x1024 .f32)
    (wi : Vec Ideal S1x1024x5632 .bf16) (wo : Vec Ideal S1x2816x1024 .bf16) : FVec Ideal S1024x1024 .f32 :=
  Ffn.sweep (truncf .bf16 (Ffn.norm (mix x a b w) (View.ld g r0_2)) bitsLt_bf16_f32) (mix x a b w) wi wo

theorem out_eq (x : Vec Ideal S1024x1024 .f32) (a b : Vec Ideal S1024x512 .bf16) (w : Vec Ideal S1024x1024 .bf16) (g : Vec Ideal S1x1024 .f32)
    (wi : Vec Ideal S1x1024x5632 .bf16) (wo : Vec Ideal S1x2816x1024 .bf16) (gf : Vec Ideal S1x1024 .f32) :
    out0_8 x a b w g wi wo gf = View.canon [⟨r0_1, block x a b w g wi wo⟩] := rfl

theorem beside_apply (a b : Vec Ideal S1024x512 .bf16) (r k : Fin 1024) :
    beside a b (ix2 r k) = two (fun k => a (ix2 r k)) (fun k => b (ix2 r k)) k := by
  unfold two
  pointwise [beside]

theorem mix_apply (x : Vec Ideal S1024x1024 .f32) (a b : Vec Ideal S1024x512 .bf16) (w : Vec Ideal S1024x1024 .bf16) (r n : Fin 1024) :
    mix x a b w (ix2 r n) = Ffn.joinRow (fun k => x (ix2 r k)) (two (fun k => a (ix2 r k)) (fun k => b (ix2 r k))) (fun k c => w (ix2 k c)) n := by
  have l0 : ∀ (v : Vec Ideal S1024x512 .bf16), View.ld v r0_0 = v := fun v => View.ld_unit_lit' _ v (by decide)
  have l1 : ∀ {e} (v : Vec Ideal S1024x1024 e), View.ld v r0_1 = v := fun v => View.ld_unit_lit' _ v (by decide)
  unfold mix
  rw [l0, l0, l1, l1, Ffn.mix_apply]
  simp only [beside_apply, Ffn.joinRow]

/-- Each row of the stored block is the row function of the blocks' rows. -/
theorem block_apply (x : Vec Ideal S1024x1024 .f32) (a b : Vec Ideal S1024x512 .bf16) (w : Vec Ideal S1024x1024 .bf16) (g : Vec Ideal S1x1024 .f32)
    (wi : Vec Ideal S1x1024x5632 .bf16) (wo : Vec Ideal S1x2816x1024 .bf16) (r n : Fin 1024) :
    block x a b w g wi wo (ix2 r n) = row (fun k => x (ix2 r k)) (fun k => a (ix2 r k)) (fun k => b (ix2 r k)) (fun k c => w (ix2 k c))
      (fun k => g (ix2 0 k)) (fun k c => wi (ix3 0 k c)) (fun k c => wo (ix3 0 k c)) n := by
  have l2 : ∀ (v : Vec Ideal S1x1024 .f32), View.ld v r0_2 = v := fun v => View.ld_unit_lit' _ v (by decide)
  have hn : ∀ k : Fin 1024, (truncf .bf16 (Ffn.norm (mix x a b w) g) bitsLt_bf16_f32 : FVec Ideal S1024x1024 .bf16) (ix2 r k)
      = Ffn.norm (mix x a b w) g (ix2 r k) := fun _ => rfl
  unfold block
  rw [l2, Ffn.sweep_apply]
  simp only [hn, Ffn.norm_apply, mix_apply, row]
  rfl

end Cert.FfnTwo
-- ==== Proof.FfnTwoP.lean ====
module

public import proofs.«01_k».proof.Proof.FfnTwo

/-! Layer 0's feed-forward call of the prompt: each row of its result array is the row function of the arguments' rows. -/

@[expose] public section

set_option maxRecDepth 16384

noncomputable section

namespace Cert.FfnTwoP

open Idealize.ShloMosaic Idealize.ShloMosaic.TcCoe Idealize.ShloMosaic.Tactic Idealize.SL.Sem
open Cert.KernelZPIdeal Cert.KernelZPIdeal.Gen

variable [Cert.KernelZPIdeal.Facts] [Cert.KernelYPIdeal.Facts]

/-- The result array of the argument arrays. -/
def result (x : Vec Ideal S16384x1024 .f32) (a b : Vec Ideal S16384x512 .bf16) (w : Vec Ideal S1x1024x1024 .f32) (g : Vec Ideal S2x1024 .f32)
    (wi : Vec Ideal S2x1024x5632 .f32) (wo : Vec Ideal S2x2816x1024 .f32) : FVec Ideal S16384x1024 .f32 := fun i =>
  FfnTwo.row (fun k => x (ix2 (i 0) k)) (fun k => a (ix2 (i 0) k)) (fun k => b (ix2 (i 0) k)) (fun k c => w (ix3 0 k c)) (fun k => g (ix2 0 k))
    (fun k c => wi (ix3 0 k c)) (fun k c => wo (ix3 0 k c)) (i 1)

theorem idx : ∀ t : Fin grid0.N, win0_0.index t = ![t.val, 0] ∧ win0_1.index t = ![t.val, 0]
    ∧ win0_2.index t = ![t.val, 0] ∧ win0_3.index t = ![0, 0] ∧ win0_4.index t = ![0, 0] ∧ win0_5.index t = ![0, 0, 0]
    ∧ win0_6.index t = ![0, 0, 0] ∧ win0_7.index t = ![0, 0] ∧ win0_8.index t = ![t.val, 0] := by
  decide +kernel

variable (m : (ℓ : Loc nD τ sig) → Buf (Elt Ideal) ℓ) (c : Dev nD)

theorem blk0 (t : Fin grid0.N) (r : Fin 1024) (k : Fin 1024) (R : Fin 16384) (hR : R.val = t.val * 1024 + r.val) :
    iblk m c 0 t (ix2 r k) = (m (c.tc.loc main_arg0) : Vec Ideal S16384x1024 .f32) (ix2 R k) := by
  blk_simp [iblk, idx t]
  blk_ext [iblk, V, idx t]

theorem blk1 (t : Fin grid0.N) (r : Fin 1024) (k : Fin 512) (R : Fin 16384) (hR : R.val = t.val * 1024 + r.val) :
    iblk m c 1 t (ix2 r k) = (m (c.tc.loc main_arg1) : Vec Ideal S16384x512 .bf16) (ix2 R k) := by
  blk_simp [iblk, idx t]
  blk_ext [iblk, V, idx t]

theorem blk2 (t : Fin grid0.N) (r : Fin 1024) (k : Fin 512) (R : Fin 16384) (hR : R.val = t.val * 1024 + r.val) :
    iblk m c 2 t (ix2 r k) = (m (c.tc.loc main_arg2) : Vec Ideal S16384x512 .bf16) (ix2 R k) := by
  blk_simp [iblk, idx t]
  blk_ext [iblk, V, idx t]

theorem blk3 (t : Fin grid0.N) (k n : Fin 1024) :
    iblk m c 3 t (ix2 k n) = (m (c.tc.loc main_arg3) : Vec Ideal S1x1024x1024 .f32) (ix3 0 k n) := by
  blk_simp [iblk, idx t]
  entry_read
  pointwise
  blk_ext [iblk, V, idx t]

theorem blk4 (t : Fin grid0.N) (k : Fin 1024) :
    iblk m c 4 t (ix2 0 k) = (m (c.tc.loc main_arg4) : Vec Ideal S2x1024 .f32) (ix2 0 k) := by
  blk_simp [iblk, idx t]
  entry_read
  pointwise
  blk_ext [iblk, V, idx t]

theorem blk5 (t : Fin grid0.N) (k : Fin 1024) (n : Fin 5632) :
    iblk m c 5 t (ix3 0 k n) = (m (c.tc.loc main_arg5) : Vec Ideal S2x1024x5632 .f32) (ix3 0 k n) := by
  blk_simp [iblk, idx t]
  entry_read
  pointwise
  blk_ext [iblk, V, idx t]

theorem blk6 (t : Fin grid0.N) (k : Fin 2816) (n : Fin 1024) :
    iblk m c 6 t (ix3 0 k n) = (m (c.tc.loc main_arg6) : Vec Ideal S2x2816x1024 .f32) (ix3 0 k n) := by
  blk_simp [iblk, idx t]
  entry_read
  pointwise
  blk_ext [iblk, V, idx t]

/-- A block's rows are that part of the result array. -/
theorem tile (t : Fin grid0.N) (y : S1024x1024.Idx) (i : S16384x1024.Idx) (h0 : (i 0).val = t.val * 1024 + (y 0).val)
    (h1 : (i 1).val = (y 1).val) :
    FfnTwo.block (iblk m c 0 t) (iblk m c 1 t) (iblk m c 2 t) (iblk m c 3 t) (iblk m c 4 t) (iblk m c 5 t) (iblk m c 6 t) y
    = result (m (c.tc.loc main_arg0)) (m (c.tc.loc main_arg1)) (m (c.tc.loc main_arg2)) (m (c.tc.loc main_arg3)) (m (c.tc.loc main_arg4)) (m (c.tc.loc main_arg5)) (m (c.tc.loc main_arg6)) i := by
  obtain ⟨r, n, rfl⟩ : ∃ r n : Fin 1024, y = ix2 r n := ⟨y 0, y 1, by
    funext a
    fin_cases a <;> rfl⟩
  rw [FfnTwo.block_apply]
  unfold result
  simp only [fun k => blk0 m c t r k (i 0) h0, fun k => blk1 m c t r k (i 0) h0, fun k => blk2 m c t r k (i 0) h0, blk3, blk4, blk5, blk6]
  exact congrArg _ (Fin.ext h1.symm)

theorem array_eq : (dats m 0 c).arrAt 8 cfg0.N
    = result (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after0_8, FfnTwo.out_eq, View.canon_cons_unit_lit' _ _ _ (by decide)]
  exact tile m c t y _ (by blk_simp [idx t]) (by blk_simp [idx t])

end Cert.FfnTwoP
-- ==== Proof.FfnTwoRefP.lean ====
module

public import proofs.«01_k».proof.Proof.FfnTwoP
public import proofs.«01_k».proof.Proof.Gen.ReferenceZPIdeal.Run
public import Idealize.ShloMosaic.Lib.Pointwise
public import Idealize.ShloMosaic.Lib.Tactic.CleanTypes

/-! The reference's output projection and feed-forward network at the end of layer 0 for the prompt, element by element. -/

@[expose] public section

set_option maxRecDepth 16384

noncomputable section

namespace Cert.FfnTwoRefP

open Idealize.ShloMosaic Idealize.ShloMosaic.TcCoe Idealize.ShloMosaic.Tactic Idealize.SL.Sem
open Cert.ReferenceZPIdeal Cert.ReferenceZPIdeal.Facts₀ Cert.ReferenceZPIdeal.Facts

variable [Cert.ReferenceZPIdeal.Facts]

/-- The mixers' outputs side by side. -/
def beside (a b : FVec Ideal S16384x512 .bf16) : FVec Ideal S16384x1024 .f32 :=
  concatenate S16384x1024 1 [⟨S16384x512, extf .f32 a bitsLt_bf16_f32⟩, ⟨S16384x512, extf .f32 b bitsLt_bf16_f32⟩] concatenates_S16384x512_S16384x512_S16384x1024_d1

/-- The residual stream with the mixers' outputs projected onto it. -/
def mix (x : FVec Ideal S16384x1024 .f32) (a b : FVec Ideal S16384x512 .bf16) (w : FVec Ideal S1x1024x1024 .f32) : FVec Ideal S16384x1024 .f32 :=
  addf x (Host.dotGeneral dot_S16384x1024_S1024x1024_S16384x1024_1_0_0_1_n_n none (beside a b) (shapeCast _ w shapeCasts_S1x1024x1024_S1024x1024))

/-- Rows divided by their root mean squares and scaled. -/
def norm (y : FVec Ideal S16384x1024 .f32) (g : FVec Ideal S1024 .f32) : FVec Ideal S16384x1024 .f32 :=
  mulf (mulf y (broadcastInDim S16384x1024 ![0, 1] bcast_S16384x1_S16384x1024_0_1 (Host.rsqrt (addf (Host.divf
      (broadcastInDim S16384x1 ![0] bcast_S16384_S16384x1_0
        (Host.reduceAdd (mulf y y) (constant S_ .f32 0x00000000#32) reducesTo_S16384x1024_S16384_d1 h_S_))
      (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The inner projection, both halves side by side. -/
def inner (h : FVec Ideal S16384x1024 .f32) (wi : FVec Ideal S2x1024x5632 .f32) : FVec Ideal S16384x5632 .f32 :=
  Host.dotGeneral dot_S16384x1024_S1024x5632_S16384x5632_1_0_0_1_n_n none h
    (shapeCast _ (extractStridedSlice S1x1024x5632 ![0, 0, 0] wi slices_S2x1024x5632_S1x1024x5632_0_0_0) shapeCasts_S1x1024x5632_S1024x5632)

/-- The gate's half times its logistic function, times the other half. -/
def gated (u : FVec Ideal S16384x5632 .f32) : FVec Ideal S16384x2816 .f32 :=
  mulf (mulf (extractStridedSlice S16384x2816 ![0, 0] u slices_S16384x5632_S16384x2816_0_0)
    (Host.divf (broadcastInDim S16384x2816 ![] bcast_S_S16384x2816 (constant S_ .f32 0x3F800000#32))
      (addf (broadcastInDim S16384x2816 ![] bcast_S_S16384x2816 (constant S_ .f32 0x3F800000#32))
        (Host.exp (Host.negf (extractStridedSlice S16384x2816 ![0, 0] u slices_S16384x5632_S16384x2816_0_0))))))
    (extractStridedSlice S16384x2816 ![0, 2816] u slices_S16384x5632_S16384x2816_0_2816)

/-- The outer projection added to the residual stream. -/
def outer (y : FVec Ideal S16384x1024 .f32) (a : FVec Ideal S16384x2816 .f32) (wo : FVec Ideal S2x2816x1024 .f32) : FVec Ideal S16384x1024 .f32 :=
  addf y (Host.dotGeneral dot_S16384x2816_S2816x1024_S16384x1024_1_0_0_1_n_n none a
    (shapeCast _ (extractStridedSlice S1x2816x1024 ![0, 0, 0] wo slices_S2x2816x1024_S1x2816x1024_0_0_0) shapeCasts_S1x2816x1024_S2816x1024))

/-- The first layer's scale of the norm before the feed-forward network. -/
def scale (g : FVec Ideal S2x1024 .f32) : FVec Ideal S1024 .f32 :=
  shapeCast _ (extractStridedSlice S1x1024 ![0, 0] g slices_S2x1024_S1x1024_0_0) shapeCasts_S1x1024_S1024

/-- The reference of its argument arrays. -/
def out (x : FVec Ideal S16384x1024 .f32) (a b : FVec Ideal S16384x512 .bf16) (w : FVec Ideal S1x1024x1024 .f32) (g : FVec Ideal S2x1024 .f32)
    (wi : FVec Ideal S2x1024x5632 .f32) (wo : FVec Ideal S2x2816x1024 .f32) : FVec Ideal S16384x1024 .f32 :=
  outer (mix x a b w) (gated (inner (norm (mix x a b w) (scale g)) wi)) wo

theorem run_eq (m : (ℓ : Loc nD τ sig) → Buf (Elt Ideal) ℓ) (c : Dev nD) :
    Cert.ReferenceZPIdeal.Value.res_out0 m c = out (m (c.tc.loc main_arg0)) (m (c.tc.loc main_arg1)) (m (c.tc.loc main_arg2)) (m (c.tc.loc main_arg3)) (m (c.tc.loc main_arg4)) (m (c.tc.loc main_arg5)) (m (c.tc.loc main_arg6)) := rfl

theorem beside_apply (a b : FVec Ideal S16384x512 .bf16) (r : Fin 16384) (k : Fin 1024) :
    beside a b (ix2 r k) = FfnTwo.two (fun k => a (ix2 r k)) (fun k => b (ix2 r k)) k := by
  unfold FfnTwo.two
  pointwise [beside]

theorem mix_apply (x : FVec Ideal S16384x1024 .f32) (a b : FVec Ideal S16384x512 .bf16) (w : FVec Ideal S1x1024x1024 .f32) (r : Fin 16384) (n : Fin 1024) :
    mix x a b w (ix2 r n) = x (ix2 r n) + ∑ k : Fin 1024, FfnTwo.two (fun k => a (ix2 r k)) (fun k => b (ix2 r k)) k * w (ix3 0 k n) := by
  simp only [← beside_apply]
  pointwise [mix]

theorem norm_apply (y : FVec Ideal S16384x1024 .f32) (g : FVec Ideal S1024 .f32) (r : Fin 16384) (n : Fin 1024) :
    norm y g (ix2 r n) = y (ix2 r n) * Ideal.rsqrt (Ideal.div (∑ k : Fin 1024, y (ix2 r k) * y (ix2 r k)) (Ideal.ofBits .f32 0x44800000#32)
      + Ideal.ofBits .f32 0x358637BD#32) * g (ix1 n) := by
  pointwise [norm]

theorem inner_apply (h : FVec Ideal S16384x1024 .f32) (wi : FVec Ideal S2x1024x5632 .f32) (r : Fin 16384) (j : Fin 5632) :
    inner h wi (ix2 r j) = ∑ k : Fin 1024, h (ix2 r k) * wi (ix3 0 k j) := by
  pointwise [inner]

theorem gated_apply (u : FVec Ideal S16384x5632 .f32) (r : Fin 16384) (j : Fin 2816) :
    gated u (ix2 r j) = u (ix2 r ⟨j.val, by omega⟩)
        * Ideal.div (Ideal.ofBits .f32 0x3F800000#32) (Ideal.ofBits .f32 0x3F800000#32 + Ideal.exp (-(u (ix2 r ⟨j.val, by omega⟩))))
        * u (ix2 r ⟨2816 + j.val, by omega⟩) := by
  pointwise [gated]

theorem outer_apply (y : FVec Ideal S16384x1024 .f32) (a : FVec Ideal S16384x2816 .f32) (wo : FVec Ideal S2x2816x1024 .f32) (r : Fin 16384) (n : Fin 1024) :
    outer y a wo (ix2 r n) = y (ix2 r n) + ∑ j : Fin 2816, a (ix2 r j) * wo (ix3 0 j n) := by
  pointwise [outer]

theorem scale_apply (g : FVec Ideal S2x1024 .f32) (n : Fin 1024) : scale g (ix1 n) = g (ix2 0 n) := by
  pointwise [scale]

/-- Each row of the reference's result is the row function of the arguments' rows. -/
theorem out_apply (x : FVec Ideal S16384x1024 .f32) (a b : FVec Ideal S16384x512 .bf16) (w : FVec Ideal S1x1024x1024 .f32) (g : FVec Ideal S2x1024 .f32)
    (wi : FVec Ideal S2x1024x5632 .f32) (wo : FVec Ideal S2x2816x1024 .f32) (r : Fin 16384) (n : Fin 1024) :
    out x a b w g wi wo (ix2 r n) = FfnTwo.row (fun k => x (ix2 r k)) (fun k => a (ix2 r k)) (fun k => b (ix2 r k)) (fun k c => w (ix3 0 k c)) (fun k => g (ix2 0 k))
      (fun k c => wi (ix3 0 k c)) (fun k c => wo (ix3 0 k c)) n := by
  unfold out
  simp only [norm_apply, outer_apply, gated_apply, inner_apply, scale_apply, mix_apply, FfnTwo.row, Ffn.unit, Ffn.joinRow]
  rfl

theorem out_eq (x : FVec Ideal S16384x1024 .f32) (a b : FVec Ideal S16384x512 .bf16) (w : FVec Ideal S1x1024x1024 .f32) (g : FVec Ideal S2x1024 .f32)
    (wi : FVec Ideal S2x1024x5632 .f32) (wo : FVec Ideal S2x2816x1024 .f32) :
    out x a b w g wi wo = FfnTwoP.result x a b w g wi wo := by
  funext i
  obtain ⟨r, n, rfl⟩ : ∃ (r : Fin 16384) (n : Fin 1024), i = ix2 r n := ⟨i 0, i 1, by
    funext a
    fin_cases a <;> rfl⟩
  exact out_apply x a b w g wi wo r n

end Cert.FfnTwoRefP
-- ==== Proof.FfnTwoS.lean ====
module

public import proofs.«01_k».proof.Proof.FfnTwo
public import proofs.«01_k».proof.Proof.Gen.KernelZSIdeal.Value

/-! Layer 0's feed-forward call of the sample batch: each row of its result array is the row function of the arguments' rows. -/

@[expose] public section

set_option maxRecDepth 2048

noncomputable section

namespace Cert.FfnTwoS

open Idealize.ShloMosaic Idealize.ShloMosaic.TcCoe Idealize.ShloMosaic.Tactic Idealize.SL.Sem
open Cert.KernelZSIdeal Cert.KernelZSIdeal.Gen

variable [Cert.KernelZSIdeal.Facts] [Cert.KernelZPIdeal.Facts] [Cert.KernelYPIdeal.Facts]

/-- The result array of the argument arrays. -/
def result (x : Vec Ideal S2048x1024 .f32) (a b : Vec Ideal S2048x512 .bf16) (w : Vec Ideal S1x1024x1024 .f32) (g : Vec Ideal S2x1024 .f32)
    (wi : Vec Ideal S2x1024x5632 .f32) (wo : Vec Ideal S2x2816x1024 .f32) : FVec Ideal S2048x1024 .f32 := fun i =>
  FfnTwo.row (fun k => x (ix2 (i 0) k)) (fun k => a (ix2 (i 0) k)) (fun k => b (ix2 (i 0) k)) (fun k c => w (ix3 0 k c)) (fun k => g (ix2 0 k))
    (fun k c => wi (ix3 0 k c)) (fun k c => wo (ix3 0 k c)) (i 1)

theorem idx : ∀ t : Fin grid0.N, win0_0.index t = ![t.val, 0] ∧ win0_1.index t = ![t.val, 0]
    ∧ win0_2.index t = ![t.val, 0] ∧ win0_3.index t = ![0, 0] ∧ win0_4.index t = ![0, 0] ∧ win0_5.index t = ![0, 0, 0]
    ∧ win0_6.index t = ![0, 0, 0] ∧ win0_7.index t = ![0, 0] ∧ win0_8.index t = ![t.val, 0] := by
  decide +kernel

variable (m : (ℓ : Loc nD τ sig) → Buf (Elt Ideal) ℓ) (c : Dev nD)

theorem blk0 (t : Fin grid0.N) (r : Fin 1024) (k : Fin 1024) (R : Fin 2048) (hR : R.val = t.val * 1024 + r.val) :
    iblk m c 0 t (ix2 r k) = (m (c.tc.loc main_arg0) : Vec Ideal S2048x1024 .f32) (ix2 R k) := by
  blk_simp [iblk, idx t]
  blk_ext [iblk, V, idx t]

theorem blk1 (t : Fin grid0.N) (r : Fin 1024) (k : Fin 512) (R : Fin 2048) (hR : R.val = t.val * 1024 + r.val) :
    iblk m c 1 t (ix2 r k) = (m (c.tc.loc main_arg1) : Vec Ideal S2048x512 .bf16) (ix2 R k) := by
  blk_simp [iblk, idx t]
  blk_ext [iblk, V, idx t]

theorem blk2 (t : Fin grid0.N) (r : Fin 1024) (k : Fin 512) (R : Fin 2048) (hR : R.val = t.val * 1024 + r.val) :
    iblk m c 2 t (ix2 r k) = (m (c.tc.loc main_arg2) : Vec Ideal S2048x512 .bf16) (ix2 R k) := by
  blk_simp [iblk, idx t]
  blk_ext [iblk, V, idx t]

theorem blk3 (t : Fin grid0.N) (k n : Fin 1024) :
    iblk m c 3 t (ix2 k n) = (m (c.tc.loc main_arg3) : Vec Ideal S1x1024x1024 .f32) (ix3 0 k n) := by
  blk_simp [iblk, idx t]
  entry_read
  pointwise
  blk_ext [iblk, V, idx t]

theorem blk4 (t : Fin grid0.N) (k : Fin 1024) :
    iblk m c 4 t (ix2 0 k) = (m (c.tc.loc main_arg4) : Vec Ideal S2x1024 .f32) (ix2 0 k) := by
  blk_simp [iblk, idx t]
  entry_read
  pointwise
  blk_ext [iblk, V, idx t]

theorem blk5 (t : Fin grid0.N) (k : Fin 1024) (n : Fin 5632) :
    iblk m c 5 t (ix3 0 k n) = (m (c.tc.loc main_arg5) : Vec Ideal S2x1024x5632 .f32) (ix3 0 k n) := by
  blk_simp [iblk, idx t]
  entry_read
  pointwise
  blk_ext [iblk, V, idx t]

theorem blk6 (t : Fin grid0.N) (k : Fin 2816) (n : Fin 1024) :
    iblk m c 6 t (ix3 0 k n) = (m (c.tc.loc main_arg6) : Vec Ideal S2x2816x1024 .f32) (ix3 0 k n) := by
  blk_simp [iblk, idx t]
  entry_read
  pointwise
  blk_ext [iblk, V, idx t]

/-- The body is the prompt's, at the same block shapes. -/
theorem out_eq (x : Vec Ideal S1024x1024 .f32) (a b : Vec Ideal S1024x512 .bf16) (w : Vec Ideal S1024x1024 .bf16) (g : Vec Ideal S1x1024 .f32)
    (wi : Vec Ideal S1x1024x5632 .bf16) (wo : Vec Ideal S1x2816x1024 .bf16) (gf : Vec Ideal S1x1024 .f32) :
    out0_8 x a b w g wi wo gf = View.canon [⟨r0_1, FfnTwo.block x a b w g wi wo⟩] := rfl

/-- A block's rows are that part of the result array. -/
theorem tile (t : Fin grid0.N) (y : S1024x1024.Idx) (i : S2048x1024.Idx) (h0 : (i 0).val = t.val * 1024 + (y 0).val)
    (h1 : (i 1).val = (y 1).val) :
    FfnTwo.block (iblk m c 0 t) (iblk m c 1 t) (iblk m c 2 t) (iblk m c 3 t) (iblk m c 4 t) (iblk m c 5 t) (iblk m c 6 t) y
    = result (m (c.tc.loc main_arg0)) (m (c.tc.loc main_arg1)) (m (c.tc.loc main_arg2)) (m (c.tc.loc main_arg3)) (m (c.tc.loc main_arg4)) (m (c.tc.loc main_arg5)) (m (c.tc.loc main_arg6)) i := by
  obtain ⟨r, n, rfl⟩ : ∃ r n : Fin 1024, y = ix2 r n := ⟨y 0, y 1, by
    funext a
    fin_cases a <;> rfl⟩
  rw [FfnTwo.block_apply]
  unfold result
  simp only [fun k => blk0 m c t r k (i 0) h0, fun k => blk1 m c t r k (i 0) h0, fun k => blk2 m c t r k (i 0) h0, blk3, blk4, blk5, blk6]
  exact congrArg _ (Fin.ext h1.symm)

theorem array_eq : (dats m 0 c).arrAt 8 cfg0.N
    = result (m (c.tc.loc main_arg0)) (m (c.tc.loc main_arg1)) (m (c.tc.loc main_arg2)) (m (c.tc.loc main_arg3)) (m (c.tc.loc main_arg4)) (m (c.tc.loc main_arg5)) (m (c.tc.loc main_arg6)) := by
  refine (dats m 0 c).arrAt_eq_of_covers 8 _ (by decide +kernel) fun t hf y => ?_
  blk_simp
  rw [after0_8, out_eq, View.canon_cons_unit_lit' _ _ _ (by decide)]
  exact tile m c t y _ (by blk_simp [idx t]) (by blk_simp [idx t])

end Cert.FfnTwoS
-- ==== Proof.FfnTwoRefS.lean ====
module

public import proofs.«01_k».proof.Proof.FfnTwoS
public import proofs.«01_k».proof.Proof.Gen.ReferenceZSIdeal.Run
public import Idealize.ShloMosaic.Lib.Pointwise
public import Idealize.ShloMosaic.Lib.Tactic.CleanTypes

/-! The reference's output projection and feed-forward network at the end of layer 0 for the sample batch, element by element. -/

@[expose] public section

set_option maxRecDepth 2048

noncomputable section

namespace Cert.FfnTwoRefS

open Idealize.ShloMosaic Idealize.ShloMosaic.TcCoe Idealize.ShloMosaic.Tactic Idealize.SL.Sem
open Cert.ReferenceZSIdeal Cert.ReferenceZSIdeal.Facts₀ Cert.ReferenceZSIdeal.Facts

variable [Cert.ReferenceZSIdeal.Facts]

/-- The mixers' outputs side by side. -/
def beside (a b : FVec Ideal S2048x512 .bf16) : FVec Ideal S2048x1024 .f32 :=
  concatenate S2048x1024 1 [⟨S2048x512, extf .f32 a bitsLt_bf16_f32⟩, ⟨S2048x512, extf .f32 b bitsLt_bf16_f32⟩] concatenates_S2048x512_S2048x512_S2048x1024_d1

/-- The residual stream with the mixers' outputs projected onto it. -/
def mix (x : FVec Ideal S2048x1024 .f32) (a b : FVec Ideal S2048x512 .bf16) (w : FVec Ideal S1x1024x1024 .f32) : FVec Ideal S2048x1024 .f32 :=
  addf x (Host.dotGeneral dot_S2048x1024_S1024x1024_S2048x1024_1_0_0_1_n_n none (beside a b) (shapeCast _ w shapeCasts_S1x1024x1024_S1024x1024))

/-- Rows divided by their root mean squares and scaled. -/
def norm (y : FVec Ideal S2048x1024 .f32) (g : FVec Ideal S1024 .f32) : FVec Ideal S2048x1024 .f32 :=
  mulf (mulf y (broadcastInDim S2048x1024 ![0, 1] bcast_S2048x1_S2048x1024_0_1 (Host.rsqrt (addf (Host.divf
      (broadcastInDim S2048x1 ![0] bcast_S2048_S2048x1_0
        (Host.reduceAdd (mulf y y) (constant S_ .f32 0x00000000#32) reducesTo_S2048x1024_S2048_d1 h_S_))
      (broadcastInDim S2048x1 ![] bcast_S_S2048x1 (constant S_ .f32 0x44800000#32)))
      (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 g))

/-- The inner projection, both halves side by side. -/
def inner (h : FVec Ideal S2048x1024 .f32) (wi : FVec Ideal S2x1024x5632 .f32) : FVec Ideal S2048x5632 .f32 :=
  Host.dotGeneral dot_S2048x1024_S1024x5632_S2048x5632_1_0_0_1_n_n none h
    (shapeCast _ (extractStridedSlice S1x1024x5632 ![0, 0, 0] wi slices_S2x1024x5632_S1x1024x5632_0_0_0) shapeCasts_S1x1024x5632_S1024x5632)

/-- The gate's half times its logistic function, times the other half. -/
def gated (u : FVec Ideal S2048x5632 .f32) : FVec Ideal S2048x2816 .f32 :=
  mulf (mulf (extractStridedSlice S2048x2816 ![0, 0] u slices_S2048x5632_S2048x2816_0_0)
    (Host.divf (broadcastInDim S2048x2816 ![] bcast_S_S2048x2816 (constant S_ .f32 0x3F800000#32))
      (addf (broadcastInDim S2048x2816 ![] bcast_S_S2048x2816 (constant S_ .f32 0x3F800000#32))
        (Host.exp (Host.negf (extractStridedSlice S2048x2816 ![0, 0] u slices_S2048x5632_S2048x2816_0_0))))))
    (extractStridedSlice S2048x2816 ![0, 2816] u slices_S2048x5632_S2048x2816_0_2816)

/-- The outer projection added to the residual stream. -/
def outer (y : FVec Ideal S2048x1024 .f32) (a : FVec Ideal S2048x2816 .f32) (wo : FVec Ideal S2x2816x1024 .f32) : FVec Ideal S2048x1024 .f32 :=
  addf y (Host.dotGeneral dot_S2048x2816_S2816x1024_S2048x1024_1_0_0_1_n_n none a
    (shapeCast _ (extractStridedSlice S1x2816x1024 ![0, 0, 0] wo slices_S2x2816x1024_S1x2816x1024_0_0_0) shapeCasts_S1x2816x1024_S2816x1024))

/-- The first layer's scale of the norm before the feed-forward network. -/
def scale (g : FVec Ideal S2x1024 .f32) : FVec Ideal S1024 .f32 :=
  shapeCast _ (extractStridedSlice S1x1024 ![0, 0] g slices_S2x1024_S1x1024_0_0) shapeCasts_S1x1024_S1024

/-- The reference of its argument arrays. -/
def out (x : FVec Ideal S2048x1024 .f32) (a b : FVec Ideal S2048x512 .bf16) (w : FVec Ideal S1x1024x1024 .f32) (g : FVec Ideal S2x1024 .f32)
    (wi : FVec Ideal S2x1024x5632 .f32) (wo : FVec Ideal S2x2816x1024 .f32) : FVec Ideal S2048x1024 .f32 :=
  outer (mix x a b w) (gated (inner (norm (mix x a b w) (scale g)) wi)) wo

theorem run_eq (m : (ℓ : Loc nD τ sig) → Buf (Elt Ideal) ℓ) (c : Dev nD) :
    Cert.ReferenceZSIdeal.Value.res_out0 m c = out (m (c.tc.loc main_arg0)) (m (c.tc.loc main_arg1)) (m (c.tc.loc main_arg2)) (m (c.tc.loc main_arg3)) (m (c.tc.loc main_arg4)) (m (c.tc.loc main_arg5)) (m (c.tc.loc main_arg6)) := rfl

theorem beside_apply (a b : FVec Ideal S2048x512 .bf16) (r : Fin 2048) (k : Fin 1024) :
    beside a b (ix2 r k) = FfnTwo.two (fun k => a (ix2 r k)) (fun k => b (ix2 r k)) k := by
  unfold FfnTwo.two
  pointwise [beside]

theorem mix_apply (x : FVec Ideal S2048x1024 .f32) (a b : FVec Ideal S2048x512 .bf16) (w : FVec Ideal S1x1024x1024 .f32) (r : Fin 2048) (n : Fin 1024) :
    mix x a b w (ix2 r n) = x (ix2 r n) + ∑ k : Fin 1024, FfnTwo.two (fun k => a (ix2 r k)) (fun k => b (ix2 r k)) k * w (ix3 0 k n) := by
  simp only [← beside_apply]
  pointwise [mix]

theorem norm_apply (y : FVec Ideal S2048x1024 .f32) (g : FVec Ideal S1024 .f32) (r : Fin 2048) (n : Fin 1024) :
    norm y g (ix2 r n) = y (ix2 r n) * Ideal.rsqrt (Ideal.div (∑ k : Fin 1024, y (ix2 r k) * y (ix2 r k)) (Ideal.ofBits .f32 0x44800000#32)
      + Ideal.ofBits .f32 0x358637BD#32) * g (ix1 n) := by
  pointwise [norm]

theorem inner_apply (h : FVec Ideal S2048x1024 .f32) (wi : FVec Ideal S2x1024x5632 .f32) (r : Fin 2048) (j : Fin 5632) :
    inner h wi (ix2 r j) = ∑ k : Fin 1024, h (ix2 r k) * wi (ix3 0 k j) := by
  pointwise [inner]

theorem gated_apply (u : FVec Ideal S2048x5632 .f32) (r : Fin 2048) (j : Fin 2816) :
    gated u (ix2 r j) = u (ix2 r ⟨j.val, by omega⟩)
        * Ideal.div (Ideal.ofBits .f32 0x3F800000#32) (Ideal.ofBits .f32 0x3F800000#32 + Ideal.exp (-(u (ix2 r ⟨j.val, by omega⟩))))
        * u (ix2 r ⟨2816 + j.val, by omega⟩) := by
  pointwise [gated]

theorem outer_apply (y : FVec Ideal S2048x1024 .f32) (a : FVec Ideal S2048x2816 .f32) (wo : FVec Ideal S2x2816x1024 .f32) (r : Fin 2048) (n : Fin 1024) :
    outer y a wo (ix2 r n) = y (ix2 r n) + ∑ j : Fin 2816, a (ix2 r j) * wo (ix3 0 j n) := by
  pointwise [outer]

theorem scale_apply (g : FVec Ideal S2x1024 .f32) (n : Fin 1024) : scale g (ix1 n) = g (ix2 0 n) := by
  pointwise [scale]

/-- Each row of the reference's result is the row function of the arguments' rows. -/
theorem out_apply (x : FVec Ideal S2048x1024 .f32) (a b : FVec Ideal S2048x512 .bf16) (w : FVec Ideal S1x1024x1024 .f32) (g : FVec Ideal S2x1024 .f32)
    (wi : FVec Ideal S2x1024x5632 .f32) (wo : FVec Ideal S2x2816x1024 .f32) (r : Fin 2048) (n : Fin 1024) :
    out x a b w g wi wo (ix2 r n) = FfnTwo.row (fun k => x (ix2 r k)) (fun k => a (ix2 r k)) (fun k => b (ix2 r k)) (fun k c => w (ix3 0 k c)) (fun k => g (ix2 0 k))
      (fun k c => wi (ix3 0 k c)) (fun k c => wo (ix3 0 k c)) n := by
  unfold out
  simp only [norm_apply, outer_apply, gated_apply, inner_apply, scale_apply, mix_apply, FfnTwo.row, Ffn.unit, Ffn.joinRow]
  rfl

theorem out_eq (x : FVec Ideal S2048x1024 .f32) (a b : FVec Ideal S2048x512 .bf16) (w : FVec Ideal S1x1024x1024 .f32) (g : FVec Ideal S2x1024 .f32)
    (wi : FVec Ideal S2x1024x5632 .f32) (wo : FVec Ideal S2x2816x1024 .f32) :
    out x a b w g wi wo = FfnTwoS.result x a b w g wi wo := by
  funext i
  obtain ⟨r, n, rfl⟩ : ∃ (r : Fin 2048) (n : Fin 1024), i = ix2 r n := ⟨i 0, i 1, by
    funext a
    fin_cases a <;> rfl⟩
  exact out_apply x a b w g wi wo r n

end Cert.FfnTwoRefS
-- ==== Proof.lean ====
/- The claim: the programs run and leave every semaphore counter at zero, the named constants are the kernel's within
   their rounding, and the kernel's calls that have a claim compute what the reference's lines compute. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_logits
public import proofs.«01_k».proof.Proof.Gen.KernelYP.Frame
public import proofs.«01_k».proof.Proof.Gen.KernelYPIdeal.Value
public import proofs.«01_k».proof.Proof.Gen.ReferenceYPIdeal.Run
public import proofs.«01_k».proof.Proof.Gen.KernelYS.Frame
public import proofs.«01_k».proof.Proof.Gen.KernelYSIdeal.Value
public import proofs.«01_k».proof.Proof.Gen.ReferenceYSIdeal.Run
public import proofs.«01_k».proof.Proof.Gen.KernelFP.Frame
public import proofs.«01_k».proof.Proof.Gen.KernelFPIdeal.Value
public import proofs.«01_k».proof.Proof.Gen.ReferenceFPIdeal.Run
public import proofs.«01_k».proof.Proof.Gen.KernelFS.Frame
public import proofs.«01_k».proof.Proof.Gen.KernelFSIdeal.Value
public import proofs.«01_k».proof.Proof.Gen.ReferenceFSIdeal.Run
public import proofs.«01_k».proof.Proof.Gen.KernelAP.Frame
public import proofs.«01_k».proof.Proof.Gen.KernelAPIdeal.Value
public import proofs.«01_k».proof.Proof.Gen.ReferenceAPIdeal.Run
public import proofs.«01_k».proof.Proof.Gen.KernelAS.Frame
public import proofs.«01_k».proof.Proof.Gen.KernelASIdeal.Value
public import proofs.«01_k».proof.Proof.Gen.ReferenceASIdeal.Run
public import proofs.«01_k».proof.Proof.Gen.KernelZP.Frame
public import proofs.«01_k».proof.Proof.Gen.KernelZPIdeal.Value
public import proofs.«01_k».proof.Proof.Gen.ReferenceZPIdeal.Run
public import proofs.«01_k».proof.Proof.Gen.KernelZS.Frame
public import proofs.«01_k».proof.Proof.Gen.KernelZSIdeal.Value
public import proofs.«01_k».proof.Proof.Gen.ReferenceZSIdeal.Run
public import Idealize.ShloMosaic.Adequacy
public import Idealize.ShloMosaic.Init
public import Idealize.ShloMosaic.Lib.Quiescent
public import proofs.«01_k».proof.Proof.FoxFinal
public import proofs.«01_k».proof.Proof.FfnArray
public import proofs.«01_k».proof.Proof.FfnRef
public import proofs.«01_k».proof.Proof.FfnArrayS
public import proofs.«01_k».proof.Proof.FfnRefS
public import proofs.«01_k».proof.Proof.ProjRefP
public import proofs.«01_k».proof.Proof.ProjRefS
public import proofs.«01_k».proof.Proof.ProjRefAP
public import proofs.«01_k».proof.Proof.ProjRefAS
public import proofs.«01_k».proof.Proof.FfnTwoRefP
public import proofs.«01_k».proof.Proof.FfnTwoRefS

@[expose] public section

set_option maxRecDepth 16384

noncomputable section

namespace Cert.Proof

open Idealize.ShloMosaic Idealize.ShloMosaic.Tactic Idealize.SL.Sem Cert.Kernel

theorem frame_k [Cert.Kernel.Facts] : Cert.quiescent_Kernel := fun m ρ _ => Cert.Kernel.Gen.frame m ρ

theorem frame_i [Cert.KernelIdeal.Facts] : Cert.quiescent_KernelIdeal := fun m ρ _ => Cert.KernelIdeal.Gen.frame m ρ

theorem frame_ip [Cert.KernelIdeal.Facts] [Cert.Pre_finite_logits.Facts] : Cert.quiescent_KernelIdeal_pre_finite_logits :=
  fun m ρ _ => Cert.KernelIdeal.Gen.frame m ρ

theorem frame_r [Cert.ReferenceIdeal.Facts] : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_rp [Cert.ReferenceIdeal.Facts] [Cert.Pre_finite_logits.Facts] : Cert.quiescent_ReferenceIdeal_pre_finite_logits :=
  fun m ρ _ => frame_r m ρ trivial

theorem preserves : Cert.preserves_Kernel_KernelIdeal :=
  ⟨IdealRules.named_const.statement Cert.KernelIdeal.κ "log2e" .f32 0x3FB8AA3B#32 _ rfl,
    IdealRules.named_const.statement Cert.KernelIdeal.κ "qscale" .f32 0x3E38AA3B#32 _ rfl,
    IdealRules.named_const.statement Cert.KernelIdeal.κ "mask" .f32 0xF149F2CA#32 _ rfl⟩

theorem fox_sample [Cert.KernelIdeal.Facts] [Cert.ReferenceIdeal.Facts] [Cert.Pre_finite_logits.Facts] :
    Cert.algebraic_KernelIdeal_ReferenceIdeal_pre_finite_logits := by
  intro m ρ m' ρ' hpre hagree
  refine ⟨_, Cert.KernelIdeal.Value.run_blocks (F := Ideal) m ρ, ?_⟩
  refine (θ_run _ _ _).mono (fun _ h c => ⟨(h c).1.trans ?_, (h c).2⟩) (Cert.ReferenceIdeal.Value.run (F := Ideal) m' ρ')
  obtain ⟨e0, e1, e2, e3, e4, e5⟩ := hagree c
  refine (FoxRef.run_eq m' c).trans ?_
  rw [e0, e1, e2, e3, e4, e5]
  refine Eq.trans ?_ (Fox.array_eq m c).symm
  exact FoxFinal.value_of_pre _ _ _ _ _ _ (hpre c)

theorem frame_yp [Cert.KernelYP.Facts] : Cert.quiescent_KernelYP := fun m ρ _ => Cert.KernelYP.Gen.frame m ρ

theorem frame_ypi [Cert.KernelYPIdeal.Facts] : Cert.quiescent_KernelYPIdeal := fun m ρ _ => Cert.KernelYPIdeal.Gen.frame m ρ

theorem frame_ypr [Cert.ReferenceYPIdeal.Facts] : Cert.quiescent_ReferenceYPIdeal := fun m ρ _ =>
  (θ_run Cert.ReferenceYPIdeal.defs _ _).mono
    (fun r h => ⟨fun c => (h c).2, Idealize.ShloMosaic.sem_eq_zero_of_no_sems (by decide) r.2⟩)
    (Cert.ReferenceYPIdeal.Value.run (F := Ideal) m ρ)

/-- Layer 1's feed-forward call of the prompt is the reference's. -/
theorem ffn_yp [Cert.KernelYPIdeal.Facts] [Cert.ReferenceYPIdeal.Facts] :
    Cert.algebraic_KernelYPIdeal_ReferenceYPIdeal := by
  haveI := Cert.KernelYPIdeal.Gen.facts
  intro m ρ m' ρ' _ hagree
  refine ⟨_, Cert.KernelYPIdeal.Value.run_blocks (F := Ideal) m ρ, ?_⟩
  refine (θ_run _ _ _).mono (fun _ h c => ⟨(h c).1.trans ?_, (h c).2⟩) (Cert.ReferenceYPIdeal.Value.run (F := Ideal) m' ρ')
  obtain ⟨e0, e1, e2, e3, e4, e5, e6⟩ := hagree c
  refine (FfnRef.run_eq m' c).trans ?_
  rw [e0, e1, e2, e3, e4, e5, e6]
  refine Eq.trans ?_ (FfnP.array_eq m c).symm
  exact FfnRef.out_eq _ _ _ _ _ _ _

theorem frame_ys [Cert.KernelYS.Facts] : Cert.quiescent_KernelYS := fun m ρ _ => Cert.KernelYS.Gen.frame m ρ

theorem frame_ysi [Cert.KernelYSIdeal.Facts] : Cert.quiescent_KernelYSIdeal := fun m ρ _ => Cert.KernelYSIdeal.Gen.frame m ρ

theorem frame_ysr [Cert.ReferenceYSIdeal.Facts] : Cert.quiescent_ReferenceYSIdeal := fun m ρ _ =>
  (θ_run Cert.ReferenceYSIdeal.defs _ _).mono
    (fun r h => ⟨fun c => (h c).2, Idealize.ShloMosaic.sem_eq_zero_of_no_sems (by decide) r.2⟩)
    (Cert.ReferenceYSIdeal.Value.run (F := Ideal) m ρ)

/-- Layer 1's feed-forward call of the sample batch is the reference's. -/
theorem ffn_ys [Cert.KernelYSIdeal.Facts] [Cert.ReferenceYSIdeal.Facts] :
    Cert.algebraic_KernelYSIdeal_ReferenceYSIdeal := by
  haveI := Cert.KernelYPIdeal.Gen.facts
  intro m ρ m' ρ' _ hagree
  refine ⟨_, Cert.KernelYSIdeal.Value.run_blocks (F := Ideal) m ρ, ?_⟩
  refine (θ_run _ _ _).mono (fun _ h c => ⟨(h c).1.trans ?_, (h c).2⟩) (Cert.ReferenceYSIdeal.Value.run (F := Ideal) m' ρ')
  obtain ⟨e0, e1, e2, e3, e4, e5, e6⟩ := hagree c
  refine (FfnRefS.run_eq m' c).trans ?_
  rw [e0, e1, e2, e3, e4, e5, e6]
  refine Eq.trans ?_ (FfnS.array_eq m c).symm
  exact FfnRefS.out_eq _ _ _ _ _ _ _

theorem frame_fp [Cert.KernelFP.Facts] : Cert.quiescent_KernelFP := fun m ρ _ => Cert.KernelFP.Gen.frame m ρ

theorem frame_fpi [Cert.KernelFPIdeal.Facts] : Cert.quiescent_KernelFPIdeal := fun m ρ _ => Cert.KernelFPIdeal.Gen.frame m ρ

theorem frame_fpr [Cert.ReferenceFPIdeal.Facts] : Cert.quiescent_ReferenceFPIdeal := fun m ρ _ =>
  (θ_run Cert.ReferenceFPIdeal.defs _ _).mono
    (fun r h => ⟨fun c => (h c).2.2.2.2, Idealize.ShloMosaic.sem_eq_zero_of_no_sems (by decide) r.2⟩)
    (Cert.ReferenceFPIdeal.Value.run (F := Ideal) m ρ)

/-- Layer 1's norm and input projection of the prompt are the reference's. -/
theorem proj_fp [Cert.KernelFPIdeal.Facts] [Cert.ReferenceFPIdeal.Facts] :
    Cert.algebraic_KernelFPIdeal_ReferenceFPIdeal := by
  haveI := Cert.KernelYPIdeal.Gen.facts
  intro m ρ m' ρ' _ hagree
  refine ⟨_, _, _, _, Cert.KernelFPIdeal.Value.run_blocks (F := Ideal) m ρ, ?_⟩
  refine (θ_run _ _ _).mono (fun _ h c => ⟨(h c).1.trans ?_, (h c).2.1.trans ?_, (h c).2.2.1.trans ?_, (h c).2.2.2.1.trans ?_, (h c).2.2.2.2⟩)
    (ProjRefP.run_q m' ρ')
  all_goals obtain ⟨e0, e1, e2, e3⟩ := hagree c
  · rw [e0, e1, e2]
    exact (ProjP.array_q m c).symm
  · rw [e0, e1, e2]
    exact (ProjP.array_k m c).symm
  · rw [e0, e1, e2]
    exact (ProjP.array_v m c).symm
  · rw [e0, e1, e2, e3]
    exact (ProjP.array_g m c).symm

theorem frame_fs [Cert.KernelFS.Facts] : Cert.quiescent_KernelFS := fun m ρ _ => Cert.KernelFS.Gen.frame m ρ

theorem frame_fsi [Cert.KernelFSIdeal.Facts] : Cert.quiescent_KernelFSIdeal := fun m ρ _ => Cert.KernelFSIdeal.Gen.frame m ρ

theorem frame_fsr [Cert.ReferenceFSIdeal.Facts] : Cert.quiescent_ReferenceFSIdeal := fun m ρ _ =>
  (θ_run Cert.ReferenceFSIdeal.defs _ _).mono
    (fun r h => ⟨fun c => (h c).2.2.2.2, Idealize.ShloMosaic.sem_eq_zero_of_no_sems (by decide) r.2⟩)
    (Cert.ReferenceFSIdeal.Value.run (F := Ideal) m ρ)

/-- Layer 1's norm and input projection of the sample batch are the reference's. -/
theorem proj_fs [Cert.KernelFSIdeal.Facts] [Cert.ReferenceFSIdeal.Facts] :
    Cert.algebraic_KernelFSIdeal_ReferenceFSIdeal := by
  haveI := Cert.KernelYPIdeal.Gen.facts
  intro m ρ m' ρ' _ hagree
  refine ⟨_, _, _, _, Cert.KernelFSIdeal.Value.run_blocks (F := Ideal) m ρ, ?_⟩
  refine (θ_run _ _ _).mono (fun _ h c => ⟨(h c).1.trans ?_, (h c).2.1.trans ?_, (h c).2.2.1.trans ?_, (h c).2.2.2.1.trans ?_, (h c).2.2.2.2⟩)
    (ProjRefS.run_q m' ρ')
  all_goals obtain ⟨e0, e1, e2, e3⟩ := hagree c
  · rw [e0, e1, e2]
    exact (ProjS.array_q m c).symm
  · rw [e0, e1, e2]
    exact (ProjS.array_k m c).symm
  · rw [e0, e1, e2]
    exact (ProjS.array_v m c).symm
  · rw [e0, e1, e2, e3]
    exact (ProjS.array_g m c).symm

theorem frame_ap [Cert.KernelAP.Facts] : Cert.quiescent_KernelAP := fun m ρ _ => Cert.KernelAP.Gen.frame m ρ

theorem frame_api [Cert.KernelAPIdeal.Facts] : Cert.quiescent_KernelAPIdeal := fun m ρ _ => Cert.KernelAPIdeal.Gen.frame m ρ

theorem frame_apr [Cert.ReferenceAPIdeal.Facts] : Cert.quiescent_ReferenceAPIdeal := fun m ρ _ =>
  (θ_run Cert.ReferenceAPIdeal.defs _ _).mono
    (fun r h => ⟨fun c => (h c).2.2.2.2.2.2.2.2, Idealize.ShloMosaic.sem_eq_zero_of_no_sems (by decide) r.2⟩)
    (Cert.ReferenceAPIdeal.Value.run (F := Ideal) m ρ)

/-- Layer 0's norm, input projection and gates of the prompt are the reference's. -/
theorem proj_ap [Cert.KernelAPIdeal.Facts] [Cert.ReferenceAPIdeal.Facts] :
    Cert.algebraic_KernelAPIdeal_ReferenceAPIdeal := by
  haveI := Cert.KernelYPIdeal.Gen.facts
  intro m ρ m' ρ' _ hagree
  refine ⟨_, _, _, _, _, _, _, _, Cert.KernelAPIdeal.Value.run_blocks (F := Ideal) m ρ, ?_⟩
  refine (θ_run _ _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2.1.trans ?_, (h c).2.2.2.2.2.2.2.1.trans ?_, (h c).2.2.2.2.2.2.2.2⟩)
    (ProjRefAP.run_q m' ρ')
  all_goals obtain ⟨e0, e1, e2, e3⟩ := hagree c
  · rw [e0, e1, e2]
    exact (ProjAP.array_qa m c).symm
  · rw [e0, e1, e2]
    exact (ProjAP.array_ka m c).symm
  · rw [e0, e1, e2]
    exact (ProjAP.array_va m c).symm
  · rw [e0, e1, e2]
    exact (ProjAP.array_oa m c).symm
  · rw [e0, e1, e2]
    exact (ProjAP.array_qb m c).symm
  · rw [e0, e1, e2]
    exact (ProjAP.array_kb m c).symm
  · rw [e0, e1, e2]
    exact (ProjAP.array_vb m c).symm
  · rw [e0, e1, e2, e3]
    exact (ProjAP.array_g m c).symm

theorem frame_as [Cert.KernelAS.Facts] : Cert.quiescent_KernelAS := fun m ρ _ => Cert.KernelAS.Gen.frame m ρ

theorem frame_asi [Cert.KernelASIdeal.Facts] : Cert.quiescent_KernelASIdeal := fun m ρ _ => Cert.KernelASIdeal.Gen.frame m ρ

theorem frame_asr [Cert.ReferenceASIdeal.Facts] : Cert.quiescent_ReferenceASIdeal := fun m ρ _ =>
  (θ_run Cert.ReferenceASIdeal.defs _ _).mono
    (fun r h => ⟨fun c => (h c).2.2.2.2.2.2.2.2, Idealize.ShloMosaic.sem_eq_zero_of_no_sems (by decide) r.2⟩)
    (Cert.ReferenceASIdeal.Value.run (F := Ideal) m ρ)

/-- Layer 0's norm, input projection and gates of the sample batch are the reference's. -/
theorem proj_as [Cert.KernelASIdeal.Facts] [Cert.ReferenceASIdeal.Facts] :
    Cert.algebraic_KernelASIdeal_ReferenceASIdeal := by
  haveI := Cert.KernelYPIdeal.Gen.facts
  intro m ρ m' ρ' _ hagree
  refine ⟨_, _, _, _, _, _, _, _, Cert.KernelASIdeal.Value.run_blocks (F := Ideal) m ρ, ?_⟩
  refine (θ_run _ _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2.1.trans ?_, (h c).2.2.2.2.2.2.2.1.trans ?_, (h c).2.2.2.2.2.2.2.2⟩)
    (ProjRefAS.run_q m' ρ')
  all_goals obtain ⟨e0, e1, e2, e3⟩ := hagree c
  · rw [e0, e1, e2]
    exact (ProjAS.array_qa m c).symm
  · rw [e0, e1, e2]
    exact (ProjAS.array_ka m c).symm
  · rw [e0, e1, e2]
    exact (ProjAS.array_va m c).symm
  · rw [e0, e1, e2]
    exact (ProjAS.array_oa m c).symm
  · rw [e0, e1, e2]
    exact (ProjAS.array_qb m c).symm
  · rw [e0, e1, e2]
    exact (ProjAS.array_kb m c).symm
  · rw [e0, e1, e2]
    exact (ProjAS.array_vb m c).symm
  · rw [e0, e1, e2, e3]
    exact (ProjAS.array_g m c).symm

theorem frame_zp [Cert.KernelZP.Facts] : Cert.quiescent_KernelZP := fun m ρ _ => Cert.KernelZP.Gen.frame m ρ

theorem frame_zpi [Cert.KernelZPIdeal.Facts] : Cert.quiescent_KernelZPIdeal := fun m ρ _ => Cert.KernelZPIdeal.Gen.frame m ρ

theorem frame_zpr [Cert.ReferenceZPIdeal.Facts] : Cert.quiescent_ReferenceZPIdeal := fun m ρ _ =>
  (θ_run Cert.ReferenceZPIdeal.defs _ _).mono
    (fun r h => ⟨fun c => (h c).2, Idealize.ShloMosaic.sem_eq_zero_of_no_sems (by decide) r.2⟩)
    (Cert.ReferenceZPIdeal.Value.run (F := Ideal) m ρ)

/-- Layer 0's feed-forward call of the prompt is the reference's. -/
theorem ffn_zp [Cert.KernelZPIdeal.Facts] [Cert.ReferenceZPIdeal.Facts] :
    Cert.algebraic_KernelZPIdeal_ReferenceZPIdeal := by
  haveI := Cert.KernelYPIdeal.Gen.facts
  intro m ρ m' ρ' _ hagree
  refine ⟨_, Cert.KernelZPIdeal.Value.run_blocks (F := Ideal) m ρ, ?_⟩
  refine (θ_run _ _ _).mono (fun _ h c => ⟨(h c).1.trans ?_, (h c).2⟩) (Cert.ReferenceZPIdeal.Value.run (F := Ideal) m' ρ')
  obtain ⟨e0, e1, e2, e3, e4, e5, e6, e7⟩ := hagree c
  refine (FfnTwoRefP.run_eq m' c).trans ?_
  rw [e0, e1, e2, e3, e4, e5, e6]
  refine Eq.trans ?_ (FfnTwoP.array_eq m c).symm
  exact FfnTwoRefP.out_eq _ _ _ _ _ _ _

theorem frame_zs [Cert.KernelZS.Facts] : Cert.quiescent_KernelZS := fun m ρ _ => Cert.KernelZS.Gen.frame m ρ

theorem frame_zsi [Cert.KernelZSIdeal.Facts] : Cert.quiescent_KernelZSIdeal := fun m ρ _ => Cert.KernelZSIdeal.Gen.frame m ρ

theorem frame_zsr [Cert.ReferenceZSIdeal.Facts] : Cert.quiescent_ReferenceZSIdeal := fun m ρ _ =>
  (θ_run Cert.ReferenceZSIdeal.defs _ _).mono
    (fun r h => ⟨fun c => (h c).2, Idealize.ShloMosaic.sem_eq_zero_of_no_sems (by decide) r.2⟩)
    (Cert.ReferenceZSIdeal.Value.run (F := Ideal) m ρ)

/-- Layer 0's feed-forward call of the sample batch is the reference's. -/
theorem ffn_zs [Cert.KernelZSIdeal.Facts] [Cert.ReferenceZSIdeal.Facts] :
    Cert.algebraic_KernelZSIdeal_ReferenceZSIdeal := by
  haveI := Cert.KernelYPIdeal.Gen.facts
  haveI := Cert.KernelZPIdeal.Gen.facts
  intro m ρ m' ρ' _ hagree
  refine ⟨_, Cert.KernelZSIdeal.Value.run_blocks (F := Ideal) m ρ, ?_⟩
  refine (θ_run _ _ _).mono (fun _ h c => ⟨(h c).1.trans ?_, (h c).2⟩) (Cert.ReferenceZSIdeal.Value.run (F := Ideal) m' ρ')
  obtain ⟨e0, e1, e2, e3, e4, e5, e6, e7⟩ := hagree c
  refine (FfnTwoRefS.run_eq m' c).trans ?_
  rw [e0, e1, e2, e3, e4, e5, e6]
  refine Eq.trans ?_ (FfnTwoS.array_eq m c).symm
  exact FfnTwoRefS.out_eq _ _ _ _ _ _ _

theorem claim : Cert.Claim :=
  ⟨Cert.Kernel.Gen.facts, Cert.KernelIdeal.Gen.facts, Cert.ReferenceIdeal.Gen.facts, Cert.KernelYP.Gen.facts,
    Cert.KernelYPIdeal.Gen.facts, Cert.ReferenceYPIdeal.Gen.facts, Cert.KernelYS.Gen.facts, Cert.KernelYSIdeal.Gen.facts,
    Cert.ReferenceYSIdeal.Gen.facts, Cert.KernelFP.Gen.facts,
    Cert.KernelFPIdeal.Gen.facts, Cert.ReferenceFPIdeal.Gen.facts, Cert.KernelFS.Gen.facts, Cert.KernelFSIdeal.Gen.facts,
    Cert.ReferenceFSIdeal.Gen.facts, Cert.KernelAP.Gen.facts, Cert.KernelAPIdeal.Gen.facts, Cert.ReferenceAPIdeal.Gen.facts,
    Cert.KernelAS.Gen.facts, Cert.KernelASIdeal.Gen.facts, Cert.ReferenceASIdeal.Gen.facts, Cert.KernelZP.Gen.facts,
    Cert.KernelZPIdeal.Gen.facts, Cert.ReferenceZPIdeal.Gen.facts, Cert.KernelZS.Gen.facts, Cert.KernelZSIdeal.Gen.facts,
    Cert.ReferenceZSIdeal.Gen.facts, Cert.Pre_finite_logits.Gen.facts, frame_k, frame_i, frame_ip, frame_r, frame_rp,
    frame_yp, frame_ypi, frame_ypr, frame_ys, frame_ysi, frame_ysr, frame_fp, frame_fpi, frame_fpr,
    frame_fs, frame_fsi, frame_fsr, frame_ap, frame_api, frame_apr, frame_as, frame_asi, frame_asr,
    frame_zp, frame_zpi, frame_zpr, frame_zs, frame_zsi, frame_zsr, preserves, fox_sample, trivial, ffn_yp, trivial, ffn_ys, trivial, proj_fp, trivial, proj_fs,
    trivial, proj_ap, trivial, proj_as, trivial, ffn_zp, trivial, ffn_zs⟩

end Cert.Proof

end
